-- ==== Defs.lean ====
def Pre_Ffn2L1 (m : (ℓ : Loc Cert.Ffn2L1.nD Cert.Ffn2L1.τ Cert.Ffn2L1.sig) → Buf (Elt Bits) ℓ) : Prop :=
  True

def Pre_Ffn2L1Ideal (m : (ℓ : Loc Cert.Ffn2L1Ideal.nD Cert.Ffn2L1Ideal.τ Cert.Ffn2L1Ideal.sig) → Buf (Elt Ideal) ℓ) : Prop :=
  True

def Pre_Ffn2L1RefIdeal (m : (ℓ : Loc Cert.Ffn2L1RefIdeal.nD Cert.Ffn2L1RefIdeal.τ Cert.Ffn2L1RefIdeal.sig) → Buf (Elt Ideal) ℓ) : Prop :=
  True

def Pre_Ffn1L0 (m : (ℓ : Loc Cert.Ffn1L0.nD Cert.Ffn1L0.τ Cert.Ffn1L0.sig) → Buf (Elt Bits) ℓ) : Prop :=
  True

def Pre_Ffn1L0Ideal (m : (ℓ : Loc Cert.Ffn1L0Ideal.nD Cert.Ffn1L0Ideal.τ Cert.Ffn1L0Ideal.sig) → Buf (Elt Ideal) ℓ) : Prop :=
  True

def Pre_Ffn1L0RefIdeal (m : (ℓ : Loc Cert.Ffn1L0RefIdeal.nD Cert.Ffn1L0RefIdeal.τ Cert.Ffn1L0RefIdeal.sig) → Buf (Elt Ideal) ℓ) : Prop :=
  True

def Pre_Ffn2L0 (m : (ℓ : Loc Cert.Ffn2L0.nD Cert.Ffn2L0.τ Cert.Ffn2L0.sig) → Buf (Elt Bits) ℓ) : Prop :=
  True

def Pre_Ffn2L0Ideal (m : (ℓ : Loc Cert.Ffn2L0Ideal.nD Cert.Ffn2L0Ideal.τ Cert.Ffn2L0Ideal.sig) → Buf (Elt Ideal) ℓ) : Prop :=
  True

def Pre_Ffn2L0RefIdeal (m : (ℓ : Loc Cert.Ffn2L0RefIdeal.nD Cert.Ffn2L0RefIdeal.τ Cert.Ffn2L0RefIdeal.sig) → Buf (Elt Ideal) ℓ) : Prop :=
  True

def Pre_Ffn1L1 (m : (ℓ : Loc Cert.Ffn1L1.nD Cert.Ffn1L1.τ Cert.Ffn1L1.sig) → Buf (Elt Bits) ℓ) : Prop :=
  True

def Pre_Ffn1L1Ideal (m : (ℓ : Loc Cert.Ffn1L1Ideal.nD Cert.Ffn1L1Ideal.τ Cert.Ffn1L1Ideal.sig) → Buf (Elt Ideal) ℓ) : Prop :=
  True

def Pre_Ffn1L1RefIdeal (m : (ℓ : Loc Cert.Ffn1L1RefIdeal.nD Cert.Ffn1L1RefIdeal.τ Cert.Ffn1L1RefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerIdeal_finite_arguments [hPre_finite_arguments : Cert.Pre_finite_arguments.Facts] (m : (ℓ : Loc Cert.MixerIdeal.nD Cert.MixerIdeal.τ Cert.MixerIdeal.sig) → Buf (Elt Ideal) ℓ) : Prop :=
  ∀ c : Dev Cert.MixerIdeal.nD,
    (Cert.Pre_finite_arguments.fn (F := Ideal) (m ((c.tc : Thread Cert.MixerIdeal.nD Cert.MixerIdeal.τ).loc Cert.MixerIdeal.main_arg0)) (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3)) (m ((c.tc : Thread Cert.MixerIdeal.nD Cert.MixerIdeal.τ).loc Cert.MixerIdeal.main_arg4)) (m ((c.tc : Thread Cert.MixerIdeal.nD Cert.MixerIdeal.τ).loc Cert.MixerIdeal.main_arg5)) (m ((c.tc : Thread Cert.MixerIdeal.nD Cert.MixerIdeal.τ).loc Cert.MixerIdeal.main_arg6)) (m ((c.tc : Thread Cert.MixerIdeal.nD Cert.MixerIdeal.τ).loc Cert.MixerIdeal.main_arg7)) (m ((c.tc : Thread Cert.MixerIdeal.nD Cert.MixerIdeal.τ).loc Cert.MixerIdeal.main_arg8)) (m ((c.tc : Thread Cert.MixerIdeal.nD Cert.MixerIdeal.τ).loc Cert.MixerIdeal.main_arg9))) = (fun _ => 1#1)

def Pre_MixerRefIdeal (m : (ℓ : Loc Cert.MixerRefIdeal.nD Cert.MixerRefIdeal.τ Cert.MixerRefIdeal.sig) → Buf (Elt Ideal) ℓ) : Prop :=
  True

def Pre_MixerRefIdeal_finite_arguments [hPre_finite_arguments : Cert.Pre_finite_arguments.Facts] (m : (ℓ : Loc Cert.MixerRefIdeal.nD Cert.MixerRefIdeal.τ Cert.MixerRefIdeal.sig) → Buf (Elt Ideal) ℓ) : Prop :=
  ∀ c : Dev Cert.MixerRefIdeal.nD,
    (Cert.Pre_finite_arguments.fn (F := Ideal) (m ((c.tc : Thread Cert.MixerRefIdeal.nD Cert.MixerRefIdeal.τ).loc Cert.MixerRefIdeal.main_arg0)) (m ((c.tc : Thread Cert.MixerRefIdeal.nD Cert.MixerRefIdeal.τ).loc Cert.MixerRefIdeal.main_arg1)) (m ((c.tc : Thread Cert.MixerRefIdeal.nD Cert.MixerRefIdeal.τ).loc Cert.MixerRefIdeal.main_arg2)) (m ((c.tc : Thread Cert.MixerRefIdeal.nD Cert.MixerRefIdeal.τ).loc Cert.MixerRefIdeal.main_arg3)) (m ((c.tc : Thread Cert.MixerRefIdeal.nD Cert.MixerRefIdeal.τ).loc Cert.MixerRefIdeal.main_arg4)) (m ((c.tc : Thread Cert.MixerRefIdeal.nD Cert.MixerRefIdeal.τ).loc Cert.MixerRefIdeal.main_arg5)) (m ((c.tc : Thread Cert.MixerRefIdeal.nD Cert.MixerRefIdeal.τ).loc Cert.MixerRefIdeal.main_arg6)) (m ((c.tc : Thread Cert.MixerRefIdeal.nD Cert.MixerRefIdeal.τ).loc Cert.MixerRefIdeal.main_arg7)) (m ((c.tc : Thread Cert.MixerRefIdeal.nD Cert.MixerRefIdeal.τ).loc Cert.MixerRefIdeal.main_arg8)) (m ((c.tc : Thread Cert.MixerRefIdeal.nD Cert.MixerRefIdeal.τ).loc Cert.MixerRefIdeal.main_arg9))) = (fun _ => 1#1)

def quiescent_Ffn2L1 [hFfn2L1 : Cert.Ffn2L1.Facts] : Prop :=
  ∀ (m : (ℓ : Loc Cert.Ffn2L1.nD Cert.Ffn2L1.τ Cert.Ffn2L1.sig) → Buf (Elt Bits) ℓ) (g : Dev Cert.Ffn2L1.nD → PrngReg), Pre_Ffn2L1 m →
    θ_run (Cert.Ffn2L1.defs (F := Bits)) (onTc (τ := Cert.Ffn2L1.τ) (Cert.Ffn2L1.main (F := Bits))) ⟨m, fun _ => 0, g⟩ (fun r => (∀ c : Dev Cert.Ffn2L1.nD,
      r.2.mem ((c.tc : Thread Cert.Ffn2L1.nD Cert.Ffn2L1.τ).loc Cert.Ffn2L1.main_arg0) = m ((c.tc : Thread Cert.Ffn2L1.nD Cert.Ffn2L1.τ).loc Cert.Ffn2L1.main_arg0)
      ∧ r.2.mem ((c.tc : Thread Cert.Ffn2L1.nD Cert.Ffn2L1.τ).loc Cert.Ffn2L1.main_arg1) = m ((c.tc : Thread Cert.Ffn2L1.nD Cert.Ffn2L1.τ).loc Cert.Ffn2L1.main_arg1)
      ∧ r.2.mem ((c.tc : Thread Cert.Ffn2L1.nD Cert.Ffn2L1.τ).loc Cert.Ffn2L1.main_arg2) = m ((c.tc : Thread Cert.Ffn2L1.nD Cert.Ffn2L1.τ).loc Cert.Ffn2L1.main_arg2)
      ∧ r.2.mem ((c.tc : Thread Cert.Ffn2L1.nD Cert.Ffn2L1.τ).loc Cert.Ffn2L1.main_arg3) = m ((c.tc : Thread Cert.Ffn2L1.nD Cert.Ffn2L1.τ).loc Cert.Ffn2L1.main_arg3)
      ∧ r.2.mem ((c.tc : Thread Cert.Ffn2L1.nD Cert.Ffn2L1.τ).loc Cert.Ffn2L1.main_arg4) = m ((c.tc : Thread Cert.Ffn2L1.nD Cert.Ffn2L1.τ).loc Cert.Ffn2L1.main_arg4))
      ∧ r.2.sem = fun _ => 0)

def quiescent_Ffn2L1Ideal [hFfn2L1Ideal : Cert.Ffn2L1Ideal.Facts] : Prop :=
  ∀ (m : (ℓ : Loc Cert.Ffn2L1Ideal.nD Cert.Ffn2L1Ideal.τ Cert.Ffn2L1Ideal.sig) → Buf (Elt Ideal) ℓ) (g : Dev Cert.Ffn2L1Ideal.nD → PrngReg), Pre_Ffn2L1Ideal m →
    θ_run (Cert.Ffn2L1Ideal.defs (F := Ideal)) (onTc (τ := Cert.Ffn2L1Ideal.τ) (Cert.Ffn2L1Ideal.main (F := Ideal))) ⟨m, fun _ => 0, g⟩ (fun r => (∀ c : Dev Cert.Ffn2L1Ideal.nD,
      r.2.mem ((c.tc : Thread Cert.Ffn2L1Ideal.nD Cert.Ffn2L1Ideal.τ).loc Cert.Ffn2L1Ideal.main_arg0) = m ((c.tc : Thread Cert.Ffn2L1Ideal.nD Cert.Ffn2L1Ideal.τ).loc Cert.Ffn2L1Ideal.main_arg0)
      ∧ r.2.mem ((c.tc : Thread Cert.Ffn2L1Ideal.nD Cert.Ffn2L1Ideal.τ).loc Cert.Ffn2L1Ideal.main_arg1) = m ((c.tc : Thread Cert.Ffn2L1Ideal.nD Cert.Ffn2L1Ideal.τ).loc Cert.Ffn2L1Ideal.main_arg1)
      ∧ r.2.mem ((c.tc : Thread Cert.Ffn2L1Ideal.nD Cert.Ffn2L1Ideal.τ).loc Cert.Ffn2L1Ideal.main_arg2) = m ((c.tc : Thread Cert.Ffn2L1Ideal.nD Cert.Ffn2L1Ideal.τ).loc Cert.Ffn2L1Ideal.main_arg2)
      ∧ r.2.mem ((c.tc : Thread Cert.Ffn2L1Ideal.nD Cert.Ffn2L1Ideal.τ).loc Cert.Ffn2L1Ideal.main_arg3) = m ((c.tc : Thread Cert.Ffn2L1Ideal.nD Cert.Ffn2L1Ideal.τ).loc Cert.Ffn2L1Ideal.main_arg3)
      ∧ r.2.mem ((c.tc : Thread Cert.Ffn2L1Ideal.nD Cert.Ffn2L1Ideal.τ).loc Cert.Ffn2L1Ideal.main_arg4) = m ((c.tc : Thread Cert.Ffn2L1Ideal.nD Cert.Ffn2L1Ideal.τ).loc Cert.Ffn2L1Ideal.main_arg4))
      ∧ r.2.sem = fun _ => 0)

def quiescent_Ffn2L1RefIdeal [hFfn2L1RefIdeal : Cert.Ffn2L1RefIdeal.Facts] : Prop :=
  ∀ (m : (ℓ : Loc Cert.Ffn2L1RefIdeal.nD Cert.Ffn2L1RefIdeal.τ Cert.Ffn2L1RefIdeal.sig) → Buf (Elt Ideal) ℓ) (g : Dev Cert.Ffn2L1RefIdeal.nD → PrngReg), Pre_Ffn2L1RefIdeal m →
    θ_run (Cert.Ffn2L1RefIdeal.defs (F := Ideal)) (onTc (τ := Cert.Ffn2L1RefIdeal.τ) (Cert.Ffn2L1RefIdeal.main (F := Ideal))) ⟨m, fun _ => 0, g⟩ (fun r => (∀ c : Dev Cert.Ffn2L1RefIdeal.nD,
      r.2.mem ((c.tc : Thread Cert.Ffn2L1RefIdeal.nD Cert.Ffn2L1RefIdeal.τ).loc Cert.Ffn2L1RefIdeal.main_arg0) = m ((c.tc : Thread Cert.Ffn2L1RefIdeal.nD Cert.Ffn2L1RefIdeal.τ).loc Cert.Ffn2L1RefIdeal.main_arg0)
      ∧ r.2.mem ((c.tc : Thread Cert.Ffn2L1RefIdeal.nD Cert.Ffn2L1RefIdeal.τ).loc Cert.Ffn2L1RefIdeal.main_arg1) = m ((c.tc : Thread Cert.Ffn2L1RefIdeal.nD Cert.Ffn2L1RefIdeal.τ).loc Cert.Ffn2L1RefIdeal.main_arg1)
      ∧ r.2.mem ((c.tc : Thread Cert.Ffn2L1RefIdeal.nD Cert.Ffn2L1RefIdeal.τ).loc Cert.Ffn2L1RefIdeal.main_arg2) = m ((c.tc : Thread Cert.Ffn2L1RefIdeal.nD Cert.Ffn2L1RefIdeal.τ).loc Cert.Ffn2L1RefIdeal.main_arg2)
      ∧ r.2.mem ((c.tc : Thread Cert.Ffn2L1RefIdeal.nD Cert.Ffn2L1RefIdeal.τ).loc Cert.Ffn2L1RefIdeal.main_arg3) = m ((c.tc : Thread Cert.Ffn2L1RefIdeal.nD Cert.Ffn2L1RefIdeal.τ).loc Cert.Ffn2L1RefIdeal.main_arg3)
      ∧ r.2.mem ((c.tc : Thread Cert.Ffn2L1RefIdeal.nD Cert.Ffn2L1RefIdeal.τ).loc Cert.Ffn2L1RefIdeal.main_arg4) = m ((c.tc : Thread Cert.Ffn2L1RefIdeal.nD Cert.Ffn2L1RefIdeal.τ).loc Cert.Ffn2L1RefIdeal.main_arg4))
      ∧ r.2.sem = fun _ => 0)

def quiescent_Ffn1L0 [hFfn1L0 : Cert.Ffn1L0.Facts] : Prop :=
  ∀ (m : (ℓ : Loc Cert.Ffn1L0.nD Cert.Ffn1L0.τ Cert.Ffn1L0.sig) → Buf (Elt Bits) ℓ) (g : Dev Cert.Ffn1L0.nD → PrngReg), Pre_Ffn1L0 m →
    θ_run (Cert.Ffn1L0.defs (F := Bits)) (onTc (τ := Cert.Ffn1L0.τ) (Cert.Ffn1L0.main (F := Bits))) ⟨m, fun _ => 0, g⟩ (fun r => (∀ c : Dev Cert.Ffn1L0.nD,
      r.2.mem ((c.tc : Thread Cert.Ffn1L0.nD Cert.Ffn1L0.τ).loc Cert.Ffn1L0.main_arg0) = m ((c.tc : Thread Cert.Ffn1L0.nD Cert.Ffn1L0.τ).loc Cert.Ffn1L0.main_arg0)
      ∧ r.2.mem ((c.tc : Thread Cert.Ffn1L0.nD Cert.Ffn1L0.τ).loc Cert.Ffn1L0.main_arg1) = m ((c.tc : Thread Cert.Ffn1L0.nD Cert.Ffn1L0.τ).loc Cert.Ffn1L0.main_arg1)
      ∧ r.2.mem ((c.tc : Thread Cert.Ffn1L0.nD Cert.Ffn1L0.τ).loc Cert.Ffn1L0.main_arg2) = m ((c.tc : Thread Cert.Ffn1L0.nD Cert.Ffn1L0.τ).loc Cert.Ffn1L0.main_arg2)
      ∧ r.2.mem ((c.tc : Thread Cert.Ffn1L0.nD Cert.Ffn1L0.τ).loc Cert.Ffn1L0.main_arg3) = m ((c.tc : Thread Cert.Ffn1L0.nD Cert.Ffn1L0.τ).loc Cert.Ffn1L0.main_arg3)
      ∧ r.2.mem ((c.tc : Thread Cert.Ffn1L0.nD Cert.Ffn1L0.τ).loc Cert.Ffn1L0.main_arg4) = m ((c.tc : Thread Cert.Ffn1L0.nD Cert.Ffn1L0.τ).loc Cert.Ffn1L0.main_arg4))
      ∧ r.2.sem = fun _ => 0)

def quiescent_Ffn1L0Ideal [hFfn1L0Ideal : Cert.Ffn1L0Ideal.Facts] : Prop :=
  ∀ (m : (ℓ : Loc Cert.Ffn1L0Ideal.nD Cert.Ffn1L0Ideal.τ Cert.Ffn1L0Ideal.sig) → Buf (Elt Ideal) ℓ) (g : Dev Cert.Ffn1L0Ideal.nD → PrngReg), Pre_Ffn1L0Ideal m →
    θ_run (Cert.Ffn1L0Ideal.defs (F := Ideal)) (onTc (τ := Cert.Ffn1L0Ideal.τ) (Cert.Ffn1L0Ideal.main (F := Ideal))) ⟨m, fun _ => 0, g⟩ (fun r => (∀ c : Dev Cert.Ffn1L0Ideal.nD,
      r.2.mem ((c.tc : Thread Cert.Ffn1L0Ideal.nD Cert.Ffn1L0Ideal.τ).loc Cert.Ffn1L0Ideal.main_arg0) = m ((c.tc : Thread Cert.Ffn1L0Ideal.nD Cert.Ffn1L0Ideal.τ).loc Cert.Ffn1L0Ideal.main_arg0)
      ∧ r.2.mem ((c.tc : Thread Cert.Ffn1L0Ideal.nD Cert.Ffn1L0Ideal.τ).loc Cert.Ffn1L0Ideal.main_arg1) = m ((c.tc : Thread Cert.Ffn1L0Ideal.nD Cert.Ffn1L0Ideal.τ).loc Cert.Ffn1L0Ideal.main_arg1)
      ∧ r.2.mem ((c.tc : Thread Cert.Ffn1L0Ideal.nD Cert.Ffn1L0Ideal.τ).loc Cert.Ffn1L0Ideal.main_arg2) = m ((c.tc : Thread Cert.Ffn1L0Ideal.nD Cert.Ffn1L0Ideal.τ).loc Cert.Ffn1L0Ideal.main_arg2)
      ∧ r.2.mem ((c.tc : Thread Cert.Ffn1L0Ideal.nD Cert.Ffn1L0Ideal.τ).loc Cert.Ffn1L0Ideal.main_arg3) = m ((c.tc : Thread Cert.Ffn1L0Ideal.nD Cert.Ffn1L0Ideal.τ).loc Cert.Ffn1L0Ideal.main_arg3)
      ∧ r.2.mem ((c.tc : Thread Cert.Ffn1L0Ideal.nD Cert.Ffn1L0Ideal.τ).loc Cert.Ffn1L0Ideal.main_arg4) = m ((c.tc : Thread Cert.Ffn1L0Ideal.nD Cert.Ffn1L0Ideal.τ).loc Cert.Ffn1L0Ideal.main_arg4))
      ∧ r.2.sem = fun _ => 0)

def quiescent_Ffn1L0RefIdeal [hFfn1L0RefIdeal : Cert.Ffn1L0RefIdeal.Facts] : Prop :=
  ∀ (m : (ℓ : Loc Cert.Ffn1L0RefIdeal.nD Cert.Ffn1L0RefIdeal.τ Cert.Ffn1L0RefIdeal.sig) → Buf (Elt Ideal) ℓ) (g : Dev Cert.Ffn1L0RefIdeal.nD → PrngReg), Pre_Ffn1L0RefIdeal m →
    θ_run (Cert.Ffn1L0RefIdeal.defs (F := Ideal)) (onTc (τ := Cert.Ffn1L0RefIdeal.τ) (Cert.Ffn1L0RefIdeal.main (F := Ideal))) ⟨m, fun _ => 0, g⟩ (fun r => (∀ c : Dev Cert.Ffn1L0RefIdeal.nD,
      r.2.mem ((c.tc : Thread Cert.Ffn1L0RefIdeal.nD Cert.Ffn1L0RefIdeal.τ).loc Cert.Ffn1L0RefIdeal.main_arg0) = m ((c.tc : Thread Cert.Ffn1L0RefIdeal.nD Cert.Ffn1L0RefIdeal.τ).loc Cert.Ffn1L0RefIdeal.main_arg0)
      ∧ r.2.mem ((c.tc : Thread Cert.Ffn1L0RefIdeal.nD Cert.Ffn1L0RefIdeal.τ).loc Cert.Ffn1L0RefIdeal.main_arg1) = m ((c.tc : Thread Cert.Ffn1L0RefIdeal.nD Cert.Ffn1L0RefIdeal.τ).loc Cert.Ffn1L0RefIdeal.main_arg1)
      ∧ r.2.mem ((c.tc : Thread Cert.Ffn1L0RefIdeal.nD Cert.Ffn1L0RefIdeal.τ).loc Cert.Ffn1L0RefIdeal.main_arg2) = m ((c.tc : Thread Cert.Ffn1L0RefIdeal.nD Cert.Ffn1L0RefIdeal.τ).loc Cert.Ffn1L0RefIdeal.main_arg2)
      ∧ r.2.mem ((c.tc : Thread Cert.Ffn1L0RefIdeal.nD Cert.Ffn1L0RefIdeal.τ).loc Cert.Ffn1L0RefIdeal.main_arg3) = m ((c.tc : Thread Cert.Ffn1L0RefIdeal.nD Cert.Ffn1L0RefIdeal.τ).loc Cert.Ffn1L0RefIdeal.main_arg3)
      ∧ r.2.mem ((c.tc : Thread Cert.Ffn1L0RefIdeal.nD Cert.Ffn1L0RefIdeal.τ).loc Cert.Ffn1L0RefIdeal.main_arg4) = m ((c.tc : Thread Cert.Ffn1L0RefIdeal.nD Cert.Ffn1L0RefIdeal.τ).loc Cert.Ffn1L0RefIdeal.main_arg4))
      ∧ r.2.sem = fun _ => 0)

def quiescent_Ffn2L0 [hFfn2L0 : Cert.Ffn2L0.Facts] : Prop :=
  ∀ (m : (ℓ : Loc Cert.Ffn2L0.nD Cert.Ffn2L0.τ Cert.Ffn2L0.sig) → Buf (Elt Bits) ℓ) (g : Dev Cert.Ffn2L0.nD → PrngReg), Pre_Ffn2L0 m →
    θ_run (Cert.Ffn2L0.defs (F := Bits)) (onTc (τ := Cert.Ffn2L0.τ) (Cert.Ffn2L0.main (F := Bits))) ⟨m, fun _ => 0, g⟩ (fun r => (∀ c : Dev Cert.Ffn2L0.nD,
      r.2.mem ((c.tc : Thread Cert.Ffn2L0.nD Cert.Ffn2L0.τ).loc Cert.Ffn2L0.main_arg0) = m ((c.tc : Thread Cert.Ffn2L0.nD Cert.Ffn2L0.τ).loc Cert.Ffn2L0.main_arg0)
      ∧ r.2.mem ((c.tc : Thread Cert.Ffn2L0.nD Cert.Ffn2L0.τ).loc Cert.Ffn2L0.main_arg1) = m ((c.tc : Thread Cert.Ffn2L0.nD Cert.Ffn2L0.τ).loc Cert.Ffn2L0.main_arg1)
      ∧ r.2.mem ((c.tc : Thread Cert.Ffn2L0.nD Cert.Ffn2L0.τ).loc Cert.Ffn2L0.main_arg2) = m ((c.tc : Thread Cert.Ffn2L0.nD Cert.Ffn2L0.τ).loc Cert.Ffn2L0.main_arg2)
      ∧ r.2.mem ((c.tc : Thread Cert.Ffn2L0.nD Cert.Ffn2L0.τ).loc Cert.Ffn2L0.main_arg3) = m ((c.tc : Thread Cert.Ffn2L0.nD Cert.Ffn2L0.τ).loc Cert.Ffn2L0.main_arg3)
      ∧ r.2.mem ((c.tc : Thread Cert.Ffn2L0.nD Cert.Ffn2L0.τ).loc Cert.Ffn2L0.main_arg4) = m ((c.tc : Thread Cert.Ffn2L0.nD Cert.Ffn2L0.τ).loc Cert.Ffn2L0.main_arg4))
      ∧ r.2.sem = fun _ => 0)

def quiescent_Ffn2L0Ideal [hFfn2L0Ideal : Cert.Ffn2L0Ideal.Facts] : Prop :=
  ∀ (m : (ℓ : Loc Cert.Ffn2L0Ideal.nD Cert.Ffn2L0Ideal.τ Cert.Ffn2L0Ideal.sig) → Buf (Elt Ideal) ℓ) (g : Dev Cert.Ffn2L0Ideal.nD → PrngReg), Pre_Ffn2L0Ideal m →
    θ_run (Cert.Ffn2L0Ideal.defs (F := Ideal)) (onTc (τ := Cert.Ffn2L0Ideal.τ) (Cert.Ffn2L0Ideal.main (F := Ideal))) ⟨m, fun _ => 0, g⟩ (fun r => (∀ c : Dev Cert.Ffn2L0Ideal.nD,
      r.2.mem ((c.tc : Thread Cert.Ffn2L0Ideal.nD Cert.Ffn2L0Ideal.τ).loc Cert.Ffn2L0Ideal.main_arg0) = m ((c.tc : Thread Cert.Ffn2L0Ideal.nD Cert.Ffn2L0Ideal.τ).loc Cert.Ffn2L0Ideal.main_arg0)
      ∧ r.2.mem ((c.tc : Thread Cert.Ffn2L0Ideal.nD Cert.Ffn2L0Ideal.τ).loc Cert.Ffn2L0Ideal.main_arg1) = m ((c.tc : Thread Cert.Ffn2L0Ideal.nD Cert.Ffn2L0Ideal.τ).loc Cert.Ffn2L0Ideal.main_arg1)
      ∧ r.2.mem ((c.tc : Thread Cert.Ffn2L0Ideal.nD Cert.Ffn2L0Ideal.τ).loc Cert.Ffn2L0Ideal.main_arg2) = m ((c.tc : Thread Cert.Ffn2L0Ideal.nD Cert.Ffn2L0Ideal.τ).loc Cert.Ffn2L0Ideal.main_arg2)
      ∧ r.2.mem ((c.tc : Thread Cert.Ffn2L0Ideal.nD Cert.Ffn2L0Ideal.τ).loc Cert.Ffn2L0Ideal.main_arg3) = m ((c.tc : Thread Cert.Ffn2L0Ideal.nD Cert.Ffn2L0Ideal.τ).loc Cert.Ffn2L0Ideal.main_arg3)
      ∧ r.2.mem ((c.tc : Thread Cert.Ffn2L0Ideal.nD Cert.Ffn2L0Ideal.τ).loc Cert.Ffn2L0Ideal.main_arg4) = m ((c.tc : Thread Cert.Ffn2L0Ideal.nD Cert.Ffn2L0Ideal.τ).loc Cert.Ffn2L0Ideal.main_arg4))
      ∧ r.2.sem = fun _ => 0)

def quiescent_Ffn2L0RefIdeal [hFfn2L0RefIdeal : Cert.Ffn2L0RefIdeal.Facts] : Prop :=
  ∀ (m : (ℓ : Loc Cert.Ffn2L0RefIdeal.nD Cert.Ffn2L0RefIdeal.τ Cert.Ffn2L0RefIdeal.sig) → Buf (Elt Ideal) ℓ) (g : Dev Cert.Ffn2L0RefIdeal.nD → PrngReg), Pre_Ffn2L0RefIdeal m →
    θ_run (Cert.Ffn2L0RefIdeal.defs (F := Ideal)) (onTc (τ := Cert.Ffn2L0RefIdeal.τ) (Cert.Ffn2L0RefIdeal.main (F := Ideal))) ⟨m, fun _ => 0, g⟩ (fun r => (∀ c : Dev Cert.Ffn2L0RefIdeal.nD,
      r.2.mem ((c.tc : Thread Cert.Ffn2L0RefIdeal.nD Cert.Ffn2L0RefIdeal.τ).loc Cert.Ffn2L0RefIdeal.main_arg0) = m ((c.tc : Thread Cert.Ffn2L0RefIdeal.nD Cert.Ffn2L0RefIdeal.τ).loc Cert.Ffn2L0RefIdeal.main_arg0)
      ∧ r.2.mem ((c.tc : Thread Cert.Ffn2L0RefIdeal.nD Cert.Ffn2L0RefIdeal.τ).loc Cert.Ffn2L0RefIdeal.main_arg1) = m ((c.tc : Thread Cert.Ffn2L0RefIdeal.nD Cert.Ffn2L0RefIdeal.τ).loc Cert.Ffn2L0RefIdeal.main_arg1)
      ∧ r.2.mem ((c.tc : Thread Cert.Ffn2L0RefIdeal.nD Cert.Ffn2L0RefIdeal.τ).loc Cert.Ffn2L0RefIdeal.main_arg2) = m ((c.tc : Thread Cert.Ffn2L0RefIdeal.nD Cert.Ffn2L0RefIdeal.τ).loc Cert.Ffn2L0RefIdeal.main_arg2)
      ∧ r.2.mem ((c.tc : Thread Cert.Ffn2L0RefIdeal.nD Cert.Ffn2L0RefIdeal.τ).loc Cert.Ffn2L0RefIdeal.main_arg3) = m ((c.tc : Thread Cert.Ffn2L0RefIdeal.nD Cert.Ffn2L0RefIdeal.τ).loc Cert.Ffn2L0RefIdeal.main_arg3)
      ∧ r.2.mem ((c.tc : Thread Cert.Ffn2L0RefIdeal.nD Cert.Ffn2L0RefIdeal.τ).loc Cert.Ffn2L0RefIdeal.main_arg4) = m ((c.tc : Thread Cert.Ffn2L0RefIdeal.nD Cert.Ffn2L0RefIdeal.τ).loc Cert.Ffn2L0RefIdeal.main_arg4))
      ∧ r.2.sem = fun _ => 0)

def quiescent_Ffn1L1 [hFfn1L1 : Cert.Ffn1L1.Facts] : Prop :=
  ∀ (m : (ℓ : Loc Cert.Ffn1L1.nD Cert.Ffn1L1.τ Cert.Ffn1L1.sig) → Buf (Elt Bits) ℓ) (g : Dev Cert.Ffn1L1.nD → PrngReg), Pre_Ffn1L1 m →
    θ_run (Cert.Ffn1L1.defs (F := Bits)) (onTc (τ := Cert.Ffn1L1.τ) (Cert.Ffn1L1.main (F := Bits))) ⟨m, fun _ => 0, g⟩ (fun r => (∀ c : Dev Cert.Ffn1L1.nD,
      r.2.mem ((c.tc : Thread Cert.Ffn1L1.nD Cert.Ffn1L1.τ).loc Cert.Ffn1L1.main_arg0) = m ((c.tc : Thread Cert.Ffn1L1.nD Cert.Ffn1L1.τ).loc Cert.Ffn1L1.main_arg0)
      ∧ r.2.mem ((c.tc : Thread Cert.Ffn1L1.nD Cert.Ffn1L1.τ).loc Cert.Ffn1L1.main_arg1) = m ((c.tc : Thread Cert.Ffn1L1.nD Cert.Ffn1L1.τ).loc Cert.Ffn1L1.main_arg1)
      ∧ r.2.mem ((c.tc : Thread Cert.Ffn1L1.nD Cert.Ffn1L1.τ).loc Cert.Ffn1L1.main_arg2) = m ((c.tc : Thread Cert.Ffn1L1.nD Cert.Ffn1L1.τ).loc Cert.Ffn1L1.main_arg2)
      ∧ r.2.mem ((c.tc : Thread Cert.Ffn1L1.nD Cert.Ffn1L1.τ).loc Cert.Ffn1L1.main_arg3) = m ((c.tc : Thread Cert.Ffn1L1.nD Cert.Ffn1L1.τ).loc Cert.Ffn1L1.main_arg3)
      ∧ r.2.mem ((c.tc : Thread Cert.Ffn1L1.nD Cert.Ffn1L1.τ).loc Cert.Ffn1L1.main_arg4) = m ((c.tc : Thread Cert.Ffn1L1.nD Cert.Ffn1L1.τ).loc Cert.Ffn1L1.main_arg4))
      ∧ r.2.sem = fun _ => 0)

def quiescent_Ffn1L1Ideal [hFfn1L1Ideal : Cert.Ffn1L1Ideal.Facts] : Prop :=
  ∀ (m : (ℓ : Loc Cert.Ffn1L1Ideal.nD Cert.Ffn1L1Ideal.τ Cert.Ffn1L1Ideal.sig) → Buf (Elt Ideal) ℓ) (g : Dev Cert.Ffn1L1Ideal.nD → PrngReg), Pre_Ffn1L1Ideal m →
    θ_run (Cert.Ffn1L1Ideal.defs (F := Ideal)) (onTc (τ := Cert.Ffn1L1Ideal.τ) (Cert.Ffn1L1Ideal.main (F := Ideal))) ⟨m, fun _ => 0, g⟩ (fun r => (∀ c : Dev Cert.Ffn1L1Ideal.nD,
      r.2.mem ((c.tc : Thread Cert.Ffn1L1Ideal.nD Cert.Ffn1L1Ideal.τ).loc Cert.Ffn1L1Ideal.main_arg0) = m ((c.tc : Thread Cert.Ffn1L1Ideal.nD Cert.Ffn1L1Ideal.τ).loc Cert.Ffn1L1Ideal.main_arg0)
      ∧ r.2.mem ((c.tc : Thread Cert.Ffn1L1Ideal.nD Cert.Ffn1L1Ideal.τ).loc Cert.Ffn1L1Ideal.main_arg1) = m ((c.tc : Thread Cert.Ffn1L1Ideal.nD Cert.Ffn1L1Ideal.τ).loc Cert.Ffn1L1Ideal.main_arg1)
      ∧ r.2.mem ((c.tc : Thread Cert.Ffn1L1Ideal.nD Cert.Ffn1L1Ideal.τ).loc Cert.Ffn1L1Ideal.main_arg2) = m ((c.tc : Thread Cert.Ffn1L1Ideal.nD Cert.Ffn1L1Ideal.τ).loc Cert.Ffn1L1Ideal.main_arg2)
      ∧ r.2.mem ((c.tc : Thread Cert.Ffn1L1Ideal.nD Cert.Ffn1L1Ideal.τ).loc Cert.Ffn1L1Ideal.main_arg3) = m ((c.tc : Thread Cert.Ffn1L1Ideal.nD Cert.Ffn1L1Ideal.τ).loc Cert.Ffn1L1Ideal.main_arg3)
      ∧ r.2.mem ((c.tc : Thread Cert.Ffn1L1Ideal.nD Cert.Ffn1L1Ideal.τ).loc Cert.Ffn1L1Ideal.main_arg4) = m ((c.tc : Thread Cert.Ffn1L1Ideal.nD Cert.Ffn1L1Ideal.τ).loc Cert.Ffn1L1Ideal.main_arg4))
      ∧ r.2.sem = fun _ => 0)

def quiescent_Ffn1L1RefIdeal [hFfn1L1RefIdeal : Cert.Ffn1L1RefIdeal.Facts] : Prop :=
  ∀ (m : (ℓ : Loc Cert.Ffn1L1RefIdeal.nD Cert.Ffn1L1RefIdeal.τ Cert.Ffn1L1RefIdeal.sig) → Buf (Elt Ideal) ℓ) (g : Dev Cert.Ffn1L1RefIdeal.nD → PrngReg), Pre_Ffn1L1RefIdeal m →
    θ_run (Cert.Ffn1L1RefIdeal.defs (F := Ideal)) (onTc (τ := Cert.Ffn1L1RefIdeal.τ) (Cert.Ffn1L1RefIdeal.main (F := Ideal))) ⟨m, fun _ => 0, g⟩ (fun r => (∀ c : Dev Cert.Ffn1L1RefIdeal.nD,
      r.2.mem ((c.tc : Thread Cert.Ffn1L1RefIdeal.nD Cert.Ffn1L1RefIdeal.τ).loc Cert.Ffn1L1RefIdeal.main_arg0) = m ((c.tc : Thread Cert.Ffn1L1RefIdeal.nD Cert.Ffn1L1RefIdeal.τ).loc Cert.Ffn1L1RefIdeal.main_arg0)
      ∧ r.2.mem ((c.tc : Thread Cert.Ffn1L1RefIdeal.nD Cert.Ffn1L1RefIdeal.τ).loc Cert.Ffn1L1RefIdeal.main_arg1) = m ((c.tc : Thread Cert.Ffn1L1RefIdeal.nD Cert.Ffn1L1RefIdeal.τ).loc Cert.Ffn1L1RefIdeal.main_arg1)
      ∧ r.2.mem ((c.tc : Thread Cert.Ffn1L1RefIdeal.nD Cert.Ffn1L1RefIdeal.τ).loc Cert.Ffn1L1RefIdeal.main_arg2) = m ((c.tc : Thread Cert.Ffn1L1RefIdeal.nD Cert.Ffn1L1RefIdeal.τ).loc Cert.Ffn1L1RefIdeal.main_arg2)
      ∧ r.2.mem ((c.tc : Thread Cert.Ffn1L1RefIdeal.nD Cert.Ffn1L1RefIdeal.τ).loc Cert.Ffn1L1RefIdeal.main_arg3) = m ((c.tc : Thread Cert.Ffn1L1RefIdeal.nD Cert.Ffn1L1RefIdeal.τ).loc Cert.Ffn1L1RefIdeal.main_arg3)
      ∧ r.2.mem ((c.tc : Thread Cert.Ffn1L1RefIdeal.nD Cert.Ffn1L1RefIdeal.τ).loc Cert.Ffn1L1RefIdeal.main_arg4) = m ((c.tc : Thread Cert.Ffn1L1RefIdeal.nD Cert.Ffn1L1RefIdeal.τ).loc Cert.Ffn1L1RefIdeal.main_arg4))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def quiescent_MixerIdeal_pre_finite_arguments [hMixerIdeal : Cert.MixerIdeal.Facts] [hPre_finite_arguments : Cert.Pre_finite_arguments.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal_finite_arguments m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9))
      ∧ r.2.sem = fun _ => 0)

def quiescent_MixerRefIdeal_pre_finite_arguments [hMixerRefIdeal : Cert.MixerRefIdeal.Facts] [hPre_finite_arguments : Cert.Pre_finite_arguments.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal_finite_arguments m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9))
      ∧ r.2.sem = fun _ => 0)

def preserves_Ffn2L1_Ffn2L1Ideal : Prop :=
  True

def algebraic_Ffn2L1Ideal_Ffn2L1RefIdeal [hFfn2L1Ideal : Cert.Ffn2L1Ideal.Facts] [hFfn2L1RefIdeal : Cert.Ffn2L1RefIdeal.Facts] : Prop :=
  ∀ (m : (ℓ : Loc Cert.Ffn2L1Ideal.nD Cert.Ffn2L1Ideal.τ Cert.Ffn2L1Ideal.sig) → Buf (Elt Ideal) ℓ) (g : Dev Cert.Ffn2L1Ideal.nD → PrngReg)
    (m' : (ℓ : Loc Cert.Ffn2L1RefIdeal.nD Cert.Ffn2L1RefIdeal.τ Cert.Ffn2L1RefIdeal.sig) → Buf (Elt Ideal) ℓ) (g' : Dev Cert.Ffn2L1RefIdeal.nD → PrngReg), Pre_Ffn2L1Ideal m →
    (∀ c : Dev Cert.Ffn2L1Ideal.nD,
      m' ((c.tc : Thread Cert.Ffn2L1RefIdeal.nD Cert.Ffn2L1RefIdeal.τ).loc Cert.Ffn2L1RefIdeal.main_arg0) = m ((c.tc : Thread Cert.Ffn2L1Ideal.nD Cert.Ffn2L1Ideal.τ).loc Cert.Ffn2L1Ideal.main_arg0)
      ∧ m' ((c.tc : Thread Cert.Ffn2L1RefIdeal.nD Cert.Ffn2L1RefIdeal.τ).loc Cert.Ffn2L1RefIdeal.main_arg1) = m ((c.tc : Thread Cert.Ffn2L1Ideal.nD Cert.Ffn2L1Ideal.τ).loc Cert.Ffn2L1Ideal.main_arg1)
      ∧ m' ((c.tc : Thread Cert.Ffn2L1RefIdeal.nD Cert.Ffn2L1RefIdeal.τ).loc Cert.Ffn2L1RefIdeal.main_arg2) = m ((c.tc : Thread Cert.Ffn2L1Ideal.nD Cert.Ffn2L1Ideal.τ).loc Cert.Ffn2L1Ideal.main_arg2)
      ∧ m' ((c.tc : Thread Cert.Ffn2L1RefIdeal.nD Cert.Ffn2L1RefIdeal.τ).loc Cert.Ffn2L1RefIdeal.main_arg3) = m ((c.tc : Thread Cert.Ffn2L1Ideal.nD Cert.Ffn2L1Ideal.τ).loc Cert.Ffn2L1Ideal.main_arg3)
      ∧ m' ((c.tc : Thread Cert.Ffn2L1RefIdeal.nD Cert.Ffn2L1RefIdeal.τ).loc Cert.Ffn2L1RefIdeal.main_arg4) = m ((c.tc : Thread Cert.Ffn2L1Ideal.nD Cert.Ffn2L1Ideal.τ).loc Cert.Ffn2L1Ideal.main_arg4)) →
    ∃ (v0 : (c : Dev Cert.Ffn2L1Ideal.nD) → Buf (Elt Ideal) ((c.tc : Thread Cert.Ffn2L1Ideal.nD Cert.Ffn2L1Ideal.τ).loc Cert.Ffn2L1Ideal.main_v6_0)),
      θ_run (Cert.Ffn2L1Ideal.defs (F := Ideal)) (onTc (τ := Cert.Ffn2L1Ideal.τ) (Cert.Ffn2L1Ideal.main (F := Ideal))) ⟨m, fun _ => 0, g⟩ (fun r => ∀ c : Dev Cert.Ffn2L1Ideal.nD,
          r.2.mem ((c.tc : Thread Cert.Ffn2L1Ideal.nD Cert.Ffn2L1Ideal.τ).loc Cert.Ffn2L1Ideal.main_v6_0) = v0 c
          ∧ r.2.mem ((c.tc : Thread Cert.Ffn2L1Ideal.nD Cert.Ffn2L1Ideal.τ).loc Cert.Ffn2L1Ideal.main_arg0) = m ((c.tc : Thread Cert.Ffn2L1Ideal.nD Cert.Ffn2L1Ideal.τ).loc Cert.Ffn2L1Ideal.main_arg0)
          ∧ r.2.mem ((c.tc : Thread Cert.Ffn2L1Ideal.nD Cert.Ffn2L1Ideal.τ).loc Cert.Ffn2L1Ideal.main_arg1) = m ((c.tc : Thread Cert.Ffn2L1Ideal.nD Cert.Ffn2L1Ideal.τ).loc Cert.Ffn2L1Ideal.main_arg1)
          ∧ r.2.mem ((c.tc : Thread Cert.Ffn2L1Ideal.nD Cert.Ffn2L1Ideal.τ).loc Cert.Ffn2L1Ideal.main_arg2) = m ((c.tc : Thread Cert.Ffn2L1Ideal.nD Cert.Ffn2L1Ideal.τ).loc Cert.Ffn2L1Ideal.main_arg2)
          ∧ r.2.mem ((c.tc : Thread Cert.Ffn2L1Ideal.nD Cert.Ffn2L1Ideal.τ).loc Cert.Ffn2L1Ideal.main_arg3) = m ((c.tc : Thread Cert.Ffn2L1Ideal.nD Cert.Ffn2L1Ideal.τ).loc Cert.Ffn2L1Ideal.main_arg3)
          ∧ r.2.mem ((c.tc : Thread Cert.Ffn2L1Ideal.nD Cert.Ffn2L1Ideal.τ).loc Cert.Ffn2L1Ideal.main_arg4) = m ((c.tc : Thread Cert.Ffn2L1Ideal.nD Cert.Ffn2L1Ideal.τ).loc Cert.Ffn2L1Ideal.main_arg4))
      ∧ θ_run (Cert.Ffn2L1RefIdeal.defs (F := Ideal)) (onTc (τ := Cert.Ffn2L1RefIdeal.τ) (Cert.Ffn2L1RefIdeal.main (F := Ideal))) ⟨m', fun _ => 0, g'⟩ (fun r => ∀ c : Dev Cert.Ffn2L1RefIdeal.nD,
          r.2.mem ((c.tc : Thread Cert.Ffn2L1RefIdeal.nD Cert.Ffn2L1RefIdeal.τ).loc Cert.Ffn2L1RefIdeal.main_v49) = v0 c
          ∧ r.2.mem ((c.tc : Thread Cert.Ffn2L1RefIdeal.nD Cert.Ffn2L1RefIdeal.τ).loc Cert.Ffn2L1RefIdeal.main_arg0) = m' ((c.tc : Thread Cert.Ffn2L1RefIdeal.nD Cert.Ffn2L1RefIdeal.τ).loc Cert.Ffn2L1RefIdeal.main_arg0)
          ∧ r.2.mem ((c.tc : Thread Cert.Ffn2L1RefIdeal.nD Cert.Ffn2L1RefIdeal.τ).loc Cert.Ffn2L1RefIdeal.main_arg1) = m' ((c.tc : Thread Cert.Ffn2L1RefIdeal.nD Cert.Ffn2L1RefIdeal.τ).loc Cert.Ffn2L1RefIdeal.main_arg1)
          ∧ r.2.mem ((c.tc : Thread Cert.Ffn2L1RefIdeal.nD Cert.Ffn2L1RefIdeal.τ).loc Cert.Ffn2L1RefIdeal.main_arg2) = m' ((c.tc : Thread Cert.Ffn2L1RefIdeal.nD Cert.Ffn2L1RefIdeal.τ).loc Cert.Ffn2L1RefIdeal.main_arg2)
          ∧ r.2.mem ((c.tc : Thread Cert.Ffn2L1RefIdeal.nD Cert.Ffn2L1RefIdeal.τ).loc Cert.Ffn2L1RefIdeal.main_arg3) = m' ((c.tc : Thread Cert.Ffn2L1RefIdeal.nD Cert.Ffn2L1RefIdeal.τ).loc Cert.Ffn2L1RefIdeal.main_arg3)
          ∧ r.2.mem ((c.tc : Thread Cert.Ffn2L1RefIdeal.nD Cert.Ffn2L1RefIdeal.τ).loc Cert.Ffn2L1RefIdeal.main_arg4) = m' ((c.tc : Thread Cert.Ffn2L1RefIdeal.nD Cert.Ffn2L1RefIdeal.τ).loc Cert.Ffn2L1RefIdeal.main_arg4))

def preserves_Ffn1L0_Ffn1L0Ideal : Prop :=
  True

def algebraic_Ffn1L0Ideal_Ffn1L0RefIdeal [hFfn1L0Ideal : Cert.Ffn1L0Ideal.Facts] [hFfn1L0RefIdeal : Cert.Ffn1L0RefIdeal.Facts] : Prop :=
  ∀ (m : (ℓ : Loc Cert.Ffn1L0Ideal.nD Cert.Ffn1L0Ideal.τ Cert.Ffn1L0Ideal.sig) → Buf (Elt Ideal) ℓ) (g : Dev Cert.Ffn1L0Ideal.nD → PrngReg)
    (m' : (ℓ : Loc Cert.Ffn1L0RefIdeal.nD Cert.Ffn1L0RefIdeal.τ Cert.Ffn1L0RefIdeal.sig) → Buf (Elt Ideal) ℓ) (g' : Dev Cert.Ffn1L0RefIdeal.nD → PrngReg), Pre_Ffn1L0Ideal m →
    (∀ c : Dev Cert.Ffn1L0Ideal.nD,
      m' ((c.tc : Thread Cert.Ffn1L0RefIdeal.nD Cert.Ffn1L0RefIdeal.τ).loc Cert.Ffn1L0RefIdeal.main_arg0) = m ((c.tc : Thread Cert.Ffn1L0Ideal.nD Cert.Ffn1L0Ideal.τ).loc Cert.Ffn1L0Ideal.main_arg0)
      ∧ m' ((c.tc : Thread Cert.Ffn1L0RefIdeal.nD Cert.Ffn1L0RefIdeal.τ).loc Cert.Ffn1L0RefIdeal.main_arg1) = m ((c.tc : Thread Cert.Ffn1L0Ideal.nD Cert.Ffn1L0Ideal.τ).loc Cert.Ffn1L0Ideal.main_arg1)
      ∧ m' ((c.tc : Thread Cert.Ffn1L0RefIdeal.nD Cert.Ffn1L0RefIdeal.τ).loc Cert.Ffn1L0RefIdeal.main_arg2) = m ((c.tc : Thread Cert.Ffn1L0Ideal.nD Cert.Ffn1L0Ideal.τ).loc Cert.Ffn1L0Ideal.main_arg2)
      ∧ m' ((c.tc : Thread Cert.Ffn1L0RefIdeal.nD Cert.Ffn1L0RefIdeal.τ).loc Cert.Ffn1L0RefIdeal.main_arg3) = m ((c.tc : Thread Cert.Ffn1L0Ideal.nD Cert.Ffn1L0Ideal.τ).loc Cert.Ffn1L0Ideal.main_arg3)
      ∧ m' ((c.tc : Thread Cert.Ffn1L0RefIdeal.nD Cert.Ffn1L0RefIdeal.τ).loc Cert.Ffn1L0RefIdeal.main_arg4) = m ((c.tc : Thread Cert.Ffn1L0Ideal.nD Cert.Ffn1L0Ideal.τ).loc Cert.Ffn1L0Ideal.main_arg4)) →
    ∃ (v0 : (c : Dev Cert.Ffn1L0Ideal.nD) → Buf (Elt Ideal) ((c.tc : Thread Cert.Ffn1L0Ideal.nD Cert.Ffn1L0Ideal.τ).loc Cert.Ffn1L0Ideal.main_v6_0)),
      θ_run (Cert.Ffn1L0Ideal.defs (F := Ideal)) (onTc (τ := Cert.Ffn1L0Ideal.τ) (Cert.Ffn1L0Ideal.main (F := Ideal))) ⟨m, fun _ => 0, g⟩ (fun r => ∀ c : Dev Cert.Ffn1L0Ideal.nD,
          r.2.mem ((c.tc : Thread Cert.Ffn1L0Ideal.nD Cert.Ffn1L0Ideal.τ).loc Cert.Ffn1L0Ideal.main_v6_0) = v0 c
          ∧ r.2.mem ((c.tc : Thread Cert.Ffn1L0Ideal.nD Cert.Ffn1L0Ideal.τ).loc Cert.Ffn1L0Ideal.main_arg0) = m ((c.tc : Thread Cert.Ffn1L0Ideal.nD Cert.Ffn1L0Ideal.τ).loc Cert.Ffn1L0Ideal.main_arg0)
          ∧ r.2.mem ((c.tc : Thread Cert.Ffn1L0Ideal.nD Cert.Ffn1L0Ideal.τ).loc Cert.Ffn1L0Ideal.main_arg1) = m ((c.tc : Thread Cert.Ffn1L0Ideal.nD Cert.Ffn1L0Ideal.τ).loc Cert.Ffn1L0Ideal.main_arg1)
          ∧ r.2.mem ((c.tc : Thread Cert.Ffn1L0Ideal.nD Cert.Ffn1L0Ideal.τ).loc Cert.Ffn1L0Ideal.main_arg2) = m ((c.tc : Thread Cert.Ffn1L0Ideal.nD Cert.Ffn1L0Ideal.τ).loc Cert.Ffn1L0Ideal.main_arg2)
          ∧ r.2.mem ((c.tc : Thread Cert.Ffn1L0Ideal.nD Cert.Ffn1L0Ideal.τ).loc Cert.Ffn1L0Ideal.main_arg3) = m ((c.tc : Thread Cert.Ffn1L0Ideal.nD Cert.Ffn1L0Ideal.τ).loc Cert.Ffn1L0Ideal.main_arg3)
          ∧ r.2.mem ((c.tc : Thread Cert.Ffn1L0Ideal.nD Cert.Ffn1L0Ideal.τ).loc Cert.Ffn1L0Ideal.main_arg4) = m ((c.tc : Thread Cert.Ffn1L0Ideal.nD Cert.Ffn1L0Ideal.τ).loc Cert.Ffn1L0Ideal.main_arg4))
      ∧ θ_run (Cert.Ffn1L0RefIdeal.defs (F := Ideal)) (onTc (τ := Cert.Ffn1L0RefIdeal.τ) (Cert.Ffn1L0RefIdeal.main (F := Ideal))) ⟨m', fun _ => 0, g'⟩ (fun r => ∀ c : Dev Cert.Ffn1L0RefIdeal.nD,
          r.2.mem ((c.tc : Thread Cert.Ffn1L0RefIdeal.nD Cert.Ffn1L0RefIdeal.τ).loc Cert.Ffn1L0RefIdeal.main_v49) = v0 c
          ∧ r.2.mem ((c.tc : Thread Cert.Ffn1L0RefIdeal.nD Cert.Ffn1L0RefIdeal.τ).loc Cert.Ffn1L0RefIdeal.main_arg0) = m' ((c.tc : Thread Cert.Ffn1L0RefIdeal.nD Cert.Ffn1L0RefIdeal.τ).loc Cert.Ffn1L0RefIdeal.main_arg0)
          ∧ r.2.mem ((c.tc : Thread Cert.Ffn1L0RefIdeal.nD Cert.Ffn1L0RefIdeal.τ).loc Cert.Ffn1L0RefIdeal.main_arg1) = m' ((c.tc : Thread Cert.Ffn1L0RefIdeal.nD Cert.Ffn1L0RefIdeal.τ).loc Cert.Ffn1L0RefIdeal.main_arg1)
          ∧ r.2.mem ((c.tc : Thread Cert.Ffn1L0RefIdeal.nD Cert.Ffn1L0RefIdeal.τ).loc Cert.Ffn1L0RefIdeal.main_arg2) = m' ((c.tc : Thread Cert.Ffn1L0RefIdeal.nD Cert.Ffn1L0RefIdeal.τ).loc Cert.Ffn1L0RefIdeal.main_arg2)
          ∧ r.2.mem ((c.tc : Thread Cert.Ffn1L0RefIdeal.nD Cert.Ffn1L0RefIdeal.τ).loc Cert.Ffn1L0RefIdeal.main_arg3) = m' ((c.tc : Thread Cert.Ffn1L0RefIdeal.nD Cert.Ffn1L0RefIdeal.τ).loc Cert.Ffn1L0RefIdeal.main_arg3)
          ∧ r.2.mem ((c.tc : Thread Cert.Ffn1L0RefIdeal.nD Cert.Ffn1L0RefIdeal.τ).loc Cert.Ffn1L0RefIdeal.main_arg4) = m' ((c.tc : Thread Cert.Ffn1L0RefIdeal.nD Cert.Ffn1L0RefIdeal.τ).loc Cert.Ffn1L0RefIdeal.main_arg4))

def preserves_Ffn2L0_Ffn2L0Ideal : Prop :=
  True

def algebraic_Ffn2L0Ideal_Ffn2L0RefIdeal [hFfn2L0Ideal : Cert.Ffn2L0Ideal.Facts] [hFfn2L0RefIdeal : Cert.Ffn2L0RefIdeal.Facts] : Prop :=
  ∀ (m : (ℓ : Loc Cert.Ffn2L0Ideal.nD Cert.Ffn2L0Ideal.τ Cert.Ffn2L0Ideal.sig) → Buf (Elt Ideal) ℓ) (g : Dev Cert.Ffn2L0Ideal.nD → PrngReg)
    (m' : (ℓ : Loc Cert.Ffn2L0RefIdeal.nD Cert.Ffn2L0RefIdeal.τ Cert.Ffn2L0RefIdeal.sig) → Buf (Elt Ideal) ℓ) (g' : Dev Cert.Ffn2L0RefIdeal.nD → PrngReg), Pre_Ffn2L0Ideal m →
    (∀ c : Dev Cert.Ffn2L0Ideal.nD,
      m' ((c.tc : Thread Cert.Ffn2L0RefIdeal.nD Cert.Ffn2L0RefIdeal.τ).loc Cert.Ffn2L0RefIdeal.main_arg0) = m ((c.tc : Thread Cert.Ffn2L0Ideal.nD Cert.Ffn2L0Ideal.τ).loc Cert.Ffn2L0Ideal.main_arg0)
      ∧ m' ((c.tc : Thread Cert.Ffn2L0RefIdeal.nD Cert.Ffn2L0RefIdeal.τ).loc Cert.Ffn2L0RefIdeal.main_arg1) = m ((c.tc : Thread Cert.Ffn2L0Ideal.nD Cert.Ffn2L0Ideal.τ).loc Cert.Ffn2L0Ideal.main_arg1)
      ∧ m' ((c.tc : Thread Cert.Ffn2L0RefIdeal.nD Cert.Ffn2L0RefIdeal.τ).loc Cert.Ffn2L0RefIdeal.main_arg2) = m ((c.tc : Thread Cert.Ffn2L0Ideal.nD Cert.Ffn2L0Ideal.τ).loc Cert.Ffn2L0Ideal.main_arg2)
      ∧ m' ((c.tc : Thread Cert.Ffn2L0RefIdeal.nD Cert.Ffn2L0RefIdeal.τ).loc Cert.Ffn2L0RefIdeal.main_arg3) = m ((c.tc : Thread Cert.Ffn2L0Ideal.nD Cert.Ffn2L0Ideal.τ).loc Cert.Ffn2L0Ideal.main_arg3)
      ∧ m' ((c.tc : Thread Cert.Ffn2L0RefIdeal.nD Cert.Ffn2L0RefIdeal.τ).loc Cert.Ffn2L0RefIdeal.main_arg4) = m ((c.tc : Thread Cert.Ffn2L0Ideal.nD Cert.Ffn2L0Ideal.τ).loc Cert.Ffn2L0Ideal.main_arg4)) →
    ∃ (v0 : (c : Dev Cert.Ffn2L0Ideal.nD) → Buf (Elt Ideal) ((c.tc : Thread Cert.Ffn2L0Ideal.nD Cert.Ffn2L0Ideal.τ).loc Cert.Ffn2L0Ideal.main_v6_0)),
      θ_run (Cert.Ffn2L0Ideal.defs (F := Ideal)) (onTc (τ := Cert.Ffn2L0Ideal.τ) (Cert.Ffn2L0Ideal.main (F := Ideal))) ⟨m, fun _ => 0, g⟩ (fun r => ∀ c : Dev Cert.Ffn2L0Ideal.nD,
          r.2.mem ((c.tc : Thread Cert.Ffn2L0Ideal.nD Cert.Ffn2L0Ideal.τ).loc Cert.Ffn2L0Ideal.main_v6_0) = v0 c
          ∧ r.2.mem ((c.tc : Thread Cert.Ffn2L0Ideal.nD Cert.Ffn2L0Ideal.τ).loc Cert.Ffn2L0Ideal.main_arg0) = m ((c.tc : Thread Cert.Ffn2L0Ideal.nD Cert.Ffn2L0Ideal.τ).loc Cert.Ffn2L0Ideal.main_arg0)
          ∧ r.2.mem ((c.tc : Thread Cert.Ffn2L0Ideal.nD Cert.Ffn2L0Ideal.τ).loc Cert.Ffn2L0Ideal.main_arg1) = m ((c.tc : Thread Cert.Ffn2L0Ideal.nD Cert.Ffn2L0Ideal.τ).loc Cert.Ffn2L0Ideal.main_arg1)
          ∧ r.2.mem ((c.tc : Thread Cert.Ffn2L0Ideal.nD Cert.Ffn2L0Ideal.τ).loc Cert.Ffn2L0Ideal.main_arg2) = m ((c.tc : Thread Cert.Ffn2L0Ideal.nD Cert.Ffn2L0Ideal.τ).loc Cert.Ffn2L0Ideal.main_arg2)
          ∧ r.2.mem ((c.tc : Thread Cert.Ffn2L0Ideal.nD Cert.Ffn2L0Ideal.τ).loc Cert.Ffn2L0Ideal.main_arg3) = m ((c.tc : Thread Cert.Ffn2L0Ideal.nD Cert.Ffn2L0Ideal.τ).loc Cert.Ffn2L0Ideal.main_arg3)
          ∧ r.2.mem ((c.tc : Thread Cert.Ffn2L0Ideal.nD Cert.Ffn2L0Ideal.τ).loc Cert.Ffn2L0Ideal.main_arg4) = m ((c.tc : Thread Cert.Ffn2L0Ideal.nD Cert.Ffn2L0Ideal.τ).loc Cert.Ffn2L0Ideal.main_arg4))
      ∧ θ_run (Cert.Ffn2L0RefIdeal.defs (F := Ideal)) (onTc (τ := Cert.Ffn2L0RefIdeal.τ) (Cert.Ffn2L0RefIdeal.main (F := Ideal))) ⟨m', fun _ => 0, g'⟩ (fun r => ∀ c : Dev Cert.Ffn2L0RefIdeal.nD,
          r.2.mem ((c.tc : Thread Cert.Ffn2L0RefIdeal.nD Cert.Ffn2L0RefIdeal.τ).loc Cert.Ffn2L0RefIdeal.main_v49) = v0 c
          ∧ r.2.mem ((c.tc : Thread Cert.Ffn2L0RefIdeal.nD Cert.Ffn2L0RefIdeal.τ).loc Cert.Ffn2L0RefIdeal.main_arg0) = m' ((c.tc : Thread Cert.Ffn2L0RefIdeal.nD Cert.Ffn2L0RefIdeal.τ).loc Cert.Ffn2L0RefIdeal.main_arg0)
          ∧ r.2.mem ((c.tc : Thread Cert.Ffn2L0RefIdeal.nD Cert.Ffn2L0RefIdeal.τ).loc Cert.Ffn2L0RefIdeal.main_arg1) = m' ((c.tc : Thread Cert.Ffn2L0RefIdeal.nD Cert.Ffn2L0RefIdeal.τ).loc Cert.Ffn2L0RefIdeal.main_arg1)
          ∧ r.2.mem ((c.tc : Thread Cert.Ffn2L0RefIdeal.nD Cert.Ffn2L0RefIdeal.τ).loc Cert.Ffn2L0RefIdeal.main_arg2) = m' ((c.tc : Thread Cert.Ffn2L0RefIdeal.nD Cert.Ffn2L0RefIdeal.τ).loc Cert.Ffn2L0RefIdeal.main_arg2)
          ∧ r.2.mem ((c.tc : Thread Cert.Ffn2L0RefIdeal.nD Cert.Ffn2L0RefIdeal.τ).loc Cert.Ffn2L0RefIdeal.main_arg3) = m' ((c.tc : Thread Cert.Ffn2L0RefIdeal.nD Cert.Ffn2L0RefIdeal.τ).loc Cert.Ffn2L0RefIdeal.main_arg3)
          ∧ r.2.mem ((c.tc : Thread Cert.Ffn2L0RefIdeal.nD Cert.Ffn2L0RefIdeal.τ).loc Cert.Ffn2L0RefIdeal.main_arg4) = m' ((c.tc : Thread Cert.Ffn2L0RefIdeal.nD Cert.Ffn2L0RefIdeal.τ).loc Cert.Ffn2L0RefIdeal.main_arg4))

def preserves_Ffn1L1_Ffn1L1Ideal : Prop :=
  True

def algebraic_Ffn1L1Ideal_Ffn1L1RefIdeal [hFfn1L1Ideal : Cert.Ffn1L1Ideal.Facts] [hFfn1L1RefIdeal : Cert.Ffn1L1RefIdeal.Facts] : Prop :=
  ∀ (m : (ℓ : Loc Cert.Ffn1L1Ideal.nD Cert.Ffn1L1Ideal.τ Cert.Ffn1L1Ideal.sig) → Buf (Elt Ideal) ℓ) (g : Dev Cert.Ffn1L1Ideal.nD → PrngReg)
    (m' : (ℓ : Loc Cert.Ffn1L1RefIdeal.nD Cert.Ffn1L1RefIdeal.τ Cert.Ffn1L1RefIdeal.sig) → Buf (Elt Ideal) ℓ) (g' : Dev Cert.Ffn1L1RefIdeal.nD → PrngReg), Pre_Ffn1L1Ideal m →
    (∀ c : Dev Cert.Ffn1L1Ideal.nD,
      m' ((c.tc : Thread Cert.Ffn1L1RefIdeal.nD Cert.Ffn1L1RefIdeal.τ).loc Cert.Ffn1L1RefIdeal.main_arg0) = m ((c.tc : Thread Cert.Ffn1L1Ideal.nD Cert.Ffn1L1Ideal.τ).loc Cert.Ffn1L1Ideal.main_arg0)
      ∧ m' ((c.tc : Thread Cert.Ffn1L1RefIdeal.nD Cert.Ffn1L1RefIdeal.τ).loc Cert.Ffn1L1RefIdeal.main_arg1) = m ((c.tc : Thread Cert.Ffn1L1Ideal.nD Cert.Ffn1L1Ideal.τ).loc Cert.Ffn1L1Ideal.main_arg1)
      ∧ m' ((c.tc : Thread Cert.Ffn1L1RefIdeal.nD Cert.Ffn1L1RefIdeal.τ).loc Cert.Ffn1L1RefIdeal.main_arg2) = m ((c.tc : Thread Cert.Ffn1L1Ideal.nD Cert.Ffn1L1Ideal.τ).loc Cert.Ffn1L1Ideal.main_arg2)
      ∧ m' ((c.tc : Thread Cert.Ffn1L1RefIdeal.nD Cert.Ffn1L1RefIdeal.τ).loc Cert.Ffn1L1RefIdeal.main_arg3) = m ((c.tc : Thread Cert.Ffn1L1Ideal.nD Cert.Ffn1L1Ideal.τ).loc Cert.Ffn1L1Ideal.main_arg3)
      ∧ m' ((c.tc : Thread Cert.Ffn1L1RefIdeal.nD Cert.Ffn1L1RefIdeal.τ).loc Cert.Ffn1L1RefIdeal.main_arg4) = m ((c.tc : Thread Cert.Ffn1L1Ideal.nD Cert.Ffn1L1Ideal.τ).loc Cert.Ffn1L1Ideal.main_arg4)) →
    ∃ (v0 : (c : Dev Cert.Ffn1L1Ideal.nD) → Buf (Elt Ideal) ((c.tc : Thread Cert.Ffn1L1Ideal.nD Cert.Ffn1L1Ideal.τ).loc Cert.Ffn1L1Ideal.main_v6_0)),
      θ_run (Cert.Ffn1L1Ideal.defs (F := Ideal)) (onTc (τ := Cert.Ffn1L1Ideal.τ) (Cert.Ffn1L1Ideal.main (F := Ideal))) ⟨m, fun _ => 0, g⟩ (fun r => ∀ c : Dev Cert.Ffn1L1Ideal.nD,
          r.2.mem ((c.tc : Thread Cert.Ffn1L1Ideal.nD Cert.Ffn1L1Ideal.τ).loc Cert.Ffn1L1Ideal.main_v6_0) = v0 c
          ∧ r.2.mem ((c.tc : Thread Cert.Ffn1L1Ideal.nD Cert.Ffn1L1Ideal.τ).loc Cert.Ffn1L1Ideal.main_arg0) = m ((c.tc : Thread Cert.Ffn1L1Ideal.nD Cert.Ffn1L1Ideal.τ).loc Cert.Ffn1L1Ideal.main_arg0)
          ∧ r.2.mem ((c.tc : Thread Cert.Ffn1L1Ideal.nD Cert.Ffn1L1Ideal.τ).loc Cert.Ffn1L1Ideal.main_arg1) = m ((c.tc : Thread Cert.Ffn1L1Ideal.nD Cert.Ffn1L1Ideal.τ).loc Cert.Ffn1L1Ideal.main_arg1)
          ∧ r.2.mem ((c.tc : Thread Cert.Ffn1L1Ideal.nD Cert.Ffn1L1Ideal.τ).loc Cert.Ffn1L1Ideal.main_arg2) = m ((c.tc : Thread Cert.Ffn1L1Ideal.nD Cert.Ffn1L1Ideal.τ).loc Cert.Ffn1L1Ideal.main_arg2)
          ∧ r.2.mem ((c.tc : Thread Cert.Ffn1L1Ideal.nD Cert.Ffn1L1Ideal.τ).loc Cert.Ffn1L1Ideal.main_arg3) = m ((c.tc : Thread Cert.Ffn1L1Ideal.nD Cert.Ffn1L1Ideal.τ).loc Cert.Ffn1L1Ideal.main_arg3)
          ∧ r.2.mem ((c.tc : Thread Cert.Ffn1L1Ideal.nD Cert.Ffn1L1Ideal.τ).loc Cert.Ffn1L1Ideal.main_arg4) = m ((c.tc : Thread Cert.Ffn1L1Ideal.nD Cert.Ffn1L1Ideal.τ).loc Cert.Ffn1L1Ideal.main_arg4))
      ∧ θ_run (Cert.Ffn1L1RefIdeal.defs (F := Ideal)) (onTc (τ := Cert.Ffn1L1RefIdeal.τ) (Cert.Ffn1L1RefIdeal.main (F := Ideal))) ⟨m', fun _ => 0, g'⟩ (fun r => ∀ c : Dev Cert.Ffn1L1RefIdeal.nD,
          r.2.mem ((c.tc : Thread Cert.Ffn1L1RefIdeal.nD Cert.Ffn1L1RefIdeal.τ).loc Cert.Ffn1L1RefIdeal.main_v49) = v0 c
          ∧ r.2.mem ((c.tc : Thread Cert.Ffn1L1RefIdeal.nD Cert.Ffn1L1RefIdeal.τ).loc Cert.Ffn1L1RefIdeal.main_arg0) = m' ((c.tc : Thread Cert.Ffn1L1RefIdeal.nD Cert.Ffn1L1RefIdeal.τ).loc Cert.Ffn1L1RefIdeal.main_arg0)
          ∧ r.2.mem ((c.tc : Thread Cert.Ffn1L1RefIdeal.nD Cert.Ffn1L1RefIdeal.τ).loc Cert.Ffn1L1RefIdeal.main_arg1) = m' ((c.tc : Thread Cert.Ffn1L1RefIdeal.nD Cert.Ffn1L1RefIdeal.τ).loc Cert.Ffn1L1RefIdeal.main_arg1)
          ∧ r.2.mem ((c.tc : Thread Cert.Ffn1L1RefIdeal.nD Cert.Ffn1L1RefIdeal.τ).loc Cert.Ffn1L1RefIdeal.main_arg2) = m' ((c.tc : Thread Cert.Ffn1L1RefIdeal.nD Cert.Ffn1L1RefIdeal.τ).loc Cert.Ffn1L1RefIdeal.main_arg2)
          ∧ r.2.mem ((c.tc : Thread Cert.Ffn1L1RefIdeal.nD Cert.Ffn1L1RefIdeal.τ).loc Cert.Ffn1L1RefIdeal.main_arg3) = m' ((c.tc : Thread Cert.Ffn1L1RefIdeal.nD Cert.Ffn1L1RefIdeal.τ).loc Cert.Ffn1L1RefIdeal.main_arg3)
          ∧ r.2.mem ((c.tc : Thread Cert.Ffn1L1RefIdeal.nD Cert.Ffn1L1RefIdeal.τ).loc Cert.Ffn1L1RefIdeal.main_arg4) = m' ((c.tc : Thread Cert.Ffn1L1RefIdeal.nD Cert.Ffn1L1RefIdeal.τ).loc Cert.Ffn1L1RefIdeal.main_arg4))

def preserves_Mixer_MixerIdeal : Prop :=
  IdealRules.named_const.Statement Cert.MixerIdeal.κ "slope0" .f32 0xBF8293EE#32 ((((-1) * (Real.log 2)⁻¹) * (Real.sqrt 2)⁻¹ : ℝ) : EReal)
  ∧ IdealRules.named_const.Statement Cert.MixerIdeal.κ "neg_inf" .f32 0xF149F2CA#32 ⊥
  ∧ IdealRules.named_const.Statement Cert.MixerIdeal.κ "slope1" .f32 0xBF38AA3B#32 (((-1 / 2) * (Real.log 2)⁻¹ : ℝ) : EReal)
  ∧ IdealRules.named_const.Statement Cert.MixerIdeal.κ "slope2" .f32 0xBF0293EE#32 ((((-1 / 2) * (Real.log 2)⁻¹) * (Real.sqrt 2)⁻¹ : ℝ) : EReal)
  ∧ IdealRules.named_const.Statement Cert.MixerIdeal.κ "slope3" .f32 0xBEB8AA3B#32 (((-1 / 4) * (Real.log 2)⁻¹ : ℝ) : EReal)
  ∧ IdealRules.named_const.Statement Cert.MixerIdeal.κ "slope4" .f32 0xBE8293EE#32 ((((-1 / 4) * (Real.log 2)⁻¹) * (Real.sqrt 2)⁻¹ : ℝ) : EReal)
  ∧ IdealRules.named_const.Statement Cert.MixerIdeal.κ "slope5" .f32 0xBE38AA3B#32 (((-1 / 8) * (Real.log 2)⁻¹ : ℝ) : EReal)
  ∧ IdealRules.named_const.Statement Cert.MixerIdeal.κ "slope6" .f32 0xBE0293EE#32 ((((-1 / 8) * (Real.log 2)⁻¹) * (Real.sqrt 2)⁻¹ : ℝ) : EReal)
  ∧ IdealRules.named_const.Statement Cert.MixerIdeal.κ "slope7" .f32 0xBDB8AA3B#32 (((-1 / 16) * (Real.log 2)⁻¹ : ℝ) : EReal)
  ∧ IdealRules.named_const.Statement Cert.MixerIdeal.κ "slope8" .f32 0xBD8293EE#32 ((((-1 / 16) * (Real.log 2)⁻¹) * (Real.sqrt 2)⁻¹ : ℝ) : EReal)
  ∧ IdealRules.named_const.Statement Cert.MixerIdeal.κ "slope9" .f32 0xBD38AA3B#32 (((-1 / 32) * (Real.log 2)⁻¹ : ℝ) : EReal)
  ∧ IdealRules.named_const.Statement Cert.MixerIdeal.κ "slope10" .f32 0xBD0293EE#32 ((((-1 / 32) * (Real.log 2)⁻¹) * (Real.sqrt 2)⁻¹ : ℝ) : EReal)
  ∧ IdealRules.named_const.Statement Cert.MixerIdeal.κ "slope11" .f32 0xBCB8AA3B#32 (((-1 / 64) * (Real.log 2)⁻¹ : ℝ) : EReal)
  ∧ IdealRules.named_const.Statement Cert.MixerIdeal.κ "slope12" .f32 0xBC8293EE#32 ((((-1 / 64) * (Real.log 2)⁻¹) * (Real.sqrt 2)⁻¹ : ℝ) : EReal)
  ∧ IdealRules.named_const.Statement Cert.MixerIdeal.κ "slope13" .f32 0xBC38AA3B#32 (((-1 / 128) * (Real.log 2)⁻¹ : ℝ) : EReal)
  ∧ IdealRules.named_const.Statement Cert.MixerIdeal.κ "slope14" .f32 0xBC0293EE#32 ((((-1 / 128) * (Real.log 2)⁻¹) * (Real.sqrt 2)⁻¹ : ℝ) : EReal)
  ∧ IdealRules.named_const.Statement Cert.MixerIdeal.κ "slope15" .f32 0xBBB8AA3B#32 (((-1 / 256) * (Real.log 2)⁻¹ : ℝ) : EReal)
  ∧ IdealRules.named_const.Statement Cert.MixerIdeal.κ "q_scale" .f32 0x3E38AA3B#32 (((1 / 8) * (Real.log 2)⁻¹ : ℝ) : EReal)
  ∧ IdealRules.named_const.Statement Cert.MixerIdeal.κ "log2e" .f32 0x3FB8AA3B#32 (((Real.log 2)⁻¹ : ℝ) : EReal)

def algebraic_MixerIdeal_MixerRefIdeal_pre_finite_arguments [hMixerIdeal : Cert.MixerIdeal.Facts] [hMixerRefIdeal : Cert.MixerRefIdeal.Facts] [hPre_finite_arguments : Cert.Pre_finite_arguments.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal_finite_arguments m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)) →
    ∃ (v0 : (c : Dev Cert.MixerIdeal.nD) → Buf (Elt Ideal) ((c.tc : Thread Cert.MixerIdeal.nD Cert.MixerIdeal.τ).loc Cert.MixerIdeal.main_v16_0)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v16_0) = v0 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v248) = v0 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9))

def Claim : Prop :=
  ∃ (hFfn2L1 : Cert.Ffn2L1.Facts) (hFfn2L1Ideal : Cert.Ffn2L1Ideal.Facts) (hFfn2L1RefIdeal : Cert.Ffn2L1RefIdeal.Facts) (hFfn1L0 : Cert.Ffn1L0.Facts) (hFfn1L0Ideal : Cert.Ffn1L0Ideal.Facts) (hFfn1L0RefIdeal : Cert.Ffn1L0RefIdeal.Facts) (hFfn2L0 : Cert.Ffn2L0.Facts) (hFfn2L0Ideal : Cert.Ffn2L0Ideal.Facts) (hFfn2L0RefIdeal : Cert.Ffn2L0RefIdeal.Facts) (hFfn1L1 : Cert.Ffn1L1.Facts) (hFfn1L1Ideal : Cert.Ffn1L1Ideal.Facts) (hFfn1L1RefIdeal : Cert.Ffn1L1RefIdeal.Facts) (hMixer : Cert.Mixer.Facts) (hMixerIdeal : Cert.MixerIdeal.Facts) (hMixerRefIdeal : Cert.MixerRefIdeal.Facts) (hPre_finite_arguments : Cert.Pre_finite_arguments.Facts),
    quiescent_Ffn2L1 (hFfn2L1 := hFfn2L1)
    ∧ quiescent_Ffn2L1Ideal (hFfn2L1Ideal := hFfn2L1Ideal)
    ∧ quiescent_Ffn2L1RefIdeal (hFfn2L1RefIdeal := hFfn2L1RefIdeal)
    ∧ quiescent_Ffn1L0 (hFfn1L0 := hFfn1L0)
    ∧ quiescent_Ffn1L0Ideal (hFfn1L0Ideal := hFfn1L0Ideal)
    ∧ quiescent_Ffn1L0RefIdeal (hFfn1L0RefIdeal := hFfn1L0RefIdeal)
    ∧ quiescent_Ffn2L0 (hFfn2L0 := hFfn2L0)
    ∧ quiescent_Ffn2L0Ideal (hFfn2L0Ideal := hFfn2L0Ideal)
    ∧ quiescent_Ffn2L0RefIdeal (hFfn2L0RefIdeal := hFfn2L0RefIdeal)
    ∧ quiescent_Ffn1L1 (hFfn1L1 := hFfn1L1)
    ∧ quiescent_Ffn1L1Ideal (hFfn1L1Ideal := hFfn1L1Ideal)
    ∧ quiescent_Ffn1L1RefIdeal (hFfn1L1RefIdeal := hFfn1L1RefIdeal)
    ∧ quiescent_Mixer (hMixer := hMixer)
    ∧ quiescent_MixerIdeal (hMixerIdeal := hMixerIdeal)
    ∧ quiescent_MixerIdeal_pre_finite_arguments (hMixerIdeal := hMixerIdeal) (hPre_finite_arguments := hPre_finite_arguments)
    ∧ quiescent_MixerRefIdeal (hMixerRefIdeal := hMixerRefIdeal)
    ∧ quiescent_MixerRefIdeal_pre_finite_arguments (hMixerRefIdeal := hMixerRefIdeal) (hPre_finite_arguments := hPre_finite_arguments)
    ∧ preserves_Ffn2L1_Ffn2L1Ideal
    ∧ algebraic_Ffn2L1Ideal_Ffn2L1RefIdeal (hFfn2L1Ideal := hFfn2L1Ideal) (hFfn2L1RefIdeal := hFfn2L1RefIdeal)
    ∧ preserves_Ffn1L0_Ffn1L0Ideal
    ∧ algebraic_Ffn1L0Ideal_Ffn1L0RefIdeal (hFfn1L0Ideal := hFfn1L0Ideal) (hFfn1L0RefIdeal := hFfn1L0RefIdeal)
    ∧ preserves_Ffn2L0_Ffn2L0Ideal
    ∧ algebraic_Ffn2L0Ideal_Ffn2L0RefIdeal (hFfn2L0Ideal := hFfn2L0Ideal) (hFfn2L0RefIdeal := hFfn2L0RefIdeal)
    ∧ preserves_Ffn1L1_Ffn1L1Ideal
    ∧ algebraic_Ffn1L1Ideal_Ffn1L1RefIdeal (hFfn1L1Ideal := hFfn1L1Ideal) (hFfn1L1RefIdeal := hFfn1L1RefIdeal)
    ∧ preserves_Mixer_MixerIdeal
    ∧ algebraic_MixerIdeal_MixerRefIdeal_pre_finite_arguments (hMixerIdeal := hMixerIdeal) (hMixerRefIdeal := hMixerRefIdeal) (hPre_finite_arguments := hPre_finite_arguments)
-- ==== Pre_finite_arguments.lean ====
abbrev S16384x1024 : Shape := ⟨2, ![16384, 1024]⟩
abbrev S16x1024 : Shape := ⟨2, ![16, 1024]⟩
abbrev S2x6x1024 : Shape := ⟨3, ![2, 6, 1024]⟩
abbrev S2x1024x4096 : Shape := ⟨3, ![2, 1024, 4096]⟩
abbrev S2x4x128x128 : Shape := ⟨4, ![2, 4, 128, 128]⟩
abbrev S2x512 : Shape := ⟨2, ![2, 512]⟩
abbrev S2x512x1024 : Shape := ⟨3, ![2, 512, 1024]⟩
abbrev S2x16 : Shape := ⟨2, ![2, 16]⟩
abbrev S2x1024x1024 : Shape := ⟨3, ![2, 1024, 1024]⟩
abbrev S_ : Shape := ⟨0, ![]⟩

class Facts : Prop where
  bcast_S_S2x6x1024 : S_.BroadcastsInDim S2x6x1024 (![] : Fin 0 → Fin S2x6x1024.rank)
  reducesTo_S2x6x1024_S_d0_1_2 : S2x6x1024.ReducesTo [0, 1, 2] S_
  h_S_ : 0 < S_.numel
  bcast_S_S2x1024x4096 : S_.BroadcastsInDim S2x1024x4096 (![] : Fin 0 → Fin S2x1024x4096.rank)
  reducesTo_S2x1024x4096_S_d0_1_2 : S2x1024x4096.ReducesTo [0, 1, 2] S_
  bcast_S_S2x16 : S_.BroadcastsInDim S2x16 (![] : Fin 0 → Fin S2x16.rank)
  reducesTo_S2x16_S_d0_1 : S2x16.ReducesTo [0, 1] S_

variable [Facts]

def fn {F : FTy → Type} [FloatOps F] (main_arg0 : FVec F S16384x1024 .f32) (main_arg1 : FVec F S16x1024 .f32) (main_arg2 : FVec F S2x6x1024 .f32) (main_arg3 : FVec F S2x1024x4096 .f32) (main_arg4 : FVec F S2x4x128x128 .f32) (main_arg5 : FVec F S2x512 .f32) (main_arg6 : FVec F S2x512x1024 .f32) (main_arg7 : FVec F S2x16 .f32) (main_arg8 : FVec F S2x1024x1024 .f32) (main_arg9 : FVec F S2x1024x1024 .f32) : IVec S_ 1 :=
  let main_v0 : FVec F S2x6x1024 .f32 := Host.absf main_arg2
  let main_cst : FVec F S_ .f32 := constant S_ .f32 0x7F800000#32
  let main_v1 : FVec F S2x6x1024 .f32 := broadcastInDim S2x6x1024 ![] bcast_S_S2x6x1024 main_cst
  let main_v2 : IVec S2x6x1024 1 := cmpf .olt main_v0 main_v1
  let main_c : IVec S_ 1 := constantI S_ 1 1#1
  let main_v3 : IVec S_ 1 := (fun x v => Host.reduce IntOp.andi x v reducesTo_S2x6x1024_S_d0_1_2 h_S_) main_v2 main_c
  let main_v4 : FVec F S2x1024x4096 .f32 := Host.absf main_arg3
  let main_cst_0 : FVec F S_ .f32 := constant S_ .f32 0x7F800000#32
  let main_v5 : FVec F S2x1024x4096 .f32 := broadcastInDim S2x1024x4096 ![] bcast_S_S2x1024x4096 main_cst_0
  let main_v6 : IVec S2x1024x4096 1 := cmpf .olt main_v4 main_v5
  let main_c_1 : IVec S_ 1 := constantI S_ 1 1#1
  let main_v7 : IVec S_ 1 := (fun x v => Host.reduce IntOp.andi x v reducesTo_S2x1024x4096_S_d0_1_2 h_S_) main_v6 main_c_1
  let main_v8 : FVec F S2x16 .f32 := Host.absf main_arg7
  let main_cst_2 : FVec F S_ .f32 := constant S_ .f32 0x7F800000#32
  let main_v9 : FVec F S2x16 .f32 := broadcastInDim S2x16 ![] bcast_S_S2x16 main_cst_2
  let main_v10 : IVec S2x16 1 := cmpf .olt main_v8 main_v9
  let main_c_3 : IVec S_ 1 := constantI S_ 1 1#1
  let main_v11 : IVec S_ 1 := (fun x v => Host.reduce IntOp.andi x v reducesTo_S2x16_S_d0_1 h_S_) main_v10 main_c_3
  let main_v12 : IVec S_ 1 := andi main_v3 main_v7
  let main_v13 : IVec S_ 1 := andi main_v12 main_v11
  main_v13
-- ==== Ffn2L1.lean ====
abbrev S16384x1024 : Shape := ⟨2, ![16384, 1024]⟩
abbrev S16x1024 : Shape := ⟨2, ![16, 1024]⟩
abbrev S2x6x1024 : Shape := ⟨3, ![2, 6, 1024]⟩
abbrev S2x2x1024x5632 : Shape := ⟨4, ![2, 2, 1024, 5632]⟩
abbrev S2x2x2816x1024 : Shape := ⟨4, ![2, 2, 2816, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1024x1024 : Shape := ⟨2, ![1024, 1024]⟩
abbrev S1x6x1024 : Shape := ⟨3, ![1, 6, 1024]⟩
abbrev S1x1x1024 : Shape := ⟨3, ![1, 1, 1024]⟩
abbrev S1x1024 : Shape := ⟨2, ![1, 1024]⟩
abbrev S16 : Shape := ⟨1, ![16]⟩
abbrev S16x1 : Shape := ⟨2, ![16, 1]⟩
abbrev S1024x2816 : Shape := ⟨2, ![1024, 2816]⟩
abbrev S16x2816 : Shape := ⟨2, ![16, 2816]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 13
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S2x6x1024, .f32⟩
  | .hbm, ⟨3, _⟩ => ⟨S2x2x1024x5632, .f32⟩
  | .hbm, ⟨4, _⟩ => ⟨S2x2x2816x1024, .f32⟩
  | .hbm, ⟨5, _⟩ => ⟨S1x1x1024x5632, .f32⟩
  | .hbm, ⟨6, _⟩ => ⟨S1024x5632, .f32⟩
  | .hbm, ⟨7, _⟩ => ⟨S1024x5632, .bf16⟩
  | .hbm, ⟨8, _⟩ => ⟨S1x1x2816x1024, .f32⟩
  | .hbm, ⟨9, _⟩ => ⟨S2816x1024, .f32⟩
  | .hbm, ⟨10, _⟩ => ⟨S2816x1024, .bf16⟩
  | .hbm, ⟨11, _⟩ => ⟨S16384x1024, .f32⟩
  | .hbm, ⟨12, _⟩ => ⟨S16x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S1x6x1024, .f32⟩
  | .local _ .vmem, ⟨4, _⟩ => ⟨S1024x5632, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | .local _ .vmem, ⟨8, _⟩ => ⟨S16x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Ffn2L1RefIdeal.lean ====
abbrev S16384x1024 : Shape := ⟨2, ![16384, 1024]⟩
abbrev S16x1024 : Shape := ⟨2, ![16, 1024]⟩
abbrev S2x6x1024 : Shape := ⟨3, ![2, 6, 1024]⟩
abbrev S2x2x1024x5632 : Shape := ⟨4, ![2, 2, 1024, 5632]⟩
abbrev S2x2x2816x1024 : Shape := ⟨4, ![2, 2, 2816, 1024]⟩
abbrev S1x16x1024 : Shape := ⟨3, ![1, 16, 1024]⟩
abbrev S1x16384x1024 : Shape := ⟨3, ![1, 16384, 1024]⟩
abbrev S1x16400x1024 : Shape := ⟨3, ![1, 16400, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S1x16400 : Shape := ⟨2, ![1, 16400]⟩
abbrev S1x16400x1 : Shape := ⟨3, ![1, 16400, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1x16400x5632 : Shape := ⟨3, ![1, 16400, 5632]⟩
abbrev S1x16400x2816 : Shape := ⟨3, ![1, 16400, 2816]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S2x6x1024, .f32⟩
  | .hbm, ⟨3, _⟩ => ⟨S2x2x1024x5632, .f32⟩
  | .hbm, ⟨4, _⟩ => ⟨S2x2x2816x1024, .f32⟩
  | .hbm, ⟨5, _⟩ => ⟨S1x16x1024, .f32⟩
  | .hbm, ⟨6, _⟩ => ⟨S1x16384x1024, .f32⟩
  | .hbm, ⟨7, _⟩ => ⟨S1x16400x1024, .f32⟩
  | .hbm, ⟨8, _⟩ => ⟨S1x6x1024, .f32⟩
  | .hbm, ⟨9, _⟩ => ⟨S6x1024, .f32⟩
  | .hbm, ⟨10, _⟩ => ⟨S1x1024, .f32⟩
  | .hbm, ⟨11, _⟩ => ⟨S1024, .f32⟩
  | .hbm, ⟨12, _⟩ => ⟨S1x16400x1024, .f32⟩
  | .hbm, ⟨13, _⟩ => ⟨S_, .f32⟩
  | .hbm, ⟨14, _⟩ => ⟨S1x16400, .f32⟩
  | .hbm, ⟨15, _⟩ => ⟨S1x16400x1, .f32⟩
  | .hbm, ⟨16, _⟩ => ⟨S_, .f32⟩
  | .hbm, ⟨17, _⟩ => ⟨S1x16400x1, .f32⟩
  | .hbm, ⟨18, _⟩ => ⟨S1x16400x1, .f32⟩
  | .hbm, ⟨19, _⟩ => ⟨S_, .f32⟩
  | .hbm, ⟨20, _⟩ => ⟨S1x16400x1, .f32⟩
  | .hbm, ⟨21, _⟩ => ⟨S1x16400x1, .f32⟩
  | .hbm, ⟨22, _⟩ => ⟨S1x16400x1, .f32⟩
  | .hbm, ⟨23, _⟩ => ⟨S1x16400x1024, .f32⟩
  | .hbm, ⟨24, _⟩ => ⟨S1x16400x1024, .f32⟩
  | .hbm, ⟨25, _⟩ => ⟨S1x1x1024, .f32⟩
  | .hbm, ⟨26, _⟩ => ⟨S1x16400x1024, .f32⟩
  | .hbm, ⟨27, _⟩ => ⟨S1x16400x1024, .f32⟩
  | .hbm, ⟨28, _⟩ => ⟨S1x1x1024x5632, .f32⟩
  | .hbm, ⟨29, _⟩ => ⟨S1024x5632, .f32⟩
  | .hbm, ⟨30, _⟩ => ⟨S1x1x2816x1024, .f32⟩
  | .hbm, ⟨31, _⟩ => ⟨S2816x1024, .f32⟩
  | .hbm, ⟨32, _⟩ => ⟨S1x16400x5632, .f32⟩
  | .hbm, ⟨33, _⟩ => ⟨S1x16400x2816, .f32⟩
  | .hbm, ⟨34, _⟩ => ⟨S1x16400x2816, .f32⟩
  | .hbm, ⟨35, _⟩ => ⟨S1x16400x2816, .f32⟩
  | .hbm, ⟨36, _⟩ => ⟨S1x16400x2816, .f32⟩
  | .hbm, ⟨37, _⟩ => ⟨S_, .f32⟩
  | .hbm, ⟨38, _⟩ => ⟨S1x16400x2816, .f32⟩
  | .hbm, ⟨39, _⟩ => ⟨S1x16400x2816, .f32⟩
  | .hbm, ⟨40, _⟩ => ⟨S_, .f32⟩
  | .hbm, ⟨41, _⟩ => ⟨S1x16400x2816, .f32⟩
  | .hbm, ⟨42, _⟩ => ⟨S1x16400x2816, .f32⟩
  | .hbm, ⟨43, _⟩ => ⟨S1x16400x2816, .f32⟩
  | .hbm, ⟨44, _⟩ => ⟨S1x16400x2816, .f32⟩
  | .hbm, ⟨45, _⟩ => ⟨S1x16400x1024, .f32⟩
  | .hbm, ⟨46, _⟩ => ⟨S1x1024, .f32⟩
  | .hbm, ⟨47, _⟩ => ⟨S1024, .f32⟩
  | .hbm, ⟨48, _⟩ => ⟨S1x16400x1024, .f32⟩
  | .hbm, ⟨49, _⟩ => ⟨S_, .f32⟩
  | .hbm, ⟨50, _⟩ => ⟨S1x16400, .f32⟩
  | .hbm, ⟨51, _⟩ => ⟨S1x16400x1, .f32⟩
  | .hbm, ⟨52, _⟩ => ⟨S_, .f32⟩
  | .hbm, ⟨53, _⟩ => ⟨S1x16400x1, .f32⟩
  | .hbm, ⟨54, _⟩ => ⟨S1x16400x1, .f32⟩
  | .hbm, ⟨55, _⟩ => ⟨S_, .f32⟩
  | .hbm, ⟨56, _⟩ => ⟨S1x16400x1, .f32⟩
  | .hbm, ⟨57, _⟩ => ⟨S1x16400x1, .f32⟩
  | .hbm, ⟨58, _⟩ => ⟨S1x16400x1, .f32⟩
  | .hbm, ⟨59, _⟩ => ⟨S1x16400x1024, .f32⟩
  | .hbm, ⟨60, _⟩ => ⟨S1x16400x1024, .f32⟩
  | .hbm, ⟨61, _⟩ => ⟨S1x1x1024, .f32⟩
  | .hbm, ⟨62, _⟩ => ⟨S1x16400x1024, .f32⟩
  | .hbm, ⟨63, _⟩ => ⟨S1x16400x1024, .f32⟩
  | .hbm, ⟨64, _⟩ => ⟨S_, .f32⟩
  | .hbm, ⟨65, _⟩ => ⟨S1x16400x1024, .f32⟩
  | .hbm, ⟨66, _⟩ => ⟨S1x16400x1024, .f32⟩
  | .hbm, ⟨67, _⟩ => ⟨S1x16400x1024, .f32⟩
  | .hbm, ⟨68, _⟩ => ⟨S1x16384x1024, .f32⟩
  | .hbm, ⟨69, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Ffn1L0.lean ====
abbrev S16384x1024 : Shape := ⟨2, ![16384, 1024]⟩
abbrev S16x1024 : Shape := ⟨2, ![16, 1024]⟩
abbrev S2x6x1024 : Shape := ⟨3, ![2, 6, 1024]⟩
abbrev S2x2x1024x5632 : Shape := ⟨4, ![2, 2, 1024, 5632]⟩
abbrev S2x2x2816x1024 : Shape := ⟨4, ![2, 2, 2816, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1024x1024 : Shape := ⟨2, ![1024, 1024]⟩
abbrev S1x6x1024 : Shape := ⟨3, ![1, 6, 1024]⟩
abbrev S1x1x1024 : Shape := ⟨3, ![1, 1, 1024]⟩
abbrev S1x1024 : Shape := ⟨2, ![1, 1024]⟩
abbrev S16 : Shape := ⟨1, ![16]⟩
abbrev S16x1 : Shape := ⟨2, ![16, 1]⟩
abbrev S1024x2816 : Shape := ⟨2, ![1024, 2816]⟩
abbrev S16x2816 : Shape := ⟨2, ![16, 2816]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 13
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S2x6x1024, .f32⟩
  | .hbm, ⟨3, _⟩ => ⟨S2x2x1024x5632, .f32⟩
  | .hbm, ⟨4, _⟩ => ⟨S2x2x2816x1024, .f32⟩
  | .hbm, ⟨5, _⟩ => ⟨S1x1x1024x5632, .f32⟩
  | .hbm, ⟨6, _⟩ => ⟨S1024x5632, .f32⟩
  | .hbm, ⟨7, _⟩ => ⟨S1024x5632, .bf16⟩
  | .hbm, ⟨8, _⟩ => ⟨S1x1x2816x1024, .f32⟩
  | .hbm, ⟨9, _⟩ => ⟨S2816x1024, .f32⟩
  | .hbm, ⟨10, _⟩ => ⟨S2816x1024, .bf16⟩
  | .hbm, ⟨11, _⟩ => ⟨S16384x1024, .f32⟩
  | .hbm, ⟨12, _⟩ => ⟨S16x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S1x6x1024, .f32⟩
  | .local _ .vmem, ⟨4, _⟩ => ⟨S1024x5632, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | .local _ .vmem, ⟨8, _⟩ => ⟨S16x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Ffn1L0RefIdeal.lean ====
abbrev S16384x1024 : Shape := ⟨2, ![16384, 1024]⟩
abbrev S16x1024 : Shape := ⟨2, ![16, 1024]⟩
abbrev S2x6x1024 : Shape := ⟨3, ![2, 6, 1024]⟩
abbrev S2x2x1024x5632 : Shape := ⟨4, ![2, 2, 1024, 5632]⟩
abbrev S2x2x2816x1024 : Shape := ⟨4, ![2, 2, 2816, 1024]⟩
abbrev S1x16x1024 : Shape := ⟨3, ![1, 16, 1024]⟩
abbrev S1x16384x1024 : Shape := ⟨3, ![1, 16384, 1024]⟩
abbrev S1x16400x1024 : Shape := ⟨3, ![1, 16400, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S1x16400 : Shape := ⟨2, ![1, 16400]⟩
abbrev S1x16400x1 : Shape := ⟨3, ![1, 16400, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1x16400x5632 : Shape := ⟨3, ![1, 16400, 5632]⟩
abbrev S1x16400x2816 : Shape := ⟨3, ![1, 16400, 2816]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S2x6x1024, .f32⟩
  | .hbm, ⟨3, _⟩ => ⟨S2x2x1024x5632, .f32⟩
  | .hbm, ⟨4, _⟩ => ⟨S2x2x2816x1024, .f32⟩
  | .hbm, ⟨5, _⟩ => ⟨S1x16x1024, .f32⟩
  | .hbm, ⟨6, _⟩ => ⟨S1x16384x1024, .f32⟩
  | .hbm, ⟨7, _⟩ => ⟨S1x16400x1024, .f32⟩
  | .hbm, ⟨8, _⟩ => ⟨S1x6x1024, .f32⟩
  | .hbm, ⟨9, _⟩ => ⟨S6x1024, .f32⟩
  | .hbm, ⟨10, _⟩ => ⟨S1x1024, .f32⟩
  | .hbm, ⟨11, _⟩ => ⟨S1024, .f32⟩
  | .hbm, ⟨12, _⟩ => ⟨S1x16400x1024, .f32⟩
  | .hbm, ⟨13, _⟩ => ⟨S_, .f32⟩
  | .hbm, ⟨14, _⟩ => ⟨S1x16400, .f32⟩
  | .hbm, ⟨15, _⟩ => ⟨S1x16400x1, .f32⟩
  | .hbm, ⟨16, _⟩ => ⟨S_, .f32⟩
  | .hbm, ⟨17, _⟩ => ⟨S1x16400x1, .f32⟩
  | .hbm, ⟨18, _⟩ => ⟨S1x16400x1, .f32⟩
  | .hbm, ⟨19, _⟩ => ⟨S_, .f32⟩
  | .hbm, ⟨20, _⟩ => ⟨S1x16400x1, .f32⟩
  | .hbm, ⟨21, _⟩ => ⟨S1x16400x1, .f32⟩
  | .hbm, ⟨22, _⟩ => ⟨S1x16400x1, .f32⟩
  | .hbm, ⟨23, _⟩ => ⟨S1x16400x1024, .f32⟩
  | .hbm, ⟨24, _⟩ => ⟨S1x16400x1024, .f32⟩
  | .hbm, ⟨25, _⟩ => ⟨S1x1x1024, .f32⟩
  | .hbm, ⟨26, _⟩ => ⟨S1x16400x1024, .f32⟩
  | .hbm, ⟨27, _⟩ => ⟨S1x16400x1024, .f32⟩
  | .hbm, ⟨28, _⟩ => ⟨S1x1x1024x5632, .f32⟩
  | .hbm, ⟨29, _⟩ => ⟨S1024x5632, .f32⟩
  | .hbm, ⟨30, _⟩ => ⟨S1x1x2816x1024, .f32⟩
  | .hbm, ⟨31, _⟩ => ⟨S2816x1024, .f32⟩
  | .hbm, ⟨32, _⟩ => ⟨S1x16400x5632, .f32⟩
  | .hbm, ⟨33, _⟩ => ⟨S1x16400x2816, .f32⟩
  | .hbm, ⟨34, _⟩ => ⟨S1x16400x2816, .f32⟩
  | .hbm, ⟨35, _⟩ => ⟨S1x16400x2816, .f32⟩
  | .hbm, ⟨36, _⟩ => ⟨S1x16400x2816, .f32⟩
  | .hbm, ⟨37, _⟩ => ⟨S_, .f32⟩
  | .hbm, ⟨38, _⟩ => ⟨S1x16400x2816, .f32⟩
  | .hbm, ⟨39, _⟩ => ⟨S1x16400x2816, .f32⟩
  | .hbm, ⟨40, _⟩ => ⟨S_, .f32⟩
  | .hbm, ⟨41, _⟩ => ⟨S1x16400x2816, .f32⟩
  | .hbm, ⟨42, _⟩ => ⟨S1x16400x2816, .f32⟩
  | .hbm, ⟨43, _⟩ => ⟨S1x16400x2816, .f32⟩
  | .hbm, ⟨44, _⟩ => ⟨S1x16400x2816, .f32⟩
  | .hbm, ⟨45, _⟩ => ⟨S1x16400x1024, .f32⟩
  | .hbm, ⟨46, _⟩ => ⟨S1x1024, .f32⟩
  | .hbm, ⟨47, _⟩ => ⟨S1024, .f32⟩
  | .hbm, ⟨48, _⟩ => ⟨S1x16400x1024, .f32⟩
  | .hbm, ⟨49, _⟩ => ⟨S_, .f32⟩
  | .hbm, ⟨50, _⟩ => ⟨S1x16400, .f32⟩
  | .hbm, ⟨51, _⟩ => ⟨S1x16400x1, .f32⟩
  | .hbm, ⟨52, _⟩ => ⟨S_, .f32⟩
  | .hbm, ⟨53, _⟩ => ⟨S1x16400x1, .f32⟩
  | .hbm, ⟨54, _⟩ => ⟨S1x16400x1, .f32⟩
  | .hbm, ⟨55, _⟩ => ⟨S_, .f32⟩
  | .hbm, ⟨56, _⟩ => ⟨S1x16400x1, .f32⟩
  | .hbm, ⟨57, _⟩ => ⟨S1x16400x1, .f32⟩
  | .hbm, ⟨58, _⟩ => ⟨S1x16400x1, .f32⟩
  | .hbm, ⟨59, _⟩ => ⟨S1x16400x1024, .f32⟩
  | .hbm, ⟨60, _⟩ => ⟨S1x16400x1024, .f32⟩
  | .hbm, ⟨61, _⟩ => ⟨S1x1x1024, .f32⟩
  | .hbm, ⟨62, _⟩ => ⟨S1x16400x1024, .f32⟩
  | .hbm, ⟨63, _⟩ => ⟨S1x16400x1024, .f32⟩
  | .hbm, ⟨64, _⟩ => ⟨S_, .f32⟩
  | .hbm, ⟨65, _⟩ => ⟨S1x16400x1024, .f32⟩
  | .hbm, ⟨66, _⟩ => ⟨S1x16400x1024, .f32⟩
  | .hbm, ⟨67, _⟩ => ⟨S1x16400x1024, .f32⟩
  | .hbm, ⟨68, _⟩ => ⟨S1x16384x1024, .f32⟩
  | .hbm, ⟨69, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Ffn2L0.lean ====
abbrev S16384x1024 : Shape := ⟨2, ![16384, 1024]⟩
abbrev S16x1024 : Shape := ⟨2, ![16, 1024]⟩
abbrev S2x6x1024 : Shape := ⟨3, ![2, 6, 1024]⟩
abbrev S2x2x1024x5632 : Shape := ⟨4, ![2, 2, 1024, 5632]⟩
abbrev S2x2x2816x1024 : Shape := ⟨4, ![2, 2, 2816, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1024x1024 : Shape := ⟨2, ![1024, 1024]⟩
abbrev S1x6x1024 : Shape := ⟨3, ![1, 6, 1024]⟩
abbrev S1x1x1024 : Shape := ⟨3, ![1, 1, 1024]⟩
abbrev S1x1024 : Shape := ⟨2, ![1, 1024]⟩
abbrev S16 : Shape := ⟨1, ![16]⟩
abbrev S16x1 : Shape := ⟨2, ![16, 1]⟩
abbrev S1024x2816 : Shape := ⟨2, ![1024, 2816]⟩
abbrev S16x2816 : Shape := ⟨2, ![16, 2816]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 13
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S2x6x1024, .f32⟩
  | .hbm, ⟨3, _⟩ => ⟨S2x2x1024x5632, .f32⟩
  | .hbm, ⟨4, _⟩ => ⟨S2x2x2816x1024, .f32⟩
  | .hbm, ⟨5, _⟩ => ⟨S1x1x1024x5632, .f32⟩
  | .hbm, ⟨6, _⟩ => ⟨S1024x5632, .f32⟩
  | .hbm, ⟨7, _⟩ => ⟨S1024x5632, .bf16⟩
  | .hbm, ⟨8, _⟩ => ⟨S1x1x2816x1024, .f32⟩
  | .hbm, ⟨9, _⟩ => ⟨S2816x1024, .f32⟩
  | .hbm, ⟨10, _⟩ => ⟨S2816x1024, .bf16⟩
  | .hbm, ⟨11, _⟩ => ⟨S16384x1024, .f32⟩
  | .hbm, ⟨12, _⟩ => ⟨S16x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S1x6x1024, .f32⟩
  | .local _ .vmem, ⟨4, _⟩ => ⟨S1024x5632, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | .local _ .vmem, ⟨8, _⟩ => ⟨S16x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Ffn2L0RefIdeal.lean ====
abbrev S16384x1024 : Shape := ⟨2, ![16384, 1024]⟩
abbrev S16x1024 : Shape := ⟨2, ![16, 1024]⟩
abbrev S2x6x1024 : Shape := ⟨3, ![2, 6, 1024]⟩
abbrev S2x2x1024x5632 : Shape := ⟨4, ![2, 2, 1024, 5632]⟩
abbrev S2x2x2816x1024 : Shape := ⟨4, ![2, 2, 2816, 1024]⟩
abbrev S1x16x1024 : Shape := ⟨3, ![1, 16, 1024]⟩
abbrev S1x16384x1024 : Shape := ⟨3, ![1, 16384, 1024]⟩
abbrev S1x16400x1024 : Shape := ⟨3, ![1, 16400, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S1x16400 : Shape := ⟨2, ![1, 16400]⟩
abbrev S1x16400x1 : Shape := ⟨3, ![1, 16400, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1x16400x5632 : Shape := ⟨3, ![1, 16400, 5632]⟩
abbrev S1x16400x2816 : Shape := ⟨3, ![1, 16400, 2816]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S2x6x1024, .f32⟩
  | .hbm, ⟨3, _⟩ => ⟨S2x2x1024x5632, .f32⟩
  | .hbm, ⟨4, _⟩ => ⟨S2x2x2816x1024, .f32⟩
  | .hbm, ⟨5, _⟩ => ⟨S1x16x1024, .f32⟩
  | .hbm, ⟨6, _⟩ => ⟨S1x16384x1024, .f32⟩
  | .hbm, ⟨7, _⟩ => ⟨S1x16400x1024, .f32⟩
  | .hbm, ⟨8, _⟩ => ⟨S1x6x1024, .f32⟩
  | .hbm, ⟨9, _⟩ => ⟨S6x1024, .f32⟩
  | .hbm, ⟨10, _⟩ => ⟨S1x1024, .f32⟩
  | .hbm, ⟨11, _⟩ => ⟨S1024, .f32⟩
  | .hbm, ⟨12, _⟩ => ⟨S1x16400x1024, .f32⟩
  | .hbm, ⟨13, _⟩ => ⟨S_, .f32⟩
  | .hbm, ⟨14, _⟩ => ⟨S1x16400, .f32⟩
  | .hbm, ⟨15, _⟩ => ⟨S1x16400x1, .f32⟩
  | .hbm, ⟨16, _⟩ => ⟨S_, .f32⟩
  | .hbm, ⟨17, _⟩ => ⟨S1x16400x1, .f32⟩
  | .hbm, ⟨18, _⟩ => ⟨S1x16400x1, .f32⟩
  | .hbm, ⟨19, _⟩ => ⟨S_, .f32⟩
  | .hbm, ⟨20, _⟩ => ⟨S1x16400x1, .f32⟩
  | .hbm, ⟨21, _⟩ => ⟨S1x16400x1, .f32⟩
  | .hbm, ⟨22, _⟩ => ⟨S1x16400x1, .f32⟩
  | .hbm, ⟨23, _⟩ => ⟨S1x16400x1024, .f32⟩
  | .hbm, ⟨24, _⟩ => ⟨S1x16400x1024, .f32⟩
  | .hbm, ⟨25, _⟩ => ⟨S1x1x1024, .f32⟩
  | .hbm, ⟨26, _⟩ => ⟨S1x16400x1024, .f32⟩
  | .hbm, ⟨27, _⟩ => ⟨S1x16400x1024, .f32⟩
  | .hbm, ⟨28, _⟩ => ⟨S1x1x1024x5632, .f32⟩
  | .hbm, ⟨29, _⟩ => ⟨S1024x5632, .f32⟩
  | .hbm, ⟨30, _⟩ => ⟨S1x1x2816x1024, .f32⟩
  | .hbm, ⟨31, _⟩ => ⟨S2816x1024, .f32⟩
  | .hbm, ⟨32, _⟩ => ⟨S1x16400x5632, .f32⟩
  | .hbm, ⟨33, _⟩ => ⟨S1x16400x2816, .f32⟩
  | .hbm, ⟨34, _⟩ => ⟨S1x16400x2816, .f32⟩
  | .hbm, ⟨35, _⟩ => ⟨S1x16400x2816, .f32⟩
  | .hbm, ⟨36, _⟩ => ⟨S1x16400x2816, .f32⟩
  | .hbm, ⟨37, _⟩ => ⟨S_, .f32⟩
  | .hbm, ⟨38, _⟩ => ⟨S1x16400x2816, .f32⟩
  | .hbm, ⟨39, _⟩ => ⟨S1x16400x2816, .f32⟩
  | .hbm, ⟨40, _⟩ => ⟨S_, .f32⟩
  | .hbm, ⟨41, _⟩ => ⟨S1x16400x2816, .f32⟩
  | .hbm, ⟨42, _⟩ => ⟨S1x16400x2816, .f32⟩
  | .hbm, ⟨43, _⟩ => ⟨S1x16400x2816, .f32⟩
  | .hbm, ⟨44, _⟩ => ⟨S1x16400x2816, .f32⟩
  | .hbm, ⟨45, _⟩ => ⟨S1x16400x1024, .f32⟩
  | .hbm, ⟨46, _⟩ => ⟨S1x1024, .f32⟩
  | .hbm, ⟨47, _⟩ => ⟨S1024, .f32⟩
  | .hbm, ⟨48, _⟩ => ⟨S1x16400x1024, .f32⟩
  | .hbm, ⟨49, _⟩ => ⟨S_, .f32⟩
  | .hbm, ⟨50, _⟩ => ⟨S1x16400, .f32⟩
  | .hbm, ⟨51, _⟩ => ⟨S1x16400x1, .f32⟩
  | .hbm, ⟨52, _⟩ => ⟨S_, .f32⟩
  | .hbm, ⟨53, _⟩ => ⟨S1x16400x1, .f32⟩
  | .hbm, ⟨54, _⟩ => ⟨S1x16400x1, .f32⟩
  | .hbm, ⟨55, _⟩ => ⟨S_, .f32⟩
  | .hbm, ⟨56, _⟩ => ⟨S1x16400x1, .f32⟩
  | .hbm, ⟨57, _⟩ => ⟨S1x16400x1, .f32⟩
  | .hbm, ⟨58, _⟩ => ⟨S1x16400x1, .f32⟩
  | .hbm, ⟨59, _⟩ => ⟨S1x16400x1024, .f32⟩
  | .hbm, ⟨60, _⟩ => ⟨S1x16400x1024, .f32⟩
  | .hbm, ⟨61, _⟩ => ⟨S1x1x1024, .f32⟩
  | .hbm, ⟨62, _⟩ => ⟨S1x16400x1024, .f32⟩
  | .hbm, ⟨63, _⟩ => ⟨S1x16400x1024, .f32⟩
  | .hbm, ⟨64, _⟩ => ⟨S_, .f32⟩
  | .hbm, ⟨65, _⟩ => ⟨S1x16400x1024, .f32⟩
  | .hbm, ⟨66, _⟩ => ⟨S1x16400x1024, .f32⟩
  | .hbm, ⟨67, _⟩ => ⟨S1x16400x1024, .f32⟩
  | .hbm, ⟨68, _⟩ => ⟨S1x16384x1024, .f32⟩
  | .hbm, ⟨69, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Ffn1L1.lean ====
abbrev S16384x1024 : Shape := ⟨2, ![16384, 1024]⟩
abbrev S16x1024 : Shape := ⟨2, ![16, 1024]⟩
abbrev S2x6x1024 : Shape := ⟨3, ![2, 6, 1024]⟩
abbrev S2x2x1024x5632 : Shape := ⟨4, ![2, 2, 1024, 5632]⟩
abbrev S2x2x2816x1024 : Shape := ⟨4, ![2, 2, 2816, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1024x1024 : Shape := ⟨2, ![1024, 1024]⟩
abbrev S1x6x1024 : Shape := ⟨3, ![1, 6, 1024]⟩
abbrev S1x1x1024 : Shape := ⟨3, ![1, 1, 1024]⟩
abbrev S1x1024 : Shape := ⟨2, ![1, 1024]⟩
abbrev S16 : Shape := ⟨1, ![16]⟩
abbrev S16x1 : Shape := ⟨2, ![16, 1]⟩
abbrev S1024x2816 : Shape := ⟨2, ![1024, 2816]⟩
abbrev S16x2816 : Shape := ⟨2, ![16, 2816]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 13
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S2x6x1024, .f32⟩
  | .hbm, ⟨3, _⟩ => ⟨S2x2x1024x5632, .f32⟩
  | .hbm, ⟨4, _⟩ => ⟨S2x2x2816x1024, .f32⟩
  | .hbm, ⟨5, _⟩ => ⟨S1x1x1024x5632, .f32⟩
  | .hbm, ⟨6, _⟩ => ⟨S1024x5632, .f32⟩
  | .hbm, ⟨7, _⟩ => ⟨S1024x5632, .bf16⟩
  | .hbm, ⟨8, _⟩ => ⟨S1x1x2816x1024, .f32⟩
  | .hbm, ⟨9, _⟩ => ⟨S2816x1024, .f32⟩
  | .hbm, ⟨10, _⟩ => ⟨S2816x1024, .bf16⟩
  | .hbm, ⟨11, _⟩ => ⟨S16384x1024, .f32⟩
  | .hbm, ⟨12, _⟩ => ⟨S16x1024, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S1x6x1024, .f32⟩
  | .local _ .vmem, ⟨4, _⟩ => ⟨S1024x5632, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | .local _ .vmem, ⟨8, _⟩ => ⟨S16x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Ffn1L1RefIdeal.lean ====
abbrev S16384x1024 : Shape := ⟨2, ![16384, 1024]⟩
abbrev S16x1024 : Shape := ⟨2, ![16, 1024]⟩
abbrev S2x6x1024 : Shape := ⟨3, ![2, 6, 1024]⟩
abbrev S2x2x1024x5632 : Shape := ⟨4, ![2, 2, 1024, 5632]⟩
abbrev S2x2x2816x1024 : Shape := ⟨4, ![2, 2, 2816, 1024]⟩
abbrev S1x16x1024 : Shape := ⟨3, ![1, 16, 1024]⟩
abbrev S1x16384x1024 : Shape := ⟨3, ![1, 16384, 1024]⟩
abbrev S1x16400x1024 : Shape := ⟨3, ![1, 16400, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S1x16400 : Shape := ⟨2, ![1, 16400]⟩
abbrev S1x16400x1 : Shape := ⟨3, ![1, 16400, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1x16400x5632 : Shape := ⟨3, ![1, 16400, 5632]⟩
abbrev S1x16400x2816 : Shape := ⟨3, ![1, 16400, 2816]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S2x6x1024, .f32⟩
  | .hbm, ⟨3, _⟩ => ⟨S2x2x1024x5632, .f32⟩
  | .hbm, ⟨4, _⟩ => ⟨S2x2x2816x1024, .f32⟩
  | .hbm, ⟨5, _⟩ => ⟨S1x16x1024, .f32⟩
  | .hbm, ⟨6, _⟩ => ⟨S1x16384x1024, .f32⟩
  | .hbm, ⟨7, _⟩ => ⟨S1x16400x1024, .f32⟩
  | .hbm, ⟨8, _⟩ => ⟨S1x6x1024, .f32⟩
  | .hbm, ⟨9, _⟩ => ⟨S6x1024, .f32⟩
  | .hbm, ⟨10, _⟩ => ⟨S1x1024, .f32⟩
  | .hbm, ⟨11, _⟩ => ⟨S1024, .f32⟩
  | .hbm, ⟨12, _⟩ => ⟨S1x16400x1024, .f32⟩
  | .hbm, ⟨13, _⟩ => ⟨S_, .f32⟩
  | .hbm, ⟨14, _⟩ => ⟨S1x16400, .f32⟩
  | .hbm, ⟨15, _⟩ => ⟨S1x16400x1, .f32⟩
  | .hbm, ⟨16, _⟩ => ⟨S_, .f32⟩
  | .hbm, ⟨17, _⟩ => ⟨S1x16400x1, .f32⟩
  | .hbm, ⟨18, _⟩ => ⟨S1x16400x1, .f32⟩
  | .hbm, ⟨19, _⟩ => ⟨S_, .f32⟩
  | .hbm, ⟨20, _⟩ => ⟨S1x16400x1, .f32⟩
  | .hbm, ⟨21, _⟩ => ⟨S1x16400x1, .f32⟩
  | .hbm, ⟨22, _⟩ => ⟨S1x16400x1, .f32⟩
  | .hbm, ⟨23, _⟩ => ⟨S1x16400x1024, .f32⟩
  | .hbm, ⟨24, _⟩ => ⟨S1x16400x1024, .f32⟩
  | .hbm, ⟨25, _⟩ => ⟨S1x1x1024, .f32⟩
  | .hbm, ⟨26, _⟩ => ⟨S1x16400x1024, .f32⟩
  | .hbm, ⟨27, _⟩ => ⟨S1x16400x1024, .f32⟩
  | .hbm, ⟨28, _⟩ => ⟨S1x1x1024x5632, .f32⟩
  | .hbm, ⟨29, _⟩ => ⟨S1024x5632, .f32⟩
  | .hbm, ⟨30, _⟩ => ⟨S1x1x2816x1024, .f32⟩
  | .hbm, ⟨31, _⟩ => ⟨S2816x1024, .f32⟩
  | .hbm, ⟨32, _⟩ => ⟨S1x16400x5632, .f32⟩
  | .hbm, ⟨33, _⟩ => ⟨S1x16400x2816, .f32⟩
  | .hbm, ⟨34, _⟩ => ⟨S1x16400x2816, .f32⟩
  | .hbm, ⟨35, _⟩ => ⟨S1x16400x2816, .f32⟩
  | .hbm, ⟨36, _⟩ => ⟨S1x16400x2816, .f32⟩
  | .hbm, ⟨37, _⟩ => ⟨S_, .f32⟩
  | .hbm, ⟨38, _⟩ => ⟨S1x16400x2816, .f32⟩
  | .hbm, ⟨39, _⟩ => ⟨S1x16400x2816, .f32⟩
  | .hbm, ⟨40, _⟩ => ⟨S_, .f32⟩
  | .hbm, ⟨41, _⟩ => ⟨S1x16400x2816, .f32⟩
  | .hbm, ⟨42, _⟩ => ⟨S1x16400x2816, .f32⟩
  | .hbm, ⟨43, _⟩ => ⟨S1x16400x2816, .f32⟩
  | .hbm, ⟨44, _⟩ => ⟨S1x16400x2816, .f32⟩
  | .hbm, ⟨45, _⟩ => ⟨S1x16400x1024, .f32⟩
  | .hbm, ⟨46, _⟩ => ⟨S1x1024, .f32⟩
  | .hbm, ⟨47, _⟩ => ⟨S1024, .f32⟩
  | .hbm, ⟨48, _⟩ => ⟨S1x16400x1024, .f32⟩
  | .hbm, ⟨49, _⟩ => ⟨S_, .f32⟩
  | .hbm, ⟨50, _⟩ => ⟨S1x16400, .f32⟩
  | .hbm, ⟨51, _⟩ => ⟨S1x16400x1, .f32⟩
  | .hbm, ⟨52, _⟩ => ⟨S_, .f32⟩
  | .hbm, ⟨53, _⟩ => ⟨S1x16400x1, .f32⟩
  | .hbm, ⟨54, _⟩ => ⟨S1x16400x1, .f32⟩
  | .hbm, ⟨55, _⟩ => ⟨S_, .f32⟩
  | .hbm, ⟨56, _⟩ => ⟨S1x16400x1, .f32⟩
  | .hbm, ⟨57, _⟩ => ⟨S1x16400x1, .f32⟩
  | .hbm, ⟨58, _⟩ => ⟨S1x16400x1, .f32⟩
  | .hbm, ⟨59, _⟩ => ⟨S1x16400x1024, .f32⟩
  | .hbm, ⟨60, _⟩ => ⟨S1x16400x1024, .f32⟩
  | .hbm, ⟨61, _⟩ => ⟨S1x1x1024, .f32⟩
  | .hbm, ⟨62, _⟩ => ⟨S1x16400x1024, .f32⟩
  | .hbm, ⟨63, _⟩ => ⟨S1x16400x1024, .f32⟩
  | .hbm, ⟨64, _⟩ => ⟨S_, .f32⟩
  | .hbm, ⟨65, _⟩ => ⟨S1x16400x1024, .f32⟩
  | .hbm, ⟨66, _⟩ => ⟨S1x16400x1024, .f32⟩
  | .hbm, ⟨67, _⟩ => ⟨S1x16400x1024, .f32⟩
  | .hbm, ⟨68, _⟩ => ⟨S1x16384x1024, .f32⟩
  | .hbm, ⟨69, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Mixer.lean ====
abbrev S16384x1024 : Shape := ⟨2, ![16384, 1024]⟩
abbrev S16x1024 : Shape := ⟨2, ![16, 1024]⟩
abbrev S2x6x1024 : Shape := ⟨3, ![2, 6, 1024]⟩
abbrev S2x1024x4096 : Shape := ⟨3, ![2, 1024, 4096]⟩
abbrev S2x4x128x128 : Shape := ⟨4, ![2, 4, 128, 128]⟩
abbrev S2x512 : Shape := ⟨2, ![2, 512]⟩
abbrev S2x512x1024 : Shape := ⟨3, ![2, 512, 1024]⟩
abbrev S2x16 : Shape := ⟨2, ![2, 16]⟩
abbrev S2x1024x1024 : Shape := ⟨3, ![2, 1024, 1024]⟩
abbrev S1x1024x4096 : Shape := ⟨3, ![1, 1024, 4096]⟩
abbrev S1024x4096 : Shape := ⟨2, ![1024, 4096]⟩
abbrev S1x4x128x128 : Shape := ⟨4, ![1, 4, 128, 128]⟩
abbrev S4x128x128 : Shape := ⟨3, ![4, 128, 128]⟩
abbrev S2x1x512 : Shape := ⟨3, ![2, 1, 512]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x6x1024 : Shape := ⟨3, ![1, 6, 1024]⟩
abbrev S1x1x512 : Shape := ⟨3, ![1, 1, 512]⟩
abbrev S2x16x512 : Shape := ⟨3, ![2, 16, 512]⟩
abbrev S2x128x256 : Shape := ⟨3, ![2, 128, 256]⟩
abbrev S2x256x128 : Shape := ⟨3, ![2, 256, 128]⟩
abbrev S16x256 : Shape := ⟨2, ![16, 256]⟩
abbrev S256x16 : Shape := ⟨2, ![256, 16]⟩
abbrev S16x272x128 : Shape := ⟨3, ![16, 272, 128]⟩
abbrev S128x256 : Shape := ⟨2, ![128, 256]⟩
abbrev S1x128x256 : Shape := ⟨3, ![1, 128, 256]⟩
abbrev S256x128 : Shape := ⟨2, ![256, 128]⟩
abbrev S1x256x128 : Shape := ⟨3, ![1, 256, 128]⟩
abbrev S272x1 : Shape := ⟨2, ![272, 1]⟩
abbrev S1x128 : Shape := ⟨2, ![1, 128]⟩
abbrev S272x128 : Shape := ⟨2, ![272, 128]⟩
abbrev S1x272x128 : Shape := ⟨3, ![1, 272, 128]⟩
abbrev S112x1024 : Shape := ⟨2, ![112, 1024]⟩
abbrev S128x1024 : Shape := ⟨2, ![128, 1024]⟩
abbrev S1x1x1024 : Shape := ⟨3, ![1, 1, 1024]⟩
abbrev S1x1024 : Shape := ⟨2, ![1, 1024]⟩
abbrev S128 : Shape := ⟨1, ![128]⟩
abbrev S128x1 : Shape := ⟨2, ![128, 1]⟩
abbrev S1024x256 : Shape := ⟨2, ![1024, 256]⟩
abbrev S1024x128 : Shape := ⟨2, ![1024, 128]⟩
abbrev S128x128 : Shape := ⟨2, ![128, 128]⟩
abbrev S64x512 : Shape := ⟨2, ![64, 512]⟩
abbrev S1024x512 : Shape := ⟨2, ![1024, 512]⟩
abbrev S128x512 : Shape := ⟨2, ![128, 512]⟩
abbrev S16x512 : Shape := ⟨2, ![16, 512]⟩
abbrev S1x16x512 : Shape := ⟨3, ![1, 16, 512]⟩
abbrev S144x512 : Shape := ⟨2, ![144, 512]⟩
abbrev S64x128 : Shape := ⟨2, ![64, 128]⟩
abbrev S1x128x128 : Shape := ⟨3, ![1, 128, 128]⟩
abbrev S1x512 : Shape := ⟨2, ![1, 512]⟩
abbrev S1x1 : Shape := ⟨2, ![1, 1]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S528x512 : Shape := ⟨2, ![528, 512]⟩
abbrev S512x128 : Shape := ⟨2, ![512, 128]⟩
abbrev S16x128 : Shape := ⟨2, ![16, 128]⟩
abbrev S272x512 : Shape := ⟨2, ![272, 512]⟩
abbrev S256x512 : Shape := ⟨2, ![256, 512]⟩
abbrev S64x16 : Shape := ⟨2, ![64, 16]⟩
abbrev S64x272 : Shape := ⟨2, ![64, 272]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩

abbrev nBuf : Space → Nat
  | .hbm => 28
  | .vmem => 19
  | .smem => 1
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S2x6x1024, .f32⟩
  | .hbm, ⟨3, _⟩ => ⟨S2x1024x4096, .f32⟩
  | .hbm, ⟨4, _⟩ => ⟨S2x4x128x128, .f32⟩
  | .hbm, ⟨5, _⟩ => ⟨S2x512, .f32⟩
  | .hbm, ⟨6, _⟩ => ⟨S2x512x1024, .f32⟩
  | .hbm, ⟨7, _⟩ => ⟨S2x16, .f32⟩
  | .hbm, ⟨8, _⟩ => ⟨S2x1024x1024, .f32⟩
  | .hbm, ⟨9, _⟩ => ⟨S2x1024x1024, .f32⟩
  | .hbm, ⟨10, _⟩ => ⟨S1x1024x4096, .f32⟩
  | .hbm, ⟨11, _⟩ => ⟨S1024x4096, .f32⟩
  | .hbm, ⟨12, _⟩ => ⟨S1024x4096, .bf16⟩
  | .hbm, ⟨13, _⟩ => ⟨S1x4x128x128, .f32⟩
  | .hbm, ⟨14, _⟩ => ⟨S4x128x128, .f32⟩
  | .hbm, ⟨15, _⟩ => ⟨S4x128x128, .bf16⟩
  | .hbm, ⟨16, _⟩ => ⟨S2x1x512, .f32⟩
  | .hbm, ⟨17, _⟩ => ⟨S1x512x1024, .f32⟩
  | .hbm, ⟨18, _⟩ => ⟨S512x1024, .f32⟩
  | .hbm, ⟨19, _⟩ => ⟨S512x1024, .bf16⟩
  | .hbm, ⟨20, _⟩ => ⟨S1x1024x1024, .f32⟩
  | .hbm, ⟨21, _⟩ => ⟨S1024x1024, .f32⟩
  | .hbm, ⟨22, _⟩ => ⟨S1024x1024, .bf16⟩
  | .hbm, ⟨23, _⟩ => ⟨S1x1024x1024, .f32⟩
  | .hbm, ⟨24, _⟩ => ⟨S1024x1024, .f32⟩
  | .hbm, ⟨25, _⟩ => ⟨S1024x1024, .bf16⟩
  | .hbm, ⟨26, _⟩ => ⟨S16384x1024, .f32⟩
  | .hbm, ⟨27, _⟩ => ⟨S16x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S1x6x1024, .f32⟩
  | .local _ .vmem, ⟨4, _⟩ => ⟨S1024x4096, .bf16⟩
  | .local _ .vmem, ⟨5, _⟩ => ⟨S4x128x128, .bf16⟩
  | .local _ .vmem, ⟨6, _⟩ => ⟨S1x1x512, .f32⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S16x1024, .f32⟩
  | .local _ .vmem, ⟨13, _⟩ => ⟨S2x16x512, .f32⟩
  | .local _ .vmem, ⟨14, _⟩ => ⟨S2x128x256, .bf16⟩
  | .local _ .vmem, ⟨15, _⟩ => ⟨S2x256x128, .bf16⟩
  | .local _ .vmem, ⟨16, _⟩ => ⟨S16x256, .bf16⟩
  | .local _ .vmem, ⟨17, _⟩ => ⟨S256x16, .bf16⟩
  | .local _ .vmem, ⟨18, _⟩ => ⟨S16x272x128, .f32⟩
  | .local _ .smem, ⟨0, _⟩ => ⟨S2x16, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let c2_i32 : BitVec 32 := 2#32
  let v0 : BitVec 32 := Scalar.remsi arg0 c2_i32
  let v32 : Index := Scalar.indexCast v0
  let c0_13 : Index := 0#32
  let c0_14 : Index := 0#32
  ![v32.toNat, 0, 0]
def k0_off2 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v36 : Index := Scalar.indexCast v1
  let c0_15 : Index := 0#32
  let c0_16 : Index := 0#32
  ![v36.toNat, 0, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let v49 : Index := Scalar.indexCast v0
  let c0_23 : Index := 0#32
  let c0_24 : Index := 0#32
  ![v49.toNat, 0, 0]
def k0_off4 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v53 : Index := Scalar.indexCast v1
  let c0_25 : Index := 0#32
  let c0_26 : Index := 0#32
  ![v53.toNat, 0, 0]
def k0_off5 (i : grid0.Coords) : Fin 3 → Nat :=
  let arg0 : BitVec 32 := BitVec.ofNat 32 (i 0).val
  let c2_i32 : BitVec 32 := 2#32
  let v0 : BitVec 32 := Scalar.remsi arg0 c2_i32
  let v106 : Index := Scalar.indexCast v0
  let c0_38 : Index := 0#32
  let c0_39 : Index := 0#32
  ![v106.toNat, 0, 0]
def k0_off6 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v110 : Index := Scalar.indexCast v1
  let c0_40 : Index := 0#32
  let c0_41 : Index := 0#32
  ![v110.toNat, 0, 0]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S2x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MixerIdeal.lean ====
variable {F : FTy → Type} [FloatOps F] [Named F]
def κ : String → Option EReal := fun
  | "log2e" => some (((Real.log 2)⁻¹ : ℝ) : EReal)
  | "neg_inf" => some ⊥
  | "q_scale" => some (((1 / 8) * (Real.log 2)⁻¹ : ℝ) : EReal)
  | "slope0" => some ((((-1) * (Real.log 2)⁻¹) * (Real.sqrt 2)⁻¹ : ℝ) : EReal)
  | "slope1" => some (((-1 / 2) * (Real.log 2)⁻¹ : ℝ) : EReal)
  | "slope10" => some ((((-1 / 32) * (Real.log 2)⁻¹) * (Real.sqrt 2)⁻¹ : ℝ) : EReal)
  | "slope11" => some (((-1 / 64) * (Real.log 2)⁻¹ : ℝ) : EReal)
  | "slope12" => some ((((-1 / 64) * (Real.log 2)⁻¹) * (Real.sqrt 2)⁻¹ : ℝ) : EReal)
  | "slope13" => some (((-1 / 128) * (Real.log 2)⁻¹ : ℝ) : EReal)
  | "slope14" => some ((((-1 / 128) * (Real.log 2)⁻¹) * (Real.sqrt 2)⁻¹ : ℝ) : EReal)
  | "slope15" => some (((-1 / 256) * (Real.log 2)⁻¹ : ℝ) : EReal)
  | "slope2" => some ((((-1 / 2) * (Real.log 2)⁻¹) * (Real.sqrt 2)⁻¹ : ℝ) : EReal)
  | "slope3" => some (((-1 / 4) * (Real.log 2)⁻¹ : ℝ) : EReal)
  | "slope4" => some ((((-1 / 4) * (Real.log 2)⁻¹) * (Real.sqrt 2)⁻¹ : ℝ) : EReal)
  | "slope5" => some (((-1 / 8) * (Real.log 2)⁻¹ : ℝ) : EReal)
  | "slope6" => some ((((-1 / 8) * (Real.log 2)⁻¹) * (Real.sqrt 2)⁻¹ : ℝ) : EReal)
  | "slope7" => some (((-1 / 16) * (Real.log 2)⁻¹ : ℝ) : EReal)
  | "slope8" => some ((((-1 / 16) * (Real.log 2)⁻¹) * (Real.sqrt 2)⁻¹ : ℝ) : EReal)
  | "slope9" => some (((-1 / 32) * (Real.log 2)⁻¹ : ℝ) : EReal)
  | _ => none
-- ==== MixerRefIdeal.lean ====
abbrev S16384x1024 : Shape := ⟨2, ![16384, 1024]⟩
abbrev S16x1024 : Shape := ⟨2, ![16, 1024]⟩
abbrev S2x6x1024 : Shape := ⟨3, ![2, 6, 1024]⟩
abbrev S2x1024x4096 : Shape := ⟨3, ![2, 1024, 4096]⟩
abbrev S2x4x128x128 : Shape := ⟨4, ![2, 4, 128, 128]⟩
abbrev S2x512 : Shape := ⟨2, ![2, 512]⟩
abbrev S2x512x1024 : Shape := ⟨3, ![2, 512, 1024]⟩
abbrev S2x16 : Shape := ⟨2, ![2, 16]⟩
abbrev S2x1024x1024 : Shape := ⟨3, ![2, 1024, 1024]⟩
abbrev S16400x1024 : Shape := ⟨2, ![16400, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S16400 : Shape := ⟨1, ![16400]⟩
abbrev S16400x1 : Shape := ⟨2, ![16400, 1]⟩
abbrev S1x1024x4096 : Shape := ⟨3, ![1, 1024, 4096]⟩
abbrev S1024x4096 : Shape := ⟨2, ![1024, 4096]⟩
abbrev S16400x4096 : Shape := ⟨2, ![16400, 4096]⟩
abbrev S16400x512 : Shape := ⟨2, ![16400, 512]⟩
abbrev S16400x256 : Shape := ⟨2, ![16400, 256]⟩
abbrev S1x4x128x128 : Shape := ⟨4, ![1, 4, 128, 128]⟩
abbrev S4x128x128 : Shape := ⟨3, ![4, 128, 128]⟩
abbrev S1x512 : Shape := ⟨2, ![1, 512]⟩
abbrev S512 : Shape := ⟨1, ![512]⟩
abbrev S1x512x1024 : Shape := ⟨3, ![1, 512, 1024]⟩
abbrev S512x1024 : Shape := ⟨2, ![512, 1024]⟩
abbrev S16400x128 : Shape := ⟨2, ![16400, 128]⟩
abbrev S1x128 : Shape := ⟨2, ![1, 128]⟩
abbrev S16401x128 : Shape := ⟨2, ![16401, 128]⟩
abbrev S1x128x128 : Shape := ⟨3, ![1, 128, 128]⟩
abbrev S128x128 : Shape := ⟨2, ![128, 128]⟩
abbrev S3x128 : Shape := ⟨2, ![3, 128]⟩
abbrev S16403x128 : Shape := ⟨2, ![16403, 128]⟩
abbrev S7x128 : Shape := ⟨2, ![7, 128]⟩
abbrev S16407x128 : Shape := ⟨2, ![16407, 128]⟩
abbrev S15x128 : Shape := ⟨2, ![15, 128]⟩
abbrev S16415x128 : Shape := ⟨2, ![16415, 128]⟩
abbrev S16400x4x4x64 : Shape := ⟨4, ![16400, 4, 4, 64]⟩
abbrev S16400x4x64 : Shape := ⟨3, ![16400, 4, 64]⟩
abbrev S1x16 : Shape := ⟨2, ![1, 16]⟩
abbrev S16 : Shape := ⟨1, ![16]⟩
abbrev S4x16400x16400x4 : Shape := ⟨4, ![4, 16400, 16400, 4]⟩
abbrev S4x4x16400x16400 : Shape := ⟨4, ![4, 4, 16400, 16400]⟩
abbrev S1x16400 : Shape := ⟨2, ![1, 16400]⟩
abbrev S16400x16400 : Shape := ⟨2, ![16400, 16400]⟩
abbrev S4x4 : Shape := ⟨2, ![4, 4]⟩
abbrev S4x4x1x1 : Shape := ⟨4, ![4, 4, 1, 1]⟩
abbrev S1x1x16400x16400 : Shape := ⟨4, ![1, 1, 16400, 16400]⟩
abbrev S4x4x16400 : Shape := ⟨3, ![4, 4, 16400]⟩
abbrev S4x4x16400x1 : Shape := ⟨4, ![4, 4, 16400, 1]⟩
abbrev S4x64x4x16400 : Shape := ⟨4, ![4, 64, 4, 16400]⟩
abbrev S1x1024x1024 : Shape := ⟨3, ![1, 1024, 1024]⟩
abbrev S1024x1024 : Shape := ⟨2, ![1024, 1024]⟩

abbrev nBuf : Space → Nat
  | .hbm => 296
  | .vmem => 0
  | .smem => 0
  | _ => 0

abbrev hbmTy0_0 (i : Nat) : BufTy := match i % 128 with
  | 0 => ⟨S16384x1024, .f32⟩
  | 1 => ⟨S16x1024, .f32⟩
  | 2 => ⟨S2x6x1024, .f32⟩
  | 3 => ⟨S2x1024x4096, .f32⟩
  | 4 => ⟨S2x4x128x128, .f32⟩
  | 5 => ⟨S2x512, .f32⟩
  | 6 => ⟨S2x512x1024, .f32⟩
  | 7 => ⟨S2x16, .f32⟩
  | 8 => ⟨S2x1024x1024, .f32⟩
  | 9 => ⟨S2x1024x1024, .f32⟩
  | 10 => ⟨S16400x1024, .f32⟩
  | 11 => ⟨S1x6x1024, .f32⟩
  | 12 => ⟨S6x1024, .f32⟩
  | 13 => ⟨S1x1024, .f32⟩
  | 14 => ⟨S1024, .f32⟩
  | 15 => ⟨S16400x1024, .f32⟩
  | 16 => ⟨S_, .f32⟩
  | 17 => ⟨S16400, .f32⟩
  | 18 => ⟨S16400x1, .f32⟩
  | 19 => ⟨S_, .f32⟩
  | 20 => ⟨S16400x1, .f32⟩
  | 21 => ⟨S16400x1, .f32⟩
  | 22 => ⟨S_, .f32⟩
  | 23 => ⟨S16400x1, .f32⟩
  | 24 => ⟨S16400x1, .f32⟩
  | 25 => ⟨S16400x1, .f32⟩
  | 26 => ⟨S16400x1024, .f32⟩
  | 27 => ⟨S16400x1024, .f32⟩
  | 28 => ⟨S1x1024, .f32⟩
  | 29 => ⟨S16400x1024, .f32⟩
  | 30 => ⟨S16400x1024, .f32⟩
  | 31 => ⟨S1x1024x4096, .f32⟩
  | 32 => ⟨S1024x4096, .f32⟩
  | 33 => ⟨S16400x4096, .f32⟩
  | 34 => ⟨S16400x512, .f32⟩
  | 35 => ⟨S16400x1024, .f32⟩
  | 36 => ⟨S16400x256, .f32⟩
  | 37 => ⟨S16400x256, .f32⟩
  | 38 => ⟨S16400x1024, .f32⟩
  | 39 => ⟨S16400x1024, .f32⟩
  | 40 => ⟨S1x4x128x128, .f32⟩
  | 41 => ⟨S4x128x128, .f32⟩
  | 42 => ⟨S1x512, .f32⟩
  | 43 => ⟨S512, .f32⟩
  | 44 => ⟨S1x512x1024, .f32⟩
  | 45 => ⟨S512x1024, .f32⟩
  | 46 => ⟨S16400, .i32⟩
  | 47 => ⟨S_, .i32⟩
  | 48 => ⟨S16400, .i32⟩
  | 49 => ⟨S16400, .i32⟩
  | 50 => ⟨S16400x1, .i32⟩
  | 51 => ⟨S16400x128, .f32⟩
  | 52 => ⟨S_, .f32⟩
  | 53 => ⟨S1x128, .f32⟩
  | 54 => ⟨S16401x128, .f32⟩
  | 55 => ⟨S16400x128, .f32⟩
  | 56 => ⟨S16400x128, .f32⟩
  | 57 => ⟨S16400x128, .f32⟩
  | 58 => ⟨S_, .i32⟩
  | 59 => ⟨S16400x1, .i32⟩
  | 60 => ⟨S16400x1, .i32⟩
  | 61 => ⟨S16400x1, .f32⟩
  | 62 => ⟨S16400x128, .f32⟩
  | 63 => ⟨S16400x128, .f32⟩
  | 64 => ⟨S16400x128, .f32⟩
  | 65 => ⟨S1x128x128, .f32⟩
  | 66 => ⟨S128x128, .f32⟩
  | 67 => ⟨S16400x128, .f32⟩
  | 68 => ⟨S16400x128, .f32⟩
  | 69 => ⟨S_, .f32⟩
  | 70 => ⟨S3x128, .f32⟩
  | 71 => ⟨S16403x128, .f32⟩
  | 72 => ⟨S16400x128, .f32⟩
  | 73 => ⟨S16400x128, .f32⟩
  | 74 => ⟨S16400x128, .f32⟩
  | 75 => ⟨S16400x128, .f32⟩
  | 76 => ⟨S16400x128, .f32⟩
  | 77 => ⟨S16400x128, .f32⟩
  | 78 => ⟨S16400x128, .f32⟩
  | 79 => ⟨S_, .i32⟩
  | 80 => ⟨S16400x1, .i32⟩
  | 81 => ⟨S16400x1, .i32⟩
  | 82 => ⟨S16400x1, .f32⟩
  | 83 => ⟨S16400x128, .f32⟩
  | 84 => ⟨S16400x128, .f32⟩
  | 85 => ⟨S16400x128, .f32⟩
  | 86 => ⟨S1x128x128, .f32⟩
  | 87 => ⟨S128x128, .f32⟩
  | 88 => ⟨S16400x128, .f32⟩
  | 89 => ⟨S16400x128, .f32⟩
  | 90 => ⟨S_, .f32⟩
  | 91 => ⟨S7x128, .f32⟩
  | 92 => ⟨S16407x128, .f32⟩
  | 93 => ⟨S16400x128, .f32⟩
  | 94 => ⟨S16400x128, .f32⟩
  | 95 => ⟨S16400x128, .f32⟩
  | 96 => ⟨S16400x128, .f32⟩
  | 97 => ⟨S16400x128, .f32⟩
  | 98 => ⟨S16400x128, .f32⟩
  | 99 => ⟨S16400x128, .f32⟩
  | 100 => ⟨S16400x128, .f32⟩
  | 101 => ⟨S16400x128, .f32⟩
  | 102 => ⟨S16400x128, .f32⟩
  | 103 => ⟨S16400x128, .f32⟩
  | 104 => ⟨S16400x128, .f32⟩
  | 105 => ⟨S16400x128, .f32⟩
  | 106 => ⟨S16400x128, .f32⟩
  | 107 => ⟨S16400x128, .f32⟩
  | 108 => ⟨S_, .i32⟩
  | 109 => ⟨S16400x1, .i32⟩
  | 110 => ⟨S16400x1, .i32⟩
  | 111 => ⟨S16400x1, .f32⟩
  | 112 => ⟨S16400x128, .f32⟩
  | 113 => ⟨S16400x128, .f32⟩
  | 114 => ⟨S16400x128, .f32⟩
  | 115 => ⟨S1x128x128, .f32⟩
  | 116 => ⟨S128x128, .f32⟩
  | 117 => ⟨S16400x128, .f32⟩
  | 118 => ⟨S16400x128, .f32⟩
  | 119 => ⟨S_, .f32⟩
  | 120 => ⟨S15x128, .f32⟩
  | 121 => ⟨S16415x128, .f32⟩
  | 122 => ⟨S16400x128, .f32⟩
  | 123 => ⟨S16400x128, .f32⟩
  | 124 => ⟨S16400x128, .f32⟩
  | 125 => ⟨S16400x128, .f32⟩
  | 126 => ⟨S16400x128, .f32⟩
  | 127 => ⟨S16400x128, .f32⟩
  | _ => ⟨S16384x1024, .f32⟩

abbrev hbmTy0_1 (i : Nat) : BufTy := match i % 128 with
  | 0 => ⟨S16400x128, .f32⟩
  | 1 => ⟨S16400x128, .f32⟩
  | 2 => ⟨S16400x128, .f32⟩
  | 3 => ⟨S16400x128, .f32⟩
  | 4 => ⟨S16400x128, .f32⟩
  | 5 => ⟨S16400x128, .f32⟩
  | 6 => ⟨S16400x128, .f32⟩
  | 7 => ⟨S16400x128, .f32⟩
  | 8 => ⟨S16400x128, .f32⟩
  | 9 => ⟨S16400x128, .f32⟩
  | 10 => ⟨S16400x128, .f32⟩
  | 11 => ⟨S16400x128, .f32⟩
  | 12 => ⟨S16400x128, .f32⟩
  | 13 => ⟨S16400x128, .f32⟩
  | 14 => ⟨S16400x128, .f32⟩
  | 15 => ⟨S16400x128, .f32⟩
  | 16 => ⟨S16400x128, .f32⟩
  | 17 => ⟨S16400x128, .f32⟩
  | 18 => ⟨S16400x128, .f32⟩
  | 19 => ⟨S16400x128, .f32⟩
  | 20 => ⟨S16400x128, .f32⟩
  | 21 => ⟨S16400x128, .f32⟩
  | 22 => ⟨S16400x128, .f32⟩
  | 23 => ⟨S16400x128, .f32⟩
  | 24 => ⟨S16400x128, .f32⟩
  | 25 => ⟨S_, .i32⟩
  | 26 => ⟨S16400x1, .i32⟩
  | 27 => ⟨S16400x1, .i32⟩
  | 28 => ⟨S16400x1, .f32⟩
  | 29 => ⟨S16400x128, .f32⟩
  | 30 => ⟨S16400x128, .f32⟩
  | 31 => ⟨S16400x128, .f32⟩
  | 32 => ⟨S1x128x128, .f32⟩
  | 33 => ⟨S128x128, .f32⟩
  | 34 => ⟨S16400x128, .f32⟩
  | 35 => ⟨S16400x512, .f32⟩
  | 36 => ⟨S1x512, .f32⟩
  | 37 => ⟨S16400x512, .f32⟩
  | 38 => ⟨S16400x512, .f32⟩
  | 39 => ⟨S16400x1024, .f32⟩
  | 40 => ⟨S16400x4x4x64, .f32⟩
  | 41 => ⟨S16400x4x64, .f32⟩
  | 42 => ⟨S16400x4x64, .f32⟩
  | 43 => ⟨S1x16, .f32⟩
  | 44 => ⟨S16, .f32⟩
  | 45 => ⟨S4x16400x16400x4, .f32⟩
  | 46 => ⟨S4x4x16400x16400, .f32⟩
  | 47 => ⟨S_, .f32⟩
  | 48 => ⟨S4x4x16400x16400, .f32⟩
  | 49 => ⟨S4x4x16400x16400, .f32⟩
  | 50 => ⟨S16400, .i32⟩
  | 51 => ⟨S16400x1, .i32⟩
  | 52 => ⟨S1x16400, .i32⟩
  | 53 => ⟨S16400x16400, .i32⟩
  | 54 => ⟨S16400x16400, .i32⟩
  | 55 => ⟨S16400x16400, .i32⟩
  | 56 => ⟨S1x16400, .i32⟩
  | 57 => ⟨S_, .i32⟩
  | 58 => ⟨S1x16400, .i32⟩
  | 59 => ⟨S1x16400, .i1⟩
  | 60 => ⟨S_, .i32⟩
  | 61 => ⟨S16400x16400, .i32⟩
  | 62 => ⟨S16400x16400, .i1⟩
  | 63 => ⟨S_, .i32⟩
  | 64 => ⟨S16400x16400, .i32⟩
  | 65 => ⟨S16400x16400, .i1⟩
  | 66 => ⟨S16400x16400, .i1⟩
  | 67 => ⟨S16400x16400, .i1⟩
  | 68 => ⟨S16400x16400, .i1⟩
  | 69 => ⟨S_, .i32⟩
  | 70 => ⟨S_, .i32⟩
  | 71 => ⟨S16400x16400, .i1⟩
  | 72 => ⟨S16400x16400, .i32⟩
  | 73 => ⟨S16400x16400, .i32⟩
  | 74 => ⟨S16400x16400, .f32⟩
  | 75 => ⟨S16, .i32⟩
  | 76 => ⟨S_, .i32⟩
  | 77 => ⟨S16, .i32⟩
  | 78 => ⟨S16, .i32⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S4x4, .f32⟩
  | 90 => ⟨S4x4x1x1, .f32⟩
  | 91 => ⟨S4x4x1x1, .f32⟩
  | 92 => ⟨S1x1x16400x16400, .f32⟩
  | 93 => ⟨S4x4x16400x16400, .f32⟩
  | 94 => ⟨S4x4x16400x16400, .f32⟩
  | 95 => ⟨S4x4x16400x16400, .f32⟩
  | 96 => ⟨S4x4x16400x16400, .f32⟩
  | 97 => ⟨S_, .f32⟩
  | 98 => ⟨S_, .f32⟩
  | 99 => ⟨S4x4x16400x16400, .i1⟩
  | 100 => ⟨S4x4x16400x16400, .f32⟩
  | 101 => ⟨S4x4x16400x16400, .f32⟩
  | 102 => ⟨S4x4x1x1, .f32⟩
  | 103 => ⟨S_, .f32⟩
  | 104 => ⟨S4x4x16400, .f32⟩
  | 105 => ⟨S4x4x16400x1, .f32⟩
  | 106 => ⟨S4x4x16400x1, .f32⟩
  | 107 => ⟨S4x4x16400x1, .f32⟩
  | 108 => ⟨S4x4x16400x16400, .f32⟩
  | 109 => ⟨S4x4x16400x16400, .f32⟩
  | 110 => ⟨S4x4x16400x16400, .f32⟩
  | 111 => ⟨S_, .f32⟩
  | 112 => ⟨S4x4x16400, .f32⟩
  | 113 => ⟨S4x4x16400x1, .f32⟩
  | 114 => ⟨S4x4x16400x1, .f32⟩
  | 115 => ⟨S4x4x16400x1, .f32⟩
  | 116 => ⟨S4x4x16400x1, .f32⟩
  | 117 => ⟨S4x4x16400x1, .f32⟩
  | 118 => ⟨S4x4x16400x16400, .f32⟩
  | 119 => ⟨S4x4x16400x16400, .f32⟩
  | 120 => ⟨S4x64x4x16400, .f32⟩
  | 121 => ⟨S16400x4x4x64, .f32⟩
  | 122 => ⟨S16400x1024, .f32⟩
  | 123 => ⟨S1x1024x1024, .f32⟩
  | 124 => ⟨S1024x1024, .f32⟩
  | 125 => ⟨S16400x1024, .f32⟩
  | 126 => ⟨S16400x1024, .f32⟩
  | 127 => ⟨S16400x1024, .f32⟩
  | _ => ⟨S16384x1024, .f32⟩

abbrev hbmTy0_2 (i : Nat) : BufTy := match i % 128 with
  | 0 => ⟨S_, .f32⟩
  | 1 => ⟨S16400x1024, .f32⟩
  | 2 => ⟨S16400x1024, .f32⟩
  | 3 => ⟨S_, .f32⟩
  | 4 => ⟨S16400x1024, .f32⟩
  | 5 => ⟨S16400x1024, .f32⟩
  | 6 => ⟨S16400x1024, .f32⟩
  | 7 => ⟨S16400x1024, .f32⟩
  | 8 => ⟨S16400x1024, .f32⟩
  | 9 => ⟨S_, .f32⟩
  | 10 => ⟨S16400x1024, .f32⟩
  | 11 => ⟨S16400x1024, .f32⟩
  | 12 => ⟨S_, .f32⟩
  | 13 => ⟨S16400x1024, .f32⟩
  | 14 => ⟨S16400x1024, .f32⟩
  | 15 => ⟨S16400x1024, .f32⟩
  | 16 => ⟨S16400x1024, .f32⟩
  | 17 => ⟨S1x1024x1024, .f32⟩
  | 18 => ⟨S1024x1024, .f32⟩
  | 19 => ⟨S16400x1024, .f32⟩
  | 20 => ⟨S1x1024, .f32⟩
  | 21 => ⟨S1024, .f32⟩
  | 22 => ⟨S16400x1024, .f32⟩
  | 23 => ⟨S_, .f32⟩
  | 24 => ⟨S16400, .f32⟩
  | 25 => ⟨S16400x1, .f32⟩
  | 26 => ⟨S_, .f32⟩
  | 27 => ⟨S16400x1, .f32⟩
  | 28 => ⟨S16400x1, .f32⟩
  | 29 => ⟨S_, .f32⟩
  | 30 => ⟨S16400x1, .f32⟩
  | 31 => ⟨S16400x1, .f32⟩
  | 32 => ⟨S16400x1, .f32⟩
  | 33 => ⟨S16400x1024, .f32⟩
  | 34 => ⟨S16400x1024, .f32⟩
  | 35 => ⟨S1x1024, .f32⟩
  | 36 => ⟨S16400x1024, .f32⟩
  | 37 => ⟨S16400x1024, .f32⟩
  | 38 => ⟨S16400x1024, .f32⟩
  | 39 => ⟨S16384x1024, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_2 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_3 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_4 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_5 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_6 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_c_7 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_8 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_c_9 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_cst_10 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_c_11 : Ref sig .tc := ⟨.hbm, 185, rfl⟩
abbrev main_v162 : Ref sig .tc := ⟨.hbm, 186, rfl⟩
abbrev main_v163 : Ref sig .tc := ⟨.hbm, 187, rfl⟩
abbrev main_c_12 : Ref sig .tc := ⟨.hbm, 188, rfl⟩
abbrev main_v164 : Ref sig .tc := ⟨.hbm, 189, rfl⟩
abbrev main_v165 : Ref sig .tc := ⟨.hbm, 190, rfl⟩
abbrev main_c_13 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_c_14 : Ref sig .tc := ⟨.hbm, 197, rfl⟩
abbrev main_call0_v0 : Ref sig .tc := ⟨.hbm, 198, rfl⟩
abbrev main_call0_v1 : Ref sig .tc := ⟨.hbm, 199, rfl⟩
abbrev main_call0_v2 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_c_15 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_cst_16 : Ref sig .tc := ⟨.hbm, 208, rfl⟩
abbrev main_v177 : Ref sig .tc := ⟨.hbm, 209, rfl⟩
abbrev main_v178 : Ref sig .tc := ⟨.hbm, 210, rfl⟩
abbrev main_cst_17 : Ref sig .tc := ⟨.hbm, 211, rfl⟩
abbrev main_v179 : Ref sig .tc := ⟨.hbm, 212, rfl⟩
abbrev main_v180 : Ref sig .tc := ⟨.hbm, 213, rfl⟩
abbrev main_cst_18 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_cst_19 : Ref sig .tc := ⟨.hbm, 225, rfl⟩
abbrev main_call1_v0 : Ref sig .tc := ⟨.hbm, 226, rfl⟩
abbrev main_call1_v1 : Ref sig .tc := ⟨.hbm, 227, rfl⟩
abbrev main_call1_v2 : Ref sig .tc := ⟨.hbm, 228, rfl⟩
abbrev main_v191 : Ref sig .tc := ⟨.hbm, 229, rfl⟩
abbrev main_v192 : Ref sig .tc := ⟨.hbm, 230, rfl⟩
abbrev main_cst_20 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_cst_21 : Ref sig .tc := ⟨.hbm, 239, rfl⟩
abbrev main_v200 : Ref sig .tc := ⟨.hbm, 240, rfl⟩
abbrev main_v201 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_cst_22 : Ref sig .tc := ⟨.hbm, 256, rfl⟩
abbrev main_v216 : Ref sig .tc := ⟨.hbm, 257, rfl⟩
abbrev main_v217 : Ref sig .tc := ⟨.hbm, 258, rfl⟩
abbrev main_cst_23 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_cst_24 : Ref sig .tc := ⟨.hbm, 265, rfl⟩
abbrev main_v223 : Ref sig .tc := ⟨.hbm, 266, rfl⟩
abbrev main_v224 : Ref sig .tc := ⟨.hbm, 267, rfl⟩
abbrev main_cst_25 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_cst_26 : Ref sig .tc := ⟨.hbm, 279, rfl⟩
abbrev main_v235 : Ref sig .tc := ⟨.hbm, 280, rfl⟩
abbrev main_v236 : Ref sig .tc := ⟨.hbm, 281, rfl⟩
abbrev main_cst_27 : Ref sig .tc := ⟨.hbm, 282, rfl⟩
abbrev main_v237 : Ref sig .tc := ⟨.hbm, 283, rfl⟩
abbrev main_v238 : Ref sig .tc := ⟨.hbm, 284, rfl⟩
abbrev main_cst_28 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩

abbrev nD : Nat := 1
abbrev τ : Topo := Topo.v7x

variable {F : FTy → Type} [FloatOps F]
-- ==== Proof.Ffn2L1.Run.lean ====
/- The run of one feed-forward call: the body's two cases, what the output window holds point by point, the launch, and the
   output array after it. -/
module

public import proofs.«01_k».proof.Proof.Gen.Ffn2L1Ideal.Frame
public import proofs.«01_k».proof.Proof.Gen.Ffn2L1Ideal.Skeleton
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Ffn2L1Ideal.Run

open Cert.Ffn2L1Ideal Cert.Ffn2L1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame's post from any run whose proof data start at the region's entry contents. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

abbrev cond0_0 (i : grid0.Coords) : Prop := k0_cond1 i = 1#1
/-- The body's one branch is taken at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

abbrev VO0_5 : View sig .tc .vmem S1024x1024 .f32 := (Memref.whole cc0_stg5_0 : Memref sig .tc .vmem S1024x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x5632 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2816x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1024 .f32 := win0_6.stage (cfg0.slots t 6)
abbrev hs0_6 (t : Fin cfg0.N) : (ms0_6 t).IsWhole := hstage0_6 ((cfg0.slots t 6).cast nbuf0_6)

set_option maxHeartbeats 1000000 in
/-- The body at the first point: what it stores in the output window, as pieces, and its triple. The second output's buffer is handed
    over and handed back at contents nothing names. -/
noncomputable def kernelRun0_A (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : cond0_0 i)
    (x0 : Vec F S1024x1024 .f32) (x1 : Vec F S16x1024 .f32) (x2 : Vec F S1x6x1024 .f32) (x3 : Vec F S1024x5632 .bf16) (x4 : Vec F S2816x1024 .bf16) :
    { L5 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc0_ffn_half_step i arg1 harg1 arg2 harg2 arg3 harg3 arg4 harg4 arg5 harg5 arg6 harg6 arg7 harg7) K } := by
  refine ⟨?_, fun E K => ?run⟩
  case run =>
    simp only [cc0_ffn_half_step_eq_skeleton]; unfold cc0_ffn_half_step_skel
    simp only [k0_part2_eq_skeleton, k0_part1_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact H6
    ipureintro; rfl

set_option maxHeartbeats 1000000 in
/-- The body at every other point. -/
noncomputable def kernelRun0_B (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : ¬cond0_0 i)
    (x0 : Vec F S1024x1024 .f32) (x1 : Vec F S16x1024 .f32) (x2 : Vec F S1x6x1024 .f32) (x3 : Vec F S1024x5632 .bf16) (x4 : Vec F S2816x1024 .bf16) :
    { L5 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc0_ffn_half_step i arg1 harg1 arg2 harg2 arg3 harg3 arg4 harg4 arg5 harg5 arg6 harg6 arg7 harg7) K } := by
  refine ⟨?_, fun E K => ?run⟩
  case run =>
    simp only [cc0_ffn_half_step_eq_skeleton]; unfold cc0_ffn_half_step_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact H6
    ipureintro; rfl

/-- The four stored bands cover the output block (first point) … -/
theorem cover0_A_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : cond0_0 i)
    (x0 : Vec F S1024x1024 .f32) (x1 : Vec F S16x1024 .f32) (x2 : Vec F S1x6x1024 .f32) (x3 : Vec F S1024x5632 .bf16) (x4 : Vec F S2816x1024 .bf16) (y : S1024x1024.Idx) :
    ∃ pc ∈ (kernelRun0_A c i arg1 harg1 arg2 harg2 arg3 harg3 arg4 harg4 arg5 harg5 arg6 harg6 arg7 harg7 hc0 x0 x1 x2 x3 x4).1, y ∈ pc.1.set :=
  View.cover_of_tiledL (kernelRun0_A c i arg1 harg1 arg2 harg2 arg3 harg3 arg4 harg4 arg5 harg5 arg6 harg6 arg7 harg7 hc0 x0 x1 x2 x3 x4).1 S256x1024.size (by sl_kernel_rfl) y

/-- … so what the body leaves there does not depend on what was there before. -/
def out0_A_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : cond0_0 i)
    (x0 : Vec F S1024x1024 .f32) (x1 : Vec F S16x1024 .f32) (x2 : Vec F S1x6x1024 .f32) (x3 : Vec F S1024x5632 .bf16) (x4 : Vec F S2816x1024 .bf16) : Vec F S1024x1024 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3 x4).1)

/-- The same at the other points. -/
theorem cover0_B_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : ¬cond0_0 i)
    (x0 : Vec F S1024x1024 .f32) (x1 : Vec F S16x1024 .f32) (x2 : Vec F S1x6x1024 .f32) (x3 : Vec F S1024x5632 .bf16) (x4 : Vec F S2816x1024 .bf16) (y : S1024x1024.Idx) :
    ∃ pc ∈ (kernelRun0_B c i arg1 harg1 arg2 harg2 arg3 harg3 arg4 harg4 arg5 harg5 arg6 harg6 arg7 harg7 hc0 x0 x1 x2 x3 x4).1, y ∈ pc.1.set :=
  View.cover_of_tiledL (kernelRun0_B c i arg1 harg1 arg2 harg2 arg3 harg3 arg4 harg4 arg5 harg5 arg6 harg6 arg7 harg7 hc0 x0 x1 x2 x3 x4).1 S256x1024.size (by sl_kernel_rfl) y

def out0_B_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : ¬cond0_0 i)
    (x0 : Vec F S1024x1024 .f32) (x1 : Vec F S16x1024 .f32) (x2 : Vec F S1x6x1024 .f32) (x3 : Vec F S1024x5632 .bf16) (x4 : Vec F S2816x1024 .bf16) : Vec F S1024x1024 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 x4).1)

/-- What the output window holds after each point. -/
def outsAt0 (c : Dev nD) : (n : ℕ) → n < cfg0.N → Vec F S1024x1024 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 16 = 0 then
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)

theorem outsAt0_A (c : Dev nD) (t : Fin cfg0.N) (h0 : t.val % 16 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) := by
  obtain ⟨n, hn⟩ := t
  cases n with
  | zero => exact (by exfalso; (try dsimp only at h0); exact absurd (Nat.zero_mod _) h0)
  | succ n => exact (dif_neg h0).trans rfl

/-- Nothing is said of the second output, the sixteen meta rows: it is written at the first point only. -/
def forgets0 : Fin 7 → Bool := fun w => w.val == 6
theorem forgets0_5 : forgets0 (5 : Fin 7) = false := by decide

/-- The pipeline's proof data: inputs keep their blocks, the first output holds `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d))

set_option maxHeartbeats 800000 in
/-- The body at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt (show cfg0.N = 16 from N_0)
  by_cases h0 : t.val % 16 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [outsAt0_A m c t h0]
    unfold out0_A_5
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _)
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [outsAt0_B m c t h0]
    unfold out0_B_5
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _)
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl
set_option backward.isDefEq.respectTransparency.types false in
/-- The launch: the run terminates with the named arrays at their contents and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

theorem flushed5 (c : Dev nD) (t : Fin cfg0.N) :
    (dats m 0 c).flushed 5 t = (cfg0.win 5).cut (grid0.coords t) (outsAt0 m c t.val t.isLt) := by
  show (cfg0.win 5).cut (grid0.coords t) ((dats m 0 c).after 5 t) = _
  rw [after0_5]

theorem flushed5_A (c : Dev nD) (t : Fin cfg0.N) (h0 : t.val % 16 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t)) := by
  simp only [flushed5, outsAt0_A m c t h0]

theorem flushed5_B (c : Dev nD) (t : Fin cfg0.N) (h0 : ¬t.val % 16 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t)) := by
  simp only [flushed5, outsAt0_B m c t h0]

theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

theorem entry5 (c : Dev nD) (i : S16384x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

theorem finalR_out0 (r : PUnit × MemSt nD τ sig (Elt F)) (h : Pipeline.RDat.FramePost (cfgs 0) (fun c => (dats m 0 c).toRForget forgets0) (V m) r) (c : Dev nD) (w : Fin 7) (hw : forgets0 w = false) :
    r.2.mem ((cfg0.spec w).arr.view.loc (c : Thread nD τ)) = (dats m 0 c).arrAt w cfg0.N :=
  ((dats m 0 c).toRForget_arrAt_iff hw _ _).mp ((h c).1 w)

theorem post5 (r : PUnit × MemSt nD τ sig (Elt F)) (h : Pipeline.RDat.FramePost (cfgs 0) (fun c => (dats m 0 c).toRForget forgets0) (V m) r) (c : Dev nD) :
    r.2.mem ((c : Thread nD τ).loc main_v6_0) = (dats m 0 c).arrAt 5 cfg0.N :=
  finalR_out0 m r h c 5 forgets0_5

theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 2 rfl).trans ((A_eq m c 2).trans (V_main_arg2 m c))

theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run, its first output array named and the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.Ffn2L1Ideal.Run

end
-- ==== Proof.Half.lean ====
/- The mathematics of one feed-forward half step, one token at a time, over the extended reals: the norm of a row, the
   gated product, the half step, and the one identity between the two programs' texts — the gate written with `tanh`
   (the kernel) is the gate written with the logistic function (the reference). -/
module

public import Idealize.ShloMosaic.Lib.Pointwise
public import Idealize.ShloMosaic.Lib.ValueIdx
public import Idealize.ShloMosaic.PureOps.Ideal.Laws

@[expose] public section

noncomputable section

namespace Cert.Half

open Idealize.ShloMosaic

/-- The real number the printed word of one half denotes. -/
theorem half_eq : Ideal.ofBits .f32 0x3F000000#32 = ((1 / 2 : ℝ) : EReal) := by
  simp [Ideal.ofBits, Ideal.ieee]
  rw [← EReal.coe_mul]
  norm_num

/-- … and the word of one. -/
theorem one_eq : Ideal.ofBits .f32 0x3F800000#32 = ((1 : ℝ) : EReal) := by
  simp [Ideal.ofBits, Ideal.ieee]
  rw [← EReal.coe_mul]
  norm_num

/-- A row over its root mean square, times a gain: `x · rsqrt (mean x² + ε) · g`. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- The gated product as the reference writes it: `a · σ(a) · b`. -/
def gated (a b : EReal) : EReal := a * Ideal.logistic a * b

/-- Lane `m` of the first half (the gate) of the joined input projection, and of the second half (the value). -/
def lo (m : Fin 2816) : Fin 5632 := ⟨m.val, by omega⟩
def hi (m : Fin 2816) : Fin 5632 := ⟨2816 + m.val, by omega⟩

/-- The gated projection of a row: norm, two products, gate, product. -/
def proj (x g : Fin 1024 → EReal) (wi : Fin 1024 → Fin 5632 → EReal) (wo : Fin 2816 → Fin 1024 → EReal) (j : Fin 1024) : EReal :=
  ∑ m, gated (∑ k, rms x g k * wi k (lo m)) (∑ k, rms x g k * wi k (hi m)) * wo m j

/-- One half step of a row: the row plus half the norm of its gated projection. -/
def step (x g₁ g₂ : Fin 1024 → EReal) (wi : Fin 1024 → Fin 5632 → EReal) (wo : Fin 2816 → Fin 1024 → EReal) (j : Fin 1024) : EReal :=
  x j + Ideal.ofBits .f32 0x3F000000#32 * rms (proj x g₁ wi wo) g₂ j

/-- THE GATE. `½ tanh (½ a) + ½` is the logistic function, at every extended real (the two infinities included). -/
theorem logistic_of_tanh (a : EReal) :
    Ideal.ofBits .f32 0x3F000000#32 * Ideal.tanh (Ideal.ofBits .f32 0x3F000000#32 * a) + Ideal.ofBits .f32 0x3F000000#32
      = Ideal.logistic a := by
  rw [half_eq]
  induction a using EReal.rec with
  | bot =>
    rw [EReal.coe_mul_bot_of_pos (by norm_num), Ideal.tanh_bot, Ideal.logistic_bot, show (-1 : EReal) = ((-1 : ℝ) : EReal) by simp,
      ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, ← EReal.coe_mul, ← EReal.coe_add, Ideal.logistic_coe, EReal.coe_eq_coe_iff,
      Real.tanh_eq_sinh_div_cosh, Real.sinh_eq, Real.cosh_eq]
    have h1 : Real.exp (1 / 2 * r) * Real.exp (-(1 / 2 * r)) = 1 := by rw [← Real.exp_add]; simp
    have h2 : Real.exp (-r) = Real.exp (-(1 / 2 * r)) * Real.exp (-(1 / 2 * r)) := by rw [← Real.exp_add]; congr 1; ring
    have hp := Real.exp_pos (1 / 2 * r)
    have hq := Real.exp_pos (-(1 / 2 * r))
    rw [h2]
    generalize Real.exp (1 / 2 * r) = p at *
    generalize Real.exp (-(1 / 2 * r)) = q at *
    field_simp
    linear_combination (2 * q) * h1

/-- The logistic function written out, as the reference's text has it. -/
theorem logistic_written (a : EReal) : Ideal.logistic a = Ideal.div 1 (1 + Ideal.exp (-a)) := rfl

end Cert.Half

end
-- ==== Proof.Ffn2L1.Block.lean ====
/- What the body leaves in the output window: four bands of 256 rows, each the half step of its rows — so the whole block
   is the half step of the block of rows it was handed, row by row. -/
module

public import proofs.«01_k».proof.Proof.Ffn2L1.Run
public import proofs.«01_k».proof.Proof.Half
public import Idealize.ShloMosaic.Lib.Pipeline.ValueKit

@[expose] public section

noncomputable section

namespace Cert.Ffn2L1Ideal.Half

open Cert.Ffn2L1Ideal Cert.Ffn2L1Ideal.Gen Cert.Ffn2L1Ideal.Run Cert.Half Idealize.ShloMosaic Idealize.ShloMosaic.Tactic Idealize.ShloMosaic.TcCoe Idealize.SL.Sem

/-- The half step of every row of a block of rows, at an element. -/
def tile {R : ℕ} (x : (⟨2, ![R, 1024]⟩ : Shape).Idx → EReal) (g : S1x6x1024.Idx → EReal) (wi : S1024x5632.Idx → EReal)
    (wo : S2816x1024.Idx → EReal) (i : (⟨2, ![R, 1024]⟩ : Shape).Idx) : EReal :=
  step (fun k => x (ix2 (i 0) k)) (fun k => g (ix3 0 4 k)) (fun k => g (ix3 0 5 k)) (fun k m => wi (ix2 k m))
    (fun m j => wo (ix2 m j)) (i 1)

section Bands

variable (x : Vec Ideal S256x1024 .f32) (a b : Vec Ideal S1x1x1024 .f32) (wl wh : Vec Ideal S1024x2816 .bf16) (wo : Vec Ideal S2816x1024 .bf16)

/-- The half step of a band, from the loaded operands. -/
def band (i : S256x1024.Idx) : EReal :=
  x i + Ideal.ofBits .f32 0x3F000000#32 * rms (fun j => ∑ m : Fin 2816,
      gated (∑ k, rms (fun k => x (ix2 (i 0) k)) (fun k => a (ix3 0 0 k)) k * wl (ix2 k m))
        (∑ k, rms (fun k => x (ix2 (i 0) k)) (fun k => a (ix3 0 0 k)) k * wh (ix2 k m)) * wo (ix2 m j))
    (fun k => b (ix3 0 0 k)) (i 1)

theorem band0 (i : S256x1024.Idx) :
    k0_pay16 x (k0_pay14 (k0_pay6 x a wl) (k0_pay7 x a wh) wo) (k0_pay15 b) i = band x a b wl wh wo i := by
  unfold band gated rms
  simp only [← logistic_of_tanh]
  pointwise [k0_pay16, k0_pay14, k0_pay6, k0_pay7, k0_pay15, k0_pay5]

theorem band1 (i : S256x1024.Idx) :
    k0_pay21 x (k0_pay20 (k0_pay12 x (k0_pay8 a) (k0_pay9 x) k0_pay10 wl) (k0_pay13 x (k0_pay8 a) (k0_pay9 x) k0_pay10 wh)) wo b i
      = band x a b wl wh wo i := by
  unfold band gated rms
  simp only [← logistic_of_tanh]
  pointwise [k0_pay21, k0_pay20, k0_pay12, k0_pay13, k0_pay8, k0_pay9, k0_pay10, k0_pay11]

theorem band2 (i : S256x1024.Idx) :
    k0_pay25 (k0_pay18 x a wl) (k0_pay19 x a wh) x wo b i = band x a b wl wh wo i := by
  unfold band gated rms
  simp only [← logistic_of_tanh]
  pointwise [k0_pay25, k0_pay18, k0_pay19, k0_pay17]

theorem band3 (i : S256x1024.Idx) :
    k0_pay1 (k0_pay23 (k0_pay22 x a) wl) (k0_pay24 (k0_pay22 x a) wh) x wo b i = band x a b wl wh wo i := by
  unfold band gated rms
  simp only [← logistic_of_tanh]
  pointwise [k0_pay1, k0_pay23, k0_pay24, k0_pay22]

end Bands

/-- A band of the block of rows at its offset is the block's half step there. -/
theorem band_ld (o : ℕ) (x0 : Vec Ideal S1024x1024 .f32) (x2 : Vec Ideal S1x6x1024 .f32) (x3 : Vec Ideal S1024x5632 .bf16)
    (x4 : Vec Ideal S2816x1024 .bf16) (inb : ∀ a, (![o, 0] : Fin 2 → ℕ) a + (![256, 1024] : Fin 2 → ℕ) a ≤ S1024x1024.size a)
    (i : S256x1024.Idx) :
    band (View.ld x0 (Rect.unit (s := S1024x1024) ![o, 0] ![256, 1024] inb))
        (View.ld x2 (Rect.unit (s := S1x6x1024) ![0, 4, 0] ![1, 1, 1024] inb_S1x6x1024_S1x1x1024_0_4_0))
        (View.ld x2 (Rect.unit (s := S1x6x1024) ![0, 5, 0] ![1, 1, 1024] inb_S1x6x1024_S1x1x1024_0_5_0))
        (View.ld x3 (Rect.unit (s := S1024x5632) ![0, 0] ![1024, 2816] inb_S1024x5632_S1024x2816_0_0))
        (View.ld x3 (Rect.unit (s := S1024x5632) ![0, 2816] ![1024, 2816] inb_S1024x5632_S1024x2816_0_2816))
        (View.ld x4 (Rect.unit (s := S2816x1024) ![0, 0] ![2816, 1024] inb_S2816x1024_S2816x1024_0_0)) i
      = tile x0 x2 x3 x4 ((Rect.unit (s := S1024x1024) ![o, 0] ![256, 1024] inb).emb i) := by
  have er : ((Rect.unit (s := S1024x1024) ![o, 0] ![256, 1024] inb).emb i 0 : ℕ) = o + (i 0).val := by
    rw [Rect.emb_apply]; show o + 1 * (i 0).val = _; omega
  have e0 : ∀ k : Fin 1024, View.ld x0 (Rect.unit (s := S1024x1024) ![o, 0] ![256, 1024] inb) (ix2 (i 0) k)
      = x0 (ix2 ((Rect.unit (s := S1024x1024) ![o, 0] ![256, 1024] inb).emb i 0) k) := fun k => by
    refine View.ld_unit_apply_of _ _ _ _ _ _ fun a => ?_
    fin_cases a
    · exact er
    · simp
  have e0' : View.ld x0 (Rect.unit (s := S1024x1024) ![o, 0] ![256, 1024] inb) i
      = x0 (ix2 ((Rect.unit (s := S1024x1024) ![o, 0] ![256, 1024] inb).emb i 0) (i 1)) := by
    refine View.ld_unit_apply_of _ _ _ _ _ _ fun a => ?_
    fin_cases a
    · exact er
    · simp
  have e2 : ∀ k : Fin 1024, View.ld x2 (Rect.unit (s := S1x6x1024) ![0, 4, 0] ![1, 1, 1024] inb_S1x6x1024_S1x1x1024_0_4_0) (ix3 0 0 k)
      = x2 (ix3 0 4 k) := fun k => by
    refine View.ld_unit_apply_of _ _ _ _ _ _ fun a => ?_
    fin_cases a <;> simp
  have e2' : ∀ k : Fin 1024, View.ld x2 (Rect.unit (s := S1x6x1024) ![0, 5, 0] ![1, 1, 1024] inb_S1x6x1024_S1x1x1024_0_5_0) (ix3 0 0 k)
      = x2 (ix3 0 5 k) := fun k => by
    refine View.ld_unit_apply_of _ _ _ _ _ _ fun a => ?_
    fin_cases a <;> simp
  have e3 : ∀ (k : Fin 1024) (m : Fin 2816), View.ld x3 (Rect.unit (s := S1024x5632) ![0, 0] ![1024, 2816] inb_S1024x5632_S1024x2816_0_0) (ix2 k m)
      = x3 (ix2 k (lo m)) := fun k m => by
    refine View.ld_unit_apply_of _ _ _ _ _ _ fun a => ?_
    fin_cases a <;> simp [lo]
  have e3' : ∀ (k : Fin 1024) (m : Fin 2816), View.ld x3 (Rect.unit (s := S1024x5632) ![0, 2816] ![1024, 2816] inb_S1024x5632_S1024x2816_0_2816) (ix2 k m)
      = x3 (ix2 k (hi m)) := fun k m => by
    refine View.ld_unit_apply_of _ _ _ _ _ _ fun a => ?_
    fin_cases a <;> simp [hi]
  have e4 : ∀ (m : Fin 2816) (j : Fin 1024), View.ld x4 (Rect.unit (s := S2816x1024) ![0, 0] ![2816, 1024] inb_S2816x1024_S2816x1024_0_0) (ix2 m j)
      = x4 (ix2 m j) := fun m j => by
    refine View.ld_unit_apply_of _ _ _ _ _ _ fun a => ?_
    fin_cases a <;> simp
  have e1 : (Rect.unit (s := S1024x1024) ![o, 0] ![256, 1024] inb).emb i 1 = i 1 := Fin.ext (by
    rw [Rect.emb_apply]; show 0 + 1 * (i 1).val = (i 1).val; omega)
  unfold band tile step proj
  simp only [e0, e0', e2, e2', e3, e3', e4, e1]

section Body

variable (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole)
    (x0 : Vec Ideal S1024x1024 .f32) (x1 : Vec Ideal S16x1024 .f32) (x2 : Vec Ideal S1x6x1024 .f32) (x3 : Vec Ideal S1024x5632 .bf16) (x4 : Vec Ideal S2816x1024 .bf16)

/-- What the body leaves in the output window at the first point … -/
theorem left_A (hc0 : cond0_0 i) :
    out0_A_5 (F := Ideal) c i arg1 harg1 arg2 harg2 arg3 harg3 arg4 harg4 arg5 harg5 arg6 harg6 arg7 harg7 hc0 x0 x1 x2 x3 x4 = tile x0 x2 x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  funext y
  refine View.canon_apply_of_pieces (tile x0 x2 x3 x4) _ ?_ y (cover0_A_5 c i arg1 harg1 arg2 harg2 arg3 harg3 arg4 harg4 arg5 harg5 arg6 harg6 arg7 harg7 hc0 x0 x1 x2 x3 x4 y)
  unfold kernelRun0_A
  dsimp only
  sl_unfold_words
  simp only [View.readAt_eq_ld, harg1.read_unread, harg3.read_unread, harg4.read_unread, harg5.read_unread]
  intro p hp
  simp only [List.mem_cons, List.not_mem_nil, or_false] at hp
  rcases hp with rfl | rfl | rfl | rfl <;> intro z
  · exact (band3 ..).trans (band_ld 768 ..)
  · exact (band2 ..).trans (band_ld 512 ..)
  · exact (band1 ..).trans (band_ld 256 ..)
  · exact (band0 ..).trans (band_ld 0 ..)

/-- … and at every other point. -/
theorem left_B (hc0 : ¬cond0_0 i) :
    out0_B_5 (F := Ideal) c i arg1 harg1 arg2 harg2 arg3 harg3 arg4 harg4 arg5 harg5 arg6 harg6 arg7 harg7 hc0 x0 x1 x2 x3 x4 = tile x0 x2 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4)]
  funext y
  refine View.canon_apply_of_pieces (tile x0 x2 x3 x4) _ ?_ y (cover0_B_5 c i arg1 harg1 arg2 harg2 arg3 harg3 arg4 harg4 arg5 harg5 arg6 harg6 arg7 harg7 hc0 x0 x1 x2 x3 x4 y)
  unfold kernelRun0_B
  dsimp only
  sl_unfold_words
  simp only [View.readAt_eq_ld, harg1.read_unread, harg3.read_unread, harg4.read_unread, harg5.read_unread]
  intro p hp
  simp only [List.mem_cons, List.not_mem_nil, or_false] at hp
  rcases hp with rfl | rfl | rfl | rfl <;> intro z
  · exact (band3 ..).trans (band_ld 768 ..)
  · exact (band2 ..).trans (band_ld 512 ..)
  · exact (band1 ..).trans (band_ld 256 ..)
  · exact (band0 ..).trans (band_ld 0 ..)

end Body

end Cert.Ffn2L1Ideal.Half

end
-- ==== Proof.Ffn2L1.Array.lean ====
/- The whole output array after the run: the half step of every token of the launched `h`, under the second layer's
   gains and weights. -/
module

public import proofs.«01_k».proof.Proof.Ffn2L1.Block
public import Idealize.ShloMosaic.Lib.Pipeline.Value
public import Idealize.ShloMosaic.Lib.Pipeline.ValueKit

@[expose] public section

noncomputable section

namespace Cert.Ffn2L1Ideal.Half

open Cert.Ffn2L1Ideal Cert.Ffn2L1Ideal.Gen Cert.Ffn2L1Ideal.Run Cert.Half Idealize.ShloMosaic Idealize.ShloMosaic.Tactic Idealize.ShloMosaic.TcCoe Idealize.SL.Sem

variable (m : (ℓ : Loc nD τ sig) → Buf (Elt Ideal) ℓ) (c : Dev nD)

/-- The half step of every token, from the arguments. -/
def whole (x0 : S16384x1024.Idx → EReal) (x2 : S2x6x1024.Idx → EReal) (x3 : S2x2x1024x5632.Idx → EReal)
    (x4 : S2x2x2816x1024.Idx → EReal) (i : S16384x1024.Idx) : EReal :=
  step (fun k => x0 (ix2 (i 0) k)) (fun k => x2 (ix3 1 4 k)) (fun k => x2 (ix3 1 5 k)) (fun k m => x3 (ix4 1 1 k m))
    (fun m j => x4 (ix4 1 1 m j)) (i 1)

/-- The weights the host hands the call: the layer's slices, their format changed (nothing, over the extended reals). -/
theorem V_wi (k : Fin 1024) (n : Fin 5632) :
    V m c main_v2 (ix2 k n) = m ((c : Thread nD τ).loc main_arg3) (ix4 1 1 k n) := by
  have e : V m c main_v2 = truncf (F := Ideal) .bf16 (shapeCast S1024x5632 (extractStridedSlice S1x1x1024x5632 ![1, 1, 0, 0]
      (m ((c : Thread nD τ).loc main_arg3)) slices_S2x2x1024x5632_S1x1x1024x5632_1_1_0_0) shapeCasts_S1x1x1024x5632_S1024x5632)
      bitsLt_bf16_f32 := by
    rfl
  rw [e]
  pointwise []

theorem V_wo (k : Fin 2816) (n : Fin 1024) :
    V m c main_v5 (ix2 k n) = m ((c : Thread nD τ).loc main_arg4) (ix4 1 1 k n) := by
  have e : V m c main_v5 = truncf (F := Ideal) .bf16 (shapeCast S2816x1024 (extractStridedSlice S1x1x2816x1024 ![1, 1, 0, 0]
      (m ((c : Thread nD τ).loc main_arg4)) slices_S2x2x2816x1024_S1x1x2816x1024_1_1_0_0) shapeCasts_S1x1x2816x1024_S2816x1024)
      bitsLt_bf16_f32 := by
    rfl
  rw [e]
  pointwise []

/-! The windows' block indices, decided over the grid. -/

theorem at0 : ∀ t : Fin cfg0.N, win0_0.index t = ![t.val, 0] := (by decide +kernel : ∀ t : Fin grid0.N, _)
theorem at2 : ∀ t : Fin cfg0.N, win0_2.index t = ![1, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)

/-- The block point `t` writes is the half step of its block of rows, whichever case runs. -/
theorem left (t : Fin cfg0.N) :
    outsAt0 m c t.val t.isLt = tile (iblk m c 0 t) (iblk m c 2 t) (iblk m c 3 t) (iblk m c 4 t) := by
  by_cases h0 : t.val % 16 = 0
  · rw [outsAt0_A m c t h0]; exact left_A ..
  · rw [outsAt0_B m c t h0]; exact left_B ..

/-- A read of each input block is a read of its argument. -/
theorem blk_h (t : Fin cfg0.N) (y : S1024x1024.Idx) (k : Fin 1024) :
    iblk m c 0 t (ix2 (y 0) k) = m ((c : Thread nD τ).loc main_arg0) (ix2 ((win0_5.blk t).view.emb y 0) k) := by
  rw [← V_main_arg0 m c]
  blk_ext [iblk, at0, at5]

theorem blk_g (t : Fin cfg0.N) (r : Fin 6) (k : Fin 1024) :
    iblk m c 2 t (ix3 0 r k) = m ((c : Thread nD τ).loc main_arg2) (ix3 1 r k) := by
  rw [← V_main_arg2 m c]
  blk_ext [iblk, at2]

theorem blk_wi (t : Fin cfg0.N) (k : Fin 1024) (n : Fin 5632) :
    iblk m c 3 t (ix2 k n) = m ((c : Thread nD τ).loc main_arg3) (ix4 1 1 k n) := by
  rw [← V_wi m c]
  blk_ext [iblk, at3]

theorem blk_wo (t : Fin cfg0.N) (k : Fin 2816) (n : Fin 1024) :
    iblk m c 4 t (ix2 k n) = m ((c : Thread nD τ).loc main_arg4) (ix4 1 1 k n) := by
  rw [← V_wo m c]
  blk_ext [iblk, at4]

/-- THE ARRAY after the run: the sixteen blocks cover it, and each is its rows' half step. -/
theorem final : (dats m 0 c).arrAt 5 cfg0.N = whole (m ((c : Thread nD τ).loc main_arg0)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  blk_simp
  rw [after0_5, left]
  have e1 : (win0_5.blk t).view.emb y 1 = y 1 := by
    apply Fin.ext; blk_simp [at5]
  unfold tile whole
  simp only [blk_h, blk_g, blk_wi, blk_wo, e1]

end Cert.Ffn2L1Ideal.Half

end
-- ==== Proof.Ffn2L1.Ref.lean ====
/- The reference, at an element: the half step of the token's row. -/
module

public import proofs.«01_k».proof.Proof.Gen.Ffn2L1RefIdeal.Read
public import proofs.«01_k».proof.Proof.Half

@[expose] public section

noncomputable section

namespace Cert.Ffn2L1RefIdeal.Half

open Cert.Ffn2L1RefIdeal Cert.Ffn2L1RefIdeal.Gen Cert.Ffn2L1RefIdeal.Read Cert.Half Idealize.ShloMosaic Idealize.ShloMosaic.TcCoe Idealize.SL.Sem

variable (x0 : (⟨S16384x1024, .f32⟩ : BufTy).Contents (Elt Ideal)) (x1 : (⟨S16x1024, .f32⟩ : BufTy).Contents (Elt Ideal))
  (x2 : (⟨S2x6x1024, .f32⟩ : BufTy).Contents (Elt Ideal)) (x3 : (⟨S2x2x1024x5632, .f32⟩ : BufTy).Contents (Elt Ideal))
  (x4 : (⟨S2x2x2816x1024, .f32⟩ : BufTy).Contents (Elt Ideal))

/-- A token's row of the joined meta rows and tokens is its row of the tokens. -/
theorem joined (r : Fin 16384) (k : Fin 1024) :
    val_main_v2 (F := Ideal) x0 x1 (ix3 0 (⟨16 + r.val, by omega⟩ : Fin 16400) k) = x0 (ix2 r k) := by
  pointwise [val_main_v2, val_main_v1, val_main_v0]

set_option maxHeartbeats 2000000 in
/-- Every row of the joined array, stepped. -/
theorem stepped (r : Fin 16400) (j : Fin 1024) :
    val_main_v47 (F := Ideal) x0 x1 x2 x3 x4 (ix3 0 r j)
      = step (fun k => val_main_v2 (F := Ideal) x0 x1 (ix3 0 r k)) (fun k => x2 (ix3 1 4 k)) (fun k => x2 (ix3 1 5 k)) (fun k m => x3 (ix4 1 1 k m))
          (fun m j => x4 (ix4 1 1 m j)) j := by
  unfold step proj gated rms
  simp only [logistic_written]
  pointwise [val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_v25, val_main_v26, val_main_call0_v0, val_main_call0_v1, val_main_call0_cst, val_main_call0_v2, val_main_call0_v3, val_main_call0_cst_0, val_main_call0_v4, val_main_call0_v5, val_main_v27, val_main_v28, val_main_v29, val_main_v30, val_main_v31, val_main_v32, val_main_cst_2, val_main_v33, val_main_v34, val_main_cst_3, val_main_v35, val_main_v36, val_main_cst_4, val_main_v37, val_main_v38, val_main_v39, val_main_v40, val_main_v41, val_main_v42, val_main_v43, val_main_v44, val_main_cst_5, val_main_v45, val_main_v46, val_main_v47]
  rfl

theorem result_apply (r : Fin 16384) (j : Fin 1024) :
    val_main_v49 (F := Ideal) x0 x1 x2 x3 x4 (ix2 r j)
      = step (fun k => x0 (ix2 r k)) (fun k => x2 (ix3 1 4 k)) (fun k => x2 (ix3 1 5 k)) (fun k m => x3 (ix4 1 1 k m))
          (fun m j => x4 (ix4 1 1 m j)) j := by
  have e : val_main_v49 (F := Ideal) x0 x1 x2 x3 x4 (ix2 r j) = val_main_v47 (F := Ideal) x0 x1 x2 x3 x4 (ix3 0 ⟨16 + r.val, by omega⟩ j) := by
    pointwise [val_main_v49, val_main_v48]
  rw [e, stepped]
  simp only [joined]

end Cert.Ffn2L1RefIdeal.Half

end
-- ==== Proof.Ffn2L1.Value.lean ====
/- The value claim: the call's result is the reference's, element by element. -/
module

public import proofs.«01_k».proof.Defs
public import proofs.«01_k».proof.Proof.Ffn2L1.Array
public import proofs.«01_k».proof.Proof.Ffn2L1.Ref
public import proofs.«01_k».proof.Proof.Gen.Ffn2L1RefIdeal.Run

@[expose] public section

noncomputable section

namespace Cert.Ffn2L1Ideal.Half

open Cert.Half Idealize.ShloMosaic Idealize.ShloMosaic.TcCoe Idealize.SL.Sem

/-- The reference's result, as an array: the half step of every token. -/
theorem reference_eq (x0 x1 x2 x3 x4) :
    Cert.Ffn2L1RefIdeal.Read.val_main_v49 (F := Ideal) x0 x1 x2 x3 x4 = whole x0 x2 x3 x4 := by
  funext i
  obtain ⟨r, j, rfl⟩ : ∃ r j, i = ix2 r j := ⟨i 0, i 1, by funext a; fin_cases a <;> rfl⟩
  exact Cert.Ffn2L1RefIdeal.Half.result_apply x0 x1 x2 x3 x4 r j

theorem algebraic : Cert.algebraic_Ffn2L1Ideal_Ffn2L1RefIdeal := by
  intro m ρ m' ρ' _ hag
  refine ⟨fun c => whole (m ((c.tc : Thread _ _).loc Cert.Ffn2L1Ideal.main_arg0)) (m ((c.tc : Thread _ _).loc Cert.Ffn2L1Ideal.main_arg2))
    (m ((c.tc : Thread _ _).loc Cert.Ffn2L1Ideal.main_arg3)) (m ((c.tc : Thread _ _).loc Cert.Ffn2L1Ideal.main_arg4)), ?_, ?_⟩
  · refine (θ_run _ _ _).mono (fun r h c => ?_) (Cert.Ffn2L1Ideal.Run.run_blocks (F := Ideal) m ρ)
    obtain ⟨h5, hk⟩ := h c
    exact ⟨h5.trans (final m c), hk⟩
  · refine (θ_run _ _ _).mono (fun r h c => ?_) (Cert.Ffn2L1RefIdeal.Value.run (F := Ideal) m' ρ')
    obtain ⟨h5, hk⟩ := h c
    obtain ⟨e0, e1, e2, e3, e4⟩ := hag c
    refine ⟨h5.trans ?_, hk⟩
    rw [Cert.Ffn2L1RefIdeal.Read.val_main_v49_eq, reference_eq, e0, e2, e3, e4]

end Cert.Ffn2L1Ideal.Half

end
-- ==== Proof.Ffn1L0.Run.lean ====
/- The run of one feed-forward call: the body's two cases, what the output window holds point by point, the launch, and the
   output array after it. -/
module

public import proofs.«01_k».proof.Proof.Gen.Ffn1L0Ideal.Frame
public import proofs.«01_k».proof.Proof.Gen.Ffn1L0Ideal.Skeleton
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Ffn1L0Ideal.Run

open Cert.Ffn1L0Ideal Cert.Ffn1L0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame's post from any run whose proof data start at the region's entry contents. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

abbrev cond0_0 (i : grid0.Coords) : Prop := k0_cond1 i = 1#1
/-- The body's one branch is taken at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

abbrev VO0_5 : View sig .tc .vmem S1024x1024 .f32 := (Memref.whole cc0_stg5_0 : Memref sig .tc .vmem S1024x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x5632 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2816x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1024 .f32 := win0_6.stage (cfg0.slots t 6)
abbrev hs0_6 (t : Fin cfg0.N) : (ms0_6 t).IsWhole := hstage0_6 ((cfg0.slots t 6).cast nbuf0_6)

set_option maxHeartbeats 1000000 in
/-- The body at the first point: what it stores in the output window, as pieces, and its triple. The second output's buffer is handed
    over and handed back at contents nothing names. -/
noncomputable def kernelRun0_A (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : cond0_0 i)
    (x0 : Vec F S1024x1024 .f32) (x1 : Vec F S16x1024 .f32) (x2 : Vec F S1x6x1024 .f32) (x3 : Vec F S1024x5632 .bf16) (x4 : Vec F S2816x1024 .bf16) :
    { L5 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc0_ffn_half_step i arg1 harg1 arg2 harg2 arg3 harg3 arg4 harg4 arg5 harg5 arg6 harg6 arg7 harg7) K } := by
  refine ⟨?_, fun E K => ?run⟩
  case run =>
    simp only [cc0_ffn_half_step_eq_skeleton]; unfold cc0_ffn_half_step_skel
    simp only [k0_part2_eq_skeleton, k0_part1_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact H6
    ipureintro; rfl

set_option maxHeartbeats 1000000 in
/-- The body at every other point. -/
noncomputable def kernelRun0_B (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : ¬cond0_0 i)
    (x0 : Vec F S1024x1024 .f32) (x1 : Vec F S16x1024 .f32) (x2 : Vec F S1x6x1024 .f32) (x3 : Vec F S1024x5632 .bf16) (x4 : Vec F S2816x1024 .bf16) :
    { L5 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc0_ffn_half_step i arg1 harg1 arg2 harg2 arg3 harg3 arg4 harg4 arg5 harg5 arg6 harg6 arg7 harg7) K } := by
  refine ⟨?_, fun E K => ?run⟩
  case run =>
    simp only [cc0_ffn_half_step_eq_skeleton]; unfold cc0_ffn_half_step_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact H6
    ipureintro; rfl

/-- The four stored bands cover the output block (first point) … -/
theorem cover0_A_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : cond0_0 i)
    (x0 : Vec F S1024x1024 .f32) (x1 : Vec F S16x1024 .f32) (x2 : Vec F S1x6x1024 .f32) (x3 : Vec F S1024x5632 .bf16) (x4 : Vec F S2816x1024 .bf16) (y : S1024x1024.Idx) :
    ∃ pc ∈ (kernelRun0_A c i arg1 harg1 arg2 harg2 arg3 harg3 arg4 harg4 arg5 harg5 arg6 harg6 arg7 harg7 hc0 x0 x1 x2 x3 x4).1, y ∈ pc.1.set :=
  View.cover_of_tiledL (kernelRun0_A c i arg1 harg1 arg2 harg2 arg3 harg3 arg4 harg4 arg5 harg5 arg6 harg6 arg7 harg7 hc0 x0 x1 x2 x3 x4).1 S256x1024.size (by sl_kernel_rfl) y

/-- … so what the body leaves there does not depend on what was there before. -/
def out0_A_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : cond0_0 i)
    (x0 : Vec F S1024x1024 .f32) (x1 : Vec F S16x1024 .f32) (x2 : Vec F S1x6x1024 .f32) (x3 : Vec F S1024x5632 .bf16) (x4 : Vec F S2816x1024 .bf16) : Vec F S1024x1024 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3 x4).1)

/-- The same at the other points. -/
theorem cover0_B_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : ¬cond0_0 i)
    (x0 : Vec F S1024x1024 .f32) (x1 : Vec F S16x1024 .f32) (x2 : Vec F S1x6x1024 .f32) (x3 : Vec F S1024x5632 .bf16) (x4 : Vec F S2816x1024 .bf16) (y : S1024x1024.Idx) :
    ∃ pc ∈ (kernelRun0_B c i arg1 harg1 arg2 harg2 arg3 harg3 arg4 harg4 arg5 harg5 arg6 harg6 arg7 harg7 hc0 x0 x1 x2 x3 x4).1, y ∈ pc.1.set :=
  View.cover_of_tiledL (kernelRun0_B c i arg1 harg1 arg2 harg2 arg3 harg3 arg4 harg4 arg5 harg5 arg6 harg6 arg7 harg7 hc0 x0 x1 x2 x3 x4).1 S256x1024.size (by sl_kernel_rfl) y

def out0_B_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : ¬cond0_0 i)
    (x0 : Vec F S1024x1024 .f32) (x1 : Vec F S16x1024 .f32) (x2 : Vec F S1x6x1024 .f32) (x3 : Vec F S1024x5632 .bf16) (x4 : Vec F S2816x1024 .bf16) : Vec F S1024x1024 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 x4).1)

/-- What the output window holds after each point. -/
def outsAt0 (c : Dev nD) : (n : ℕ) → n < cfg0.N → Vec F S1024x1024 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 16 = 0 then
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)

theorem outsAt0_A (c : Dev nD) (t : Fin cfg0.N) (h0 : t.val % 16 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) := by
  obtain ⟨n, hn⟩ := t
  cases n with
  | zero => exact (by exfalso; (try dsimp only at h0); exact absurd (Nat.zero_mod _) h0)
  | succ n => exact (dif_neg h0).trans rfl

/-- Nothing is said of the second output, the sixteen meta rows: it is written at the first point only. -/
def forgets0 : Fin 7 → Bool := fun w => w.val == 6
theorem forgets0_5 : forgets0 (5 : Fin 7) = false := by decide

/-- The pipeline's proof data: inputs keep their blocks, the first output holds `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d))

set_option maxHeartbeats 800000 in
/-- The body at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt (show cfg0.N = 16 from N_0)
  by_cases h0 : t.val % 16 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [outsAt0_A m c t h0]
    unfold out0_A_5
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _)
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [outsAt0_B m c t h0]
    unfold out0_B_5
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _)
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl
set_option backward.isDefEq.respectTransparency.types false in
/-- The launch: the run terminates with the named arrays at their contents and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

theorem flushed5 (c : Dev nD) (t : Fin cfg0.N) :
    (dats m 0 c).flushed 5 t = (cfg0.win 5).cut (grid0.coords t) (outsAt0 m c t.val t.isLt) := by
  show (cfg0.win 5).cut (grid0.coords t) ((dats m 0 c).after 5 t) = _
  rw [after0_5]

theorem flushed5_A (c : Dev nD) (t : Fin cfg0.N) (h0 : t.val % 16 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t)) := by
  simp only [flushed5, outsAt0_A m c t h0]

theorem flushed5_B (c : Dev nD) (t : Fin cfg0.N) (h0 : ¬t.val % 16 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t)) := by
  simp only [flushed5, outsAt0_B m c t h0]

theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

theorem entry5 (c : Dev nD) (i : S16384x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

theorem finalR_out0 (r : PUnit × MemSt nD τ sig (Elt F)) (h : Pipeline.RDat.FramePost (cfgs 0) (fun c => (dats m 0 c).toRForget forgets0) (V m) r) (c : Dev nD) (w : Fin 7) (hw : forgets0 w = false) :
    r.2.mem ((cfg0.spec w).arr.view.loc (c : Thread nD τ)) = (dats m 0 c).arrAt w cfg0.N :=
  ((dats m 0 c).toRForget_arrAt_iff hw _ _).mp ((h c).1 w)

theorem post5 (r : PUnit × MemSt nD τ sig (Elt F)) (h : Pipeline.RDat.FramePost (cfgs 0) (fun c => (dats m 0 c).toRForget forgets0) (V m) r) (c : Dev nD) :
    r.2.mem ((c : Thread nD τ).loc main_v6_0) = (dats m 0 c).arrAt 5 cfg0.N :=
  finalR_out0 m r h c 5 forgets0_5

theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 2 rfl).trans ((A_eq m c 2).trans (V_main_arg2 m c))

theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run, its first output array named and the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.Ffn1L0Ideal.Run

end
-- ==== Proof.Ffn1L0.Block.lean ====
/- What the body leaves in the output window: four bands of 256 rows, each the half step of its rows — so the whole block
   is the half step of the block of rows it was handed, row by row. -/
module

public import proofs.«01_k».proof.Proof.Ffn1L0.Run
public import proofs.«01_k».proof.Proof.Half
public import Idealize.ShloMosaic.Lib.Pipeline.ValueKit

@[expose] public section

noncomputable section

namespace Cert.Ffn1L0Ideal.Half

open Cert.Ffn1L0Ideal Cert.Ffn1L0Ideal.Gen Cert.Ffn1L0Ideal.Run Cert.Half Idealize.ShloMosaic Idealize.ShloMosaic.Tactic Idealize.ShloMosaic.TcCoe Idealize.SL.Sem

/-- The half step of every row of a block of rows, at an element. -/
def tile {R : ℕ} (x : (⟨2, ![R, 1024]⟩ : Shape).Idx → EReal) (g : S1x6x1024.Idx → EReal) (wi : S1024x5632.Idx → EReal)
    (wo : S2816x1024.Idx → EReal) (i : (⟨2, ![R, 1024]⟩ : Shape).Idx) : EReal :=
  step (fun k => x (ix2 (i 0) k)) (fun k => g (ix3 0 0 k)) (fun k => g (ix3 0 1 k)) (fun k m => wi (ix2 k m))
    (fun m j => wo (ix2 m j)) (i 1)

section Bands

variable (x : Vec Ideal S256x1024 .f32) (a b : Vec Ideal S1x1x1024 .f32) (wl wh : Vec Ideal S1024x2816 .bf16) (wo : Vec Ideal S2816x1024 .bf16)

/-- The half step of a band, from the loaded operands. -/
def band (i : S256x1024.Idx) : EReal :=
  x i + Ideal.ofBits .f32 0x3F000000#32 * rms (fun j => ∑ m : Fin 2816,
      gated (∑ k, rms (fun k => x (ix2 (i 0) k)) (fun k => a (ix3 0 0 k)) k * wl (ix2 k m))
        (∑ k, rms (fun k => x (ix2 (i 0) k)) (fun k => a (ix3 0 0 k)) k * wh (ix2 k m)) * wo (ix2 m j))
    (fun k => b (ix3 0 0 k)) (i 1)

theorem band0 (i : S256x1024.Idx) :
    k0_pay16 x (k0_pay14 (k0_pay6 x a wl) (k0_pay7 x a wh) wo) (k0_pay15 b) i = band x a b wl wh wo i := by
  unfold band gated rms
  simp only [← logistic_of_tanh]
  pointwise [k0_pay16, k0_pay14, k0_pay6, k0_pay7, k0_pay15, k0_pay5]

theorem band1 (i : S256x1024.Idx) :
    k0_pay21 x (k0_pay20 (k0_pay12 x (k0_pay8 a) (k0_pay9 x) k0_pay10 wl) (k0_pay13 x (k0_pay8 a) (k0_pay9 x) k0_pay10 wh)) wo b i
      = band x a b wl wh wo i := by
  unfold band gated rms
  simp only [← logistic_of_tanh]
  pointwise [k0_pay21, k0_pay20, k0_pay12, k0_pay13, k0_pay8, k0_pay9, k0_pay10, k0_pay11]

theorem band2 (i : S256x1024.Idx) :
    k0_pay25 (k0_pay18 x a wl) (k0_pay19 x a wh) x wo b i = band x a b wl wh wo i := by
  unfold band gated rms
  simp only [← logistic_of_tanh]
  pointwise [k0_pay25, k0_pay18, k0_pay19, k0_pay17]

theorem band3 (i : S256x1024.Idx) :
    k0_pay1 (k0_pay23 (k0_pay22 x a) wl) (k0_pay24 (k0_pay22 x a) wh) x wo b i = band x a b wl wh wo i := by
  unfold band gated rms
  simp only [← logistic_of_tanh]
  pointwise [k0_pay1, k0_pay23, k0_pay24, k0_pay22]

end Bands

/-- A band of the block of rows at its offset is the block's half step there. -/
theorem band_ld (o : ℕ) (x0 : Vec Ideal S1024x1024 .f32) (x2 : Vec Ideal S1x6x1024 .f32) (x3 : Vec Ideal S1024x5632 .bf16)
    (x4 : Vec Ideal S2816x1024 .bf16) (inb : ∀ a, (![o, 0] : Fin 2 → ℕ) a + (![256, 1024] : Fin 2 → ℕ) a ≤ S1024x1024.size a)
    (i : S256x1024.Idx) :
    band (View.ld x0 (Rect.unit (s := S1024x1024) ![o, 0] ![256, 1024] inb))
        (View.ld x2 (Rect.unit (s := S1x6x1024) ![0, 0, 0] ![1, 1, 1024] inb_S1x6x1024_S1x1x1024_0_0_0))
        (View.ld x2 (Rect.unit (s := S1x6x1024) ![0, 1, 0] ![1, 1, 1024] inb_S1x6x1024_S1x1x1024_0_1_0))
        (View.ld x3 (Rect.unit (s := S1024x5632) ![0, 0] ![1024, 2816] inb_S1024x5632_S1024x2816_0_0))
        (View.ld x3 (Rect.unit (s := S1024x5632) ![0, 2816] ![1024, 2816] inb_S1024x5632_S1024x2816_0_2816))
        (View.ld x4 (Rect.unit (s := S2816x1024) ![0, 0] ![2816, 1024] inb_S2816x1024_S2816x1024_0_0)) i
      = tile x0 x2 x3 x4 ((Rect.unit (s := S1024x1024) ![o, 0] ![256, 1024] inb).emb i) := by
  have er : ((Rect.unit (s := S1024x1024) ![o, 0] ![256, 1024] inb).emb i 0 : ℕ) = o + (i 0).val := by
    rw [Rect.emb_apply]; show o + 1 * (i 0).val = _; omega
  have e0 : ∀ k : Fin 1024, View.ld x0 (Rect.unit (s := S1024x1024) ![o, 0] ![256, 1024] inb) (ix2 (i 0) k)
      = x0 (ix2 ((Rect.unit (s := S1024x1024) ![o, 0] ![256, 1024] inb).emb i 0) k) := fun k => by
    refine View.ld_unit_apply_of _ _ _ _ _ _ fun a => ?_
    fin_cases a
    · exact er
    · simp
  have e0' : View.ld x0 (Rect.unit (s := S1024x1024) ![o, 0] ![256, 1024] inb) i
      = x0 (ix2 ((Rect.unit (s := S1024x1024) ![o, 0] ![256, 1024] inb).emb i 0) (i 1)) := by
    refine View.ld_unit_apply_of _ _ _ _ _ _ fun a => ?_
    fin_cases a
    · exact er
    · simp
  have e2 : ∀ k : Fin 1024, View.ld x2 (Rect.unit (s := S1x6x1024) ![0, 0, 0] ![1, 1, 1024] inb_S1x6x1024_S1x1x1024_0_0_0) (ix3 0 0 k)
      = x2 (ix3 0 0 k) := fun k => by
    refine View.ld_unit_apply_of _ _ _ _ _ _ fun a => ?_
    fin_cases a <;> simp
  have e2' : ∀ k : Fin 1024, View.ld x2 (Rect.unit (s := S1x6x1024) ![0, 1, 0] ![1, 1, 1024] inb_S1x6x1024_S1x1x1024_0_1_0) (ix3 0 0 k)
      = x2 (ix3 0 1 k) := fun k => by
    refine View.ld_unit_apply_of _ _ _ _ _ _ fun a => ?_
    fin_cases a <;> simp
  have e3 : ∀ (k : Fin 1024) (m : Fin 2816), View.ld x3 (Rect.unit (s := S1024x5632) ![0, 0] ![1024, 2816] inb_S1024x5632_S1024x2816_0_0) (ix2 k m)
      = x3 (ix2 k (lo m)) := fun k m => by
    refine View.ld_unit_apply_of _ _ _ _ _ _ fun a => ?_
    fin_cases a <;> simp [lo]
  have e3' : ∀ (k : Fin 1024) (m : Fin 2816), View.ld x3 (Rect.unit (s := S1024x5632) ![0, 2816] ![1024, 2816] inb_S1024x5632_S1024x2816_0_2816) (ix2 k m)
      = x3 (ix2 k (hi m)) := fun k m => by
    refine View.ld_unit_apply_of _ _ _ _ _ _ fun a => ?_
    fin_cases a <;> simp [hi]
  have e4 : ∀ (m : Fin 2816) (j : Fin 1024), View.ld x4 (Rect.unit (s := S2816x1024) ![0, 0] ![2816, 1024] inb_S2816x1024_S2816x1024_0_0) (ix2 m j)
      = x4 (ix2 m j) := fun m j => by
    refine View.ld_unit_apply_of _ _ _ _ _ _ fun a => ?_
    fin_cases a <;> simp
  have e1 : (Rect.unit (s := S1024x1024) ![o, 0] ![256, 1024] inb).emb i 1 = i 1 := Fin.ext (by
    rw [Rect.emb_apply]; show 0 + 1 * (i 1).val = (i 1).val; omega)
  unfold band tile step proj
  simp only [e0, e0', e2, e2', e3, e3', e4, e1]

section Body

variable (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole)
    (x0 : Vec Ideal S1024x1024 .f32) (x1 : Vec Ideal S16x1024 .f32) (x2 : Vec Ideal S1x6x1024 .f32) (x3 : Vec Ideal S1024x5632 .bf16) (x4 : Vec Ideal S2816x1024 .bf16)

/-- What the body leaves in the output window at the first point … -/
theorem left_A (hc0 : cond0_0 i) :
    out0_A_5 (F := Ideal) c i arg1 harg1 arg2 harg2 arg3 harg3 arg4 harg4 arg5 harg5 arg6 harg6 arg7 harg7 hc0 x0 x1 x2 x3 x4 = tile x0 x2 x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  funext y
  refine View.canon_apply_of_pieces (tile x0 x2 x3 x4) _ ?_ y (cover0_A_5 c i arg1 harg1 arg2 harg2 arg3 harg3 arg4 harg4 arg5 harg5 arg6 harg6 arg7 harg7 hc0 x0 x1 x2 x3 x4 y)
  unfold kernelRun0_A
  dsimp only
  sl_unfold_words
  simp only [View.readAt_eq_ld, harg1.read_unread, harg3.read_unread, harg4.read_unread, harg5.read_unread]
  intro p hp
  simp only [List.mem_cons, List.not_mem_nil, or_false] at hp
  rcases hp with rfl | rfl | rfl | rfl <;> intro z
  · exact (band3 ..).trans (band_ld 768 ..)
  · exact (band2 ..).trans (band_ld 512 ..)
  · exact (band1 ..).trans (band_ld 256 ..)
  · exact (band0 ..).trans (band_ld 0 ..)

/-- … and at every other point. -/
theorem left_B (hc0 : ¬cond0_0 i) :
    out0_B_5 (F := Ideal) c i arg1 harg1 arg2 harg2 arg3 harg3 arg4 harg4 arg5 harg5 arg6 harg6 arg7 harg7 hc0 x0 x1 x2 x3 x4 = tile x0 x2 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4)]
  funext y
  refine View.canon_apply_of_pieces (tile x0 x2 x3 x4) _ ?_ y (cover0_B_5 c i arg1 harg1 arg2 harg2 arg3 harg3 arg4 harg4 arg5 harg5 arg6 harg6 arg7 harg7 hc0 x0 x1 x2 x3 x4 y)
  unfold kernelRun0_B
  dsimp only
  sl_unfold_words
  simp only [View.readAt_eq_ld, harg1.read_unread, harg3.read_unread, harg4.read_unread, harg5.read_unread]
  intro p hp
  simp only [List.mem_cons, List.not_mem_nil, or_false] at hp
  rcases hp with rfl | rfl | rfl | rfl <;> intro z
  · exact (band3 ..).trans (band_ld 768 ..)
  · exact (band2 ..).trans (band_ld 512 ..)
  · exact (band1 ..).trans (band_ld 256 ..)
  · exact (band0 ..).trans (band_ld 0 ..)

end Body

end Cert.Ffn1L0Ideal.Half

end
-- ==== Proof.Ffn1L0.Array.lean ====
/- The whole output array after the run: the half step of every token of the launched `h`, under the first layer's
   gains and weights. -/
module

public import proofs.«01_k».proof.Proof.Ffn1L0.Block
public import Idealize.ShloMosaic.Lib.Pipeline.Value
public import Idealize.ShloMosaic.Lib.Pipeline.ValueKit

@[expose] public section

noncomputable section

namespace Cert.Ffn1L0Ideal.Half

open Cert.Ffn1L0Ideal Cert.Ffn1L0Ideal.Gen Cert.Ffn1L0Ideal.Run Cert.Half Idealize.ShloMosaic Idealize.ShloMosaic.Tactic Idealize.ShloMosaic.TcCoe Idealize.SL.Sem

variable (m : (ℓ : Loc nD τ sig) → Buf (Elt Ideal) ℓ) (c : Dev nD)

/-- The half step of every token, from the arguments. -/
def whole (x0 : S16384x1024.Idx → EReal) (x2 : S2x6x1024.Idx → EReal) (x3 : S2x2x1024x5632.Idx → EReal)
    (x4 : S2x2x2816x1024.Idx → EReal) (i : S16384x1024.Idx) : EReal :=
  step (fun k => x0 (ix2 (i 0) k)) (fun k => x2 (ix3 0 0 k)) (fun k => x2 (ix3 0 1 k)) (fun k m => x3 (ix4 0 0 k m))
    (fun m j => x4 (ix4 0 0 m j)) (i 1)

/-- The weights the host hands the call: the layer's slices, their format changed (nothing, over the extended reals). -/
theorem V_wi (k : Fin 1024) (n : Fin 5632) :
    V m c main_v2 (ix2 k n) = m ((c : Thread nD τ).loc main_arg3) (ix4 0 0 k n) := by
  have e : V m c main_v2 = truncf (F := Ideal) .bf16 (shapeCast S1024x5632 (extractStridedSlice S1x1x1024x5632 ![0, 0, 0, 0]
      (m ((c : Thread nD τ).loc main_arg3)) slices_S2x2x1024x5632_S1x1x1024x5632_0_0_0_0) shapeCasts_S1x1x1024x5632_S1024x5632)
      bitsLt_bf16_f32 := by
    rfl
  rw [e]
  pointwise []

theorem V_wo (k : Fin 2816) (n : Fin 1024) :
    V m c main_v5 (ix2 k n) = m ((c : Thread nD τ).loc main_arg4) (ix4 0 0 k n) := by
  have e : V m c main_v5 = truncf (F := Ideal) .bf16 (shapeCast S2816x1024 (extractStridedSlice S1x1x2816x1024 ![0, 0, 0, 0]
      (m ((c : Thread nD τ).loc main_arg4)) slices_S2x2x2816x1024_S1x1x2816x1024_0_0_0_0) shapeCasts_S1x1x2816x1024_S2816x1024)
      bitsLt_bf16_f32 := by
    rfl
  rw [e]
  pointwise []

/-! The windows' block indices, decided over the grid. -/

theorem at0 : ∀ t : Fin cfg0.N, win0_0.index t = ![t.val, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)

/-- The block point `t` writes is the half step of its block of rows, whichever case runs. -/
theorem left (t : Fin cfg0.N) :
    outsAt0 m c t.val t.isLt = tile (iblk m c 0 t) (iblk m c 2 t) (iblk m c 3 t) (iblk m c 4 t) := by
  by_cases h0 : t.val % 16 = 0
  · rw [outsAt0_A m c t h0]; exact left_A ..
  · rw [outsAt0_B m c t h0]; exact left_B ..

/-- A read of each input block is a read of its argument. -/
theorem blk_h (t : Fin cfg0.N) (y : S1024x1024.Idx) (k : Fin 1024) :
    iblk m c 0 t (ix2 (y 0) k) = m ((c : Thread nD τ).loc main_arg0) (ix2 ((win0_5.blk t).view.emb y 0) k) := by
  rw [← V_main_arg0 m c]
  blk_ext [iblk, at0, at5]

theorem blk_g (t : Fin cfg0.N) (r : Fin 6) (k : Fin 1024) :
    iblk m c 2 t (ix3 0 r k) = m ((c : Thread nD τ).loc main_arg2) (ix3 0 r k) := by
  rw [← V_main_arg2 m c]
  blk_ext [iblk, at2]

theorem blk_wi (t : Fin cfg0.N) (k : Fin 1024) (n : Fin 5632) :
    iblk m c 3 t (ix2 k n) = m ((c : Thread nD τ).loc main_arg3) (ix4 0 0 k n) := by
  rw [← V_wi m c]
  blk_ext [iblk, at3]

theorem blk_wo (t : Fin cfg0.N) (k : Fin 2816) (n : Fin 1024) :
    iblk m c 4 t (ix2 k n) = m ((c : Thread nD τ).loc main_arg4) (ix4 0 0 k n) := by
  rw [← V_wo m c]
  blk_ext [iblk, at4]

/-- THE ARRAY after the run: the sixteen blocks cover it, and each is its rows' half step. -/
theorem final : (dats m 0 c).arrAt 5 cfg0.N = whole (m ((c : Thread nD τ).loc main_arg0)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  blk_simp
  rw [after0_5, left]
  have e1 : (win0_5.blk t).view.emb y 1 = y 1 := by
    apply Fin.ext; blk_simp [at5]
  unfold tile whole
  simp only [blk_h, blk_g, blk_wi, blk_wo, e1]

end Cert.Ffn1L0Ideal.Half

end
-- ==== Proof.Ffn1L0.Ref.lean ====
/- The reference, at an element: the half step of the token's row. -/
module

public import proofs.«01_k».proof.Proof.Gen.Ffn1L0RefIdeal.Read
public import proofs.«01_k».proof.Proof.Half

@[expose] public section

noncomputable section

namespace Cert.Ffn1L0RefIdeal.Half

open Cert.Ffn1L0RefIdeal Cert.Ffn1L0RefIdeal.Gen Cert.Ffn1L0RefIdeal.Read Cert.Half Idealize.ShloMosaic Idealize.ShloMosaic.TcCoe Idealize.SL.Sem

variable (x0 : (⟨S16384x1024, .f32⟩ : BufTy).Contents (Elt Ideal)) (x1 : (⟨S16x1024, .f32⟩ : BufTy).Contents (Elt Ideal))
  (x2 : (⟨S2x6x1024, .f32⟩ : BufTy).Contents (Elt Ideal)) (x3 : (⟨S2x2x1024x5632, .f32⟩ : BufTy).Contents (Elt Ideal))
  (x4 : (⟨S2x2x2816x1024, .f32⟩ : BufTy).Contents (Elt Ideal))

/-- A token's row of the joined meta rows and tokens is its row of the tokens. -/
theorem joined (r : Fin 16384) (k : Fin 1024) :
    val_main_v2 (F := Ideal) x0 x1 (ix3 0 (⟨16 + r.val, by omega⟩ : Fin 16400) k) = x0 (ix2 r k) := by
  pointwise [val_main_v2, val_main_v1, val_main_v0]

set_option maxHeartbeats 2000000 in
/-- Every row of the joined array, stepped. -/
theorem stepped (r : Fin 16400) (j : Fin 1024) :
    val_main_v47 (F := Ideal) x0 x1 x2 x3 x4 (ix3 0 r j)
      = step (fun k => val_main_v2 (F := Ideal) x0 x1 (ix3 0 r k)) (fun k => x2 (ix3 0 0 k)) (fun k => x2 (ix3 0 1 k)) (fun k m => x3 (ix4 0 0 k m))
          (fun m j => x4 (ix4 0 0 m j)) j := by
  unfold step proj gated rms
  simp only [logistic_written]
  pointwise [val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_v25, val_main_v26, val_main_call0_v0, val_main_call0_v1, val_main_call0_cst, val_main_call0_v2, val_main_call0_v3, val_main_call0_cst_0, val_main_call0_v4, val_main_call0_v5, val_main_v27, val_main_v28, val_main_v29, val_main_v30, val_main_v31, val_main_v32, val_main_cst_2, val_main_v33, val_main_v34, val_main_cst_3, val_main_v35, val_main_v36, val_main_cst_4, val_main_v37, val_main_v38, val_main_v39, val_main_v40, val_main_v41, val_main_v42, val_main_v43, val_main_v44, val_main_cst_5, val_main_v45, val_main_v46, val_main_v47]
  rfl

theorem result_apply (r : Fin 16384) (j : Fin 1024) :
    val_main_v49 (F := Ideal) x0 x1 x2 x3 x4 (ix2 r j)
      = step (fun k => x0 (ix2 r k)) (fun k => x2 (ix3 0 0 k)) (fun k => x2 (ix3 0 1 k)) (fun k m => x3 (ix4 0 0 k m))
          (fun m j => x4 (ix4 0 0 m j)) j := by
  have e : val_main_v49 (F := Ideal) x0 x1 x2 x3 x4 (ix2 r j) = val_main_v47 (F := Ideal) x0 x1 x2 x3 x4 (ix3 0 ⟨16 + r.val, by omega⟩ j) := by
    pointwise [val_main_v49, val_main_v48]
  rw [e, stepped]
  simp only [joined]

end Cert.Ffn1L0RefIdeal.Half

end
-- ==== Proof.Ffn1L0.Value.lean ====
/- The value claim: the call's result is the reference's, element by element. -/
module

public import proofs.«01_k».proof.Defs
public import proofs.«01_k».proof.Proof.Ffn1L0.Array
public import proofs.«01_k».proof.Proof.Ffn1L0.Ref
public import proofs.«01_k».proof.Proof.Gen.Ffn1L0RefIdeal.Run

@[expose] public section

noncomputable section

namespace Cert.Ffn1L0Ideal.Half

open Cert.Half Idealize.ShloMosaic Idealize.ShloMosaic.TcCoe Idealize.SL.Sem

/-- The reference's result, as an array: the half step of every token. -/
theorem reference_eq (x0 x1 x2 x3 x4) :
    Cert.Ffn1L0RefIdeal.Read.val_main_v49 (F := Ideal) x0 x1 x2 x3 x4 = whole x0 x2 x3 x4 := by
  funext i
  obtain ⟨r, j, rfl⟩ : ∃ r j, i = ix2 r j := ⟨i 0, i 1, by funext a; fin_cases a <;> rfl⟩
  exact Cert.Ffn1L0RefIdeal.Half.result_apply x0 x1 x2 x3 x4 r j

theorem algebraic : Cert.algebraic_Ffn1L0Ideal_Ffn1L0RefIdeal := by
  intro m ρ m' ρ' _ hag
  refine ⟨fun c => whole (m ((c.tc : Thread _ _).loc Cert.Ffn1L0Ideal.main_arg0)) (m ((c.tc : Thread _ _).loc Cert.Ffn1L0Ideal.main_arg2))
    (m ((c.tc : Thread _ _).loc Cert.Ffn1L0Ideal.main_arg3)) (m ((c.tc : Thread _ _).loc Cert.Ffn1L0Ideal.main_arg4)), ?_, ?_⟩
  · refine (θ_run _ _ _).mono (fun r h c => ?_) (Cert.Ffn1L0Ideal.Run.run_blocks (F := Ideal) m ρ)
    obtain ⟨h5, hk⟩ := h c
    exact ⟨h5.trans (final m c), hk⟩
  · refine (θ_run _ _ _).mono (fun r h c => ?_) (Cert.Ffn1L0RefIdeal.Value.run (F := Ideal) m' ρ')
    obtain ⟨h5, hk⟩ := h c
    obtain ⟨e0, e1, e2, e3, e4⟩ := hag c
    refine ⟨h5.trans ?_, hk⟩
    rw [Cert.Ffn1L0RefIdeal.Read.val_main_v49_eq, reference_eq, e0, e2, e3, e4]

end Cert.Ffn1L0Ideal.Half

end
-- ==== Proof.Ffn2L0.Run.lean ====
/- The run of one feed-forward call: the body's two cases, what the output window holds point by point, the launch, and the
   output array after it. -/
module

public import proofs.«01_k».proof.Proof.Gen.Ffn2L0Ideal.Frame
public import proofs.«01_k».proof.Proof.Gen.Ffn2L0Ideal.Skeleton
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Ffn2L0Ideal.Run

open Cert.Ffn2L0Ideal Cert.Ffn2L0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame's post from any run whose proof data start at the region's entry contents. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

abbrev cond0_0 (i : grid0.Coords) : Prop := k0_cond1 i = 1#1
/-- The body's one branch is taken at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

abbrev VO0_5 : View sig .tc .vmem S1024x1024 .f32 := (Memref.whole cc0_stg5_0 : Memref sig .tc .vmem S1024x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x5632 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2816x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1024 .f32 := win0_6.stage (cfg0.slots t 6)
abbrev hs0_6 (t : Fin cfg0.N) : (ms0_6 t).IsWhole := hstage0_6 ((cfg0.slots t 6).cast nbuf0_6)

set_option maxHeartbeats 1000000 in
/-- The body at the first point: what it stores in the output window, as pieces, and its triple. The second output's buffer is handed
    over and handed back at contents nothing names. -/
noncomputable def kernelRun0_A (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : cond0_0 i)
    (x0 : Vec F S1024x1024 .f32) (x1 : Vec F S16x1024 .f32) (x2 : Vec F S1x6x1024 .f32) (x3 : Vec F S1024x5632 .bf16) (x4 : Vec F S2816x1024 .bf16) :
    { L5 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc0_ffn_half_step i arg1 harg1 arg2 harg2 arg3 harg3 arg4 harg4 arg5 harg5 arg6 harg6 arg7 harg7) K } := by
  refine ⟨?_, fun E K => ?run⟩
  case run =>
    simp only [cc0_ffn_half_step_eq_skeleton]; unfold cc0_ffn_half_step_skel
    simp only [k0_part2_eq_skeleton, k0_part1_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact H6
    ipureintro; rfl

set_option maxHeartbeats 1000000 in
/-- The body at every other point. -/
noncomputable def kernelRun0_B (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : ¬cond0_0 i)
    (x0 : Vec F S1024x1024 .f32) (x1 : Vec F S16x1024 .f32) (x2 : Vec F S1x6x1024 .f32) (x3 : Vec F S1024x5632 .bf16) (x4 : Vec F S2816x1024 .bf16) :
    { L5 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc0_ffn_half_step i arg1 harg1 arg2 harg2 arg3 harg3 arg4 harg4 arg5 harg5 arg6 harg6 arg7 harg7) K } := by
  refine ⟨?_, fun E K => ?run⟩
  case run =>
    simp only [cc0_ffn_half_step_eq_skeleton]; unfold cc0_ffn_half_step_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact H6
    ipureintro; rfl

/-- The four stored bands cover the output block (first point) … -/
theorem cover0_A_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : cond0_0 i)
    (x0 : Vec F S1024x1024 .f32) (x1 : Vec F S16x1024 .f32) (x2 : Vec F S1x6x1024 .f32) (x3 : Vec F S1024x5632 .bf16) (x4 : Vec F S2816x1024 .bf16) (y : S1024x1024.Idx) :
    ∃ pc ∈ (kernelRun0_A c i arg1 harg1 arg2 harg2 arg3 harg3 arg4 harg4 arg5 harg5 arg6 harg6 arg7 harg7 hc0 x0 x1 x2 x3 x4).1, y ∈ pc.1.set :=
  View.cover_of_tiledL (kernelRun0_A c i arg1 harg1 arg2 harg2 arg3 harg3 arg4 harg4 arg5 harg5 arg6 harg6 arg7 harg7 hc0 x0 x1 x2 x3 x4).1 S256x1024.size (by sl_kernel_rfl) y

/-- … so what the body leaves there does not depend on what was there before. -/
def out0_A_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : cond0_0 i)
    (x0 : Vec F S1024x1024 .f32) (x1 : Vec F S16x1024 .f32) (x2 : Vec F S1x6x1024 .f32) (x3 : Vec F S1024x5632 .bf16) (x4 : Vec F S2816x1024 .bf16) : Vec F S1024x1024 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3 x4).1)

/-- The same at the other points. -/
theorem cover0_B_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : ¬cond0_0 i)
    (x0 : Vec F S1024x1024 .f32) (x1 : Vec F S16x1024 .f32) (x2 : Vec F S1x6x1024 .f32) (x3 : Vec F S1024x5632 .bf16) (x4 : Vec F S2816x1024 .bf16) (y : S1024x1024.Idx) :
    ∃ pc ∈ (kernelRun0_B c i arg1 harg1 arg2 harg2 arg3 harg3 arg4 harg4 arg5 harg5 arg6 harg6 arg7 harg7 hc0 x0 x1 x2 x3 x4).1, y ∈ pc.1.set :=
  View.cover_of_tiledL (kernelRun0_B c i arg1 harg1 arg2 harg2 arg3 harg3 arg4 harg4 arg5 harg5 arg6 harg6 arg7 harg7 hc0 x0 x1 x2 x3 x4).1 S256x1024.size (by sl_kernel_rfl) y

def out0_B_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : ¬cond0_0 i)
    (x0 : Vec F S1024x1024 .f32) (x1 : Vec F S16x1024 .f32) (x2 : Vec F S1x6x1024 .f32) (x3 : Vec F S1024x5632 .bf16) (x4 : Vec F S2816x1024 .bf16) : Vec F S1024x1024 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 x4).1)

/-- What the output window holds after each point. -/
def outsAt0 (c : Dev nD) : (n : ℕ) → n < cfg0.N → Vec F S1024x1024 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 16 = 0 then
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)

theorem outsAt0_A (c : Dev nD) (t : Fin cfg0.N) (h0 : t.val % 16 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) := by
  obtain ⟨n, hn⟩ := t
  cases n with
  | zero => exact (by exfalso; (try dsimp only at h0); exact absurd (Nat.zero_mod _) h0)
  | succ n => exact (dif_neg h0).trans rfl

/-- Nothing is said of the second output, the sixteen meta rows: it is written at the first point only. -/
def forgets0 : Fin 7 → Bool := fun w => w.val == 6
theorem forgets0_5 : forgets0 (5 : Fin 7) = false := by decide

/-- The pipeline's proof data: inputs keep their blocks, the first output holds `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d))

set_option maxHeartbeats 800000 in
/-- The body at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt (show cfg0.N = 16 from N_0)
  by_cases h0 : t.val % 16 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [outsAt0_A m c t h0]
    unfold out0_A_5
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _)
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [outsAt0_B m c t h0]
    unfold out0_B_5
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _)
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl
set_option backward.isDefEq.respectTransparency.types false in
/-- The launch: the run terminates with the named arrays at their contents and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

theorem flushed5 (c : Dev nD) (t : Fin cfg0.N) :
    (dats m 0 c).flushed 5 t = (cfg0.win 5).cut (grid0.coords t) (outsAt0 m c t.val t.isLt) := by
  show (cfg0.win 5).cut (grid0.coords t) ((dats m 0 c).after 5 t) = _
  rw [after0_5]

theorem flushed5_A (c : Dev nD) (t : Fin cfg0.N) (h0 : t.val % 16 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t)) := by
  simp only [flushed5, outsAt0_A m c t h0]

theorem flushed5_B (c : Dev nD) (t : Fin cfg0.N) (h0 : ¬t.val % 16 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t)) := by
  simp only [flushed5, outsAt0_B m c t h0]

theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

theorem entry5 (c : Dev nD) (i : S16384x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

theorem finalR_out0 (r : PUnit × MemSt nD τ sig (Elt F)) (h : Pipeline.RDat.FramePost (cfgs 0) (fun c => (dats m 0 c).toRForget forgets0) (V m) r) (c : Dev nD) (w : Fin 7) (hw : forgets0 w = false) :
    r.2.mem ((cfg0.spec w).arr.view.loc (c : Thread nD τ)) = (dats m 0 c).arrAt w cfg0.N :=
  ((dats m 0 c).toRForget_arrAt_iff hw _ _).mp ((h c).1 w)

theorem post5 (r : PUnit × MemSt nD τ sig (Elt F)) (h : Pipeline.RDat.FramePost (cfgs 0) (fun c => (dats m 0 c).toRForget forgets0) (V m) r) (c : Dev nD) :
    r.2.mem ((c : Thread nD τ).loc main_v6_0) = (dats m 0 c).arrAt 5 cfg0.N :=
  finalR_out0 m r h c 5 forgets0_5

theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 2 rfl).trans ((A_eq m c 2).trans (V_main_arg2 m c))

theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run, its first output array named and the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.Ffn2L0Ideal.Run

end
-- ==== Proof.Ffn2L0.Block.lean ====
/- What the body leaves in the output window: four bands of 256 rows, each the half step of its rows — so the whole block
   is the half step of the block of rows it was handed, row by row. -/
module

public import proofs.«01_k».proof.Proof.Ffn2L0.Run
public import proofs.«01_k».proof.Proof.Half
public import Idealize.ShloMosaic.Lib.Pipeline.ValueKit

@[expose] public section

noncomputable section

namespace Cert.Ffn2L0Ideal.Half

open Cert.Ffn2L0Ideal Cert.Ffn2L0Ideal.Gen Cert.Ffn2L0Ideal.Run Cert.Half Idealize.ShloMosaic Idealize.ShloMosaic.Tactic Idealize.ShloMosaic.TcCoe Idealize.SL.Sem

/-- The half step of every row of a block of rows, at an element. -/
def tile {R : ℕ} (x : (⟨2, ![R, 1024]⟩ : Shape).Idx → EReal) (g : S1x6x1024.Idx → EReal) (wi : S1024x5632.Idx → EReal)
    (wo : S2816x1024.Idx → EReal) (i : (⟨2, ![R, 1024]⟩ : Shape).Idx) : EReal :=
  step (fun k => x (ix2 (i 0) k)) (fun k => g (ix3 0 4 k)) (fun k => g (ix3 0 5 k)) (fun k m => wi (ix2 k m))
    (fun m j => wo (ix2 m j)) (i 1)

section Bands

variable (x : Vec Ideal S256x1024 .f32) (a b : Vec Ideal S1x1x1024 .f32) (wl wh : Vec Ideal S1024x2816 .bf16) (wo : Vec Ideal S2816x1024 .bf16)

/-- The half step of a band, from the loaded operands. -/
def band (i : S256x1024.Idx) : EReal :=
  x i + Ideal.ofBits .f32 0x3F000000#32 * rms (fun j => ∑ m : Fin 2816,
      gated (∑ k, rms (fun k => x (ix2 (i 0) k)) (fun k => a (ix3 0 0 k)) k * wl (ix2 k m))
        (∑ k, rms (fun k => x (ix2 (i 0) k)) (fun k => a (ix3 0 0 k)) k * wh (ix2 k m)) * wo (ix2 m j))
    (fun k => b (ix3 0 0 k)) (i 1)

theorem band0 (i : S256x1024.Idx) :
    k0_pay16 x (k0_pay14 (k0_pay6 x a wl) (k0_pay7 x a wh) wo) (k0_pay15 b) i = band x a b wl wh wo i := by
  unfold band gated rms
  simp only [← logistic_of_tanh]
  pointwise [k0_pay16, k0_pay14, k0_pay6, k0_pay7, k0_pay15, k0_pay5]

theorem band1 (i : S256x1024.Idx) :
    k0_pay21 x (k0_pay20 (k0_pay12 x (k0_pay8 a) (k0_pay9 x) k0_pay10 wl) (k0_pay13 x (k0_pay8 a) (k0_pay9 x) k0_pay10 wh)) wo b i
      = band x a b wl wh wo i := by
  unfold band gated rms
  simp only [← logistic_of_tanh]
  pointwise [k0_pay21, k0_pay20, k0_pay12, k0_pay13, k0_pay8, k0_pay9, k0_pay10, k0_pay11]

theorem band2 (i : S256x1024.Idx) :
    k0_pay25 (k0_pay18 x a wl) (k0_pay19 x a wh) x wo b i = band x a b wl wh wo i := by
  unfold band gated rms
  simp only [← logistic_of_tanh]
  pointwise [k0_pay25, k0_pay18, k0_pay19, k0_pay17]

theorem band3 (i : S256x1024.Idx) :
    k0_pay1 (k0_pay23 (k0_pay22 x a) wl) (k0_pay24 (k0_pay22 x a) wh) x wo b i = band x a b wl wh wo i := by
  unfold band gated rms
  simp only [← logistic_of_tanh]
  pointwise [k0_pay1, k0_pay23, k0_pay24, k0_pay22]

end Bands

/-- A band of the block of rows at its offset is the block's half step there. -/
theorem band_ld (o : ℕ) (x0 : Vec Ideal S1024x1024 .f32) (x2 : Vec Ideal S1x6x1024 .f32) (x3 : Vec Ideal S1024x5632 .bf16)
    (x4 : Vec Ideal S2816x1024 .bf16) (inb : ∀ a, (![o, 0] : Fin 2 → ℕ) a + (![256, 1024] : Fin 2 → ℕ) a ≤ S1024x1024.size a)
    (i : S256x1024.Idx) :
    band (View.ld x0 (Rect.unit (s := S1024x1024) ![o, 0] ![256, 1024] inb))
        (View.ld x2 (Rect.unit (s := S1x6x1024) ![0, 4, 0] ![1, 1, 1024] inb_S1x6x1024_S1x1x1024_0_4_0))
        (View.ld x2 (Rect.unit (s := S1x6x1024) ![0, 5, 0] ![1, 1, 1024] inb_S1x6x1024_S1x1x1024_0_5_0))
        (View.ld x3 (Rect.unit (s := S1024x5632) ![0, 0] ![1024, 2816] inb_S1024x5632_S1024x2816_0_0))
        (View.ld x3 (Rect.unit (s := S1024x5632) ![0, 2816] ![1024, 2816] inb_S1024x5632_S1024x2816_0_2816))
        (View.ld x4 (Rect.unit (s := S2816x1024) ![0, 0] ![2816, 1024] inb_S2816x1024_S2816x1024_0_0)) i
      = tile x0 x2 x3 x4 ((Rect.unit (s := S1024x1024) ![o, 0] ![256, 1024] inb).emb i) := by
  have er : ((Rect.unit (s := S1024x1024) ![o, 0] ![256, 1024] inb).emb i 0 : ℕ) = o + (i 0).val := by
    rw [Rect.emb_apply]; show o + 1 * (i 0).val = _; omega
  have e0 : ∀ k : Fin 1024, View.ld x0 (Rect.unit (s := S1024x1024) ![o, 0] ![256, 1024] inb) (ix2 (i 0) k)
      = x0 (ix2 ((Rect.unit (s := S1024x1024) ![o, 0] ![256, 1024] inb).emb i 0) k) := fun k => by
    refine View.ld_unit_apply_of _ _ _ _ _ _ fun a => ?_
    fin_cases a
    · exact er
    · simp
  have e0' : View.ld x0 (Rect.unit (s := S1024x1024) ![o, 0] ![256, 1024] inb) i
      = x0 (ix2 ((Rect.unit (s := S1024x1024) ![o, 0] ![256, 1024] inb).emb i 0) (i 1)) := by
    refine View.ld_unit_apply_of _ _ _ _ _ _ fun a => ?_
    fin_cases a
    · exact er
    · simp
  have e2 : ∀ k : Fin 1024, View.ld x2 (Rect.unit (s := S1x6x1024) ![0, 4, 0] ![1, 1, 1024] inb_S1x6x1024_S1x1x1024_0_4_0) (ix3 0 0 k)
      = x2 (ix3 0 4 k) := fun k => by
    refine View.ld_unit_apply_of _ _ _ _ _ _ fun a => ?_
    fin_cases a <;> simp
  have e2' : ∀ k : Fin 1024, View.ld x2 (Rect.unit (s := S1x6x1024) ![0, 5, 0] ![1, 1, 1024] inb_S1x6x1024_S1x1x1024_0_5_0) (ix3 0 0 k)
      = x2 (ix3 0 5 k) := fun k => by
    refine View.ld_unit_apply_of _ _ _ _ _ _ fun a => ?_
    fin_cases a <;> simp
  have e3 : ∀ (k : Fin 1024) (m : Fin 2816), View.ld x3 (Rect.unit (s := S1024x5632) ![0, 0] ![1024, 2816] inb_S1024x5632_S1024x2816_0_0) (ix2 k m)
      = x3 (ix2 k (lo m)) := fun k m => by
    refine View.ld_unit_apply_of _ _ _ _ _ _ fun a => ?_
    fin_cases a <;> simp [lo]
  have e3' : ∀ (k : Fin 1024) (m : Fin 2816), View.ld x3 (Rect.unit (s := S1024x5632) ![0, 2816] ![1024, 2816] inb_S1024x5632_S1024x2816_0_2816) (ix2 k m)
      = x3 (ix2 k (hi m)) := fun k m => by
    refine View.ld_unit_apply_of _ _ _ _ _ _ fun a => ?_
    fin_cases a <;> simp [hi]
  have e4 : ∀ (m : Fin 2816) (j : Fin 1024), View.ld x4 (Rect.unit (s := S2816x1024) ![0, 0] ![2816, 1024] inb_S2816x1024_S2816x1024_0_0) (ix2 m j)
      = x4 (ix2 m j) := fun m j => by
    refine View.ld_unit_apply_of _ _ _ _ _ _ fun a => ?_
    fin_cases a <;> simp
  have e1 : (Rect.unit (s := S1024x1024) ![o, 0] ![256, 1024] inb).emb i 1 = i 1 := Fin.ext (by
    rw [Rect.emb_apply]; show 0 + 1 * (i 1).val = (i 1).val; omega)
  unfold band tile step proj
  simp only [e0, e0', e2, e2', e3, e3', e4, e1]

section Body

variable (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole)
    (x0 : Vec Ideal S1024x1024 .f32) (x1 : Vec Ideal S16x1024 .f32) (x2 : Vec Ideal S1x6x1024 .f32) (x3 : Vec Ideal S1024x5632 .bf16) (x4 : Vec Ideal S2816x1024 .bf16)

/-- What the body leaves in the output window at the first point … -/
theorem left_A (hc0 : cond0_0 i) :
    out0_A_5 (F := Ideal) c i arg1 harg1 arg2 harg2 arg3 harg3 arg4 harg4 arg5 harg5 arg6 harg6 arg7 harg7 hc0 x0 x1 x2 x3 x4 = tile x0 x2 x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  funext y
  refine View.canon_apply_of_pieces (tile x0 x2 x3 x4) _ ?_ y (cover0_A_5 c i arg1 harg1 arg2 harg2 arg3 harg3 arg4 harg4 arg5 harg5 arg6 harg6 arg7 harg7 hc0 x0 x1 x2 x3 x4 y)
  unfold kernelRun0_A
  dsimp only
  sl_unfold_words
  simp only [View.readAt_eq_ld, harg1.read_unread, harg3.read_unread, harg4.read_unread, harg5.read_unread]
  intro p hp
  simp only [List.mem_cons, List.not_mem_nil, or_false] at hp
  rcases hp with rfl | rfl | rfl | rfl <;> intro z
  · exact (band3 ..).trans (band_ld 768 ..)
  · exact (band2 ..).trans (band_ld 512 ..)
  · exact (band1 ..).trans (band_ld 256 ..)
  · exact (band0 ..).trans (band_ld 0 ..)

/-- … and at every other point. -/
theorem left_B (hc0 : ¬cond0_0 i) :
    out0_B_5 (F := Ideal) c i arg1 harg1 arg2 harg2 arg3 harg3 arg4 harg4 arg5 harg5 arg6 harg6 arg7 harg7 hc0 x0 x1 x2 x3 x4 = tile x0 x2 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4)]
  funext y
  refine View.canon_apply_of_pieces (tile x0 x2 x3 x4) _ ?_ y (cover0_B_5 c i arg1 harg1 arg2 harg2 arg3 harg3 arg4 harg4 arg5 harg5 arg6 harg6 arg7 harg7 hc0 x0 x1 x2 x3 x4 y)
  unfold kernelRun0_B
  dsimp only
  sl_unfold_words
  simp only [View.readAt_eq_ld, harg1.read_unread, harg3.read_unread, harg4.read_unread, harg5.read_unread]
  intro p hp
  simp only [List.mem_cons, List.not_mem_nil, or_false] at hp
  rcases hp with rfl | rfl | rfl | rfl <;> intro z
  · exact (band3 ..).trans (band_ld 768 ..)
  · exact (band2 ..).trans (band_ld 512 ..)
  · exact (band1 ..).trans (band_ld 256 ..)
  · exact (band0 ..).trans (band_ld 0 ..)

end Body

end Cert.Ffn2L0Ideal.Half

end
-- ==== Proof.Ffn2L0.Array.lean ====
/- The whole output array after the run: the half step of every token of the launched `h`, under the first layer's
   gains and weights. -/
module

public import proofs.«01_k».proof.Proof.Ffn2L0.Block
public import Idealize.ShloMosaic.Lib.Pipeline.Value
public import Idealize.ShloMosaic.Lib.Pipeline.ValueKit

@[expose] public section

noncomputable section

namespace Cert.Ffn2L0Ideal.Half

open Cert.Ffn2L0Ideal Cert.Ffn2L0Ideal.Gen Cert.Ffn2L0Ideal.Run Cert.Half Idealize.ShloMosaic Idealize.ShloMosaic.Tactic Idealize.ShloMosaic.TcCoe Idealize.SL.Sem

variable (m : (ℓ : Loc nD τ sig) → Buf (Elt Ideal) ℓ) (c : Dev nD)

/-- The half step of every token, from the arguments. -/
def whole (x0 : S16384x1024.Idx → EReal) (x2 : S2x6x1024.Idx → EReal) (x3 : S2x2x1024x5632.Idx → EReal)
    (x4 : S2x2x2816x1024.Idx → EReal) (i : S16384x1024.Idx) : EReal :=
  step (fun k => x0 (ix2 (i 0) k)) (fun k => x2 (ix3 0 4 k)) (fun k => x2 (ix3 0 5 k)) (fun k m => x3 (ix4 0 1 k m))
    (fun m j => x4 (ix4 0 1 m j)) (i 1)

/-- The weights the host hands the call: the layer's slices, their format changed (nothing, over the extended reals). -/
theorem V_wi (k : Fin 1024) (n : Fin 5632) :
    V m c main_v2 (ix2 k n) = m ((c : Thread nD τ).loc main_arg3) (ix4 0 1 k n) := by
  have e : V m c main_v2 = truncf (F := Ideal) .bf16 (shapeCast S1024x5632 (extractStridedSlice S1x1x1024x5632 ![0, 1, 0, 0]
      (m ((c : Thread nD τ).loc main_arg3)) slices_S2x2x1024x5632_S1x1x1024x5632_0_1_0_0) shapeCasts_S1x1x1024x5632_S1024x5632)
      bitsLt_bf16_f32 := by
    rfl
  rw [e]
  pointwise []

theorem V_wo (k : Fin 2816) (n : Fin 1024) :
    V m c main_v5 (ix2 k n) = m ((c : Thread nD τ).loc main_arg4) (ix4 0 1 k n) := by
  have e : V m c main_v5 = truncf (F := Ideal) .bf16 (shapeCast S2816x1024 (extractStridedSlice S1x1x2816x1024 ![0, 1, 0, 0]
      (m ((c : Thread nD τ).loc main_arg4)) slices_S2x2x2816x1024_S1x1x2816x1024_0_1_0_0) shapeCasts_S1x1x2816x1024_S2816x1024)
      bitsLt_bf16_f32 := by
    rfl
  rw [e]
  pointwise []

/-! The windows' block indices, decided over the grid. -/

theorem at0 : ∀ t : Fin cfg0.N, win0_0.index t = ![t.val, 0] := (by decide +kernel : ∀ t : Fin grid0.N, _)
theorem at2 : ∀ t : Fin cfg0.N, win0_2.index t = ![0, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)

/-- The block point `t` writes is the half step of its block of rows, whichever case runs. -/
theorem left (t : Fin cfg0.N) :
    outsAt0 m c t.val t.isLt = tile (iblk m c 0 t) (iblk m c 2 t) (iblk m c 3 t) (iblk m c 4 t) := by
  by_cases h0 : t.val % 16 = 0
  · rw [outsAt0_A m c t h0]; exact left_A ..
  · rw [outsAt0_B m c t h0]; exact left_B ..

/-- A read of each input block is a read of its argument. -/
theorem blk_h (t : Fin cfg0.N) (y : S1024x1024.Idx) (k : Fin 1024) :
    iblk m c 0 t (ix2 (y 0) k) = m ((c : Thread nD τ).loc main_arg0) (ix2 ((win0_5.blk t).view.emb y 0) k) := by
  rw [← V_main_arg0 m c]
  blk_ext [iblk, at0, at5]

theorem blk_g (t : Fin cfg0.N) (r : Fin 6) (k : Fin 1024) :
    iblk m c 2 t (ix3 0 r k) = m ((c : Thread nD τ).loc main_arg2) (ix3 0 r k) := by
  rw [← V_main_arg2 m c]
  blk_ext [iblk, at2]

theorem blk_wi (t : Fin cfg0.N) (k : Fin 1024) (n : Fin 5632) :
    iblk m c 3 t (ix2 k n) = m ((c : Thread nD τ).loc main_arg3) (ix4 0 1 k n) := by
  rw [← V_wi m c]
  blk_ext [iblk, at3]

theorem blk_wo (t : Fin cfg0.N) (k : Fin 2816) (n : Fin 1024) :
    iblk m c 4 t (ix2 k n) = m ((c : Thread nD τ).loc main_arg4) (ix4 0 1 k n) := by
  rw [← V_wo m c]
  blk_ext [iblk, at4]

/-- THE ARRAY after the run: the sixteen blocks cover it, and each is its rows' half step. -/
theorem final : (dats m 0 c).arrAt 5 cfg0.N = whole (m ((c : Thread nD τ).loc main_arg0)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  blk_simp
  rw [after0_5, left]
  have e1 : (win0_5.blk t).view.emb y 1 = y 1 := by
    apply Fin.ext; blk_simp [at5]
  unfold tile whole
  simp only [blk_h, blk_g, blk_wi, blk_wo, e1]

end Cert.Ffn2L0Ideal.Half

end
-- ==== Proof.Ffn2L0.Ref.lean ====
/- The reference, at an element: the half step of the token's row. -/
module

public import proofs.«01_k».proof.Proof.Gen.Ffn2L0RefIdeal.Read
public import proofs.«01_k».proof.Proof.Half

@[expose] public section

noncomputable section

namespace Cert.Ffn2L0RefIdeal.Half

open Cert.Ffn2L0RefIdeal Cert.Ffn2L0RefIdeal.Gen Cert.Ffn2L0RefIdeal.Read Cert.Half Idealize.ShloMosaic Idealize.ShloMosaic.TcCoe Idealize.SL.Sem

variable (x0 : (⟨S16384x1024, .f32⟩ : BufTy).Contents (Elt Ideal)) (x1 : (⟨S16x1024, .f32⟩ : BufTy).Contents (Elt Ideal))
  (x2 : (⟨S2x6x1024, .f32⟩ : BufTy).Contents (Elt Ideal)) (x3 : (⟨S2x2x1024x5632, .f32⟩ : BufTy).Contents (Elt Ideal))
  (x4 : (⟨S2x2x2816x1024, .f32⟩ : BufTy).Contents (Elt Ideal))

/-- A token's row of the joined meta rows and tokens is its row of the tokens. -/
theorem joined (r : Fin 16384) (k : Fin 1024) :
    val_main_v2 (F := Ideal) x0 x1 (ix3 0 (⟨16 + r.val, by omega⟩ : Fin 16400) k) = x0 (ix2 r k) := by
  pointwise [val_main_v2, val_main_v1, val_main_v0]

set_option maxHeartbeats 2000000 in
/-- Every row of the joined array, stepped. -/
theorem stepped (r : Fin 16400) (j : Fin 1024) :
    val_main_v47 (F := Ideal) x0 x1 x2 x3 x4 (ix3 0 r j)
      = step (fun k => val_main_v2 (F := Ideal) x0 x1 (ix3 0 r k)) (fun k => x2 (ix3 0 4 k)) (fun k => x2 (ix3 0 5 k)) (fun k m => x3 (ix4 0 1 k m))
          (fun m j => x4 (ix4 0 1 m j)) j := by
  unfold step proj gated rms
  simp only [logistic_written]
  pointwise [val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_v25, val_main_v26, val_main_call0_v0, val_main_call0_v1, val_main_call0_cst, val_main_call0_v2, val_main_call0_v3, val_main_call0_cst_0, val_main_call0_v4, val_main_call0_v5, val_main_v27, val_main_v28, val_main_v29, val_main_v30, val_main_v31, val_main_v32, val_main_cst_2, val_main_v33, val_main_v34, val_main_cst_3, val_main_v35, val_main_v36, val_main_cst_4, val_main_v37, val_main_v38, val_main_v39, val_main_v40, val_main_v41, val_main_v42, val_main_v43, val_main_v44, val_main_cst_5, val_main_v45, val_main_v46, val_main_v47]
  rfl

theorem result_apply (r : Fin 16384) (j : Fin 1024) :
    val_main_v49 (F := Ideal) x0 x1 x2 x3 x4 (ix2 r j)
      = step (fun k => x0 (ix2 r k)) (fun k => x2 (ix3 0 4 k)) (fun k => x2 (ix3 0 5 k)) (fun k m => x3 (ix4 0 1 k m))
          (fun m j => x4 (ix4 0 1 m j)) j := by
  have e : val_main_v49 (F := Ideal) x0 x1 x2 x3 x4 (ix2 r j) = val_main_v47 (F := Ideal) x0 x1 x2 x3 x4 (ix3 0 ⟨16 + r.val, by omega⟩ j) := by
    pointwise [val_main_v49, val_main_v48]
  rw [e, stepped]
  simp only [joined]

end Cert.Ffn2L0RefIdeal.Half

end
-- ==== Proof.Ffn2L0.Value.lean ====
/- The value claim: the call's result is the reference's, element by element. -/
module

public import proofs.«01_k».proof.Defs
public import proofs.«01_k».proof.Proof.Ffn2L0.Array
public import proofs.«01_k».proof.Proof.Ffn2L0.Ref
public import proofs.«01_k».proof.Proof.Gen.Ffn2L0RefIdeal.Run

@[expose] public section

noncomputable section

namespace Cert.Ffn2L0Ideal.Half

open Cert.Half Idealize.ShloMosaic Idealize.ShloMosaic.TcCoe Idealize.SL.Sem

/-- The reference's result, as an array: the half step of every token. -/
theorem reference_eq (x0 x1 x2 x3 x4) :
    Cert.Ffn2L0RefIdeal.Read.val_main_v49 (F := Ideal) x0 x1 x2 x3 x4 = whole x0 x2 x3 x4 := by
  funext i
  obtain ⟨r, j, rfl⟩ : ∃ r j, i = ix2 r j := ⟨i 0, i 1, by funext a; fin_cases a <;> rfl⟩
  exact Cert.Ffn2L0RefIdeal.Half.result_apply x0 x1 x2 x3 x4 r j

theorem algebraic : Cert.algebraic_Ffn2L0Ideal_Ffn2L0RefIdeal := by
  intro m ρ m' ρ' _ hag
  refine ⟨fun c => whole (m ((c.tc : Thread _ _).loc Cert.Ffn2L0Ideal.main_arg0)) (m ((c.tc : Thread _ _).loc Cert.Ffn2L0Ideal.main_arg2))
    (m ((c.tc : Thread _ _).loc Cert.Ffn2L0Ideal.main_arg3)) (m ((c.tc : Thread _ _).loc Cert.Ffn2L0Ideal.main_arg4)), ?_, ?_⟩
  · refine (θ_run _ _ _).mono (fun r h c => ?_) (Cert.Ffn2L0Ideal.Run.run_blocks (F := Ideal) m ρ)
    obtain ⟨h5, hk⟩ := h c
    exact ⟨h5.trans (final m c), hk⟩
  · refine (θ_run _ _ _).mono (fun r h c => ?_) (Cert.Ffn2L0RefIdeal.Value.run (F := Ideal) m' ρ')
    obtain ⟨h5, hk⟩ := h c
    obtain ⟨e0, e1, e2, e3, e4⟩ := hag c
    refine ⟨h5.trans ?_, hk⟩
    rw [Cert.Ffn2L0RefIdeal.Read.val_main_v49_eq, reference_eq, e0, e2, e3, e4]

end Cert.Ffn2L0Ideal.Half

end
-- ==== Proof.Ffn1L1.Run.lean ====
/- The run of one feed-forward call: the body's two cases, what the output window holds point by point, the launch, and the
   output array after it. -/
module

public import proofs.«01_k».proof.Proof.Gen.Ffn1L1Ideal.Frame
public import proofs.«01_k».proof.Proof.Gen.Ffn1L1Ideal.Skeleton
public import Idealize.ShloMosaic.Lib.Claim
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

@[expose] public section

set_option maxRecDepth 16384

noncomputable section

namespace Cert.Ffn1L1Ideal.Run

open Cert.Ffn1L1Ideal Cert.Ffn1L1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame's post from any run whose proof data start at the region's entry contents. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

abbrev cond0_0 (i : grid0.Coords) : Prop := k0_cond1 i = 1#1
/-- The body's one branch is taken at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

abbrev VO0_5 : View sig .tc .vmem S1024x1024 .f32 := (Memref.whole cc0_stg5_0 : Memref sig .tc .vmem S1024x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x5632 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2816x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x1024 .f32 := win0_6.stage (cfg0.slots t 6)
abbrev hs0_6 (t : Fin cfg0.N) : (ms0_6 t).IsWhole := hstage0_6 ((cfg0.slots t 6).cast nbuf0_6)

set_option maxHeartbeats 1000000 in
/-- The body at the first point: what it stores in the output window, as pieces, and its triple. The second output's buffer is handed
    over and handed back at contents nothing names. -/
noncomputable def kernelRun0_A (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : cond0_0 i)
    (x0 : Vec F S1024x1024 .f32) (x1 : Vec F S16x1024 .f32) (x2 : Vec F S1x6x1024 .f32) (x3 : Vec F S1024x5632 .bf16) (x4 : Vec F S2816x1024 .bf16) :
    { L5 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc0_ffn_half_step i arg1 harg1 arg2 harg2 arg3 harg3 arg4 harg4 arg5 harg5 arg6 harg6 arg7 harg7) K } := by
  refine ⟨?_, fun E K => ?run⟩
  case run =>
    simp only [cc0_ffn_half_step_eq_skeleton]; unfold cc0_ffn_half_step_skel
    simp only [k0_part2_eq_skeleton, k0_part1_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact H6
    ipureintro; rfl

set_option maxHeartbeats 1000000 in
/-- The body at every other point. -/
noncomputable def kernelRun0_B (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : ¬cond0_0 i)
    (x0 : Vec F S1024x1024 .f32) (x1 : Vec F S16x1024 .f32) (x2 : Vec F S1x6x1024 .f32) (x3 : Vec F S1024x5632 .bf16) (x4 : Vec F S2816x1024 .bf16) :
    { L5 : List (View.Piece (Elt F) S1024x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc0_ffn_half_step i arg1 harg1 arg2 harg2 arg3 harg3 arg4 harg4 arg5 harg5 arg6 harg6 arg7 harg7) K } := by
  refine ⟨?_, fun E K => ?run⟩
  case run =>
    simp only [cc0_ffn_half_step_eq_skeleton]; unfold cc0_ffn_half_step_skel
    simp only [k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact H6
    ipureintro; rfl

/-- The four stored bands cover the output block (first point) … -/
theorem cover0_A_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : cond0_0 i)
    (x0 : Vec F S1024x1024 .f32) (x1 : Vec F S16x1024 .f32) (x2 : Vec F S1x6x1024 .f32) (x3 : Vec F S1024x5632 .bf16) (x4 : Vec F S2816x1024 .bf16) (y : S1024x1024.Idx) :
    ∃ pc ∈ (kernelRun0_A c i arg1 harg1 arg2 harg2 arg3 harg3 arg4 harg4 arg5 harg5 arg6 harg6 arg7 harg7 hc0 x0 x1 x2 x3 x4).1, y ∈ pc.1.set :=
  View.cover_of_tiledL (kernelRun0_A c i arg1 harg1 arg2 harg2 arg3 harg3 arg4 harg4 arg5 harg5 arg6 harg6 arg7 harg7 hc0 x0 x1 x2 x3 x4).1 S256x1024.size (by sl_kernel_rfl) y

/-- … so what the body leaves there does not depend on what was there before. -/
def out0_A_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : cond0_0 i)
    (x0 : Vec F S1024x1024 .f32) (x1 : Vec F S16x1024 .f32) (x2 : Vec F S1x6x1024 .f32) (x3 : Vec F S1024x5632 .bf16) (x4 : Vec F S2816x1024 .bf16) : Vec F S1024x1024 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3 x4).1)

/-- The same at the other points. -/
theorem cover0_B_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : ¬cond0_0 i)
    (x0 : Vec F S1024x1024 .f32) (x1 : Vec F S16x1024 .f32) (x2 : Vec F S1x6x1024 .f32) (x3 : Vec F S1024x5632 .bf16) (x4 : Vec F S2816x1024 .bf16) (y : S1024x1024.Idx) :
    ∃ pc ∈ (kernelRun0_B c i arg1 harg1 arg2 harg2 arg3 harg3 arg4 harg4 arg5 harg5 arg6 harg6 arg7 harg7 hc0 x0 x1 x2 x3 x4).1, y ∈ pc.1.set :=
  View.cover_of_tiledL (kernelRun0_B c i arg1 harg1 arg2 harg2 arg3 harg3 arg4 harg4 arg5 harg5 arg6 harg6 arg7 harg7 hc0 x0 x1 x2 x3 x4).1 S256x1024.size (by sl_kernel_rfl) y

def out0_B_5 (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole) (hc0 : ¬cond0_0 i)
    (x0 : Vec F S1024x1024 .f32) (x1 : Vec F S16x1024 .f32) (x2 : Vec F S1x6x1024 .f32) (x3 : Vec F S1024x5632 .bf16) (x4 : Vec F S2816x1024 .bf16) : Vec F S1024x1024 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 x4).1)

/-- What the output window holds after each point. -/
def outsAt0 (c : Dev nD) : (n : ℕ) → n < cfg0.N → Vec F S1024x1024 .f32
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 16 = 0 then
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)

theorem outsAt0_A (c : Dev nD) (t : Fin cfg0.N) (h0 : t.val % 16 = 0) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) := by
  obtain ⟨n, hn⟩ := t
  cases n with
  | zero => exact (by exfalso; (try dsimp only at h0); exact absurd (Nat.zero_mod _) h0)
  | succ n => exact (dif_neg h0).trans rfl

/-- Nothing is said of the second output, the sixteen meta rows: it is written at the first point only. -/
def forgets0 : Fin 7 → Bool := fun w => w.val == 6
theorem forgets0_5 : forgets0 (5 : Fin 7) = false := by decide

/-- The pipeline's proof data: inputs keep their blocks, the first output holds `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d))

set_option maxHeartbeats 800000 in
/-- The body at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 16 := lt_of_lt_of_eq t.isLt (show cfg0.N = 16 from N_0)
  by_cases h0 : t.val % 16 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [outsAt0_A m c t h0]
    unfold out0_A_5
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _)
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [outsAt0_B m c t h0]
    unfold out0_B_5
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_B_5 c _ _ _ _ _ _ _ _ _ _ _ _ _ _ _ _ _ _ _ _ _)
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl
set_option backward.isDefEq.respectTransparency.types false in
/-- The launch: the run terminates with the named arrays at their contents and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

theorem flushed5 (c : Dev nD) (t : Fin cfg0.N) :
    (dats m 0 c).flushed 5 t = (cfg0.win 5).cut (grid0.coords t) (outsAt0 m c t.val t.isLt) := by
  show (cfg0.win 5).cut (grid0.coords t) ((dats m 0 c).after 5 t) = _
  rw [after0_5]

theorem flushed5_A (c : Dev nD) (t : Fin cfg0.N) (h0 : t.val % 16 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t)) := by
  simp only [flushed5, outsAt0_A m c t h0]

theorem flushed5_B (c : Dev nD) (t : Fin cfg0.N) (h0 : ¬t.val % 16 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t)) := by
  simp only [flushed5, outsAt0_B m c t h0]

theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

theorem entry5 (c : Dev nD) (i : S16384x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

theorem finalR_out0 (r : PUnit × MemSt nD τ sig (Elt F)) (h : Pipeline.RDat.FramePost (cfgs 0) (fun c => (dats m 0 c).toRForget forgets0) (V m) r) (c : Dev nD) (w : Fin 7) (hw : forgets0 w = false) :
    r.2.mem ((cfg0.spec w).arr.view.loc (c : Thread nD τ)) = (dats m 0 c).arrAt w cfg0.N :=
  ((dats m 0 c).toRForget_arrAt_iff hw _ _).mp ((h c).1 w)

theorem post5 (r : PUnit × MemSt nD τ sig (Elt F)) (h : Pipeline.RDat.FramePost (cfgs 0) (fun c => (dats m 0 c).toRForget forgets0) (V m) r) (c : Dev nD) :
    r.2.mem ((c : Thread nD τ).loc main_v6_0) = (dats m 0 c).arrAt 5 cfg0.N :=
  finalR_out0 m r h c 5 forgets0_5

theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 2 rfl).trans ((A_eq m c 2).trans (V_main_arg2 m c))

theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.RDat.FramePost (cfgs 0) (fun c => (dats m 0 c).toRForget forgets0) (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The run, its first output array named and the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.Ffn1L1Ideal.Run

end
-- ==== Proof.Ffn1L1.Block.lean ====
/- What the body leaves in the output window: four bands of 256 rows, each the half step of its rows — so the whole block
   is the half step of the block of rows it was handed, row by row. -/
module

public import proofs.«01_k».proof.Proof.Ffn1L1.Run
public import proofs.«01_k».proof.Proof.Half
public import Idealize.ShloMosaic.Lib.Pipeline.ValueKit

@[expose] public section

noncomputable section

namespace Cert.Ffn1L1Ideal.Half

open Cert.Ffn1L1Ideal Cert.Ffn1L1Ideal.Gen Cert.Ffn1L1Ideal.Run Cert.Half Idealize.ShloMosaic Idealize.ShloMosaic.Tactic Idealize.ShloMosaic.TcCoe Idealize.SL.Sem

/-- The half step of every row of a block of rows, at an element. -/
def tile {R : ℕ} (x : (⟨2, ![R, 1024]⟩ : Shape).Idx → EReal) (g : S1x6x1024.Idx → EReal) (wi : S1024x5632.Idx → EReal)
    (wo : S2816x1024.Idx → EReal) (i : (⟨2, ![R, 1024]⟩ : Shape).Idx) : EReal :=
  step (fun k => x (ix2 (i 0) k)) (fun k => g (ix3 0 0 k)) (fun k => g (ix3 0 1 k)) (fun k m => wi (ix2 k m))
    (fun m j => wo (ix2 m j)) (i 1)

section Bands

variable (x : Vec Ideal S256x1024 .f32) (a b : Vec Ideal S1x1x1024 .f32) (wl wh : Vec Ideal S1024x2816 .bf16) (wo : Vec Ideal S2816x1024 .bf16)

/-- The half step of a band, from the loaded operands. -/
def band (i : S256x1024.Idx) : EReal :=
  x i + Ideal.ofBits .f32 0x3F000000#32 * rms (fun j => ∑ m : Fin 2816,
      gated (∑ k, rms (fun k => x (ix2 (i 0) k)) (fun k => a (ix3 0 0 k)) k * wl (ix2 k m))
        (∑ k, rms (fun k => x (ix2 (i 0) k)) (fun k => a (ix3 0 0 k)) k * wh (ix2 k m)) * wo (ix2 m j))
    (fun k => b (ix3 0 0 k)) (i 1)

theorem band0 (i : S256x1024.Idx) :
    k0_pay16 x (k0_pay14 (k0_pay6 x a wl) (k0_pay7 x a wh) wo) (k0_pay15 b) i = band x a b wl wh wo i := by
  unfold band gated rms
  simp only [← logistic_of_tanh]
  pointwise [k0_pay16, k0_pay14, k0_pay6, k0_pay7, k0_pay15, k0_pay5]

theorem band1 (i : S256x1024.Idx) :
    k0_pay21 x (k0_pay20 (k0_pay12 x (k0_pay8 a) (k0_pay9 x) k0_pay10 wl) (k0_pay13 x (k0_pay8 a) (k0_pay9 x) k0_pay10 wh)) wo b i
      = band x a b wl wh wo i := by
  unfold band gated rms
  simp only [← logistic_of_tanh]
  pointwise [k0_pay21, k0_pay20, k0_pay12, k0_pay13, k0_pay8, k0_pay9, k0_pay10, k0_pay11]

theorem band2 (i : S256x1024.Idx) :
    k0_pay25 (k0_pay18 x a wl) (k0_pay19 x a wh) x wo b i = band x a b wl wh wo i := by
  unfold band gated rms
  simp only [← logistic_of_tanh]
  pointwise [k0_pay25, k0_pay18, k0_pay19, k0_pay17]

theorem band3 (i : S256x1024.Idx) :
    k0_pay1 (k0_pay23 (k0_pay22 x a) wl) (k0_pay24 (k0_pay22 x a) wh) x wo b i = band x a b wl wh wo i := by
  unfold band gated rms
  simp only [← logistic_of_tanh]
  pointwise [k0_pay1, k0_pay23, k0_pay24, k0_pay22]

end Bands

/-- A band of the block of rows at its offset is the block's half step there. -/
theorem band_ld (o : ℕ) (x0 : Vec Ideal S1024x1024 .f32) (x2 : Vec Ideal S1x6x1024 .f32) (x3 : Vec Ideal S1024x5632 .bf16)
    (x4 : Vec Ideal S2816x1024 .bf16) (inb : ∀ a, (![o, 0] : Fin 2 → ℕ) a + (![256, 1024] : Fin 2 → ℕ) a ≤ S1024x1024.size a)
    (i : S256x1024.Idx) :
    band (View.ld x0 (Rect.unit (s := S1024x1024) ![o, 0] ![256, 1024] inb))
        (View.ld x2 (Rect.unit (s := S1x6x1024) ![0, 0, 0] ![1, 1, 1024] inb_S1x6x1024_S1x1x1024_0_0_0))
        (View.ld x2 (Rect.unit (s := S1x6x1024) ![0, 1, 0] ![1, 1, 1024] inb_S1x6x1024_S1x1x1024_0_1_0))
        (View.ld x3 (Rect.unit (s := S1024x5632) ![0, 0] ![1024, 2816] inb_S1024x5632_S1024x2816_0_0))
        (View.ld x3 (Rect.unit (s := S1024x5632) ![0, 2816] ![1024, 2816] inb_S1024x5632_S1024x2816_0_2816))
        (View.ld x4 (Rect.unit (s := S2816x1024) ![0, 0] ![2816, 1024] inb_S2816x1024_S2816x1024_0_0)) i
      = tile x0 x2 x3 x4 ((Rect.unit (s := S1024x1024) ![o, 0] ![256, 1024] inb).emb i) := by
  have er : ((Rect.unit (s := S1024x1024) ![o, 0] ![256, 1024] inb).emb i 0 : ℕ) = o + (i 0).val := by
    rw [Rect.emb_apply]; show o + 1 * (i 0).val = _; omega
  have e0 : ∀ k : Fin 1024, View.ld x0 (Rect.unit (s := S1024x1024) ![o, 0] ![256, 1024] inb) (ix2 (i 0) k)
      = x0 (ix2 ((Rect.unit (s := S1024x1024) ![o, 0] ![256, 1024] inb).emb i 0) k) := fun k => by
    refine View.ld_unit_apply_of _ _ _ _ _ _ fun a => ?_
    fin_cases a
    · exact er
    · simp
  have e0' : View.ld x0 (Rect.unit (s := S1024x1024) ![o, 0] ![256, 1024] inb) i
      = x0 (ix2 ((Rect.unit (s := S1024x1024) ![o, 0] ![256, 1024] inb).emb i 0) (i 1)) := by
    refine View.ld_unit_apply_of _ _ _ _ _ _ fun a => ?_
    fin_cases a
    · exact er
    · simp
  have e2 : ∀ k : Fin 1024, View.ld x2 (Rect.unit (s := S1x6x1024) ![0, 0, 0] ![1, 1, 1024] inb_S1x6x1024_S1x1x1024_0_0_0) (ix3 0 0 k)
      = x2 (ix3 0 0 k) := fun k => by
    refine View.ld_unit_apply_of _ _ _ _ _ _ fun a => ?_
    fin_cases a <;> simp
  have e2' : ∀ k : Fin 1024, View.ld x2 (Rect.unit (s := S1x6x1024) ![0, 1, 0] ![1, 1, 1024] inb_S1x6x1024_S1x1x1024_0_1_0) (ix3 0 0 k)
      = x2 (ix3 0 1 k) := fun k => by
    refine View.ld_unit_apply_of _ _ _ _ _ _ fun a => ?_
    fin_cases a <;> simp
  have e3 : ∀ (k : Fin 1024) (m : Fin 2816), View.ld x3 (Rect.unit (s := S1024x5632) ![0, 0] ![1024, 2816] inb_S1024x5632_S1024x2816_0_0) (ix2 k m)
      = x3 (ix2 k (lo m)) := fun k m => by
    refine View.ld_unit_apply_of _ _ _ _ _ _ fun a => ?_
    fin_cases a <;> simp [lo]
  have e3' : ∀ (k : Fin 1024) (m : Fin 2816), View.ld x3 (Rect.unit (s := S1024x5632) ![0, 2816] ![1024, 2816] inb_S1024x5632_S1024x2816_0_2816) (ix2 k m)
      = x3 (ix2 k (hi m)) := fun k m => by
    refine View.ld_unit_apply_of _ _ _ _ _ _ fun a => ?_
    fin_cases a <;> simp [hi]
  have e4 : ∀ (m : Fin 2816) (j : Fin 1024), View.ld x4 (Rect.unit (s := S2816x1024) ![0, 0] ![2816, 1024] inb_S2816x1024_S2816x1024_0_0) (ix2 m j)
      = x4 (ix2 m j) := fun m j => by
    refine View.ld_unit_apply_of _ _ _ _ _ _ fun a => ?_
    fin_cases a <;> simp
  have e1 : (Rect.unit (s := S1024x1024) ![o, 0] ![256, 1024] inb).emb i 1 = i 1 := Fin.ext (by
    rw [Rect.emb_apply]; show 0 + 1 * (i 1).val = (i 1).val; omega)
  unfold band tile step proj
  simp only [e0, e0', e2, e2', e3, e3', e4, e1]

section Body

variable (c : Dev nD) (i : grid0.Coords) (arg1 : Memref sig .tc .vmem S1024x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x5632 .bf16) (harg4 : arg4.IsWhole) (arg5 : Memref sig .tc .vmem S2816x1024 .bf16) (harg5 : arg5.IsWhole) (arg6 : Memref sig .tc .vmem S1024x1024 .f32) (harg6 : arg6.IsWhole) (arg7 : Memref sig .tc .vmem S16x1024 .f32) (harg7 : arg7.IsWhole)
    (x0 : Vec Ideal S1024x1024 .f32) (x1 : Vec Ideal S16x1024 .f32) (x2 : Vec Ideal S1x6x1024 .f32) (x3 : Vec Ideal S1024x5632 .bf16) (x4 : Vec Ideal S2816x1024 .bf16)

/-- What the body leaves in the output window at the first point … -/
theorem left_A (hc0 : cond0_0 i) :
    out0_A_5 (F := Ideal) c i arg1 harg1 arg2 harg2 arg3 harg3 arg4 harg4 arg5 harg5 arg6 harg6 arg7 harg7 hc0 x0 x1 x2 x3 x4 = tile x0 x2 x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  funext y
  refine View.canon_apply_of_pieces (tile x0 x2 x3 x4) _ ?_ y (cover0_A_5 c i arg1 harg1 arg2 harg2 arg3 harg3 arg4 harg4 arg5 harg5 arg6 harg6 arg7 harg7 hc0 x0 x1 x2 x3 x4 y)
  unfold kernelRun0_A
  dsimp only
  sl_unfold_words
  simp only [View.readAt_eq_ld, harg1.read_unread, harg3.read_unread, harg4.read_unread, harg5.read_unread]
  intro p hp
  simp only [List.mem_cons, List.not_mem_nil, or_false] at hp
  rcases hp with rfl | rfl | rfl | rfl <;> intro z
  · exact (band3 ..).trans (band_ld 768 ..)
  · exact (band2 ..).trans (band_ld 512 ..)
  · exact (band1 ..).trans (band_ld 256 ..)
  · exact (band0 ..).trans (band_ld 0 ..)

/-- … and at every other point. -/
theorem left_B (hc0 : ¬cond0_0 i) :
    out0_B_5 (F := Ideal) c i arg1 harg1 arg2 harg2 arg3 harg3 arg4 harg4 arg5 harg5 arg6 harg6 arg7 harg7 hc0 x0 x1 x2 x3 x4 = tile x0 x2 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4)]
  funext y
  refine View.canon_apply_of_pieces (tile x0 x2 x3 x4) _ ?_ y (cover0_B_5 c i arg1 harg1 arg2 harg2 arg3 harg3 arg4 harg4 arg5 harg5 arg6 harg6 arg7 harg7 hc0 x0 x1 x2 x3 x4 y)
  unfold kernelRun0_B
  dsimp only
  sl_unfold_words
  simp only [View.readAt_eq_ld, harg1.read_unread, harg3.read_unread, harg4.read_unread, harg5.read_unread]
  intro p hp
  simp only [List.mem_cons, List.not_mem_nil, or_false] at hp
  rcases hp with rfl | rfl | rfl | rfl <;> intro z
  · exact (band3 ..).trans (band_ld 768 ..)
  · exact (band2 ..).trans (band_ld 512 ..)
  · exact (band1 ..).trans (band_ld 256 ..)
  · exact (band0 ..).trans (band_ld 0 ..)

end Body

end Cert.Ffn1L1Ideal.Half

end
-- ==== Proof.Ffn1L1.Array.lean ====
/- The whole output array after the run: the half step of every token of the launched `h`, under the second layer's
   gains and weights. -/
module

public import proofs.«01_k».proof.Proof.Ffn1L1.Block
public import Idealize.ShloMosaic.Lib.Pipeline.Value
public import Idealize.ShloMosaic.Lib.Pipeline.ValueKit

@[expose] public section

noncomputable section

namespace Cert.Ffn1L1Ideal.Half

open Cert.Ffn1L1Ideal Cert.Ffn1L1Ideal.Gen Cert.Ffn1L1Ideal.Run Cert.Half Idealize.ShloMosaic Idealize.ShloMosaic.Tactic Idealize.ShloMosaic.TcCoe Idealize.SL.Sem

variable (m : (ℓ : Loc nD τ sig) → Buf (Elt Ideal) ℓ) (c : Dev nD)

/-- The half step of every token, from the arguments. -/
def whole (x0 : S16384x1024.Idx → EReal) (x2 : S2x6x1024.Idx → EReal) (x3 : S2x2x1024x5632.Idx → EReal)
    (x4 : S2x2x2816x1024.Idx → EReal) (i : S16384x1024.Idx) : EReal :=
  step (fun k => x0 (ix2 (i 0) k)) (fun k => x2 (ix3 1 0 k)) (fun k => x2 (ix3 1 1 k)) (fun k m => x3 (ix4 1 0 k m))
    (fun m j => x4 (ix4 1 0 m j)) (i 1)

/-- The weights the host hands the call: the layer's slices, their format changed (nothing, over the extended reals). -/
theorem V_wi (k : Fin 1024) (n : Fin 5632) :
    V m c main_v2 (ix2 k n) = m ((c : Thread nD τ).loc main_arg3) (ix4 1 0 k n) := by
  have e : V m c main_v2 = truncf (F := Ideal) .bf16 (shapeCast S1024x5632 (extractStridedSlice S1x1x1024x5632 ![1, 0, 0, 0]
      (m ((c : Thread nD τ).loc main_arg3)) slices_S2x2x1024x5632_S1x1x1024x5632_1_0_0_0) shapeCasts_S1x1x1024x5632_S1024x5632)
      bitsLt_bf16_f32 := by
    rfl
  rw [e]
  pointwise []

theorem V_wo (k : Fin 2816) (n : Fin 1024) :
    V m c main_v5 (ix2 k n) = m ((c : Thread nD τ).loc main_arg4) (ix4 1 0 k n) := by
  have e : V m c main_v5 = truncf (F := Ideal) .bf16 (shapeCast S2816x1024 (extractStridedSlice S1x1x2816x1024 ![1, 0, 0, 0]
      (m ((c : Thread nD τ).loc main_arg4)) slices_S2x2x2816x1024_S1x1x2816x1024_1_0_0_0) shapeCasts_S1x1x2816x1024_S2816x1024)
      bitsLt_bf16_f32 := by
    rfl
  rw [e]
  pointwise []

/-! The windows' block indices, decided over the grid. -/

theorem at0 : ∀ t : Fin cfg0.N, win0_0.index t = ![t.val, 0] := (by decide +kernel : ∀ t : Fin grid0.N, _)
theorem at2 : ∀ t : Fin cfg0.N, win0_2.index t = ![1, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)

/-- The block point `t` writes is the half step of its block of rows, whichever case runs. -/
theorem left (t : Fin cfg0.N) :
    outsAt0 m c t.val t.isLt = tile (iblk m c 0 t) (iblk m c 2 t) (iblk m c 3 t) (iblk m c 4 t) := by
  by_cases h0 : t.val % 16 = 0
  · rw [outsAt0_A m c t h0]; exact left_A ..
  · rw [outsAt0_B m c t h0]; exact left_B ..

/-- A read of each input block is a read of its argument. -/
theorem blk_h (t : Fin cfg0.N) (y : S1024x1024.Idx) (k : Fin 1024) :
    iblk m c 0 t (ix2 (y 0) k) = m ((c : Thread nD τ).loc main_arg0) (ix2 ((win0_5.blk t).view.emb y 0) k) := by
  rw [← V_main_arg0 m c]
  blk_ext [iblk, at0, at5]

theorem blk_g (t : Fin cfg0.N) (r : Fin 6) (k : Fin 1024) :
    iblk m c 2 t (ix3 0 r k) = m ((c : Thread nD τ).loc main_arg2) (ix3 1 r k) := by
  rw [← V_main_arg2 m c]
  blk_ext [iblk, at2]

theorem blk_wi (t : Fin cfg0.N) (k : Fin 1024) (n : Fin 5632) :
    iblk m c 3 t (ix2 k n) = m ((c : Thread nD τ).loc main_arg3) (ix4 1 0 k n) := by
  rw [← V_wi m c]
  blk_ext [iblk, at3]

theorem blk_wo (t : Fin cfg0.N) (k : Fin 2816) (n : Fin 1024) :
    iblk m c 4 t (ix2 k n) = m ((c : Thread nD τ).loc main_arg4) (ix4 1 0 k n) := by
  rw [← V_wo m c]
  blk_ext [iblk, at4]

/-- THE ARRAY after the run: the sixteen blocks cover it, and each is its rows' half step. -/
theorem final : (dats m 0 c).arrAt 5 cfg0.N = whole (m ((c : Thread nD τ).loc main_arg0)) (m ((c : Thread nD τ).loc main_arg2))
    (m ((c : Thread nD τ).loc main_arg3)) (m ((c : Thread nD τ).loc main_arg4)) := by
  refine (dats m 0 c).arrAt_eq_of_covers 5 _ (by decide +kernel) fun t hf y => ?_
  blk_simp
  rw [after0_5, left]
  have e1 : (win0_5.blk t).view.emb y 1 = y 1 := by
    apply Fin.ext; blk_simp [at5]
  unfold tile whole
  simp only [blk_h, blk_g, blk_wi, blk_wo, e1]

end Cert.Ffn1L1Ideal.Half

end
-- ==== Proof.Ffn1L1.Ref.lean ====
/- The reference, at an element: the half step of the token's row. -/
module

public import proofs.«01_k».proof.Proof.Gen.Ffn1L1RefIdeal.Read
public import proofs.«01_k».proof.Proof.Half

@[expose] public section

noncomputable section

namespace Cert.Ffn1L1RefIdeal.Half

open Cert.Ffn1L1RefIdeal Cert.Ffn1L1RefIdeal.Gen Cert.Ffn1L1RefIdeal.Read Cert.Half Idealize.ShloMosaic Idealize.ShloMosaic.TcCoe Idealize.SL.Sem

variable (x0 : (⟨S16384x1024, .f32⟩ : BufTy).Contents (Elt Ideal)) (x1 : (⟨S16x1024, .f32⟩ : BufTy).Contents (Elt Ideal))
  (x2 : (⟨S2x6x1024, .f32⟩ : BufTy).Contents (Elt Ideal)) (x3 : (⟨S2x2x1024x5632, .f32⟩ : BufTy).Contents (Elt Ideal))
  (x4 : (⟨S2x2x2816x1024, .f32⟩ : BufTy).Contents (Elt Ideal))

/-- A token's row of the joined meta rows and tokens is its row of the tokens. -/
theorem joined (r : Fin 16384) (k : Fin 1024) :
    val_main_v2 (F := Ideal) x0 x1 (ix3 0 (⟨16 + r.val, by omega⟩ : Fin 16400) k) = x0 (ix2 r k) := by
  pointwise [val_main_v2, val_main_v1, val_main_v0]

set_option maxHeartbeats 2000000 in
/-- Every row of the joined array, stepped. -/
theorem stepped (r : Fin 16400) (j : Fin 1024) :
    val_main_v47 (F := Ideal) x0 x1 x2 x3 x4 (ix3 0 r j)
      = step (fun k => val_main_v2 (F := Ideal) x0 x1 (ix3 0 r k)) (fun k => x2 (ix3 1 0 k)) (fun k => x2 (ix3 1 1 k)) (fun k m => x3 (ix4 1 0 k m))
          (fun m j => x4 (ix4 1 0 m j)) j := by
  unfold step proj gated rms
  simp only [logistic_written]
  pointwise [val_main_v3, val_main_v4, val_main_v5, val_main_v6, val_main_v7, val_main_cst, val_main_v8, val_main_v9, val_main_cst_0, val_main_v10, val_main_v11, val_main_cst_1, val_main_v12, val_main_v13, val_main_v14, val_main_v15, val_main_v16, val_main_v17, val_main_v18, val_main_v19, val_main_v20, val_main_v21, val_main_v22, val_main_v23, val_main_v24, val_main_v25, val_main_v26, val_main_call0_v0, val_main_call0_v1, val_main_call0_cst, val_main_call0_v2, val_main_call0_v3, val_main_call0_cst_0, val_main_call0_v4, val_main_call0_v5, val_main_v27, val_main_v28, val_main_v29, val_main_v30, val_main_v31, val_main_v32, val_main_cst_2, val_main_v33, val_main_v34, val_main_cst_3, val_main_v35, val_main_v36, val_main_cst_4, val_main_v37, val_main_v38, val_main_v39, val_main_v40, val_main_v41, val_main_v42, val_main_v43, val_main_v44, val_main_cst_5, val_main_v45, val_main_v46, val_main_v47]
  rfl

theorem result_apply (r : Fin 16384) (j : Fin 1024) :
    val_main_v49 (F := Ideal) x0 x1 x2 x3 x4 (ix2 r j)
      = step (fun k => x0 (ix2 r k)) (fun k => x2 (ix3 1 0 k)) (fun k => x2 (ix3 1 1 k)) (fun k m => x3 (ix4 1 0 k m))
          (fun m j => x4 (ix4 1 0 m j)) j := by
  have e : val_main_v49 (F := Ideal) x0 x1 x2 x3 x4 (ix2 r j) = val_main_v47 (F := Ideal) x0 x1 x2 x3 x4 (ix3 0 ⟨16 + r.val, by omega⟩ j) := by
    pointwise [val_main_v49, val_main_v48]
  rw [e, stepped]
  simp only [joined]

end Cert.Ffn1L1RefIdeal.Half

end
-- ==== Proof.Ffn1L1.Value.lean ====
/- The value claim: the call's result is the reference's, element by element. -/
module

public import proofs.«01_k».proof.Defs
public import proofs.«01_k».proof.Proof.Ffn1L1.Array
public import proofs.«01_k».proof.Proof.Ffn1L1.Ref
public import proofs.«01_k».proof.Proof.Gen.Ffn1L1RefIdeal.Run

@[expose] public section

noncomputable section

namespace Cert.Ffn1L1Ideal.Half

open Cert.Half Idealize.ShloMosaic Idealize.ShloMosaic.TcCoe Idealize.SL.Sem

/-- The reference's result, as an array: the half step of every token. -/
theorem reference_eq (x0 x1 x2 x3 x4) :
    Cert.Ffn1L1RefIdeal.Read.val_main_v49 (F := Ideal) x0 x1 x2 x3 x4 = whole x0 x2 x3 x4 := by
  funext i
  obtain ⟨r, j, rfl⟩ : ∃ r j, i = ix2 r j := ⟨i 0, i 1, by funext a; fin_cases a <;> rfl⟩
  exact Cert.Ffn1L1RefIdeal.Half.result_apply x0 x1 x2 x3 x4 r j

theorem algebraic : Cert.algebraic_Ffn1L1Ideal_Ffn1L1RefIdeal := by
  intro m ρ m' ρ' _ hag
  refine ⟨fun c => whole (m ((c.tc : Thread _ _).loc Cert.Ffn1L1Ideal.main_arg0)) (m ((c.tc : Thread _ _).loc Cert.Ffn1L1Ideal.main_arg2))
    (m ((c.tc : Thread _ _).loc Cert.Ffn1L1Ideal.main_arg3)) (m ((c.tc : Thread _ _).loc Cert.Ffn1L1Ideal.main_arg4)), ?_, ?_⟩
  · refine (θ_run _ _ _).mono (fun r h c => ?_) (Cert.Ffn1L1Ideal.Run.run_blocks (F := Ideal) m ρ)
    obtain ⟨h5, hk⟩ := h c
    exact ⟨h5.trans (final m c), hk⟩
  · refine (θ_run _ _ _).mono (fun r h c => ?_) (Cert.Ffn1L1RefIdeal.Value.run (F := Ideal) m' ρ')
    obtain ⟨h5, hk⟩ := h c
    obtain ⟨e0, e1, e2, e3, e4⟩ := hag c
    refine ⟨h5.trans ?_, hk⟩
    rw [Cert.Ffn1L1RefIdeal.Read.val_main_v49_eq, reference_eq, e0, e2, e3, e4]

end Cert.Ffn1L1Ideal.Half

end
-- ==== Proof.Mixer.Model.lean ====
/- The rows of one tile of the mixer's body, as functions of what the body loads, at any float values: the norm, the
   projections, the windowed sums of the pool, the scores of a block of queries and a group of heads, their weights, the
   weighted values, the gates, the merge and the last norm. The text is the body's, with the block of queries, the group of
   heads and the head as parameters. -/
module

public import proofs.«01_k».proof.Proof.Gen.MixerIdeal.Skeleton

@[expose] public section

set_option maxRecDepth 16384

noncomputable section

namespace Cert.MixerIdeal.Model

open Idealize.ShloMosaic Idealize.ShloMosaic.TcCoe Idealize.ShloMosaic.Tactic
open Cert.MixerIdeal Cert.MixerIdeal.Gen

variable {F : FTy → Type} [FloatOps F] [Named F]

/-- A unit-stride block of a rectangle is in range when its rows and its lanes are. -/
theorem sl2 {A B a b : ℕ} (o p : ℕ) (ha : o + a ≤ A) (hb : p + b ≤ B) :
    (⟨2, ![A, B]⟩ : Shape).Slices ![o, p] ⟨2, ![a, b]⟩ :=
  ⟨rfl, fun x => by match x with | 0 => exact ha | 1 => exact hb⟩

/-! ### The norm and the projections -/

/-- The norm of the rows before the mixer. -/
def hn (h : FVec F S512x1024 .f32) (g : FVec F S1x1x1024 .f32) : FVec F S512x1024 .bf16 :=
  truncf .bf16 (mulf (mulf h (broadcastTo S512x1024 (rsqrt (addf (divf (shapeCast S512x1 (multiReduction .add [1] S512 (mulf h h)
    0x00000000#32 reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024))
    (broadcastTo S512x1024 (shapeCast S1x1024 g shapeCasts_S1x1x1024_S1x1024) broadcasts_S1x1024_S512x1024)) bitsLt_bf16_f32

/-- The keys of the rows. -/
def kt (x : FVec F S512x1024 .bf16) (w : FVec F S1024x256 .bf16) : FVec F S512x256 .bf16 :=
  truncf .bf16 (matmul dot_S512x1024_S1024x256_S512x256_1_0_0_1_n_n none x (shapeCast S1024x256 w shapeCasts_S1024x256_S1024x256)
    (constant S512x256 .f32 0x00000000#32)) bitsLt_bf16_f32

/-- The scaled queries, a query to a lane. -/
def qt (x : FVec F S512x1024 .bf16) (w : FVec F S1024x1024 .bf16) : FVec F S1024x512 .bf16 :=
  truncf .bf16 (mulf (matmul dot_S1024x1024_S512x1024_S1024x512_0_1_1_0_n_n none (shapeCast S1024x1024 w shapeCasts_S1024x1024_S1024x1024) x
    (constant S1024x512 .f32 0x00000000#32)) (broadcast S1024x512 (Named.named κ "q_scale" 0x3E38AA3B#32))) bitsLt_bf16_f32

/-- The values, a row to a lane. -/
def vt (x : FVec F S512x1024 .bf16) (w : FVec F S1024x256 .bf16) : FVec F S256x512 .bf16 :=
  truncf .bf16 (matmul dot_S1024x256_S512x1024_S256x512_0_1_1_0_n_n none (shapeCast S1024x256 w shapeCasts_S1024x256_S1024x256) x
    (constant S256x512 .f32 0x00000000#32)) bitsLt_bf16_f32

/-- The inputs of the pool. -/
def ut (x : FVec F S512x1024 .bf16) (w : FVec F S1024x512 .bf16) : FVec F S512x512 .f32 :=
  matmul dot_S512x1024_S1024x512_S512x512_1_0_0_1_n_n none x (shapeCast S1024x512 w shapeCasts_S1024x512_S1024x512)
    (constant S512x512 .f32 0x00000000#32)

/-- A chunk of 256 lanes of the gates. -/
def gate (x : FVec F S512x1024 .bf16) (w : FVec F S1024x256 .bf16) : FVec F S512x256 .f32 :=
  addf (mulf (broadcast S512x256 (Scalar.ofBits .f32 0x3F000000#32)) (tanh (mulf (broadcast S512x256 (Scalar.ofBits .f32 0x3F000000#32))
    (matmul dot_S512x1024_S1024x256_S512x256_1_0_0_1_n_n none x (shapeCast S1024x256 w shapeCasts_S1024x256_S1024x256)
      (constant S512x256 .f32 0x00000000#32))))) (broadcast S512x256 (Scalar.ofBits .f32 0x3F000000#32))

/-! ### The pool -/

/-- The rows of the pool below the sixteen before them, and their sums over 2, 4, 8 and 16 rows. -/
def pe (c : FVec F S1x16x512 .f32) (u : FVec F S512x512 .f32) : FVec F S528x512 .f32 :=
  concatenate S528x512 0 [⟨S16x512, shapeCast S16x512 c shapeCasts_S1x16x512_S16x512⟩, ⟨S512x512, u⟩] concatenates_S16x512_S512x512_S528x512_d0
def twice (e : FVec F S528x512 .f32) (n : BitVec 32) : FVec F S528x512 .f32 := addf e (dynamicRotate 0 n none e rotates_S528x512_d0)
def p2 (e : FVec F S528x512 .f32) := twice e 1#32
def p4 (e : FVec F S528x512 .f32) := twice (p2 e) 2#32
def p8 (e : FVec F S528x512 .f32) := twice (p4 e) 4#32
def p16 (e : FVec F S528x512 .f32) := twice (p8 e) 8#32

/-- A group of the pool: the mean over the window less the row itself. -/
def mix (g : ℕ) (hg : g ≤ 3) (w : BitVec 32) (s : FVec F S528x512 .f32) (u : FVec F S512x512 .f32) : FVec F S512x128 .bf16 :=
  truncf .bf16 (subf (divf (extractStridedSlice S512x128 ![16, 128 * g] s (sl2 16 (128 * g) (by omega) (by omega)))
    (broadcast S512x128 (Scalar.ofBits .f32 w))) (extractStridedSlice S512x128 ![0, 128 * g] u (sl2 0 (128 * g) (by omega) (by omega)))) bitsLt_bf16_f32

/-- A group through its own matrix. -/
def grp (x : FVec F S512x128 .bf16) (w : FVec F S1x128x128 .bf16) : FVec F S512x128 .f32 :=
  matmul dot_S512x128_S128x128_S512x128_1_0_0_1_n_n none x (shapeCast S128x128 w shapeCasts_S1x128x128_S128x128)
    (constant S512x128 .f32 0x00000000#32)

/-- The pool's part of the merge. -/
def poolY (c : FVec F S1x16x512 .f32) (u : FVec F S512x512 .f32) (wg : Fin 4 → FVec F S1x128x128 .bf16) (sc : FVec F S1x1x512 .f32)
    (wp : FVec F S512x1024 .bf16) : FVec F S512x1024 .f32 :=
  matmul dot_S512x512_S512x1024_S512x1024_1_0_0_1_n_n none
    (truncf .bf16 (mulf (concatenate S512x512 1 [⟨S512x128, grp (mix 0 (by omega) 0x40000000#32 (p2 (pe c u)) u) (wg 0)⟩,
        ⟨S512x128, grp (mix 1 (by omega) 0x40800000#32 (p4 (pe c u)) u) (wg 1)⟩,
        ⟨S512x128, grp (mix 2 (by omega) 0x41000000#32 (p8 (pe c u)) u) (wg 2)⟩,
        ⟨S512x128, grp (mix 3 (by omega) 0x41800000#32 (p16 (pe c u)) u) (wg 3)⟩]
        concatenates_S512x128_S512x128_S512x128_S512x128_S512x512_d1)
      (broadcastTo S512x512 (shapeCast S1x512 sc shapeCasts_S1x1x512_S1x512) broadcasts_S1x512_S512x512)) bitsLt_bf16_f32)
    (shapeCast S512x1024 wp shapeCasts_S512x1024_S512x1024) (constant S512x1024 .f32 0x00000000#32)

/-! ### The scores -/

/-- The lanes of the two heads of keys that hold head `kh`. -/
def ln (kh : Fin 4) : ℕ := 128 * (kh.val / 2)
theorem ln_le (kh : Fin 4) : ln kh + 128 ≤ 256 := by have := kh.isLt; unfold ln; omega

/-- The keys of the first block: the carried block, the block, the sixteen meta keys. -/
def kkA (kc : FVec F S1x128x256 .bf16) (k : FVec F S512x256 .bf16) (km : FVec F S16x256 .bf16) (kh : Fin 4) : FVec F S272x128 .bf16 :=
  concatenate S272x128 0 [⟨S128x128, extractStridedSlice S128x128 ![0, ln kh] (shapeCast S128x256 kc shapeCasts_S1x128x256_S128x256) (sl2 0 (ln kh) (by omega) (ln_le kh))⟩,
    ⟨S128x128, extractStridedSlice S128x128 ![0, ln kh] k (sl2 0 (ln kh) (by omega) (ln_le kh))⟩,
    ⟨S16x128, extractStridedSlice S16x128 ![0, ln kh] km (sl2 0 (ln kh) (by omega) (ln_le kh))⟩] concatenates_S128x128_S128x128_S16x128_S272x128_d0

/-- The keys of a later block: the block before it, the block, the sixteen meta keys. -/
def kkB (k : FVec F S512x256 .bf16) (km : FVec F S16x256 .bf16) (b : Fin 3) (kh : Fin 4) : FVec F S272x128 .bf16 :=
  concatenate S272x128 0 [⟨S128x128, extractStridedSlice S128x128 ![0, ln kh] (extractStridedSlice S128x256 ![128 * b.val, 0] k
        (sl2 (128 * b.val) 0 (by omega) (by omega))) (sl2 0 (ln kh) (by omega) (ln_le kh))⟩,
    ⟨S128x128, extractStridedSlice S128x128 ![128 * (b.val + 1), ln kh] k (sl2 (128 * (b.val + 1)) (ln kh) (by omega) (ln_le kh))⟩,
    ⟨S16x128, extractStridedSlice S16x128 ![0, ln kh] km (sl2 0 (ln kh) (by omega) (ln_le kh))⟩] concatenates_S128x128_S128x128_S16x128_S272x128_d0

/-- The queries of a head of the group `kh` in block `b`. -/
def qh (q : FVec F S1024x512 .bf16) (b kh g : Fin 4) : FVec F S64x128 .bf16 :=
  extractStridedSlice S64x128 ![64 * (4 * kh.val + g.val), 128 * b.val] q (sl2 (64 * (4 * kh.val + g.val)) (128 * b.val) (by omega) (by omega))

/-- The four heads of the group side by side. -/
def qs (q : FVec F S1024x512 .bf16) (b kh : Fin 4) : FVec F S64x512 .bf16 :=
  concatenate S64x512 1 [⟨S64x128, qh q b kh 0⟩, ⟨S64x128, qh q b kh 1⟩, ⟨S64x128, qh q b kh 2⟩, ⟨S64x128, qh q b kh 3⟩]
    concatenates_S64x128_S64x128_S64x128_S64x128_S64x512_d1

def z64 : FVec F S64x512 .bf16 := broadcast S64x512 (Scalar.ofBits .bf16 0x0000#16)

/-- The queries over, or under, 64 rows of zeros: those rows meet the other head's lanes of the keys. -/
def qz (q : FVec F S1024x512 .bf16) (b kh : Fin 4) : FVec F S128x512 .bf16 :=
  if kh.val % 2 = 0 then concatenate S128x512 0 [⟨S64x512, qs q b kh⟩, ⟨S64x512, z64⟩] concatenates_S64x512_S64x512_S128x512_d0
  else concatenate S128x512 0 [⟨S64x512, z64⟩, ⟨S64x512, qs q b kh⟩] concatenates_S64x512_S64x512_S128x512_d0

/-- The scores of 272 keys against the queries of four heads. -/
def sc (kk : FVec F S272x128 .bf16) (q : FVec F S128x512 .bf16) : FVec F S272x512 .f32 :=
  matmul dot_S272x128_S128x512_S272x512_1_0_0_1_n_n none kk q (constant S272x512 .f32 0x00000000#32)

/-- The values of the first block and of a later block, beside the sixteen of the meta rows. -/
def vvA (vc : FVec F S1x256x128 .bf16) (v : FVec F S256x512 .bf16) (vm : FVec F S256x16 .bf16) (kh : Fin 4) : FVec F S64x272 .bf16 :=
  concatenate S64x272 1 [⟨S64x128, extractStridedSlice S64x128 ![64 * kh.val, 0] (shapeCast S256x128 vc shapeCasts_S1x256x128_S256x128) (sl2 (64 * kh.val) 0 (by omega) (by omega))⟩,
    ⟨S64x128, extractStridedSlice S64x128 ![64 * kh.val, 0] v (sl2 (64 * kh.val) 0 (by omega) (by omega))⟩,
    ⟨S64x16, extractStridedSlice S64x16 ![64 * kh.val, 0] vm (sl2 (64 * kh.val) 0 (by omega) (by omega))⟩] concatenates_S64x128_S64x128_S64x16_S64x272_d1
def vvB (v : FVec F S256x512 .bf16) (vm : FVec F S256x16 .bf16) (b : Fin 3) (kh : Fin 4) : FVec F S64x272 .bf16 :=
  concatenate S64x272 1 [⟨S64x128, extractStridedSlice S64x128 ![64 * kh.val, 0] (extractStridedSlice S256x128 ![0, 128 * b.val] v
        (sl2 0 (128 * b.val) (by omega) (by omega))) (sl2 (64 * kh.val) 0 (by omega) (by omega))⟩,
    ⟨S64x128, extractStridedSlice S64x128 ![64 * kh.val, 128 * (b.val + 1)] v (sl2 (64 * kh.val) (128 * (b.val + 1)) (by omega) (by omega))⟩,
    ⟨S64x16, extractStridedSlice S64x16 ![64 * kh.val, 0] vm (sl2 (64 * kh.val) 0 (by omega) (by omega))⟩] concatenates_S64x128_S64x128_S64x16_S64x272_d1

/-! ### The weights -/

/-- The logits of a head: its scores with the bias. -/
def lgB (s : FVec F S272x512 .f32) (bias : FVec F S1x272x128 .f32) (g : Fin 4) : FVec F S272x128 .f32 :=
  addf (extractStridedSlice S272x128 ![0, 128 * g.val] s (sl2 0 (128 * g.val) (by omega) (by omega))) (shapeCast S272x128 bias shapeCasts_S1x272x128_S272x128)

/-- In the first block of the first tile the carried keys are masked. -/
def lgA (i : BitVec 32) (l : FVec F S272x128 .f32) : FVec F S272x128 .f32 :=
  select (broadcastTo S272x128 (shapeCast S272x1 (cmpi .sge (iota .tc S272x1 32 [0] iota_S272x1_d0_w32)
      (broadcast S272x1 (Scalar.select (Scalar.cmpi .sgt i 0#32) 0#32 128#32))) shapeCasts_S272x1_S272x1) broadcasts_S272x1_S272x128)
    l (broadcast S272x128 (Named.named κ "neg_inf" 0xF149F2CA#32))

def sk (sink : F .f32) : F .f32 := Scalar.mulf sink (Named.named κ "log2e" 0x3FB8AA3B#32)

/-- The largest logit of a query, the sink's included. -/
def mx (l : FVec F S272x128 .f32) (sink : F .f32) : FVec F S1x128 .f32 :=
  maximumf (shapeCast S1x128 (multiReduction .maximumf [0] S128 l 0xFF800000#32 reduces_S272x128_S128 (.inl rfl) rfl) shapeCasts_S128_S1x128)
    (broadcast S1x128 (sk sink))

/-- The weights before the division, and one over their sum. -/
def pr (l : FVec F S272x128 .f32) (sink : F .f32) : FVec F S272x128 .f32 :=
  exp2 (subf l (broadcastTo S272x128 (mx l sink) broadcasts_S1x128_S272x128))
def inv (l : FVec F S272x128 .f32) (sink : F .f32) : FVec F S1x128 .f32 :=
  divf (broadcast S1x128 (Scalar.ofBits .f32 0x3F800000#32))
    (addf (shapeCast S1x128 (multiReduction .add [0] S128 (pr l sink) 0x00000000#32 reduces_S272x128_S128 (.inl rfl) rfl) shapeCasts_S128_S1x128)
      (exp2 (subf (broadcast S1x128 (sk sink)) (mx l sink))))

/-- The weighted values of four heads, before the division … -/
def wv (vv : FVec F S64x272 .bf16) (l : Fin 4 → FVec F S272x128 .f32) (sink : Fin 4 → F .f32) : FVec F S64x512 .f32 :=
  matmul dot_S64x272_S272x512_S64x512_1_0_0_1_n_n none vv
    (concatenate S272x512 1 [⟨S272x128, truncf .bf16 (pr (l 0) (sink 0)) bitsLt_bf16_f32⟩, ⟨S272x128, truncf .bf16 (pr (l 1) (sink 1)) bitsLt_bf16_f32⟩,
      ⟨S272x128, truncf .bf16 (pr (l 2) (sink 2)) bitsLt_bf16_f32⟩, ⟨S272x128, truncf .bf16 (pr (l 3) (sink 3)) bitsLt_bf16_f32⟩]
      concatenates_S272x128_S272x128_S272x128_S272x128_S272x512_d1) (constant S64x512 .f32 0x00000000#32)

/-- … and a head's, divided. -/
def ov (o : FVec F S64x512 .f32) (n : FVec F S1x128 .f32) (g : Fin 4) : FVec F S64x128 .f32 :=
  mulf (extractStridedSlice S64x128 ![0, 128 * g.val] o (sl2 0 (128 * g.val) (by omega) (by omega))) (broadcastTo S64x128 n broadcasts_S1x128_S64x128)

/-! ### One tile -/

/-- What the body loads: the rows, the gains, the weights, the sinks, and the scratch. -/
structure In (F : FTy → Type) where
  h : FVec F S512x1024 .f32
  g2 : FVec F S1x1x1024 .f32
  g3 : FVec F S1x1x1024 .f32
  wk : FVec F S1024x256 .bf16
  wq : FVec F S1024x1024 .bf16
  wu : FVec F S1024x512 .bf16
  wv : FVec F S1024x256 .bf16
  wg : Fin 8 → FVec F S1024x256 .bf16
  wgrp : Fin 4 → FVec F S1x128x128 .bf16
  ps : FVec F S1x1x512 .f32
  wpp : FVec F S512x1024 .bf16
  sink : Fin 16 → F .f32
  wap : Fin 4 → FVec F S1024x256 .bf16
  wo : Fin 4 → FVec F S1024x256 .bf16
  uc : FVec F S1x16x512 .f32
  kc : FVec F S1x128x256 .bf16
  vc : FVec F S1x256x128 .bf16
  km : FVec F S16x256 .bf16
  vm : FVec F S256x16 .bf16
  bias : Fin 16 → FVec F S1x272x128 .f32

namespace In

variable (x : In F) (i : BitVec 32)

def n : FVec F S512x1024 .bf16 := hn x.h x.g2
def k : FVec F S512x256 .bf16 := kt x.n x.wk
def q : FVec F S1024x512 .bf16 := qt x.n x.wq
def u : FVec F S512x512 .f32 := ut x.n x.wu
def v : FVec F S256x512 .bf16 := vt x.n x.wv
def y : FVec F S512x1024 .f32 := poolY x.uc x.u x.wgrp x.ps x.wpp

/-- Head `4 kh + g`. -/
def hd (kh g : Fin 4) : Fin 16 := ⟨4 * kh.val + g.val, by omega⟩

/-- The logits of a head in the first block and in a later block. -/
def l0 (kh g : Fin 4) : FVec F S272x128 .f32 := lgA i (lgB (sc (kkA x.kc x.k x.km kh) (qz x.q 0 kh)) (x.bias (hd kh g)) g)
def l1 (b : Fin 3) (kh g : Fin 4) : FVec F S272x128 .f32 := lgB (sc (kkB x.k x.km b kh) (qz x.q b.succ kh)) (x.bias (hd kh g)) g

/-- The attention's result for head `4 kh + g` in the first block and in a later block. -/
def o0 (kh g : Fin 4) : FVec F S64x128 .f32 :=
  ov (Model.wv (vvA x.vc x.v x.vm kh) (fun g => x.l0 i kh g) (fun g => x.sink (hd kh g))) (inv (x.l0 i kh g) (x.sink (hd kh g))) g
def o1 (b : Fin 3) (kh g : Fin 4) : FVec F S64x128 .f32 :=
  ov (Model.wv (vvB x.v x.vm b kh) (fun g => x.l1 b kh g) (fun g => x.sink (hd kh g))) (inv (x.l1 b kh g) (x.sink (hd kh g))) g

end In

/-- The sixteen heads of a block one under the other. -/
def stack (o : Fin 4 → Fin 4 → FVec F S64x128 .f32) : FVec F S1024x128 .f32 :=
  concatenate S1024x128 0 [⟨S64x128, o 0 0⟩, ⟨S64x128, o 0 1⟩, ⟨S64x128, o 0 2⟩, ⟨S64x128, o 0 3⟩, ⟨S64x128, o 1 0⟩, ⟨S64x128, o 1 1⟩, ⟨S64x128, o 1 2⟩, ⟨S64x128, o 1 3⟩, ⟨S64x128, o 2 0⟩, ⟨S64x128, o 2 1⟩, ⟨S64x128, o 2 2⟩, ⟨S64x128, o 2 3⟩, ⟨S64x128, o 3 0⟩, ⟨S64x128, o 3 1⟩, ⟨S64x128, o 3 2⟩, ⟨S64x128, o 3 3⟩] concatenates_S64x128_S64x128_S64x128_S64x128_S64x128_S64x128_S64x128_S64x128_S64x128_S64x128_S64x128_S64x128_S64x128_S64x128_S64x128_S64x128_S1024x128_d0

/-- Two blocks side by side. -/
def two (a b : FVec F S1024x128 .f32) : FVec F S1024x256 .bf16 :=
  truncf .bf16 (concatenate S1024x256 1 [⟨S1024x128, a⟩, ⟨S1024x128, b⟩] concatenates_S1024x128_S1024x128_S1024x256_d1) bitsLt_bf16_f32

/-- A chunk of the attention's projection. -/
def yp (a : FVec F S1024x256 .bf16) (w : FVec F S1024x256 .bf16) : FVec F S256x256 .f32 :=
  matmul dot_S1024x256_S1024x256_S256x256_0_0_1_1_n_n none a (shapeCast S1024x256 w shapeCasts_S1024x256_S1024x256) (constant S256x256 .f32 0x00000000#32)

def cat4 (a b c d : FVec F S256x256 .f32) : FVec F S256x1024 .f32 :=
  concatenate S256x1024 1 [⟨S256x256, a⟩, ⟨S256x256, b⟩, ⟨S256x256, c⟩, ⟨S256x256, d⟩] concatenates_S256x256_S256x256_S256x256_S256x256_S256x1024_d1

/-- Half of a chunk of the gates' rows. -/
def gs (g : FVec F S512x256 .f32) (b : Fin 2) : FVec F S256x256 .f32 :=
  extractStridedSlice S256x256 ![256 * b.val, 0] g (sl2 (256 * b.val) 0 (by omega) (by omega))

/-- The gated sum of the two parts. -/
def mg (b : Fin 2) (gt : Fin 8 → FVec F S512x256 .f32) (y : FVec F S512x1024 .f32) (a : FVec F S256x1024 .f32) : FVec F S256x1024 .bf16 :=
  truncf .bf16 (addf (mulf (cat4 (gs (gt 0) b) (gs (gt 1) b) (gs (gt 2) b) (gs (gt 3) b))
      (extractStridedSlice S256x1024 ![256 * b.val, 0] y (sl2 (256 * b.val) 0 (by omega) (by omega))))
    (mulf (cat4 (gs (gt 4) b) (gs (gt 5) b) (gs (gt 6) b) (gs (gt 7) b)) a)) bitsLt_bf16_f32

def zp (a : FVec F S256x1024 .bf16) (w : FVec F S1024x256 .bf16) : FVec F S256x256 .f32 :=
  matmul dot_S256x1024_S1024x256_S256x256_1_0_0_1_n_n none a (shapeCast S1024x256 w shapeCasts_S1024x256_S1024x256) (constant S256x256 .f32 0x00000000#32)

/-- The rows plus the norm of the mixed rows. -/
def fin (b : Fin 2) (h : FVec F S512x1024 .f32) (z : FVec F S256x1024 .f32) (g : FVec F S1x1x1024 .f32) : FVec F S256x1024 .f32 :=
  addf (extractStridedSlice S256x1024 ![256 * b.val, 0] h (sl2 (256 * b.val) 0 (by omega) (by omega)))
   (mulf (mulf z (broadcastTo S256x1024 (rsqrt (addf (divf (shapeCast S256x1 (multiReduction .add [1] S256 (mulf z z)
    0x00000000#32 reduces_S256x1024_S256 (.inl rfl) rfl) shapeCasts_S256_S256x1) (broadcast S256x1 (Scalar.ofBits .f32 0x44800000#32)))
    (broadcast S256x1 (Scalar.ofBits .f32 0x358637BD#32)))) broadcasts_S256x1_S256x1024))
    (broadcastTo S256x1024 (shapeCast S1x1024 g shapeCasts_S1x1x1024_S1x1024) broadcasts_S1x1024_S256x1024))

namespace In

variable (x : In F) (i : BitVec 32)

/-- The attention's results of two blocks. -/
def at0 : FVec F S1024x256 .bf16 := two (stack (fun kh g => x.o0 i kh g)) (stack (fun kh g => x.o1 0 kh g))
def at1 : FVec F S1024x256 .bf16 := two (stack (fun kh g => x.o1 1 kh g)) (stack (fun kh g => x.o1 2 kh g))

/-- The 256 rows of a half of the tile, from the attention's results of its two blocks. -/
def half (b : Fin 2) (a : FVec F S1024x256 .bf16) : FVec F S256x1024 .f32 :=
  let m := mg b (fun c => gate x.n (x.wg c)) x.y (cat4 (yp a (x.wap 0)) (yp a (x.wap 1)) (yp a (x.wap 2)) (yp a (x.wap 3)))
  fin b x.h (cat4 (zp m (x.wo 0)) (zp m (x.wo 1)) (zp m (x.wo 2)) (zp m (x.wo 3))) x.g3

/-- The two halves of the tile. -/
def out0 : FVec F S256x1024 .f32 := x.half 0 (x.at0 i)
def out1 : FVec F S256x1024 .f32 := x.half 1 x.at1

end In

end Cert.MixerIdeal.Model

end
-- ==== Proof.Mixer.Spec.lean ====
/- The mixer's mathematics, a position at a time, over the extended reals: the norm and the projections of a row, the mean
   over a window of rows less the row, the attention of a position over the positions it sees, the gates, the merge and the
   last norm. A position counts the sixteen meta rows first, then the tokens. -/
module

public import proofs.«01_k».proof.Proof.Half

@[expose] public section

noncomputable section

namespace Cert.Mix

open Idealize.ShloMosaic Cert.Half

/-- What the mixer is a function of: the rows by position, the two gains, and the weights. -/
structure Par where
  X : ℕ → Fin 1024 → EReal
  g2 : Fin 1024 → EReal
  g3 : Fin 1024 → EReal
  W : Fin 1024 → ℕ → EReal
  Wg : ℕ → Fin 128 → ℕ → EReal
  ps : Fin 512 → EReal
  Wpp : Fin 512 → Fin 1024 → EReal
  sink : ℕ → EReal
  Wap : Fin 1024 → Fin 1024 → EReal
  Wo : Fin 1024 → Fin 1024 → EReal

/-- Position `p` sees position `s`: not a later one, and a meta row or one of the last 128 rows. -/
def sees (p s : ℕ) : Prop := s ≤ p ∧ (p < s + 128 ∨ s < 16)
instance (p s : ℕ) : Decidable (sees p s) := inferInstanceAs (Decidable (_ ∧ _))

/-- How far back a position lies, a meta row at no distance. -/
def far (p s : ℕ) : ℕ := if s < 16 then 0 else p - s

/-- The slope of a head. -/
def steep (h : ℕ) : ℝ := (2 : ℝ) ^ (-((h : ℝ) + 1) / 2)

namespace Par

variable (P : Par)

/-- Lane `c` of the joined input projection at a position, and its six parts. -/
def pj (p c : ℕ) : EReal := ∑ k : Fin 1024, rms (P.X p) P.g2 k * P.W k c
def U (p c : ℕ) : EReal := P.pj p c
def Q (p c : ℕ) : EReal := P.pj p (512 + c)
def K (p c : ℕ) : EReal := P.pj p (1536 + c)
def V (p c : ℕ) : EReal := P.pj p (1792 + c)
def gp (p c : ℕ) : EReal := P.pj p (2048 + c)
def ga (p c : ℕ) : EReal := P.pj p (3072 + c)

/-- The mean of the last `2 ^ (g + 1)` rows less the row, in lane `e` of group `g`. -/
def mix (g p : ℕ) (e : Fin 128) : EReal :=
  Ideal.div (∑ j ∈ Finset.range (2 ^ (g + 1)), P.U (p - j) (128 * g + e.val)) (((2 : ℝ) ^ (g + 1) : ℝ) : EReal) - P.U p (128 * g + e.val)

/-- The pool's part of the merge. -/
def pool (p : ℕ) (c : Fin 1024) : EReal :=
  ∑ i : Fin 512, (∑ e : Fin 128, P.mix (i.val / 128) p e * P.Wg (i.val / 128) e (i.val % 128)) * P.ps i * P.Wpp i c

/-- The logit of a head at a pair of positions, as a real number. -/
def lg (h p s : ℕ) : ℝ :=
  (∑ d : Fin 64, (P.Q p (64 * h + d.val)).toReal * (P.K s (64 * (h / 4) + d.val)).toReal) / 8 - steep h * far p s

/-- Its weight before the division. -/
def wt (h p s : ℕ) : ℝ := if sees p s then Real.exp (P.lg h p s) else 0

/-- The attention of a head at a position, in lane `d`. -/
def att (h p d : ℕ) : EReal :=
  (((∑ s : Fin 16400, P.wt h p s.val * (P.V s.val (64 * (h / 4) + d)).toReal)
    / (∑ s : Fin 16400, P.wt h p s.val + Real.exp (P.sink h).toReal) : ℝ) : EReal)

/-- The attention's part of the merge. -/
def attn (p : ℕ) (c : Fin 1024) : EReal := ∑ i : Fin 1024, P.att (i.val / 64) p (i.val % 64) * P.Wap i c

/-- The merge through the output matrix. -/
def z (p : ℕ) (c : Fin 1024) : EReal :=
  ∑ i : Fin 1024, (Ideal.logistic (P.gp p i.val) * P.pool p i + Ideal.logistic (P.ga p i.val) * P.attn p i) * P.Wo i c

/-- The mixed row. -/
def out (p : ℕ) (c : Fin 1024) : EReal := P.X p c + rms (P.z p) P.g3 c

/-- What the precondition gives: the first gain, the input projection and the sinks are real numbers. -/
structure Real : Prop where
  g2 : ∀ k, ∃ r : ℝ, P.g2 k = r
  W : ∀ k c, ∃ r : ℝ, P.W k c = r
  sink : ∀ h, ∃ r : ℝ, P.sink h = r

end Par

theorem coe_sum {ι : Type*} [Fintype ι] (f : ι → ℝ) : ∑ k, ((f k : ℝ) : EReal) = ((∑ k, f k : ℝ) : EReal) := by
  classical
  have h : ∀ S : Finset ι, ∑ k ∈ S, ((f k : ℝ) : EReal) = ((∑ k ∈ S, f k : ℝ) : EReal) := fun S => by
    induction S using Finset.induction_on with
    | empty => simp
    | insert a S ha ih => rw [Finset.sum_insert ha, Finset.sum_insert ha, ih, EReal.coe_add]
  exact h _

/-- A finite sum of real numbers is one. -/
theorem sum_real {ι : Type*} [Fintype ι] (f : ι → EReal) (h : ∀ k, ∃ r : ℝ, f k = r) : ∃ r : ℝ, ∑ k, f k = r := by
  choose g hg using h
  exact ⟨∑ k, g k, by simp only [hg]; exact coe_sum g⟩

theorem kilo_eq : Ideal.ofBits .f32 0x44800000#32 = ((1024 : ℝ) : EReal) := by
  simp [Ideal.ofBits, Ideal.ieee]
  rw [← EReal.coe_mul]
  norm_num

/-- The small number under the root is a positive real. -/
theorem eps_pos : ∃ r : ℝ, 0 < r ∧ Ideal.ofBits .f32 0x358637BD#32 = r := by
  refine ⟨8796093 * (2 ^ 43)⁻¹, by positivity, ?_⟩
  simp [Ideal.ofBits, Ideal.ieee]

/-- The norm of a real row is real. -/
theorem rms_finite (x g : Fin 1024 → EReal) (hx : ∀ k, ∃ r : ℝ, x k = r) (hg : ∀ k, ∃ r : ℝ, g k = r) (j : Fin 1024) :
    ∃ r : ℝ, rms x g j = r := by
  choose a ha using hx
  choose b hb using hg
  obtain ⟨e, he, hE⟩ := eps_pos
  have hs : ∑ k, x k * x k = ((∑ k, a k * a k : ℝ) : EReal) := by
    simp only [ha, ← EReal.coe_mul]; exact coe_sum fun k => a k * a k
  have h0 : 0 ≤ ∑ k, a k * a k := Finset.sum_nonneg fun k _ => mul_self_nonneg _
  have hd : Ideal.div (∑ k, x k * x k) (Ideal.ofBits .f32 0x44800000#32) + Ideal.ofBits .f32 0x358637BD#32
      = (((∑ k, a k * a k) / 1024 + e : ℝ) : EReal) := by
    rw [hs, hE, kilo_eq, Ideal.div, if_neg (by norm_num), ← EReal.coe_inv, ← EReal.coe_mul, ← EReal.coe_add, div_eq_mul_inv]
  have hp : 0 < (∑ k, a k * a k) / 1024 + e := by positivity
  refine ⟨a j * (Real.sqrt ((∑ k, a k * a k) / 1024 + e))⁻¹ * b j, ?_⟩
  rw [rms, hd, Ideal.rsqrt_coe, ha, hb]
  rw [if_neg hp.not_gt, if_neg hp.ne', ← EReal.coe_mul, ← EReal.coe_mul]

theorem square_nonneg (x : EReal) : 0 ≤ x * x := by
  induction x with
  | bot => simp
  | top => simp
  | coe r => rw [← EReal.coe_mul]; exact EReal.coe_nonneg.2 (mul_self_nonneg r)

/-- An infinity among the squares makes their sum infinite, and the inverse of its root zero. -/
theorem rms_infinite (x g : Fin 1024 → EReal) (k : Fin 1024) (hk : x k * x k = ⊤) (j : Fin 1024) : rms x g j = 0 := by
  have hs : ∑ k, x k * x k = ⊤ :=
    top_le_iff.1 (hk ▸ Finset.single_le_sum (f := fun k => x k * x k) (fun k _ => square_nonneg (x k)) (Finset.mem_univ k))
  obtain ⟨e, he, hE⟩ := eps_pos
  have hd : Ideal.div (∑ k, x k * x k) (Ideal.ofBits .f32 0x44800000#32) + Ideal.ofBits .f32 0x358637BD#32 = ⊤ := by
    rw [hs, hE, kilo_eq, Ideal.div, if_neg (by norm_num), ← EReal.coe_inv, EReal.top_mul_coe_of_pos (by norm_num), EReal.top_add_coe]
  rw [rms, hd, show Ideal.rsqrt ⊤ = 0 from rfl, mul_zero, zero_mul]

/-- So the norm of any row is real, if the gains are. -/
theorem rms_real (x g : Fin 1024 → EReal) (hg : ∀ k, ∃ r : ℝ, g k = r) (j : Fin 1024) : ∃ r : ℝ, rms x g j = r := by
  by_cases hx : ∀ k, ∃ r : ℝ, x k = r
  · exact rms_finite x g hx hg j
  · obtain ⟨k, hk⟩ := not_forall.1 hx
    refine ⟨0, rms_infinite x g k ?_ j⟩
    generalize x k = y at hk
    induction y with
    | bot => simp
    | top => simp
    | coe r => exact absurd ⟨r, rfl⟩ hk

theorem Par.pj_real (P : Par) (hP : P.Real) (p c : ℕ) : ∃ r : ℝ, P.pj p c = r := by
  refine sum_real _ fun k => ?_
  obtain ⟨a, ha⟩ := rms_real (P.X p) P.g2 hP.g2 k
  obtain ⟨b, hb⟩ := hP.W k c
  exact ⟨a * b, by rw [ha, hb, EReal.coe_mul]⟩

theorem coe_toReal_of {x : EReal} (h : ∃ r : ℝ, x = r) : ((x.toReal : ℝ) : EReal) = x := by
  obtain ⟨r, rfl⟩ := h; simp

/-! ### The weights -/

/-- A sum of weighted reals over a sum of weights does not change when every weight is multiplied by the same positive number. -/
theorem soft_scale {ι : Type*} [Fintype ι] (w v : ι → ℝ) (s c : ℝ) (hc : 0 < c) :
    (∑ k, (c * w k) * v k) / (∑ k, c * w k + c * s) = (∑ k, w k * v k) / (∑ k, w k + s) := by
  simp only [mul_assoc, ← Finset.mul_sum, ← mul_add]
  rw [mul_div_mul_left _ _ hc.ne']

/-- A maximum of values that are real or −∞ and one real number is real. -/
theorem top_real {ι : Type*} [Fintype ι] (L : ι → EReal) (hL : ∀ k, L k ≠ ⊤) (s : ℝ) :
    ∃ M : ℝ, max (Finset.univ.fold max ⊥ L) (s : EReal) = M := by
  refine ⟨(max (Finset.univ.fold max ⊥ L) (s : EReal)).toReal, (EReal.coe_toReal ?_ ?_).symm⟩
  · have h : Finset.univ.fold max ⊥ L < ⊤ := by
      rw [Finset.fold_max_lt]
      exact ⟨bot_lt_top, fun k _ => lt_top_iff_ne_top.2 (hL k)⟩
    exact (max_lt h (EReal.coe_lt_top s)).ne
  · exact ((EReal.bot_lt_coe s).trans_le (le_max_right _ _)).ne'

/-- A weight over the reference's maximum. -/
theorem exp_sub (ok : Prop) [Decidable ok] (r M : ℝ) :
    Ideal.exp ((if ok then (r : EReal) else ⊥) - (M : EReal)) = ((Real.exp (-M) * (if ok then Real.exp r else 0) : ℝ) : EReal) := by
  split_ifs
  · rw [← EReal.coe_sub, Ideal.exp_coe, ← Real.exp_add, show r - M = -M + r by ring]
  · rw [EReal.bot_sub, Ideal.exp_bot]; simp

/-- A weight over the kernel's maximum, both in powers of two. -/
theorem exp2_sub (ok : Prop) [Decidable ok] (r M : ℝ) :
    Ideal.exp2 ((if ok then (((Real.log 2)⁻¹ * r : ℝ) : EReal) else ⊥) - (M : EReal))
      = ((Real.exp (-(M * Real.log 2)) * (if ok then Real.exp r else 0) : ℝ) : EReal) := by
  split_ifs
  · rw [← EReal.coe_sub, Ideal.exp2_coe, ← Real.exp_add, show Real.rpow 2 ((Real.log 2)⁻¹ * r - M) = (2 : ℝ) ^ ((Real.log 2)⁻¹ * r - M) from rfl, Real.rpow_def_of_pos (by norm_num)]
    have h := (Real.log_pos (by norm_num : (1 : ℝ) < 2)).ne'
    congr 2
    field_simp
    ring
  · rw [EReal.bot_sub, Ideal.exp2_bot]; simp

theorem div_real (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- THE REFERENCE'S SOFTMAX, its weights divided one by one. -/
theorem soft_ref {ι : Type*} [Fintype ι] (ok : ι → Prop) [∀ k, Decidable (ok k)] (r : ι → ℝ) (v : ι → ℝ) (s : ℝ)
    (L V : ι → EReal) (hL : ∀ k, L k = if ok k then (r k : EReal) else ⊥) (hV : ∀ k, V k = v k) (M : EReal) (hM : ∃ x : ℝ, M = x) :
    ∑ k, V k * Ideal.div (Ideal.exp (L k - M)) (∑ k, Ideal.exp (L k - M) + Ideal.exp ((s : EReal) - M))
      = (((∑ k, (if ok k then Real.exp (r k) else 0) * v k) / (∑ k, (if ok k then Real.exp (r k) else 0) + Real.exp s) : ℝ) : EReal) := by
  obtain ⟨x, rfl⟩ := hM
  have hs : Ideal.exp ((s : EReal) - (x : EReal)) = ((Real.exp (-x) * Real.exp s : ℝ) : EReal) := by
    rw [← EReal.coe_sub, Ideal.exp_coe, ← Real.exp_add, show s - x = -x + s by ring]
  simp only [hL, hV, exp_sub, hs, coe_sum, ← EReal.coe_add]
  have hp : 0 < ∑ k, Real.exp (-x) * (if ok k then Real.exp (r k) else 0) + Real.exp (-x) * Real.exp s := by
    have : 0 ≤ ∑ k, Real.exp (-x) * (if ok k then Real.exp (r k) else 0) := Finset.sum_nonneg fun k _ => by split_ifs <;> positivity
    positivity
  simp only [div_real _ _ hp.ne', ← EReal.coe_mul, coe_sum]
  rw [← soft_scale (fun k => if ok k then Real.exp (r k) else 0) v (Real.exp s) (Real.exp (-x)) (Real.exp_pos _), Finset.sum_div]
  congr 1
  exact Finset.sum_congr rfl fun k _ => by ring

/-- THE KERNEL'S SOFTMAX, in powers of two and divided at the end. -/
theorem soft_ker {ι : Type*} [Fintype ι] (ok : ι → Prop) [∀ k, Decidable (ok k)] (r : ι → ℝ) (v : ι → ℝ) (s : ℝ)
    (L V : ι → EReal) (hL : ∀ k, L k = if ok k then (((Real.log 2)⁻¹ * r k : ℝ) : EReal) else ⊥) (hV : ∀ k, ok k → V k = v k) (S M : EReal)
    (hS : S = (((Real.log 2)⁻¹ * s : ℝ) : EReal)) (hM : ∃ x : ℝ, M = x) :
    (∑ k, V k * Ideal.exp2 (L k - M)) * Ideal.div ((1 : ℝ) : EReal) (∑ k, Ideal.exp2 (L k - M) + Ideal.exp2 (S - M))
      = (((∑ k, (if ok k then Real.exp (r k) else 0) * v k) / (∑ k, (if ok k then Real.exp (r k) else 0) + Real.exp s) : ℝ) : EReal) := by
  obtain ⟨x, rfl⟩ := hM
  have hs : Ideal.exp2 (S - (x : EReal)) = ((Real.exp (-(x * Real.log 2)) * Real.exp s : ℝ) : EReal) := by
    have := exp2_sub True s x; simpa only [if_true, hS] using this
  have hv : ∀ k, V k * Ideal.exp2 (L k - (x : EReal))
      = (((Real.exp (-(x * Real.log 2)) * (if ok k then Real.exp (r k) else 0)) * v k : ℝ) : EReal) := fun k => by
    rw [hL, exp2_sub]
    by_cases h : ok k
    · rw [hV k h, ← EReal.coe_mul]; congr 1; ring
    · simp [h]
  rw [Finset.sum_congr rfl fun k _ => hv k]
  simp only [hL, exp2_sub, hs, coe_sum, ← EReal.coe_add]
  have hp : 0 < ∑ k, Real.exp (-(x * Real.log 2)) * (if ok k then Real.exp (r k) else 0) + Real.exp (-(x * Real.log 2)) * Real.exp s := by
    have : 0 ≤ ∑ k, Real.exp (-(x * Real.log 2)) * (if ok k then Real.exp (r k) else 0) := Finset.sum_nonneg fun k _ => by split_ifs <;> positivity
    positivity
  rw [div_real _ _ hp.ne', ← EReal.coe_mul, ← soft_scale (fun k => if ok k then Real.exp (r k) else 0) v (Real.exp s) _ (Real.exp_pos (-(x * Real.log 2)))]
  congr 1
  ring

end Cert.Mix

end
-- ==== Proof.Mixer.Elem.lean ====
/- What a tile loads, as the mixer has it at the tile's positions, and the tile's norm, projections and gates at an element. -/
module

public import proofs.«01_k».proof.Proof.Mixer.Model
public import proofs.«01_k».proof.Proof.Mixer.Spec

public import Idealize.ShloMosaic.Lib.Pointwise
public import Idealize.ShloMosaic.Lib.ValueIdx
public import Idealize.ShloMosaic.Lib.Pipeline.ValueKit

@[expose] public section

set_option maxRecDepth 16384

noncomputable section

namespace Cert.MixerIdeal.Elem

open Idealize.ShloMosaic Idealize.ShloMosaic.TcCoe Idealize.ShloMosaic.Tactic
open Cert.MixerIdeal Cert.MixerIdeal.Gen Cert.MixerIdeal.Model Cert.Half Cert.Mix

/-- The bias of a head at a key's slot and a query's lane, in powers of two: the slope times the distance, −∞ where the query
    does not see the key. Slots 256 to 271 are the meta rows. -/
def sees' (k j : ℕ) : Prop := 256 ≤ k ∨ (j < k ∧ k ≤ j + 128)
instance (k j : ℕ) : Decidable (sees' k j) := inferInstanceAs (Decidable (_ ∨ _))
def far' (k j : ℕ) : ℕ := if 256 ≤ k then 0 else j + 128 - k
def biasE (h k j : ℕ) : EReal := if sees' k j then (((Real.log 2)⁻¹ * (-(steep h) * far' k j) : ℝ) : EReal) else ⊥

/-- What tile `t` loads. -/
structure Holds (x : In Ideal) (P : Par) (t : ℕ) : Prop where
  h : ∀ (r : Fin 512) k, x.h (ix2 r k) = P.X (16 + 512 * t + r.val) k
  g2 : ∀ k, x.g2 (ix3 0 0 k) = P.g2 k
  g3 : ∀ k, x.g3 (ix3 0 0 k) = P.g3 k
  wk : ∀ k (c : Fin 256), x.wk (ix2 k c) = P.W k (1536 + c.val)
  wq : ∀ k (c : Fin 1024), x.wq (ix2 k c) = P.W k (512 + c.val)
  wu : ∀ k (c : Fin 512), x.wu (ix2 k c) = P.W k c.val
  wv : ∀ k (c : Fin 256), x.wv (ix2 k c) = P.W k (1792 + c.val)
  wg : ∀ (j : Fin 8) k (c : Fin 256), x.wg j (ix2 k c) = P.W k (2048 + 256 * j.val + c.val)
  wgrp : ∀ (g : Fin 4) e (d : Fin 128), x.wgrp g (ix3 0 e d) = P.Wg g.val e d.val
  ps : ∀ i, x.ps (ix3 0 0 i) = P.ps i
  wpp : ∀ i c, x.wpp (ix2 i c) = P.Wpp i c
  sink : ∀ h : Fin 16, x.sink h = P.sink h.val
  wap : ∀ (j : Fin 4) i (c : Fin 256), x.wap j (ix2 i c) = P.Wap i ⟨256 * j.val + c.val, by omega⟩
  wo : ∀ (j : Fin 4) i (c : Fin 256), x.wo j (ix2 i c) = P.Wo i ⟨256 * j.val + c.val, by omega⟩
  uc : ∀ (a : Fin 16) (c : Fin 512), x.uc (ix3 0 a c) = P.U (512 * t + a.val) c.val
  kc : t ≠ 0 → ∀ (j : Fin 128) (c : Fin 256), x.kc (ix3 0 j c) = P.K (512 * t + j.val - 112) c.val
  vc : t ≠ 0 → ∀ (c : Fin 256) (j : Fin 128), x.vc (ix3 0 c j) = P.V (512 * t + j.val - 112) c.val
  km : ∀ (m : Fin 16) (c : Fin 256), x.km (ix2 m c) = P.K m.val c.val
  vm : ∀ (c : Fin 256) (m : Fin 16), x.vm (ix2 c m) = P.V m.val c.val
  bias : ∀ (h : Fin 16) (k : Fin 272) (j : Fin 128), x.bias h (ix3 0 k j) = biasE h.val k.val j.val

variable {x : In Ideal} {P : Par} {t : ℕ} (H : Holds x P t)

/-! ### The norm and a product, at an element -/

theorem hn_at (h : FVec Ideal S512x1024 .f32) (g : FVec Ideal S1x1x1024 .f32) (r : Fin 512) (k : Fin 1024) :
    hn h g (ix2 r k) = rms (fun k => h (ix2 r k)) (fun k => g (ix3 0 0 k)) k := by
  unfold rms
  pointwise [hn]

theorem kt_at (n : FVec Ideal S512x1024 .bf16) (w : FVec Ideal S1024x256 .bf16) (r : Fin 512) (c : Fin 256) :
    kt n w (ix2 r c) = ∑ k : Fin 1024, n (ix2 r k) * w (ix2 k c) := by pointwise [kt]

theorem qt_at (n : FVec Ideal S512x1024 .bf16) (w : FVec Ideal S1024x1024 .bf16) (r : Fin 512) (c : Fin 1024) :
    qt n w (ix2 c r) = (∑ k : Fin 1024, w (ix2 k c) * n (ix2 r k)) * (Named.named κ "q_scale" 0x3E38AA3B#32 : Ideal .f32) := by pointwise [qt]

theorem vt_at (n : FVec Ideal S512x1024 .bf16) (w : FVec Ideal S1024x256 .bf16) (r : Fin 512) (c : Fin 256) :
    vt n w (ix2 c r) = ∑ k : Fin 1024, w (ix2 k c) * n (ix2 r k) := by pointwise [vt]

theorem ut_at (n : FVec Ideal S512x1024 .bf16) (w : FVec Ideal S1024x512 .bf16) (r : Fin 512) (c : Fin 512) :
    ut n w (ix2 r c) = ∑ k : Fin 1024, n (ix2 r k) * w (ix2 k c) := by pointwise [ut]

theorem gate_at (n : FVec Ideal S512x1024 .bf16) (w : FVec Ideal S1024x256 .bf16) (r : Fin 512) (c : Fin 256) :
    gate n w (ix2 r c) = Ideal.logistic (∑ k : Fin 1024, n (ix2 r k) * w (ix2 k c)) := by
  rw [← logistic_of_tanh]
  pointwise [gate]

include H

theorem n_at (r : Fin 512) (k : Fin 1024) : x.n (ix2 r k) = rms (P.X (16 + 512 * t + r.val)) P.g2 k := by
  unfold In.n
  rw [hn_at]
  simp only [H.h, H.g2]

theorem k_at (r : Fin 512) (c : Fin 256) : x.k (ix2 r c) = P.K (16 + 512 * t + r.val) c.val := by
  unfold In.k
  rw [kt_at]
  simp only [n_at H, H.wk]
  rfl

theorem q_at (r : Fin 512) (c : Fin 1024) :
    x.q (ix2 c r) = P.Q (16 + 512 * t + r.val) c.val * (Named.named κ "q_scale" 0x3E38AA3B#32 : Ideal .f32) := by
  unfold In.q
  rw [qt_at]
  simp only [n_at H, H.wq]
  congr 1
  exact Finset.sum_congr rfl fun _ _ => mul_comm _ _

theorem v_at (r : Fin 512) (c : Fin 256) : x.v (ix2 c r) = P.V (16 + 512 * t + r.val) c.val := by
  unfold In.v
  rw [vt_at]
  simp only [n_at H, H.wv]
  exact Finset.sum_congr rfl fun _ _ => mul_comm _ _

theorem u_at (r : Fin 512) (c : Fin 512) : x.u (ix2 r c) = P.U (16 + 512 * t + r.val) c.val := by
  unfold In.u
  rw [ut_at]
  simp only [n_at H, H.wu]
  rfl

theorem g_at (j : Fin 8) (r : Fin 512) (c : Fin 256) :
    gate x.n (x.wg j) (ix2 r c) = Ideal.logistic (P.pj (16 + 512 * t + r.val) (2048 + 256 * j.val + c.val)) := by
  rw [gate_at]
  simp only [n_at H, H.wg]
  rfl

end Cert.MixerIdeal.Elem

end
-- ==== Proof.Mixer.Word.lean ====
/- Small words: positions and their differences, read as integers. -/
module

public import proofs.«01_k».proof.Proof.Mixer.Spec

@[expose] public section

noncomputable section

namespace Cert.Mix

open Idealize.ShloMosaic Cert.Half

theorem toInt_small (a : ℕ) (h : a < 20000) : (BitVec.ofNat 32 a).toInt = a := by
  have h2 : (BitVec.ofNat 32 a).toNat = a := by rw [BitVec.toNat_ofNat]; exact Nat.mod_eq_of_lt (by omega)
  rw [BitVec.toInt_eq_toNat_of_lt (by rw [h2]; omega), h2]

theorem toInt_diff (a b : ℕ) (ha : a < 20000) (hb : b < 20000) : (BitVec.ofNat 32 a - BitVec.ofNat 32 b).toInt = (a : ℤ) - b := by
  rw [BitVec.toInt_sub, toInt_small a ha, toInt_small b hb]
  exact Int.bmod_eq_of_le (by omega) (by omega)

theorem toInt_add1 (a : ℕ) (ha : a < 19999) : (1#32 + BitVec.ofNat 32 a).toInt = (a : ℤ) + 1 := by
  rw [BitVec.toInt_add, toInt_small a (by omega), show (1#32 : BitVec 32).toInt = 1 from rfl]
  rw [Int.bmod_eq_of_le (by omega) (by omega)]
  omega

/-- The number of rows a window holds, once there are as many. -/
theorem count (w p : ℕ) (hw : w ≤ 16) (hp : 16 ≤ p) (hp' : p < 16400) :
    FloatOps.sitofp (F := Ideal) .f32 (IntOp.minsi (IntOp.addi 1#32 (BitVec.ofNat 32 p)) (BitVec.ofNat 32 w)) = ((w : ℝ) : EReal) := by
  have h : IntOp.minsi (IntOp.addi 1#32 (BitVec.ofNat 32 p)) (BitVec.ofNat 32 w) = BitVec.ofNat 32 w := by
    unfold IntOp.minsi IntOp.addi
    rw [if_neg]
    rw [BitVec.slt_iff_toInt_lt, toInt_add1 p (by omega), toInt_small w (by omega)]
    omega
  rw [h]
  show (((BitVec.ofNat 32 w).toInt : ℝ) : EReal) = _
  rw [toInt_small w (by omega)]
  simp

end Cert.Mix

end
-- ==== Proof.Mixer.Setup.lean ====
/- What the runs of the mixer's body at the grid points share: the condition on the point, the staging buffers and the scratch. -/
module

public import proofs.«01_k».proof.Proof.Gen.MixerIdeal.Frame
public import proofs.«01_k».proof.Proof.Gen.MixerIdeal.Skeleton
@[expose] public section

set_option maxRecDepth 16384

noncomputable section

namespace Cert.MixerIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal Cert.MixerIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, k0_cond1, e0]
    word_cmp
   : ∀ t : Fin grid0.N, cond0_0 (grid0.coords t) ↔ t.val % 32 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x6x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4x128x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S2x16 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x1024 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2x16x512 .f32 := Memref.whole cc0_scratch0
abbrev scM0_1 : Memref sig .tc .vmem S2x128x256 .bf16 := Memref.whole cc0_scratch1
abbrev scM0_2 : Memref sig .tc .vmem S2x256x128 .bf16 := Memref.whole cc0_scratch2
abbrev scM0_3 : Memref sig .tc .vmem S16x256 .bf16 := Memref.whole cc0_scratch3
abbrev scM0_4 : Memref sig .tc .vmem S256x16 .bf16 := Memref.whole cc0_scratch4
abbrev scM0_5 : Memref sig .tc .vmem S16x272x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.MixerIdeal.Run

end
-- ==== Proof.Mixer.RunB.lean ====
/- The run of the mixer's body at the points after the first. -/
module

public import proofs.«01_k».proof.Proof.Mixer.Setup

@[expose] public section

set_option maxRecDepth 16384

noncomputable section

namespace Cert.MixerIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal Cert.MixerIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body at the points after the first, from any contents of the scratch: what the window of the rows and the scratch hold at the
    end is found by the run, as a list of stored pieces; the window of the meta rows is forgotten. -/
noncomputable def kernelRun0_B (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x4096 .bf16) (harg4 : arg4.IsWhole) (arg5 : Memref sig .tc .vmem S4x128x128 .bf16) (harg5 : arg5.IsWhole) (arg6 : Memref sig .tc .vmem S1x1x512 .f32) (harg6 : arg6.IsWhole) (arg7 : Memref sig .tc .vmem S512x1024 .bf16) (harg7 : arg7.IsWhole) (arg8 : Memref sig .tc .smem S2x16 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S16x1024 .f32) (harg12 : arg12.IsWhole) (arg13 : Memref sig .tc .vmem S2x16x512 .f32) (harg13 : arg13.IsWhole) (arg14 : Memref sig .tc .vmem S2x128x256 .bf16) (harg14 : arg14.IsWhole) (arg15 : Memref sig .tc .vmem S2x256x128 .bf16) (harg15 : arg15.IsWhole) (arg16 : Memref sig .tc .vmem S16x256 .bf16) (harg16 : arg16.IsWhole) (arg17 : Memref sig .tc .vmem S256x16 .bf16) (harg17 : arg17.IsWhole) (arg18 : Memref sig .tc .vmem S16x272x128 .f32) (harg18 : arg18.IsWhole) (hc0 : ¬cond0_0 i)
    (x0 : Vec F S512x1024 .f32) (x1 : Vec F S16x1024 .f32) (x2 : Vec F S1x6x1024 .f32) (x3 : Vec F S1024x4096 .bf16) (x4 : Vec F S4x128x128 .bf16) (x5 : Vec F S1x1x512 .f32) (x6 : Vec F S512x1024 .bf16) (x7 : Vec F S2x16 .f32) (x8 : Vec F S1024x1024 .bf16) (x9 : Vec F S1024x1024 .bf16)
    (s0 : Vec F S2x16x512 .f32) (s1 : Vec F S2x128x256 .bf16) (s2 : Vec F S2x256x128 .bf16) (s3 : Vec F S16x256 .bf16) (s4 : Vec F S256x16 .bf16) (s5 : Vec F S16x272x128 .f32) :
    { L : List (View.Piece (Elt F) S512x1024 .f32) × List (View.Piece (Elt F) S2x16x512 .f32) × List (View.Piece (Elt F) S2x128x256 .bf16) × List (View.Piece (Elt F) S2x256x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare s0 ∗ owns (c : Thread nD τ) arg14 fullShare s1 ∗ owns (c : Thread nD τ) arg15 fullShare s2 ∗ owns (c : Thread nD τ) arg16 fullShare s3 ∗ owns (c : Thread nD τ) arg17 fullShare s4 ∗ owns (c : Thread nD τ) arg18 fullShare s5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, (arg11.view.loc (c : Thread nD τ) ↦[arg11.view.set]{fullShare} arg11.view.writes (Elt F) f L.1)) ∗ (∃ d, owns (c : Thread nD τ) arg12 fullShare d) ∗ (arg13.view.loc (c : Thread nD τ) ↦[arg13.view.set]{fullShare} arg13.view.writes (Elt F) (harg13.unread s0) L.2.1) ∗ (arg14.view.loc (c : Thread nD τ) ↦[arg14.view.set]{fullShare} arg14.view.writes (Elt F) (harg14.unread s1) L.2.2.1) ∗ (arg15.view.loc (c : Thread nD τ) ↦[arg15.view.set]{fullShare} arg15.view.writes (Elt F) (harg15.unread s2) L.2.2.2) ∗ owns (c : Thread nD τ) arg16 fullShare s3 ∗ owns (c : Thread nD τ) arg17 fullShare s4 ∗ owns (c : Thread nD τ) arg18 fullShare s5) -∗ K ⟨⟩))
          ⊢ wp frame (wpE (defs₀ (F := F)) Variants.none c none) E (cc0_gated_mixers i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨⟨?_, ?_, ?_, ?_⟩, fun E K => ?run⟩
  case run =>
    simp only [cc0_gated_mixers_eq_skeleton]; unfold cc0_gated_mixers_skel
    simp only [k0_part72_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hs0, HS0⟩, ⟨%fs1, %hs1, HS1⟩, ⟨%fs2, %hs2, HS2⟩, ⟨%fs3, %hs3, HS3⟩, ⟨%fs4, %hs4, HS4⟩, ⟨%fs5, %hs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hs0; obtain rfl := harg14.eq_unread hs1; obtain rfl := harg15.eq_unread hs2; obtain rfl := harg16.eq_unread hs3; obtain rfl := harg17.eq_unread hs4; obtain rfl := harg18.eq_unread hs5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _, _; isplitr; swap; · iexact H11
                     ipureintro; rfl
    isplitl [HS0]; · iexact HS0
    isplitl [HS1]; · iexact HS1
    isplitl [HS2]; · iexact HS2
    isplitl [HS3]
    · iexists _; isplitr; · ipureintro; exact harg16.read_unread _
      iexact HS3
    isplitl [HS4]
    · iexists _; isplitr; · ipureintro; exact harg17.read_unread _
      iexact HS4
    iexists _; isplitr; · ipureintro; exact harg18.read_unread _
    iexact HS5

end Cert.MixerIdeal.Run

end
-- ==== Proof.Mixer.RunA.lean ====
/- The run of the mixer's body at the first point. -/
module

public import proofs.«01_k».proof.Proof.Mixer.RunB

@[expose] public section

set_option maxRecDepth 16384

noncomputable section

namespace Cert.MixerIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal Cert.MixerIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The run of the body at the first point, from any contents of the scratch: what the window of the rows and the scratch hold at the
    end is found by the run, as a list of stored pieces; the window of the meta rows is forgotten. -/
noncomputable def kernelRun0_A (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x4096 .bf16) (harg4 : arg4.IsWhole) (arg5 : Memref sig .tc .vmem S4x128x128 .bf16) (harg5 : arg5.IsWhole) (arg6 : Memref sig .tc .vmem S1x1x512 .f32) (harg6 : arg6.IsWhole) (arg7 : Memref sig .tc .vmem S512x1024 .bf16) (harg7 : arg7.IsWhole) (arg8 : Memref sig .tc .smem S2x16 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S16x1024 .f32) (harg12 : arg12.IsWhole) (arg13 : Memref sig .tc .vmem S2x16x512 .f32) (harg13 : arg13.IsWhole) (arg14 : Memref sig .tc .vmem S2x128x256 .bf16) (harg14 : arg14.IsWhole) (arg15 : Memref sig .tc .vmem S2x256x128 .bf16) (harg15 : arg15.IsWhole) (arg16 : Memref sig .tc .vmem S16x256 .bf16) (harg16 : arg16.IsWhole) (arg17 : Memref sig .tc .vmem S256x16 .bf16) (harg17 : arg17.IsWhole) (arg18 : Memref sig .tc .vmem S16x272x128 .f32) (harg18 : arg18.IsWhole) (hc0 : cond0_0 i)
    (x0 : Vec F S512x1024 .f32) (x1 : Vec F S16x1024 .f32) (x2 : Vec F S1x6x1024 .f32) (x3 : Vec F S1024x4096 .bf16) (x4 : Vec F S4x128x128 .bf16) (x5 : Vec F S1x1x512 .f32) (x6 : Vec F S512x1024 .bf16) (x7 : Vec F S2x16 .f32) (x8 : Vec F S1024x1024 .bf16) (x9 : Vec F S1024x1024 .bf16)
    (s0 : Vec F S2x16x512 .f32) (s1 : Vec F S2x128x256 .bf16) (s2 : Vec F S2x256x128 .bf16) (s3 : Vec F S16x256 .bf16) (s4 : Vec F S256x16 .bf16) (s5 : Vec F S16x272x128 .f32) :
    { L : List (View.Piece (Elt F) S512x1024 .f32) × List (View.Piece (Elt F) S2x16x512 .f32) × List (View.Piece (Elt F) S2x128x256 .bf16) × List (View.Piece (Elt F) S2x256x128 .bf16) × List (View.Piece (Elt F) S16x256 .bf16) × List (View.Piece (Elt F) S256x16 .bf16) × List (View.Piece (Elt F) S16x272x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ owns (c : Thread nD τ) arg13 fullShare s0 ∗ owns (c : Thread nD τ) arg14 fullShare s1 ∗ owns (c : Thread nD τ) arg15 fullShare s2 ∗ owns (c : Thread nD τ) arg16 fullShare s3 ∗ owns (c : Thread nD τ) arg17 fullShare s4 ∗ owns (c : Thread nD τ) arg18 fullShare s5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, (arg11.view.loc (c : Thread nD τ) ↦[arg11.view.set]{fullShare} arg11.view.writes (Elt F) f L.1)) ∗ (∃ d, owns (c : Thread nD τ) arg12 fullShare d) ∗ (arg13.view.loc (c : Thread nD τ) ↦[arg13.view.set]{fullShare} arg13.view.writes (Elt F) (harg13.unread s0) L.2.1) ∗ (arg14.view.loc (c : Thread nD τ) ↦[arg14.view.set]{fullShare} arg14.view.writes (Elt F) (harg14.unread s1) L.2.2.1) ∗ (arg15.view.loc (c : Thread nD τ) ↦[arg15.view.set]{fullShare} arg15.view.writes (Elt F) (harg15.unread s2) L.2.2.2.1) ∗ (arg16.view.loc (c : Thread nD τ) ↦[arg16.view.set]{fullShare} arg16.view.writes (Elt F) (harg16.unread s3) L.2.2.2.2.1) ∗ (arg17.view.loc (c : Thread nD τ) ↦[arg17.view.set]{fullShare} arg17.view.writes (Elt F) (harg17.unread s4) L.2.2.2.2.2.1) ∗ (arg18.view.loc (c : Thread nD τ) ↦[arg18.view.set]{fullShare} arg18.view.writes (Elt F) (harg18.unread s5) L.2.2.2.2.2.2)) -∗ K ⟨⟩))
          ⊢ wp frame (wpE (defs₀ (F := F)) Variants.none c none) E (cc0_gated_mixers i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨⟨?_, ?_, ?_, ?_, ?_, ?_, ?_⟩, fun E K => ?run⟩
  case run =>
    simp only [cc0_gated_mixers_eq_skeleton]; unfold cc0_gated_mixers_skel
    simp only [k0_part72_eq_skeleton, k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hs0, HS0⟩, ⟨%fs1, %hs1, HS1⟩, ⟨%fs2, %hs2, HS2⟩, ⟨%fs3, %hs3, HS3⟩, ⟨%fs4, %hs4, HS4⟩, ⟨%fs5, %hs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg13.eq_unread hs0; obtain rfl := harg14.eq_unread hs1; obtain rfl := harg15.eq_unread hs2; obtain rfl := harg16.eq_unread hs3; obtain rfl := harg17.eq_unread hs4; obtain rfl := harg18.eq_unread hs5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _, _; isplitr; swap; · iexact H11
                     ipureintro; rfl
    isplitl [HS0]; · iexact HS0
    isplitl [HS1]; · iexact HS1
    isplitl [HS2]; · iexact HS2
    isplitl [HS3]; · iexact HS3
    isplitl [HS4]; · iexact HS4
    iexact HS5

end Cert.MixerIdeal.Run

end
-- ==== Proof.Mixer.Pieces.lean ====
/- What the two runs of the mixer's body store, by the functions of Model.lean. -/
module

public import proofs.«01_k».proof.Proof.Mixer.RunA
public import proofs.«01_k».proof.Proof.Mixer.Model

@[expose] public section

set_option maxRecDepth 16384

noncomputable section

namespace Cert.MixerIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal.Model (In)
open Cert.MixerIdeal Cert.MixerIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem inbG (c : Fin 8) : ∀ a, (![0, 2048 + 256 * c.val] : Fin 2 → ℕ) a + S1024x256.size a ≤ S1024x4096.size a := by fin_cases c <;> decide
theorem inbP (c : Fin 4) : ∀ a, (![c.val, 0, 0] : Fin 3 → ℕ) a + S1x128x128.size a ≤ S4x128x128.size a := by fin_cases c <;> decide
theorem inbS (c : Fin 16) : ∀ a, (![1, c.val] : Fin 2 → ℕ) a + S1x1.size a ≤ S2x16.size a := by fin_cases c <;> decide
theorem inbW (c : Fin 4) : ∀ a, (![0, 256 * c.val] : Fin 2 → ℕ) a + S1024x256.size a ≤ S1024x1024.size a := by fin_cases c <;> decide
theorem inbB (c : Fin 16) : ∀ a, (![c.val, 0, 0] : Fin 3 → ℕ) a + S1x272x128.size a ≤ S16x272x128.size a := by fin_cases c <;> decide

/-- The values of the meta rows, a row to a lane, as the first point stores them. -/
def vmeta (w : FVec F S1024x256 .bf16) (x : FVec F S128x1024 .bf16) : FVec F S256x16 .bf16 :=
  shapeCast S256x16 (extractStridedSlice S256x16 ![0, 0] (truncf .bf16 (matmul dot_S1024x256_S128x1024_S256x128_0_1_1_0_n_n none
    (shapeCast S1024x256 w shapeCasts_S1024x256_S1024x256) x (constant S256x128 .f32 0x00000000#32)) bitsLt_bf16_f32)
    (Model.sl2 0 0 (by omega) (by omega))) shapeCasts_S256x16_S256x16

/-- The sixteen biases that the first point stores, head by head. -/
def biasP (c : Fin 16) : FVec F S1x272x128 .f32 := match c.val with
  | 0 => k0_pay9 k0_pay6 k0_pay8 (Named.named κ "neg_inf" 0xF149F2CA#32)
  | 1 => k0_pay10 k0_pay6 k0_pay7
  | 2 => k0_pay11 k0_pay6 k0_pay7
  | 3 => k0_pay12 k0_pay6 k0_pay7
  | 4 => k0_pay13 k0_pay6 k0_pay7
  | 5 => k0_pay14 k0_pay6 k0_pay7
  | 6 => k0_pay15 k0_pay6 k0_pay7
  | 7 => k0_pay16 k0_pay6 k0_pay7
  | 8 => k0_pay17 k0_pay6 k0_pay7
  | 9 => k0_pay19 (k0_pay18 k0_pay6 k0_pay7)
  | 10 => k0_pay20 k0_pay6 k0_pay7
  | 11 => k0_pay21 k0_pay6 k0_pay7
  | 12 => k0_pay22 k0_pay6 k0_pay7
  | 13 => k0_pay23 k0_pay6 k0_pay7
  | 14 => k0_pay25 k0_pay6 k0_pay7 k0_pay24
  | _ => k0_pay26 k0_pay6 k0_pay7

/-- They as pieces, the newest first. -/
def biasPieces : List (View.Piece (Elt F) S16x272x128 .f32) :=
  [⟨Rect.unit ![15, 0, 0] S1x272x128.size (inbB 15), k0_pay26 k0_pay6 k0_pay7⟩,
    ⟨Rect.unit ![14, 0, 0] S1x272x128.size (inbB 14), k0_pay25 k0_pay6 k0_pay7 k0_pay24⟩,
    ⟨Rect.unit ![13, 0, 0] S1x272x128.size (inbB 13), k0_pay23 k0_pay6 k0_pay7⟩,
    ⟨Rect.unit ![12, 0, 0] S1x272x128.size (inbB 12), k0_pay22 k0_pay6 k0_pay7⟩,
    ⟨Rect.unit ![11, 0, 0] S1x272x128.size (inbB 11), k0_pay21 k0_pay6 k0_pay7⟩,
    ⟨Rect.unit ![10, 0, 0] S1x272x128.size (inbB 10), k0_pay20 k0_pay6 k0_pay7⟩,
    ⟨Rect.unit ![9, 0, 0] S1x272x128.size (inbB 9), k0_pay19 (k0_pay18 k0_pay6 k0_pay7)⟩,
    ⟨Rect.unit ![8, 0, 0] S1x272x128.size (inbB 8), k0_pay17 k0_pay6 k0_pay7⟩,
    ⟨Rect.unit ![7, 0, 0] S1x272x128.size (inbB 7), k0_pay16 k0_pay6 k0_pay7⟩,
    ⟨Rect.unit ![6, 0, 0] S1x272x128.size (inbB 6), k0_pay15 k0_pay6 k0_pay7⟩,
    ⟨Rect.unit ![5, 0, 0] S1x272x128.size (inbB 5), k0_pay14 k0_pay6 k0_pay7⟩,
    ⟨Rect.unit ![4, 0, 0] S1x272x128.size (inbB 4), k0_pay13 k0_pay6 k0_pay7⟩,
    ⟨Rect.unit ![3, 0, 0] S1x272x128.size (inbB 3), k0_pay12 k0_pay6 k0_pay7⟩,
    ⟨Rect.unit ![2, 0, 0] S1x272x128.size (inbB 2), k0_pay11 k0_pay6 k0_pay7⟩,
    ⟨Rect.unit ![1, 0, 0] S1x272x128.size (inbB 1), k0_pay10 k0_pay6 k0_pay7⟩,
    ⟨Rect.unit ![0, 0, 0] S1x272x128.size (inbB 0), k0_pay9 k0_pay6 k0_pay8 (Named.named κ "neg_inf" 0xF149F2CA#32)⟩]

section

variable (i : grid0.Coords) (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x4096 .bf16) (harg4 : arg4.IsWhole) (arg5 : Memref sig .tc .vmem S4x128x128 .bf16) (harg5 : arg5.IsWhole) (arg6 : Memref sig .tc .vmem S1x1x512 .f32) (harg6 : arg6.IsWhole) (arg7 : Memref sig .tc .vmem S512x1024 .bf16) (harg7 : arg7.IsWhole) (arg8 : Memref sig .tc .smem S2x16 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S16x1024 .f32) (harg12 : arg12.IsWhole) (arg13 : Memref sig .tc .vmem S2x16x512 .f32) (harg13 : arg13.IsWhole) (arg14 : Memref sig .tc .vmem S2x128x256 .bf16) (harg14 : arg14.IsWhole) (arg15 : Memref sig .tc .vmem S2x256x128 .bf16) (harg15 : arg15.IsWhole) (arg16 : Memref sig .tc .vmem S16x256 .bf16) (harg16 : arg16.IsWhole) (arg17 : Memref sig .tc .vmem S256x16 .bf16) (harg17 : arg17.IsWhole) (arg18 : Memref sig .tc .vmem S16x272x128 .f32) (harg18 : arg18.IsWhole)
    (x0 : Vec F S512x1024 .f32) (x1 : Vec F S16x1024 .f32) (x2 : Vec F S1x6x1024 .f32) (x3 : Vec F S1024x4096 .bf16) (x4 : Vec F S4x128x128 .bf16) (x5 : Vec F S1x1x512 .f32) (x6 : Vec F S512x1024 .bf16) (x7 : Vec F S2x16 .f32) (x8 : Vec F S1024x1024 .bf16) (x9 : Vec F S1024x1024 .bf16)
    (s0 : Vec F S2x16x512 .f32) (s1 : Vec F S2x128x256 .bf16) (s2 : Vec F S2x256x128 .bf16) (s3 : Vec F S16x256 .bf16) (s4 : Vec F S256x16 .bf16) (s5 : Vec F S16x272x128 .f32)

/-- What the body loads at a point after the first … -/
def inB : In F where
    h := View.readAt (Elt F) arg1.view (Rect.unit (s := S512x1024) ![0, 0] S512x1024.size inb_S512x1024_S512x1024_0_0).toLoadRect (harg1.unread x0)
    g2 := View.readAt (Elt F) arg3.view (Rect.unit (s := S1x6x1024) ![0, 2, 0] S1x1x1024.size inb_S1x6x1024_S1x1x1024_0_2_0).toLoadRect (harg3.unread x2)
    g3 := View.readAt (Elt F) arg3.view (Rect.unit (s := S1x6x1024) ![0, 3, 0] S1x1x1024.size inb_S1x6x1024_S1x1x1024_0_3_0).toLoadRect (harg3.unread x2)
    wk := View.readAt (Elt F) arg4.view (Rect.unit (s := S1024x4096) ![0, 1536] S1024x256.size inb_S1024x4096_S1024x256_0_1536).toLoadRect (harg4.unread x3)
    wq := View.readAt (Elt F) arg4.view (Rect.unit (s := S1024x4096) ![0, 512] S1024x1024.size inb_S1024x4096_S1024x1024_0_512).toLoadRect (harg4.unread x3)
    wu := View.readAt (Elt F) arg4.view (Rect.unit (s := S1024x4096) ![0, 0] S1024x512.size inb_S1024x4096_S1024x512_0_0).toLoadRect (harg4.unread x3)
    wv := View.readAt (Elt F) arg4.view (Rect.unit (s := S1024x4096) ![0, 1792] S1024x256.size inb_S1024x4096_S1024x256_0_1792).toLoadRect (harg4.unread x3)
    wg := fun c => View.readAt (Elt F) arg4.view (Rect.unit (s := S1024x4096) ![0, 2048 + 256 * c.val] S1024x256.size (inbG c)).toLoadRect (harg4.unread x3)
    wgrp := fun c => View.readAt (Elt F) arg5.view (Rect.unit (s := S4x128x128) ![c.val, 0, 0] S1x128x128.size (inbP c)).toLoadRect (harg5.unread x4)
    ps := View.readAt (Elt F) arg6.view (Rect.unit (s := S1x1x512) ![0, 0, 0] S1x1x512.size inb_S1x1x512_S1x1x512_0_0_0).toLoadRect (harg6.unread x5)
    wpp := View.readAt (Elt F) arg7.view (Rect.unit (s := S512x1024) ![0, 0] S512x1024.size inb_S512x1024_S512x1024_0_0).toLoadRect (harg7.unread x6)
    sink := fun c => View.readAt (Elt F) arg8.view (Rect.unit (s := S2x16) ![1, c.val] S1x1.size (inbS c)).toLoadRect (harg8.unread x7) (Shape.Idx.first (numel1_S1x1.symm ▸ Nat.one_pos))
    wap := fun c => View.readAt (Elt F) arg9.view (Rect.unit (s := S1024x1024) ![0, 256 * c.val] S1024x256.size (inbW c)).toLoadRect (harg9.unread x8)
    wo := fun c => View.readAt (Elt F) arg10.view (Rect.unit (s := S1024x1024) ![0, 256 * c.val] S1024x256.size (inbW c)).toLoadRect (harg10.unread x9)
    uc := View.readAt (Elt F) arg13.view (Rect.unit (s := S2x16x512) (k0_off3 i) S1x16x512.size (k0_off3_inb i)).toLoadRect (harg13.unread s0)
    kc := View.readAt (Elt F) arg14.view (Rect.unit (s := S2x128x256) (k0_off1 i) S1x128x256.size (k0_off1_inb i)).toLoadRect (harg14.unread s1)
    vc := View.readAt (Elt F) arg15.view (Rect.unit (s := S2x256x128) (k0_off5 i) S1x256x128.size (k0_off5_inb i)).toLoadRect (harg15.unread s2)
    km := View.readAt (Elt F) arg16.view (Rect.unit (s := S16x256) ![0, 0] S16x256.size inb_S16x256_S16x256_0_0).toLoadRect (harg16.unread s3)
    vm := View.readAt (Elt F) arg17.view (Rect.unit (s := S256x16) ![0, 0] S256x16.size inb_S256x16_S256x16_0_0).toLoadRect (harg17.unread s4)
    bias := fun c => View.readAt (Elt F) arg18.view (Rect.unit (s := S16x272x128) ![c.val, 0, 0] S1x272x128.size (inbB c)).toLoadRect (harg18.unread s5)

/-- … and at the first point. -/
def inA : In F where
    h := View.readAt (Elt F) arg1.view (Rect.unit (s := S512x1024) ![0, 0] S512x1024.size inb_S512x1024_S512x1024_0_0).toLoadRect (harg1.unread x0)
    g2 := View.readAt (Elt F) arg3.view (Rect.unit (s := S1x6x1024) ![0, 2, 0] S1x1x1024.size inb_S1x6x1024_S1x1x1024_0_2_0).toLoadRect (harg3.unread x2)
    g3 := View.readAt (Elt F) arg3.view (Rect.unit (s := S1x6x1024) ![0, 3, 0] S1x1x1024.size inb_S1x6x1024_S1x1x1024_0_3_0).toLoadRect (harg3.unread x2)
    wk := View.readAt (Elt F) arg4.view (Rect.unit (s := S1024x4096) ![0, 1536] S1024x256.size inb_S1024x4096_S1024x256_0_1536).toLoadRect (harg4.unread x3)
    wq := View.readAt (Elt F) arg4.view (Rect.unit (s := S1024x4096) ![0, 512] S1024x1024.size inb_S1024x4096_S1024x1024_0_512).toLoadRect (harg4.unread x3)
    wu := View.readAt (Elt F) arg4.view (Rect.unit (s := S1024x4096) ![0, 0] S1024x512.size inb_S1024x4096_S1024x512_0_0).toLoadRect (harg4.unread x3)
    wv := View.readAt (Elt F) arg4.view (Rect.unit (s := S1024x4096) ![0, 1792] S1024x256.size inb_S1024x4096_S1024x256_0_1792).toLoadRect (harg4.unread x3)
    wg := fun c => View.readAt (Elt F) arg4.view (Rect.unit (s := S1024x4096) ![0, 2048 + 256 * c.val] S1024x256.size (inbG c)).toLoadRect (harg4.unread x3)
    wgrp := fun c => View.readAt (Elt F) arg5.view (Rect.unit (s := S4x128x128) ![c.val, 0, 0] S1x128x128.size (inbP c)).toLoadRect (harg5.unread x4)
    ps := View.readAt (Elt F) arg6.view (Rect.unit (s := S1x1x512) ![0, 0, 0] S1x1x512.size inb_S1x1x512_S1x1x512_0_0_0).toLoadRect (harg6.unread x5)
    wpp := View.readAt (Elt F) arg7.view (Rect.unit (s := S512x1024) ![0, 0] S512x1024.size inb_S512x1024_S512x1024_0_0).toLoadRect (harg7.unread x6)
    sink := fun c => View.readAt (Elt F) arg8.view (Rect.unit (s := S2x16) ![1, c.val] S1x1.size (inbS c)).toLoadRect (harg8.unread x7) (Shape.Idx.first (numel1_S1x1.symm ▸ Nat.one_pos))
    wap := fun c => View.readAt (Elt F) arg9.view (Rect.unit (s := S1024x1024) ![0, 256 * c.val] S1024x256.size (inbW c)).toLoadRect (harg9.unread x8)
    wo := fun c => View.readAt (Elt F) arg10.view (Rect.unit (s := S1024x1024) ![0, 256 * c.val] S1024x256.size (inbW c)).toLoadRect (harg10.unread x9)
    uc := View.readAt (Elt F) arg13.view (Rect.unit (s := S2x16x512) (k0_off3 i) S1x16x512.size (k0_off3_inb i)).toLoadRect (arg13.view.writes (Elt F) (harg13.unread s0) [⟨Rect.unit ![0, 0, 0] S1x16x512.size inb_S2x16x512_S1x16x512_0_0_0, (k0_pay35 (k0_pay28 (View.readAt (Elt F) arg2.view (Rect.unit (s := S16x1024) ![0, 0] S16x1024.size inb_S16x1024_S16x1024_0_0).toLoadRect (harg2.unread x1)) (View.readAt (Elt F) arg3.view (Rect.unit (s := S1x6x1024) ![0, 2, 0] S1x1x1024.size inb_S1x6x1024_S1x1x1024_0_2_0).toLoadRect (harg3.unread x2))) (iota Kind.tc S128x1 32 [0] iota_S128x1_d0_w32) (View.readAt (Elt F) arg4.view (Rect.unit (s := S1024x4096) ![0, 0] S1024x512.size inb_S1024x4096_S1024x512_0_0).toLoadRect (harg4.unread x3)))⟩])
    kc := View.readAt (Elt F) arg14.view (Rect.unit (s := S2x128x256) (k0_off1 i) S1x128x256.size (k0_off1_inb i)).toLoadRect (arg14.view.writes (Elt F) (harg14.unread s1) [⟨Rect.unit ![0, 0, 0] S1x128x256.size inb_S2x128x256_S1x128x256_0_0_0, k0_pay2⟩])
    vc := View.readAt (Elt F) arg15.view (Rect.unit (s := S2x256x128) (k0_off5 i) S1x256x128.size (k0_off5_inb i)).toLoadRect (arg15.view.writes (Elt F) (harg15.unread s2) [⟨Rect.unit ![0, 0, 0] S1x256x128.size inb_S2x256x128_S1x256x128_0_0_0, k0_pay3⟩])
    km := arg16.view.readCov (Val := Elt F) [⟨Rect.unit ![0, 0] S16x256.size inb_S16x256_S16x256_0_0, (k0_pay31 (k0_pay29 (View.readAt (Elt F) arg2.view (Rect.unit (s := S16x1024) ![0, 0] S16x1024.size inb_S16x1024_S16x1024_0_0).toLoadRect (harg2.unread x1)) (View.readAt (Elt F) arg3.view (Rect.unit (s := S1x6x1024) ![0, 2, 0] S1x1x1024.size inb_S1x6x1024_S1x1x1024_0_2_0).toLoadRect (harg3.unread x2)) (View.readAt (Elt F) arg4.view (Rect.unit (s := S1024x4096) ![0, 1536] S1024x256.size inb_S1024x4096_S1024x256_0_1536).toLoadRect (harg4.unread x3))))⟩] (Rect.unit (s := S16x256) ![0, 0] S16x256.size inb_S16x256_S16x256_0_0).toLoadRect
    vm := arg17.view.readCov (Val := Elt F) [⟨Rect.unit ![0, 0] S256x16.size inb_S256x16_S256x16_0_0, (vmeta (View.readAt (Elt F) arg4.view (Rect.unit (s := S1024x4096) ![0, 1792] S1024x256.size inb_S1024x4096_S1024x256_0_1792).toLoadRect (harg4.unread x3)) (k0_pay28 (View.readAt (Elt F) arg2.view (Rect.unit (s := S16x1024) ![0, 0] S16x1024.size inb_S16x1024_S16x1024_0_0).toLoadRect (harg2.unread x1)) (View.readAt (Elt F) arg3.view (Rect.unit (s := S1x6x1024) ![0, 2, 0] S1x1x1024.size inb_S1x6x1024_S1x1x1024_0_2_0).toLoadRect (harg3.unread x2))))⟩] (Rect.unit (s := S256x16) ![0, 0] S256x16.size inb_S256x16_S256x16_0_0).toLoadRect
    bias := fun c => arg18.view.readCov (Val := Elt F) biasPieces (Rect.unit (s := S16x272x128) ![c.val, 0, 0] S1x272x128.size (inbB c)).toLoadRect

variable (c : Dev nD)

/-- The tails that a tile carries to the next. -/
def tailU (x : In F) : FVec F S1x16x512 .f32 := shapeCast S1x16x512 (extractStridedSlice S16x512 ![496, 0] x.u (Model.sl2 496 0 (by omega) (by omega))) shapeCasts_S16x512_S1x16x512
def tailK (x : In F) : FVec F S1x128x256 .bf16 := shapeCast S1x128x256 (extractStridedSlice S128x256 ![384, 0] x.k (Model.sl2 384 0 (by omega) (by omega))) shapeCasts_S128x256_S1x128x256
def tailV (x : In F) : FVec F S1x256x128 .bf16 := shapeCast S1x256x128 (extractStridedSlice S256x128 ![0, 384] x.v (Model.sl2 0 384 (by omega) (by omega))) shapeCasts_S256x128_S1x256x128

set_option maxHeartbeats 4000000 in
theorem scratch_B (hc0 : ¬cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 s0 s1 s2 s3 s4 s5).1.2 =
    ⟨[⟨Rect.unit (k0_off4 i) S1x16x512.size (k0_off4_inb i), tailU (inB i arg1 harg1 arg3 harg3 arg4 harg4 arg5 harg5 arg6 harg6 arg7 harg7 arg8 harg8 arg9 harg9 arg10 harg10 arg13 harg13 arg14 harg14 arg15 harg15 arg16 harg16 arg17 harg17 arg18 harg18 x0 x2 x3 x4 x5 x6 x7 x8 x9 s0 s1 s2 s3 s4 s5)⟩],
      [⟨Rect.unit (k0_off2 i) S1x128x256.size (k0_off2_inb i), tailK (inB i arg1 harg1 arg3 harg3 arg4 harg4 arg5 harg5 arg6 harg6 arg7 harg7 arg8 harg8 arg9 harg9 arg10 harg10 arg13 harg13 arg14 harg14 arg15 harg15 arg16 harg16 arg17 harg17 arg18 harg18 x0 x2 x3 x4 x5 x6 x7 x8 x9 s0 s1 s2 s3 s4 s5)⟩],
      [⟨Rect.unit (k0_off6 i) S1x256x128.size (k0_off6_inb i), tailV (inB i arg1 harg1 arg3 harg3 arg4 harg4 arg5 harg5 arg6 harg6 arg7 harg7 arg8 harg8 arg9 harg9 arg10 harg10 arg13 harg13 arg14 harg14 arg15 harg15 arg16 harg16 arg17 harg17 arg18 harg18 x0 x2 x3 x4 x5 x6 x7 x8 x9 s0 s1 s2 s3 s4 s5)⟩]⟩ := by
  sl_kernel_rfl

set_option maxHeartbeats 4000000 in
theorem rows_B (hc0 : ¬cond0_0 i) : (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 s0 s1 s2 s3 s4 s5).1.1 =
    [⟨Rect.unit ![256, 0] S256x1024.size inb_S512x1024_S256x1024_256_0, (inB i arg1 harg1 arg3 harg3 arg4 harg4 arg5 harg5 arg6 harg6 arg7 harg7 arg8 harg8 arg9 harg9 arg10 harg10 arg13 harg13 arg14 harg14 arg15 harg15 arg16 harg16 arg17 harg17 arg18 harg18 x0 x2 x3 x4 x5 x6 x7 x8 x9 s0 s1 s2 s3 s4 s5).out1⟩,
      ⟨Rect.unit ![0, 0] S256x1024.size inb_S512x1024_S256x1024_0_0, (inB i arg1 harg1 arg3 harg3 arg4 harg4 arg5 harg5 arg6 harg6 arg7 harg7 arg8 harg8 arg9 harg9 arg10 harg10 arg13 harg13 arg14 harg14 arg15 harg15 arg16 harg16 arg17 harg17 arg18 harg18 x0 x2 x3 x4 x5 x6 x7 x8 x9 s0 s1 s2 s3 s4 s5).out0 (BitVec.ofNat 32 (i 0).val)⟩] := by
  sl_kernel_rfl

end

end Cert.MixerIdeal.Run

end
-- ==== Proof.Mixer.ElemTail.lean ====
/- What a tile carries to the next, and what the first tile takes from the meta rows, at an element. -/
module

public import proofs.«01_k».proof.Proof.Mixer.Elem
public import proofs.«01_k».proof.Proof.Mixer.Word
public import proofs.«01_k».proof.Proof.Mixer.Pieces

@[expose] public section

set_option maxRecDepth 16384

noncomputable section

namespace Cert.MixerIdeal.Elem

open Idealize.ShloMosaic Idealize.ShloMosaic.TcCoe Idealize.ShloMosaic.Tactic
open Cert.MixerIdeal Cert.MixerIdeal.Gen Cert.MixerIdeal.Model Cert.MixerIdeal.Run Cert.Half Cert.Mix

theorem cutU (y : FVec Ideal S512x512 .f32) (a : Fin 16) (c : Fin 512) :
    shapeCast S1x16x512 (extractStridedSlice S16x512 ![496, 0] y (Model.sl2 496 0 (by omega) (by omega))) shapeCasts_S16x512_S1x16x512 (ix3 0 a c)
      = y (ix2 ⟨496 + a.val, by omega⟩ c) := by pointwise []

theorem cutK (y : FVec Ideal S512x256 .bf16) (j : Fin 128) (c : Fin 256) :
    shapeCast S1x128x256 (extractStridedSlice S128x256 ![384, 0] y (Model.sl2 384 0 (by omega) (by omega))) shapeCasts_S128x256_S1x128x256 (ix3 0 j c)
      = y (ix2 ⟨384 + j.val, by omega⟩ c) := by pointwise []

theorem cutV (y : FVec Ideal S256x512 .bf16) (c : Fin 256) (j : Fin 128) :
    shapeCast S1x256x128 (extractStridedSlice S256x128 ![0, 384] y (Model.sl2 0 384 (by omega) (by omega))) shapeCasts_S256x128_S1x256x128 (ix3 0 c j)
      = y (ix2 c ⟨384 + j.val, by omega⟩) := by pointwise []

section
variable {x : In Ideal} {P : Par} {t : ℕ} (H : Holds x P t)
include H

theorem tailU_at (a : Fin 16) (c : Fin 512) : tailU x (ix3 0 a c) = P.U (512 * (t + 1) + a.val) c.val := by
  unfold tailU
  rw [cutU, u_at H]
  exact congrArg (fun n => P.U n c.val) (by show 16 + 512 * t + (496 + a.val) = _; omega)

theorem tailK_at (j : Fin 128) (c : Fin 256) : tailK x (ix3 0 j c) = P.K (512 * (t + 1) + j.val - 112) c.val := by
  unfold tailK
  rw [cutK, k_at H]
  exact congrArg (fun n => P.K n c.val) (by show 16 + 512 * t + (384 + j.val) = _; omega)

theorem tailV_at (c : Fin 256) (j : Fin 128) : tailV x (ix3 0 c j) = P.V (512 * (t + 1) + j.val - 112) c.val := by
  unfold tailV
  rw [cutV, v_at H]
  exact congrArg (fun n => P.V n c.val) (by show 16 + 512 * t + (384 + j.val) = _; omega)

end

section
variable (h : FVec Ideal S16x1024 .f32) (g : FVec Ideal S1x1x1024 .f32)

theorem pad_at (r : Fin 16) (k : Fin 1024) : k0_pay27 (F := Ideal) h (ix2 ⟨r.val, by omega⟩ k) = h (ix2 r k) := by
  pointwise [k0_pay27]

theorem meta_at (r : Fin 16) (k : Fin 1024) :
    k0_pay28 (F := Ideal) h g (ix2 ⟨r.val, by omega⟩ k) = rms (fun k => h (ix2 r k)) (fun k => g (ix3 0 0 k)) k := by
  have e : ∀ k, k0_pay27 (F := Ideal) h (ix2 ⟨r.val, by omega⟩ k) = h (ix2 r k) := pad_at h r
  unfold rms k0_pay28
  revert e
  generalize k0_pay27 (F := Ideal) h = y
  intro e
  simp only [← e]
  pointwise []

theorem metaK_at (w : FVec Ideal S1024x256 .bf16) (r : Fin 16) (c : Fin 256) :
    k0_pay31 (k0_pay29 (F := Ideal) h g w) (ix2 r c) = ∑ k : Fin 1024, rms (fun k => h (ix2 r k)) (fun k => g (ix3 0 0 k)) k * w (ix2 k c) := by
  simp only [← meta_at h g r]
  unfold k0_pay31 k0_pay29
  generalize k0_pay28 (F := Ideal) h g = y
  pointwise []

theorem metaV_at (w : FVec Ideal S1024x256 .bf16) (r : Fin 16) (c : Fin 256) :
    vmeta w (k0_pay28 (F := Ideal) h g) (ix2 c r) = ∑ k : Fin 1024, rms (fun k => h (ix2 r k)) (fun k => g (ix3 0 0 k)) k * w (ix2 k c) := by
  simp only [← meta_at h g r]
  generalize k0_pay28 (F := Ideal) h g = y
  rw [show (∑ k : Fin 1024, y (ix2 ⟨r.val, by omega⟩ k) * w (ix2 k c)) = ∑ k : Fin 1024, w (ix2 k c) * y (ix2 ⟨r.val, by omega⟩ k) from
    Finset.sum_congr rfl fun _ _ => mul_comm _ _]
  pointwise [vmeta]

theorem metaU_at (w : FVec Ideal S1024x512 .bf16) (r : Fin 16) (c : Fin 512) :
    k0_pay35 (k0_pay28 (F := Ideal) h g) (iota .tc S128x1 32 [0] iota_S128x1_d0_w32) w (ix3 0 r c)
      = ∑ k : Fin 1024, rms (fun k => h (ix2 r k)) (fun k => g (ix3 0 0 k)) k * w (ix2 k c) := by
  simp only [← meta_at h g r]
  generalize k0_pay28 (F := Ideal) h g = y
  have e : IntOp.cmpi .slt (BitVec.ofNat 32 r.val) 16#32 = 1#1 := by
    unfold IntOp.cmpi
    rw [show (BitVec.ofNat 32 r.val).slt 16#32 = true from by
      rw [BitVec.slt_iff_toInt_lt, toInt_small _ (by omega), show (16#32 : BitVec 32).toInt = 16 from rfl]; omega]
    rfl
  unfold k0_pay35 k0_pay34
  pointwise []
  rw [e]
  rfl

end

end Cert.MixerIdeal.Elem

end
-- ==== Proof.Mixer.ElemBias.lean ====
/- The bias the first tile stores, head by head: the slope times the distance where a query sees the key. -/
module

public import proofs.«01_k».proof.Proof.Mixer.Elem
public import proofs.«01_k».proof.Proof.Mixer.Word
public import proofs.«01_k».proof.Proof.Mixer.Pieces

@[expose] public section

set_option maxRecDepth 16384

noncomputable section

namespace Cert.MixerIdeal.Elem

open Idealize.ShloMosaic Idealize.ShloMosaic.TcCoe Idealize.ShloMosaic.Tactic
open Cert.MixerIdeal Cert.MixerIdeal.Gen Cert.MixerIdeal.Model Cert.MixerIdeal.Run Cert.Half Cert.Mix

theorem ofBool_if (b : Bool) (p : Prop) [Decidable p] (h : b = true ↔ p) : BitVec.ofBool b = if p then 1#1 else 0#1 := by
  by_cases hp : p
  · rw [if_pos hp, h.2 hp]; rfl
  · rw [if_neg hp, Bool.eq_false_iff.2 (fun hb => hp (h.1 hb))]; rfl

/-- A slot of the band modulo 128. -/
theorem low (k : ℕ) (hk : k < 272) : BitVec.ofNat 32 k &&& 127#32 = BitVec.ofNat 32 (k % 128) := by
  apply BitVec.eq_of_toNat_eq
  rw [BitVec.toNat_and, BitVec.toNat_ofNat, Nat.mod_eq_of_lt (show k < 2 ^ 32 by omega)]
  refine Eq.trans ?_ (Nat.mod_eq_of_lt (show k % 128 < 2 ^ 32 by omega)).symm
  exact Nat.and_two_pow_sub_one_eq_mod k 7

theorem sge_at (k w : ℕ) (hk : k < 272) (hw : w < 272) : IntOp.cmpi .sge (BitVec.ofNat 32 k) (BitVec.ofNat 32 w) = if w ≤ k then 1#1 else 0#1 :=
  ofBool_if _ _ (by rw [BitVec.sle_iff_toInt_le, toInt_small _ (by omega), toInt_small _ (by omega)]; omega)

theorem slt_at (k w : ℕ) (hk : k < 272) (hw : w < 272) : IntOp.cmpi .slt (BitVec.ofNat 32 k) (BitVec.ofNat 32 w) = if k < w then 1#1 else 0#1 :=
  ofBool_if _ _ (by rw [BitVec.slt_iff_toInt_lt, toInt_small _ (by omega), toInt_small _ (by omega)]; omega)

theorem meta_slot (k : Fin 272) : k0_pay4 (ix2 k 0) = if 256 ≤ k.val then 1#1 else 0#1 := by
  rw [← sge_at k.val 256 k.isLt (by omega)]
  pointwise [k0_pay4]

/-- The distance of a slot's key from a lane's query, as a word. -/
theorem back (k : Fin 272) (j : Fin 128) : k0_pay5 (ix2 k j)
    = if k.val < 128 then BitVec.ofNat 32 (j.val + 128) - BitVec.ofNat 32 (k.val % 128) else BitVec.ofNat 32 j.val - BitVec.ofNat 32 (k.val % 128) := by
  have e : k0_pay5 (ix2 k j) = Scalar.select (IntOp.cmpi .slt (BitVec.ofNat 32 k.val) (BitVec.ofNat 32 128))
      ((BitVec.ofNat 32 j.val + 128#32) - (BitVec.ofNat 32 k.val &&& 127#32)) (BitVec.ofNat 32 j.val - (BitVec.ofNat 32 k.val &&& 127#32)) := by
    pointwise [k0_pay5]
    rfl
  rw [e, slt_at _ _ k.isLt (by omega), low _ k.isLt, show BitVec.ofNat 32 j.val + 128#32 = BitVec.ofNat 32 (j.val + 128) from (BitVec.ofNat_add ..).symm]
  unfold Scalar.select
  by_cases h : k.val < 128
  · rw [if_pos h, if_pos h]; rfl
  · rw [if_neg h, if_neg h]; rfl

theorem back_int (k : Fin 272) (j : Fin 128) : (k0_pay5 (ix2 k j)).toInt = if k.val < 128 then (j.val : ℤ) + 128 - (k.val % 128 : ℕ) else (j.val : ℤ) - (k.val % 128 : ℕ) := by
  rw [back]
  by_cases h : k.val < 128
  · rw [if_pos h, if_pos h, toInt_diff _ _ (by omega) (by omega)]; omega
  · rw [if_neg h, if_neg h, toInt_diff _ _ (by omega) (by omega)]

theorem seen (k : Fin 272) (j : Fin 128) : k0_pay6 (ix2 k j) = if sees' k.val j.val then 1#1 else 0#1 := by
  have e : k0_pay6 (ix2 k j) = IntOp.ori (IntOp.andi (IntOp.cmpi .sge (k0_pay5 (ix2 k j)) 0#32) (IntOp.cmpi .slt (k0_pay5 (ix2 k j)) 128#32)) (k0_pay4 (ix2 k 0)) := by
    unfold k0_pay6
    generalize k0_pay5 = a
    generalize k0_pay4 = b
    pointwise []
  have hb := back_int k j
  have hk := k.isLt
  have hj := j.isLt
  have e1 : IntOp.cmpi .sge (k0_pay5 (ix2 k j)) 0#32 = if 0 ≤ (k0_pay5 (ix2 k j)).toInt then 1#1 else 0#1 :=
    ofBool_if _ _ (by rw [BitVec.sle_iff_toInt_le, show (0#32 : BitVec 32).toInt = 0 from rfl])
  have e2 : IntOp.cmpi .slt (k0_pay5 (ix2 k j)) 128#32 = if (k0_pay5 (ix2 k j)).toInt < 128 then 1#1 else 0#1 :=
    ofBool_if _ _ (by rw [BitVec.slt_iff_toInt_lt, show (128#32 : BitVec 32).toInt = 128 from rfl])
  rw [e, e1, e2, meta_slot, hb]
  have hiff : sees' k.val j.val ↔ (256 ≤ k.val ∨ (j.val < k.val ∧ k.val ≤ j.val + 128)) := Iff.rfl
  by_cases h1 : k.val < 128
  · simp only [if_pos h1]
    by_cases h2 : j.val < k.val
    · rw [if_pos (show (0:ℤ) ≤ (j.val : ℤ) + 128 - (k.val % 128 : ℕ) by omega), if_pos (show (j.val : ℤ) + 128 - (k.val % 128 : ℕ) < 128 by omega), if_neg (by omega), if_pos (hiff.2 (by omega))]
      rfl
    · rw [if_pos (show (0:ℤ) ≤ (j.val : ℤ) + 128 - (k.val % 128 : ℕ) by omega), if_neg (show ¬ (j.val : ℤ) + 128 - (k.val % 128 : ℕ) < 128 by omega), if_neg (by omega), if_neg (fun h => by have := hiff.1 h; omega)]
      rfl
  · simp only [if_neg h1]
    by_cases h3 : 256 ≤ k.val
    · rw [if_pos h3, if_pos (hiff.2 (Or.inl h3)), if_pos (show (j.val : ℤ) - (k.val % 128 : ℕ) < 128 by omega)]
      by_cases h4 : (0:ℤ) ≤ (j.val : ℤ) - (k.val % 128 : ℕ)
      · rw [if_pos h4]; rfl
      · rw [if_neg h4]; rfl
    · rw [if_neg h3, if_pos (show (j.val : ℤ) - (k.val % 128 : ℕ) < 128 by omega)]
      by_cases h4 : k.val ≤ j.val + 128
      · rw [if_pos (show (0:ℤ) ≤ (j.val : ℤ) - (k.val % 128 : ℕ) by omega), if_pos (hiff.2 (by omega))]; rfl
      · rw [if_neg (show ¬ (0:ℤ) ≤ (j.val : ℤ) - (k.val % 128 : ℕ) by omega), if_neg (fun h => by have := hiff.1 h; omega)]; rfl

theorem far_at (k : Fin 272) (j : Fin 128) (h : sees' k.val j.val) : k0_pay7 (F := Ideal) (ix2 k j) = ((far' k.val j.val : ℝ) : EReal) := by
  have e : k0_pay7 (F := Ideal) (ix2 k j) = FloatOps.sitofp (F := Ideal) .f32 (Scalar.select (k0_pay4 (ix2 k 0)) 0#32 (k0_pay5 (ix2 k j))) := by
    unfold k0_pay7
    generalize k0_pay5 = a
    generalize k0_pay4 = b
    pointwise []
  have hb := back_int k j
  have hk := k.isLt
  have hj := j.isLt
  rw [e, meta_slot]
  unfold far' Scalar.select
  by_cases h3 : 256 ≤ k.val
  · rw [if_pos h3, if_pos h3, if_pos (show (1#1 : BitVec 1) = 1 from rfl)]
    show (((0#32 : BitVec 32).toInt : ℝ) : EReal) = _
    simp
  · rw [if_neg h3, if_neg h3, if_neg (by decide)]
    show (((k0_pay5 (ix2 k j)).toInt : ℝ) : EReal) = _
    have hs : j.val < k.val ∧ k.val ≤ j.val + 128 := by unfold sees' at h; omega
    have : (k0_pay5 (ix2 k j)).toInt = ((j.val + 128 - k.val : ℕ) : ℤ) := by
      rw [hb]
      by_cases h1 : k.val < 128
      · rw [if_pos h1]; omega
      · rw [if_neg h1]; omega
    rw [this]
    norm_cast

/-- The slope of an even head. -/
theorem steep_even (i : ℕ) : steep (2 * i) = (1 / 2 ^ i) * (Real.sqrt 2)⁻¹ := by
  unfold steep
  rw [show (-(((2 * i : ℕ) : ℝ) + 1) / 2 : ℝ) = -(i : ℝ) + -(1 / 2) by push_cast; ring, Real.rpow_add (by norm_num), Real.rpow_neg (by norm_num),
    Real.rpow_neg (by norm_num), Real.rpow_natCast, ← Real.sqrt_eq_rpow, one_div]

theorem steep_odd (i : ℕ) : steep (2 * i + 1) = 1 / 2 ^ (i + 1) := by
  unfold steep
  rw [show (-(((2 * i + 1 : ℕ) : ℝ) + 1) / 2 : ℝ) = -((i + 1 : ℕ) : ℝ) by push_cast; ring, Real.rpow_neg (by norm_num), Real.rpow_natCast, one_div]

/-- One head's bias, from its slope. -/
theorem bias_of (y : FVec Ideal S1x272x128 .f32) (w : EReal) (h : ℕ) (hw : w = (((Real.log 2)⁻¹ * -(steep h) : ℝ) : EReal))
    (hy : ∀ k j, y (ix3 0 k j) = Scalar.select (k0_pay6 (ix2 k j)) (w * k0_pay7 (F := Ideal) (ix2 k j)) ⊥) (k : Fin 272) (j : Fin 128) : y (ix3 0 k j) = biasE h k.val j.val := by
  rw [hy, seen]
  unfold biasE Scalar.select
  by_cases hs : sees' k.val j.val
  · rw [if_pos hs, if_pos hs, if_pos (show (1#1 : BitVec 1) = 1 from rfl), far_at _ _ hs, hw, ← EReal.coe_mul, mul_assoc]
  · rw [if_neg hs, if_neg hs, if_neg (by decide)]

theorem even_eq (i : ℕ) (a : ℝ) (ha : a = -(1 / 2 ^ i)) : (((a * (Real.log 2)⁻¹) * (Real.sqrt 2)⁻¹ : ℝ) : EReal) = (((Real.log 2)⁻¹ * -(steep (2 * i)) : ℝ) : EReal) := by
  rw [steep_even, ha]; congr 1; ring

theorem odd_eq (i : ℕ) (a : ℝ) (ha : a = -(1 / 2 ^ (i + 1))) : ((a * (Real.log 2)⁻¹ : ℝ) : EReal) = (((Real.log 2)⁻¹ * -(steep (2 * i + 1)) : ℝ) : EReal) := by
  rw [steep_odd, ha]; congr 1; ring

theorem bias_at (h : Fin 16) (k : Fin 272) (j : Fin 128) : biasP (F := Ideal) h (ix3 0 k j) = biasE h.val k.val j.val := by
  revert k j
  match h with
  | ⟨0, _⟩ => exact bias_of _ _ 0 (even_eq 0 (-1) (by norm_num)) fun k j => by show k0_pay9 _ _ _ _ = _; unfold k0_pay8; generalize k0_pay6 = a; generalize k0_pay7 (F := Ideal) = b; pointwise [k0_pay9]; rfl
  | ⟨1, _⟩ => exact bias_of _ _ 1 (odd_eq 0 (-1 / 2) (by norm_num)) fun k j => by show k0_pay10 _ _ _ = _; generalize k0_pay6 = a; generalize k0_pay7 (F := Ideal) = b; pointwise [k0_pay10]; rfl
  | ⟨2, _⟩ => exact bias_of _ _ 2 (even_eq 1 (-1 / 2) (by norm_num)) fun k j => by show k0_pay11 _ _ _ = _; generalize k0_pay6 = a; generalize k0_pay7 (F := Ideal) = b; pointwise [k0_pay11]; rfl
  | ⟨3, _⟩ => exact bias_of _ _ 3 (odd_eq 1 (-1 / 4) (by norm_num)) fun k j => by show k0_pay12 _ _ _ = _; generalize k0_pay6 = a; generalize k0_pay7 (F := Ideal) = b; pointwise [k0_pay12]; rfl
  | ⟨4, _⟩ => exact bias_of _ _ 4 (even_eq 2 (-1 / 4) (by norm_num)) fun k j => by show k0_pay13 _ _ _ = _; generalize k0_pay6 = a; generalize k0_pay7 (F := Ideal) = b; pointwise [k0_pay13]; rfl
  | ⟨5, _⟩ => exact bias_of _ _ 5 (odd_eq 2 (-1 / 8) (by norm_num)) fun k j => by show k0_pay14 _ _ _ = _; generalize k0_pay6 = a; generalize k0_pay7 (F := Ideal) = b; pointwise [k0_pay14]; rfl
  | ⟨6, _⟩ => exact bias_of _ _ 6 (even_eq 3 (-1 / 8) (by norm_num)) fun k j => by show k0_pay15 _ _ _ = _; generalize k0_pay6 = a; generalize k0_pay7 (F := Ideal) = b; pointwise [k0_pay15]; rfl
  | ⟨7, _⟩ => exact bias_of _ _ 7 (odd_eq 3 (-1 / 16) (by norm_num)) fun k j => by show k0_pay16 _ _ _ = _; generalize k0_pay6 = a; generalize k0_pay7 (F := Ideal) = b; pointwise [k0_pay16]; rfl
  | ⟨8, _⟩ => exact bias_of _ _ 8 (even_eq 4 (-1 / 16) (by norm_num)) fun k j => by show k0_pay17 _ _ _ = _; generalize k0_pay6 = a; generalize k0_pay7 (F := Ideal) = b; pointwise [k0_pay17]; rfl
  | ⟨9, _⟩ => exact bias_of _ _ 9 (odd_eq 4 (-1 / 32) (by norm_num)) fun k j => by show k0_pay19 (k0_pay18 _ _) _ = _; generalize k0_pay6 = a; generalize k0_pay7 (F := Ideal) = b; pointwise [k0_pay19, k0_pay18]; rfl
  | ⟨10, _⟩ => exact bias_of _ _ 10 (even_eq 5 (-1 / 32) (by norm_num)) fun k j => by show k0_pay20 _ _ _ = _; generalize k0_pay6 = a; generalize k0_pay7 (F := Ideal) = b; pointwise [k0_pay20]; rfl
  | ⟨11, _⟩ => exact bias_of _ _ 11 (odd_eq 5 (-1 / 64) (by norm_num)) fun k j => by show k0_pay21 _ _ _ = _; generalize k0_pay6 = a; generalize k0_pay7 (F := Ideal) = b; pointwise [k0_pay21]; rfl
  | ⟨12, _⟩ => exact bias_of _ _ 12 (even_eq 6 (-1 / 64) (by norm_num)) fun k j => by show k0_pay22 _ _ _ = _; generalize k0_pay6 = a; generalize k0_pay7 (F := Ideal) = b; pointwise [k0_pay22]; rfl
  | ⟨13, _⟩ => exact bias_of _ _ 13 (odd_eq 6 (-1 / 128) (by norm_num)) fun k j => by show k0_pay23 _ _ _ = _; generalize k0_pay6 = a; generalize k0_pay7 (F := Ideal) = b; pointwise [k0_pay23]; rfl
  | ⟨14, _⟩ => exact bias_of _ _ 14 (even_eq 7 (-1 / 128) (by norm_num)) fun k j => by show k0_pay25 _ _ _ _ = _; generalize k0_pay6 = a; generalize k0_pay7 (F := Ideal) = b; pointwise [k0_pay25, k0_pay24]; rfl
  | ⟨15, _⟩ => exact bias_of _ _ 15 (odd_eq 7 (-1 / 256) (by norm_num)) fun k j => by show k0_pay26 _ _ _ = _; generalize k0_pay6 = a; generalize k0_pay7 (F := Ideal) = b; pointwise [k0_pay26]; rfl
  | ⟨n + 16, h⟩ => exact absurd h (by omega)

end Cert.MixerIdeal.Elem

end
-- ==== Proof.Mixer.Tile.lean ====
/- What a tile loads, from the windows' blocks and the scratch, is what the model of a tile asks. -/
module

public import proofs.«01_k».proof.Proof.Mixer.ElemTail
public import proofs.«01_k».proof.Proof.Mixer.ElemBias
public import Idealize.ShloMosaic.Lib.Pipeline.ValueKit

@[expose] public section

set_option maxRecDepth 16384

noncomputable section

namespace Cert.MixerIdeal.Elem

open Idealize.ShloMosaic Idealize.ShloMosaic.TcCoe Idealize.ShloMosaic.Tactic
open Cert.MixerIdeal Cert.MixerIdeal.Gen Cert.MixerIdeal.Model Cert.MixerIdeal.Run Cert.Half Cert.Mix

/-- A load of a whole buffer's band, at an element. -/
theorem rd {sp : Space} {s : Shape} {e : EltTy} {a : Memref sig .tc sp s e} (ha : a.IsWhole) (X : Vec Ideal s e) (off size : Fin s.rank → ℕ) (inb)
    (y : (Rect.unit off size inb).shape.Idx) (z : s.Idx) (hz : ∀ k, (z k : ℕ) = off k + y k) :
    View.readAt (Elt Ideal) a.view (Rect.unit off size inb).toLoadRect (ha.unread X) y = X z := by
  rw [View.readAt_eq_ld, ha.read_unread]
  exact View.ld_unit_apply_of _ _ _ _ _ _ hz

/-- An element under the last store is the stored one. -/
theorem wr {sp : Space} {s : Shape} {e : EltTy} (v : View sig .tc sp s e) (f : v.ty.Contents (Elt Ideal)) (off size : Fin s.rank → ℕ) (inb)
    (w : (Rect.unit off size inb).shape.Idx → Elt Ideal e) (L : List (View.Piece (Elt Ideal) s e))
    (y : (Rect.unit off size inb).shape.Idx) (z : s.Idx) (hz : ∀ k, (z k : ℕ) = off k + y k) :
    v.read (Elt Ideal) (v.writes (Elt Ideal) f (⟨Rect.unit off size inb, w⟩ :: L)) z = w y := by
  have : z = (Rect.unit off size inb).emb y := funext fun a => Fin.ext ((hz a).trans (Rect.idx_unit_val off size inb y a).symm)
  rw [this]
  exact View.read_writes_cons_emb v f _ w L y

/-- A load of a band of a buffer just stored in, at an element. -/
theorem rdw {sp : Space} {s : Shape} {e : EltTy} (v : View sig .tc sp s e) (f : v.ty.Contents (Elt Ideal)) (off size : Fin s.rank → ℕ) (inb)
    (y : (Rect.unit off size inb).shape.Idx) (z : s.Idx) (hz : ∀ k, (z k : ℕ) = off k + y k) :
    View.readAt (Elt Ideal) v (Rect.unit off size inb).toLoadRect f y = v.read (Elt Ideal) f z := by
  rw [View.readAt_eq_ld]
  exact View.ld_unit_apply_of _ _ _ _ _ _ hz

/-- The same at an offset given by an equation. -/
theorem off_at {n : ℕ} {o o' : Fin n → ℕ} (ho : o = o') {z y : Fin n → ℕ} (hz : ∀ k, z k = o' k + y k) (k : Fin n) : z k = o k + y k := by
  rw [ho]; exact hz k

theorem biasPieces_eq : biasPieces (F := Ideal) = ([15, 14, 13, 12, 11, 10, 9, 8, 7, 6, 5, 4, 3, 2, 1, 0] : List (Fin 16)).map fun c =>
    (⟨Rect.unit (s := S16x272x128) ![c.val, 0, 0] S1x272x128.size (inbB c), biasP (F := Ideal) c⟩ : View.Piece (Elt Ideal) S16x272x128 .f32) := rfl

/-- The sixteen biases stored, read back. -/
theorem biasAll {sp : Space} (v : View sig .tc sp S16x272x128 .f32) (f : v.ty.Contents (Elt Ideal)) (h : Fin 16) (k : Fin 272) (j : Fin 128) :
    v.read (Elt Ideal) (v.writes (Elt Ideal) f biasPieces) (ix3 h k j) = biasE h.val k.val j.val := by
  refine View.read_writes_apply_of_pieces v f (fun z : S16x272x128.Idx => biasE (z 0).val (z 1).val (z 2).val) _ (fun p hp y => ?_) (ix3 h k j) ?_
  · rw [biasPieces_eq] at hp
    obtain ⟨c, -, rfl⟩ := List.mem_map.1 hp
    obtain ⟨k, j, rfl⟩ : ∃ (k : Fin 272) (j : Fin 128), y = ix3 0 k j := ⟨y 1, y 2, by funext a; fin_cases a; exact Subsingleton.elim (α := Fin 1) _ _; rfl; rfl⟩
    refine (bias_at c k j).trans ?_
    have e0 : ((Rect.unit (s := S16x272x128) ![c.val, 0, 0] S1x272x128.size (inbB c)).emb (ix3 0 k j) 0).val = c.val := (Rect.idx_unit_val _ _ _ _ _).trans (by simp)
    have e1 : ((Rect.unit (s := S16x272x128) ![c.val, 0, 0] S1x272x128.size (inbB c)).emb (ix3 0 k j) 1).val = k.val := (Rect.idx_unit_val _ _ _ _ _).trans (by simp)
    have e2 : ((Rect.unit (s := S16x272x128) ![c.val, 0, 0] S1x272x128.size (inbB c)).emb (ix3 0 k j) 2).val = j.val := (Rect.idx_unit_val _ _ _ _ _).trans (by simp)
    show _ = biasE ((Rect.unit (s := S16x272x128) ![c.val, 0, 0] S1x272x128.size (inbB c)).emb (ix3 0 k j) 0).val ((Rect.unit (s := S16x272x128) ![c.val, 0, 0] S1x272x128.size (inbB c)).emb (ix3 0 k j) 1).val ((Rect.unit (s := S16x272x128) ![c.val, 0, 0] S1x272x128.size (inbB c)).emb (ix3 0 k j) 2).val
    rw [e0, e1, e2]
  · exact View.cover_of_tiledL biasPieces S1x272x128.size (by sl_kernel_rfl) _

/-- The windows' blocks at tile `t`. -/
structure Fits (P : Par) (t : ℕ) (x0 : Vec Ideal S512x1024 .f32) (x1 : Vec Ideal S16x1024 .f32) (x2 : Vec Ideal S1x6x1024 .f32) (x3 : Vec Ideal S1024x4096 .bf16) (x4 : Vec Ideal S4x128x128 .bf16) (x5 : Vec Ideal S1x1x512 .f32)
    (x6 : Vec Ideal S512x1024 .bf16) (x7 : Vec Ideal S2x16 .f32) (x8 x9 : Vec Ideal S1024x1024 .bf16) : Prop where
  h : ∀ (r : Fin 512) k, x0 (ix2 r k) = P.X (16 + 512 * t + r.val) k
  hm : ∀ (r : Fin 16) k, x1 (ix2 r k) = P.X r.val k
  g2 : ∀ k, x2 (ix3 0 2 k) = P.g2 k
  g3 : ∀ k, x2 (ix3 0 3 k) = P.g3 k
  w : ∀ k (c : Fin 4096), x3 (ix2 k c) = P.W k c.val
  wg : ∀ (g : Fin 4) e (d : Fin 128), x4 (ix3 g e d) = P.Wg g.val e d.val
  ps : ∀ i, x5 (ix3 0 0 i) = P.ps i
  wpp : ∀ i c, x6 (ix2 i c) = P.Wpp i c
  sink : ∀ h : Fin 16, x7 (ix2 1 h) = P.sink h.val
  wap : ∀ i c, x8 (ix2 i c) = P.Wap i c
  wo : ∀ i c, x9 (ix2 i c) = P.Wo i c

/-- The scratch before tile `n`, after the first. -/
structure Good (P : Par) (n : ℕ) (s0 : Vec Ideal S2x16x512 .f32) (s1 : Vec Ideal S2x128x256 .bf16) (s2 : Vec Ideal S2x256x128 .bf16) (s3 : Vec Ideal S16x256 .bf16) (s4 : Vec Ideal S256x16 .bf16)
    (s5 : Vec Ideal S16x272x128 .f32) : Prop where
  u : ∀ (a : Fin 16) (c : Fin 512), s0 (ix3 ⟨n % 2, by omega⟩ a c) = P.U (512 * n + a.val) c.val
  k : ∀ (j : Fin 128) (c : Fin 256), s1 (ix3 ⟨n % 2, by omega⟩ j c) = P.K (512 * n + j.val - 112) c.val
  v : ∀ (c : Fin 256) (j : Fin 128), s2 (ix3 ⟨n % 2, by omega⟩ c j) = P.V (512 * n + j.val - 112) c.val
  km : ∀ (r : Fin 16) (c : Fin 256), s3 (ix2 r c) = P.K r.val c.val
  vm : ∀ (c : Fin 256) (r : Fin 16), s4 (ix2 c r) = P.V r.val c.val
  bias : ∀ (h : Fin 16) (k : Fin 272) (j : Fin 128), s5 (ix3 h k j) = biasE h.val k.val j.val

/-- The words of a slot. -/
theorem rem2 (n : ℕ) (hn : n < 32) : (Scalar.remsi (BitVec.ofNat 32 n) 2#32).toNat = n % 2 := by
  revert n; decide

theorem off1_eq (i : grid0.Coords) : k0_off1 i = ![(i 0).val % 2, 0, 0] := by unfold k0_off1; exact congrArg (fun n => (![n, 0, 0] : Fin 3 → ℕ)) (rem2 _ (i 0).isLt)
theorem off3_eq (i : grid0.Coords) : k0_off3 i = ![(i 0).val % 2, 0, 0] := by unfold k0_off3; exact congrArg (fun n => (![n, 0, 0] : Fin 3 → ℕ)) (rem2 _ (i 0).isLt)
theorem off5_eq (i : grid0.Coords) : k0_off5 i = ![(i 0).val % 2, 0, 0] := by unfold k0_off5; exact congrArg (fun n => (![n, 0, 0] : Fin 3 → ℕ)) (rem2 _ (i 0).isLt)

section
variable (i : grid0.Coords) (arg1 : Memref sig .tc .vmem S512x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x4096 .bf16) (harg4 : arg4.IsWhole) (arg5 : Memref sig .tc .vmem S4x128x128 .bf16) (harg5 : arg5.IsWhole) (arg6 : Memref sig .tc .vmem S1x1x512 .f32) (harg6 : arg6.IsWhole) (arg7 : Memref sig .tc .vmem S512x1024 .bf16) (harg7 : arg7.IsWhole) (arg8 : Memref sig .tc .smem S2x16 .f32) (harg8 : arg8.IsWhole) (arg9 : Memref sig .tc .vmem S1024x1024 .bf16) (harg9 : arg9.IsWhole) (arg10 : Memref sig .tc .vmem S1024x1024 .bf16) (harg10 : arg10.IsWhole) (arg13 : Memref sig .tc .vmem S2x16x512 .f32) (harg13 : arg13.IsWhole) (arg14 : Memref sig .tc .vmem S2x128x256 .bf16) (harg14 : arg14.IsWhole) (arg15 : Memref sig .tc .vmem S2x256x128 .bf16) (harg15 : arg15.IsWhole) (arg16 : Memref sig .tc .vmem S16x256 .bf16) (harg16 : arg16.IsWhole) (arg17 : Memref sig .tc .vmem S256x16 .bf16) (harg17 : arg17.IsWhole) (arg18 : Memref sig .tc .vmem S16x272x128 .f32) (harg18 : arg18.IsWhole)
    (x0 : Vec Ideal S512x1024 .f32) (x1 : Vec Ideal S16x1024 .f32) (x2 : Vec Ideal S1x6x1024 .f32) (x3 : Vec Ideal S1024x4096 .bf16) (x4 : Vec Ideal S4x128x128 .bf16) (x5 : Vec Ideal S1x1x512 .f32) (x6 : Vec Ideal S512x1024 .bf16) (x7 : Vec Ideal S2x16 .f32) (x8 : Vec Ideal S1024x1024 .bf16) (x9 : Vec Ideal S1024x1024 .bf16)
    (s0 : Vec Ideal S2x16x512 .f32) (s1 : Vec Ideal S2x128x256 .bf16) (s2 : Vec Ideal S2x256x128 .bf16) (s3 : Vec Ideal S16x256 .bf16) (s4 : Vec Ideal S256x16 .bf16) (s5 : Vec Ideal S16x272x128 .f32)

variable {P : Par} {t : ℕ} (ht : (i 0).val = t) (Fx : Fits P t x0 x1 x2 x3 x4 x5 x6 x7 x8 x9)
include ht Fx

set_option maxHeartbeats 1000000 in
theorem holdsB (Gx : Good P t s0 s1 s2 s3 s4 s5) : Holds (inB i arg1 harg1 arg3 harg3 arg4 harg4 arg5 harg5 arg6 harg6 arg7 harg7 arg8 harg8 arg9 harg9 arg10 harg10 arg13 harg13 arg14 harg14 arg15 harg15 arg16 harg16 arg17 harg17 arg18 harg18 x0 x2 x3 x4 x5 x6 x7 x8 x9 s0 s1 s2 s3 s4 s5) P t where
  h r k := (rd harg1 x0 _ _ _ _ (ix2 r k) (by intro a; fin_cases a <;> simp)).trans (Fx.h r k)
  g2 k := (rd harg3 x2 _ _ _ _ (ix3 0 2 k) (by intro a; fin_cases a <;> simp)).trans (Fx.g2 k)
  g3 k := (rd harg3 x2 _ _ _ _ (ix3 0 3 k) (by intro a; fin_cases a <;> simp)).trans (Fx.g3 k)
  wk k c := (rd harg4 x3 _ _ _ _ (ix2 k ⟨1536 + c.val, by omega⟩) (by intro a; fin_cases a <;> simp)).trans (Fx.w k _)
  wq k c := (rd harg4 x3 _ _ _ _ (ix2 k ⟨512 + c.val, by omega⟩) (by intro a; fin_cases a <;> simp)).trans (Fx.w k _)
  wu k c := (rd harg4 x3 _ _ _ _ (ix2 k ⟨c.val, by omega⟩) (by intro a; fin_cases a <;> simp)).trans (Fx.w k _)
  wv k c := (rd harg4 x3 _ _ _ _ (ix2 k ⟨1792 + c.val, by omega⟩) (by intro a; fin_cases a <;> simp)).trans (Fx.w k _)
  wg j k c := (rd harg4 x3 _ _ _ _ (ix2 k ⟨2048 + 256 * j.val + c.val, by omega⟩) (by intro a; fin_cases a <;> simp)).trans (Fx.w k _)
  wgrp g e d := (rd harg5 x4 _ _ _ _ (ix3 g e d) (by intro a; fin_cases a <;> simp)).trans (Fx.wg g e d)
  ps i := (rd harg6 x5 _ _ _ _ (ix3 0 0 i) (by intro a; fin_cases a <;> simp)).trans (Fx.ps i)
  wpp i c := (rd harg7 x6 _ _ _ _ (ix2 i c) (by intro a; fin_cases a <;> simp)).trans (Fx.wpp i c)
  sink h := (rd harg8 x7 _ _ _ _ (ix2 1 h) (by intro a; fin_cases a <;> simp)).trans (Fx.sink h)
  wap j i c := (rd harg9 x8 _ _ _ _ (ix2 i ⟨256 * j.val + c.val, by omega⟩) (by intro a; fin_cases a <;> simp)).trans (Fx.wap i _)
  wo j i c := (rd harg10 x9 _ _ _ _ (ix2 i ⟨256 * j.val + c.val, by omega⟩) (by intro a; fin_cases a <;> simp)).trans (Fx.wo i _)
  uc a c := (rd harg13 s0 _ _ _ _ (ix3 ⟨t % 2, by omega⟩ a c) (off_at ((off3_eq i).trans (by rw [ht])) (o' := ![t % 2, 0, 0]) (by intro a; fin_cases a <;> simp))).trans (Gx.u a c)
  kc _ j c := (rd harg14 s1 _ _ _ _ (ix3 ⟨t % 2, by omega⟩ j c) (off_at ((off1_eq i).trans (by rw [ht])) (o' := ![t % 2, 0, 0]) (by intro a; fin_cases a <;> simp))).trans (Gx.k j c)
  vc _ c j := (rd harg15 s2 _ _ _ _ (ix3 ⟨t % 2, by omega⟩ c j) (off_at ((off5_eq i).trans (by rw [ht])) (o' := ![t % 2, 0, 0]) (by intro a; fin_cases a <;> simp))).trans (Gx.v c j)
  km m c := (rd harg16 s3 _ _ _ _ (ix2 m c) (by intro a; fin_cases a <;> simp)).trans (Gx.km m c)
  vm c m := (rd harg17 s4 _ _ _ _ (ix2 c m) (by intro a; fin_cases a <;> simp)).trans (Gx.vm c m)
  bias h k j := (rd harg18 s5 _ _ _ _ (ix3 h k j) (by intro a; fin_cases a <;> simp)).trans (Gx.bias h k j)

omit ht in
/-- The rows, the gain and the weights that the first tile normalizes and multiplies. -/
theorem metaSum (r : Fin 16) (f : Fin 1024 → EReal) (y1 : FVec Ideal S16x1024 .f32) (y2 : FVec Ideal S1x1x1024 .f32) (h1 : ∀ k, y1 (ix2 r k) = x1 (ix2 r k)) (h2 : ∀ k, y2 (ix3 0 0 k) = x2 (ix3 0 2 k)) :
    ∑ k : Fin 1024, rms (fun k => y1 (ix2 r k)) (fun k => y2 (ix3 0 0 k)) k * f k = ∑ k : Fin 1024, rms (P.X r.val) P.g2 k * f k := by
  simp only [h1, h2, Fx.hm, Fx.g2]

omit ht in
/-- The meta rows' keys, as the first tile stores them. -/
theorem kmA (r : Fin 16) (c : Fin 256) : k0_pay31 (k0_pay29 (View.readAt (Elt Ideal) arg2.view (Rect.unit (s := S16x1024) ![0, 0] S16x1024.size inb_S16x1024_S16x1024_0_0).toLoadRect (harg2.unread x1)) (View.readAt (Elt Ideal) arg3.view (Rect.unit (s := S1x6x1024) ![0, 2, 0] S1x1x1024.size inb_S1x6x1024_S1x1x1024_0_2_0).toLoadRect (harg3.unread x2))
    (View.readAt (Elt Ideal) arg4.view (Rect.unit (s := S1024x4096) ![0, 1536] S1024x256.size inb_S1024x4096_S1024x256_0_1536).toLoadRect (harg4.unread x3))) (ix2 r c) = P.K r.val c.val := by
  refine (metaK_at _ _ _ r c).trans ?_
  refine Eq.trans (metaSum x0 x1 x2 x3 x4 x5 x6 x7 x8 x9 Fx r _ _ _ (fun k => ?_) (fun k => ?_)) ?_
  · exact rd harg2 x1 _ _ _ _ (ix2 r k) (by intro a; fin_cases a <;> simp)
  · exact rd harg3 x2 _ _ _ _ (ix3 0 2 k) (by intro a; fin_cases a <;> simp)
  show _ = ∑ k : Fin 1024, rms (P.X r.val) P.g2 k * P.W k (1536 + c.val)
  refine Finset.sum_congr rfl fun k _ => ?_
  refine congrArg (fun z => rms (P.X r.val) P.g2 k * z) ?_
  exact (rd harg4 x3 _ _ _ _ (ix2 k ⟨1536 + c.val, by omega⟩) (by intro a; fin_cases a <;> simp)).trans (Fx.w k _)

omit ht in
/-- … and their values. -/
theorem vmA (r : Fin 16) (c : Fin 256) : vmeta (View.readAt (Elt Ideal) arg4.view (Rect.unit (s := S1024x4096) ![0, 1792] S1024x256.size inb_S1024x4096_S1024x256_0_1792).toLoadRect (harg4.unread x3)) (k0_pay28 (View.readAt (Elt Ideal) arg2.view (Rect.unit (s := S16x1024) ![0, 0] S16x1024.size inb_S16x1024_S16x1024_0_0).toLoadRect (harg2.unread x1))
    (View.readAt (Elt Ideal) arg3.view (Rect.unit (s := S1x6x1024) ![0, 2, 0] S1x1x1024.size inb_S1x6x1024_S1x1x1024_0_2_0).toLoadRect (harg3.unread x2))) (ix2 c r) = P.V r.val c.val := by
  refine (metaV_at _ _ _ r c).trans ?_
  refine Eq.trans (metaSum x0 x1 x2 x3 x4 x5 x6 x7 x8 x9 Fx r _ _ _ (fun k => ?_) (fun k => ?_)) ?_
  · exact rd harg2 x1 _ _ _ _ (ix2 r k) (by intro a; fin_cases a <;> simp)
  · exact rd harg3 x2 _ _ _ _ (ix3 0 2 k) (by intro a; fin_cases a <;> simp)
  show _ = ∑ k : Fin 1024, rms (P.X r.val) P.g2 k * P.W k (1792 + c.val)
  refine Finset.sum_congr rfl fun k _ => ?_
  refine congrArg (fun z => rms (P.X r.val) P.g2 k * z) ?_
  exact (rd harg4 x3 _ _ _ _ (ix2 k ⟨1792 + c.val, by omega⟩) (by intro a; fin_cases a <;> simp)).trans (Fx.w k _)

set_option maxHeartbeats 1000000 in
theorem holdsA (h0 : t = 0) : Holds (inA i arg1 harg1 arg2 harg2 arg3 harg3 arg4 harg4 arg5 harg5 arg6 harg6 arg7 harg7 arg8 harg8 arg9 harg9 arg10 harg10 arg13 harg13 arg14 harg14 arg15 harg15 arg16 arg17 arg18 x0 x1 x2 x3 x4 x5 x6 x7 x8 x9 s0 s1 s2) P t where
  h r k := (rd harg1 x0 _ _ _ _ (ix2 r k) (by intro a; fin_cases a <;> simp)).trans (Fx.h r k)
  g2 k := (rd harg3 x2 _ _ _ _ (ix3 0 2 k) (by intro a; fin_cases a <;> simp)).trans (Fx.g2 k)
  g3 k := (rd harg3 x2 _ _ _ _ (ix3 0 3 k) (by intro a; fin_cases a <;> simp)).trans (Fx.g3 k)
  wk k c := (rd harg4 x3 _ _ _ _ (ix2 k ⟨1536 + c.val, by omega⟩) (by intro a; fin_cases a <;> simp)).trans (Fx.w k _)
  wq k c := (rd harg4 x3 _ _ _ _ (ix2 k ⟨512 + c.val, by omega⟩) (by intro a; fin_cases a <;> simp)).trans (Fx.w k _)
  wu k c := (rd harg4 x3 _ _ _ _ (ix2 k ⟨c.val, by omega⟩) (by intro a; fin_cases a <;> simp)).trans (Fx.w k _)
  wv k c := (rd harg4 x3 _ _ _ _ (ix2 k ⟨1792 + c.val, by omega⟩) (by intro a; fin_cases a <;> simp)).trans (Fx.w k _)
  wg j k c := (rd harg4 x3 _ _ _ _ (ix2 k ⟨2048 + 256 * j.val + c.val, by omega⟩) (by intro a; fin_cases a <;> simp)).trans (Fx.w k _)
  wgrp g e d := (rd harg5 x4 _ _ _ _ (ix3 g e d) (by intro a; fin_cases a <;> simp)).trans (Fx.wg g e d)
  ps i := (rd harg6 x5 _ _ _ _ (ix3 0 0 i) (by intro a; fin_cases a <;> simp)).trans (Fx.ps i)
  wpp i c := (rd harg7 x6 _ _ _ _ (ix2 i c) (by intro a; fin_cases a <;> simp)).trans (Fx.wpp i c)
  sink h := (rd harg8 x7 _ _ _ _ (ix2 1 h) (by intro a; fin_cases a <;> simp)).trans (Fx.sink h)
  wap j i c := (rd harg9 x8 _ _ _ _ (ix2 i ⟨256 * j.val + c.val, by omega⟩) (by intro a; fin_cases a <;> simp)).trans (Fx.wap i _)
  wo j i c := (rd harg10 x9 _ _ _ _ (ix2 i ⟨256 * j.val + c.val, by omega⟩) (by intro a; fin_cases a <;> simp)).trans (Fx.wo i _)
  uc a c := by
    refine (rdw _ _ _ _ _ _ (ix3 0 a c) (off_at ((off3_eq i).trans (by rw [ht, h0])) (o' := ![0, 0, 0]) (by intro a; fin_cases a <;> simp))).trans ?_
    refine (wr _ _ _ _ _ _ _ (ix3 0 a c) _ (by intro a; fin_cases a <;> simp)).trans ?_
    refine (metaU_at _ _ _ a c).trans ?_
    refine Eq.trans (metaSum x0 x1 x2 x3 x4 x5 x6 x7 x8 x9 Fx a _ _ _ (fun k => ?_) (fun k => ?_)) ?_
    · exact rd harg2 x1 _ _ _ _ (ix2 a k) (by intro a; fin_cases a <;> simp)
    · exact rd harg3 x2 _ _ _ _ (ix3 0 2 k) (by intro a; fin_cases a <;> simp)
    subst h0
    rw [show 512 * 0 + a.val = a.val by omega]
    show _ = ∑ k : Fin 1024, rms (P.X a.val) P.g2 k * P.W k (c.val)
    refine Finset.sum_congr rfl fun k _ => ?_
    refine congrArg (fun z => rms (P.X a.val) P.g2 k * z) ?_
    exact (rd harg4 x3 _ _ _ _ (ix2 k ⟨c.val, by omega⟩) (by intro a; fin_cases a <;> simp)).trans (Fx.w k _)
  kc h := absurd h0 h
  vc h := absurd h0 h
  km r c := by
    refine (rdw _ _ _ _ _ _ (ix2 r c) (by intro a; fin_cases a <;> simp)).trans ?_
    refine (wr _ _ _ _ _ _ _ (ix2 r c) _ (by intro a; fin_cases a <;> simp)).trans ?_
    exact kmA arg2 harg2 arg3 harg3 arg4 harg4 x0 x1 x2 x3 x4 x5 x6 x7 x8 x9 Fx r c
  vm c r := by
    refine (rdw _ _ _ _ _ _ (ix2 c r) (by intro a; fin_cases a <;> simp)).trans ?_
    refine (wr _ _ _ _ _ _ _ (ix2 c r) _ (by intro a; fin_cases a <;> simp)).trans ?_
    exact vmA arg2 harg2 arg3 harg3 arg4 harg4 x0 x1 x2 x3 x4 x5 x6 x7 x8 x9 Fx r c
  bias h k j := (rdw _ _ _ _ _ _ (ix3 h k j) (by intro a; fin_cases a <;> simp)).trans (biasAll _ _ h k j)

end

end Cert.MixerIdeal.Elem

end
-- ==== Proof.Mixer.Ref.lean ====
/- The reference, at an element: its rows by position, its projections and its pool. -/
module

public import proofs.«01_k».proof.Proof.Gen.MixerRefIdeal.Read
public import proofs.«01_k».proof.Proof.Mixer.Spec

@[expose] public section

set_option maxRecDepth 16384

noncomputable section

namespace Cert.MixerRefIdeal.Mix

open Cert.MixerRefIdeal Cert.MixerRefIdeal.Gen Cert.MixerRefIdeal.Read Cert.Half Cert.Mix Idealize.ShloMosaic Idealize.ShloMosaic.TcCoe Idealize.SL.Sem

variable (x0 : (⟨S16384x1024, .f32⟩ : BufTy).Contents (Elt Ideal)) (x1 : (⟨S16x1024, .f32⟩ : BufTy).Contents (Elt Ideal))
  (x2 : (⟨S2x6x1024, .f32⟩ : BufTy).Contents (Elt Ideal)) (x3 : (⟨S2x1024x4096, .f32⟩ : BufTy).Contents (Elt Ideal))
  (x4 : (⟨S2x4x128x128, .f32⟩ : BufTy).Contents (Elt Ideal)) (x5 : (⟨S2x512, .f32⟩ : BufTy).Contents (Elt Ideal))
  (x6 : (⟨S2x512x1024, .f32⟩ : BufTy).Contents (Elt Ideal)) (x7 : (⟨S2x16, .f32⟩ : BufTy).Contents (Elt Ideal))
  (x8 x9 : (⟨S2x1024x1024, .f32⟩ : BufTy).Contents (Elt Ideal))

/-- The mixer of the second layer, from the arguments. -/
def par : Par where
  X p k := if h : p < 16 then x1 (ix2 (⟨p, h⟩ : Fin 16) k) else if h' : p - 16 < 16384 then x0 (ix2 (⟨p - 16, h'⟩ : Fin 16384) k) else 0
  g2 k := x2 (ix3 1 2 k)
  g3 k := x2 (ix3 1 3 k)
  W k c := if h : c < 4096 then x3 (ix3 1 k (⟨c, h⟩ : Fin 4096)) else 0
  Wg g e d := if h : g < 4 ∧ d < 128 then x4 (ix4 1 (⟨g, h.1⟩ : Fin 4) e (⟨d, h.2⟩ : Fin 128)) else 0
  ps i := x5 (ix2 1 i)
  Wpp i c := x6 (ix3 1 i c)
  sink h := if h' : h < 16 then x7 (ix2 1 (⟨h, h'⟩ : Fin 16)) else 0
  Wap i c := x8 (ix3 1 i c)
  Wo i c := x9 (ix3 1 i c)

/-- A row of the joined array. -/
theorem row (p : Fin 16400) (k : Fin 1024) : val_main_v0 (F := Ideal) x0 x1 (ix2 p k) = (par x0 x1 x2 x3 x4 x5 x6 x7 x8 x9).X p.val k := by
  unfold par
  dsimp only
  split_ifs with h h'
  · pointwise [val_main_v0]
    rw [dif_pos h]
  · pointwise [val_main_v0]
    rw [dif_neg h]
  · omega

/-- Its norm. -/
theorem normed (p : Fin 16400) (k : Fin 1024) :
    val_main_v17 (F := Ideal) x0 x1 x2 (ix2 p k) = rms ((par x0 x1 x2 x3 x4 x5 x6 x7 x8 x9).X p.val) (par x0 x1 x2 x3 x4 x5 x6 x7 x8 x9).g2 k := by
  have e : val_main_v17 (F := Ideal) x0 x1 x2 (ix2 p k) = rms (fun k => val_main_v0 (F := Ideal) x0 x1 (ix2 p k)) (fun k => x2 (ix3 1 2 k)) k := by
    unfold rms
    pointwise [val_main_v1, val_main_v2, val_main_v3, val_main_v4, val_main_v5, val_main_v6, val_main_cst, val_main_v7, val_main_v8, val_main_cst_0, val_main_v9, val_main_v10, val_main_cst_1, val_main_v11, val_main_v12, val_main_v13, val_main_v14, val_main_v15, val_main_v16, val_main_v17]
  rw [e]
  simp only [row x0 x1 x2 x3 x4 x5 x6 x7 x8 x9]
  rfl

/-- The joined input projection. -/
theorem proj (p : Fin 16400) (c : Fin 4096) : val_main_v20 (F := Ideal) x0 x1 x2 x3 (ix2 p c) = (par x0 x1 x2 x3 x4 x5 x6 x7 x8 x9).pj p.val c.val := by
  have e : val_main_v20 (F := Ideal) x0 x1 x2 x3 (ix2 p c) = ∑ k : Fin 1024, val_main_v17 (F := Ideal) x0 x1 x2 (ix2 p k) * x3 (ix3 1 k c) := by
    pointwise [val_main_v18, val_main_v19, val_main_v20]
  rw [e]
  simp only [normed x0 x1 x2 x3 x4 x5 x6 x7 x8 x9]
  unfold Par.pj
  refine Finset.sum_congr rfl fun k _ => ?_
  congr 1
  simp [par]

end Cert.MixerRefIdeal.Mix

end
-- ==== Proof.Mixer.Array.lean ====
/- The blocks that the mixer's windows read, from the launched arguments. -/
module

public import proofs.«01_k».proof.Proof.Mixer.Tile
public import proofs.«01_k».proof.Proof.Mixer.Ref
public import proofs.«01_k».proof.Proof.Gen.MixerIdeal.Frame
public import Idealize.ShloMosaic.Lib.Pipeline.Value
public import Idealize.ShloMosaic.Lib.Pipeline.ValueKit

@[expose] public section

set_option maxRecDepth 16384

noncomputable section

namespace Cert.MixerIdeal.Elem

open Idealize.ShloMosaic Idealize.ShloMosaic.TcCoe Idealize.ShloMosaic.Tactic Idealize.SL.Sem
open Cert.MixerIdeal Cert.MixerIdeal.Gen Cert.Half Cert.Mix

variable (m : (ℓ : Loc nD τ sig) → Buf (Elt Ideal) ℓ) (c : Dev nD)

/-- The mixer of the launched arguments. -/
def params : Par := Cert.MixerRefIdeal.Mix.par (m ((c : Thread nD τ).loc main_arg0)) (m ((c : Thread nD τ).loc main_arg1)) (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7)) (m ((c : Thread nD τ).loc main_arg8)) (m ((c : Thread nD τ).loc main_arg9))

/-! What the host hands the call: the second layer's weights, their format changed. -/

theorem V_w (k : Fin 1024) (n : Fin 4096) : V m c main_v2 (ix2 k n) = m ((c : Thread nD τ).loc main_arg3) (ix3 1 k n) := by
  have e : V m c main_v2 = truncf (F := Ideal) .bf16 (shapeCast S1024x4096 (extractStridedSlice S1x1024x4096 ![1, 0, 0]
      (m ((c : Thread nD τ).loc main_arg3)) slices_S2x1024x4096_S1x1024x4096_1_0_0) shapeCasts_S1x1024x4096_S1024x4096) bitsLt_bf16_f32 := by
    rfl
  rw [e]
  pointwise []

theorem V_wg (g : Fin 4) (e d : Fin 128) : V m c main_v5 (ix3 g e d) = m ((c : Thread nD τ).loc main_arg4) (ix4 1 g e d) := by
  have e : V m c main_v5 = truncf (F := Ideal) .bf16 (shapeCast S4x128x128 (extractStridedSlice S1x4x128x128 ![1, 0, 0, 0]
      (m ((c : Thread nD τ).loc main_arg4)) slices_S2x4x128x128_S1x4x128x128_1_0_0_0) shapeCasts_S1x4x128x128_S4x128x128) bitsLt_bf16_f32 := by
    rfl
  rw [e]
  pointwise []

theorem V_ps (l : Fin 2) (i : Fin 512) : V m c main_v6 (ix3 l 0 i) = m ((c : Thread nD τ).loc main_arg5) (ix2 l i) := by
  have e : V m c main_v6 = shapeCast S2x1x512 (m ((c : Thread nD τ).loc main_arg5)) shapeCasts_S2x512_S2x1x512 := by
    rfl
  rw [e]
  pointwise []

theorem V_wpp (k : Fin 512) (n : Fin 1024) : V m c main_v9 (ix2 k n) = m ((c : Thread nD τ).loc main_arg6) (ix3 1 k n) := by
  have e : V m c main_v9 = truncf (F := Ideal) .bf16 (shapeCast S512x1024 (extractStridedSlice S1x512x1024 ![1, 0, 0]
      (m ((c : Thread nD τ).loc main_arg6)) slices_S2x512x1024_S1x512x1024_1_0_0) shapeCasts_S1x512x1024_S512x1024) bitsLt_bf16_f32 := by
    rfl
  rw [e]
  pointwise []

theorem V_wap (k n : Fin 1024) : V m c main_v12 (ix2 k n) = m ((c : Thread nD τ).loc main_arg8) (ix3 1 k n) := by
  have e : V m c main_v12 = truncf (F := Ideal) .bf16 (shapeCast S1024x1024 (extractStridedSlice S1x1024x1024 ![1, 0, 0]
      (m ((c : Thread nD τ).loc main_arg8)) slices_S2x1024x1024_S1x1024x1024_1_0_0) shapeCasts_S1x1024x1024_S1024x1024) bitsLt_bf16_f32 := by
    rfl
  rw [e]
  pointwise []

theorem V_wo (k n : Fin 1024) : V m c main_v15 (ix2 k n) = m ((c : Thread nD τ).loc main_arg9) (ix3 1 k n) := by
  have e : V m c main_v15 = truncf (F := Ideal) .bf16 (shapeCast S1024x1024 (extractStridedSlice S1x1024x1024 ![1, 0, 0]
      (m ((c : Thread nD τ).loc main_arg9)) slices_S2x1024x1024_S1x1024x1024_1_0_0) shapeCasts_S1x1024x1024_S1024x1024) bitsLt_bf16_f32 := by
    rfl
  rw [e]
  pointwise []

/-! The windows' block indices, decided over the grid. -/

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![1, 0, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0, 0] := (by decide +kernel : ∀ t : Fin grid0.N, _)
theorem at5 : ∀ t : Fin cfg0.N, win0_5.index t = ![1, 0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![t.val, 0] := (by decide +kernel : ∀ t : Fin grid0.N, _)

theorem at_lt (t : Fin cfg0.N) : t.val < 32 := lt_of_lt_of_eq t.isLt (by decide +kernel)

/-! A read of each input block is a read of its argument. -/

variable (t : Fin cfg0.N)

theorem blk_h (r : Fin 512) (k : Fin 1024) : iblk m c 0 t (ix2 r k) = m ((c : Thread nD τ).loc main_arg0) (ix2 (⟨512 * t.val + r.val, by have := at_lt t; omega⟩ : Fin 16384) k) := by
  rw [← V_main_arg0 m c]
  blk_ext [iblk, at0]

theorem blk_hm (r : Fin 16) (k : Fin 1024) : iblk m c 1 t (ix2 r k) = m ((c : Thread nD τ).loc main_arg1) (ix2 r k) := by
  rw [← V_main_arg1 m c]
  blk_ext [iblk, at1]

theorem blk_g (r : Fin 6) (k : Fin 1024) : iblk m c 2 t (ix3 0 r k) = m ((c : Thread nD τ).loc main_arg2) (ix3 1 r k) := by
  rw [← V_main_arg2 m c]
  blk_ext [iblk, at2]

theorem blk_w (k : Fin 1024) (n : Fin 4096) : iblk m c 3 t (ix2 k n) = m ((c : Thread nD τ).loc main_arg3) (ix3 1 k n) := by
  rw [← V_w m c]
  blk_ext [iblk, at3]

theorem blk_wg (g : Fin 4) (e d : Fin 128) : iblk m c 4 t (ix3 g e d) = m ((c : Thread nD τ).loc main_arg4) (ix4 1 g e d) := by
  rw [← V_wg m c]
  blk_ext [iblk, at4]

theorem blk_ps (i : Fin 512) : iblk m c 5 t (ix3 0 0 i) = m ((c : Thread nD τ).loc main_arg5) (ix2 1 i) := by
  rw [← V_ps m c]
  blk_ext [iblk, at5]

theorem blk_wpp (k : Fin 512) (n : Fin 1024) : iblk m c 6 t (ix2 k n) = m ((c : Thread nD τ).loc main_arg6) (ix3 1 k n) := by
  rw [← V_wpp m c]
  blk_ext [iblk, at6]

theorem blk_sink (h : Fin 16) : iblk m c 7 t (ix2 1 h) = m ((c : Thread nD τ).loc main_arg7) (ix2 1 h) := by
  rw [← V_main_arg7 m c]
  blk_ext [iblk, at7]

theorem blk_wap (k n : Fin 1024) : iblk m c 8 t (ix2 k n) = m ((c : Thread nD τ).loc main_arg8) (ix3 1 k n) := by
  rw [← V_wap m c]
  blk_ext [iblk, at8]

theorem blk_wo (k n : Fin 1024) : iblk m c 9 t (ix2 k n) = m ((c : Thread nD τ).loc main_arg9) (ix3 1 k n) := by
  rw [← V_wo m c]
  blk_ext [iblk, at9]

theorem fits : Fits (params m c) t.val (iblk m c 0 t) (iblk m c 1 t) (iblk m c 2 t) (iblk m c 3 t) (iblk m c 4 t) (iblk m c 5 t) (iblk m c 6 t) (iblk m c 7 t) (iblk m c 8 t) (iblk m c 9 t) where
  h r k := by
    have := at_lt t
    refine (blk_h m c t r k).trans ?_
    unfold params Cert.MixerRefIdeal.Mix.par
    dsimp only
    rw [dif_neg (by omega), dif_pos (by omega)]
    refine Eq.symm ?_
    exact congrArg (fun a : Fin 16384 => m ((c : Thread nD τ).loc main_arg0) (ix2 a k)) (Fin.ext (by show 16 + 512 * t.val + r.val - 16 = 512 * t.val + r.val; omega))
  hm r k := by
    refine (blk_hm m c t r k).trans ?_
    unfold params Cert.MixerRefIdeal.Mix.par
    dsimp only
    rw [dif_pos r.isLt]
  g2 k := blk_g m c t 2 k
  g3 k := blk_g m c t 3 k
  w k n := by
    refine (blk_w m c t k n).trans ?_
    unfold params Cert.MixerRefIdeal.Mix.par
    dsimp only
    rw [dif_pos n.isLt]
  wg g e d := by
    refine (blk_wg m c t g e d).trans ?_
    unfold params Cert.MixerRefIdeal.Mix.par
    dsimp only
    rw [dif_pos (And.intro g.isLt d.isLt)]
  ps i := blk_ps m c t i
  wpp i n := blk_wpp m c t i n
  sink h := by
    refine (blk_sink m c t h).trans ?_
    unfold params Cert.MixerRefIdeal.Mix.par
    dsimp only
    rw [dif_pos h.isLt]
  wap i n := blk_wap m c t i n
  wo i n := blk_wo m c t i n

end Cert.MixerIdeal.Elem

end
-- ==== Proof.Mixer.ElemHead.lean ====
/- One head of the attention at one query: the 272 slots of its block against the positions it sees. -/
module

public import proofs.«01_k».proof.Proof.Mixer.Elem

@[expose] public section

set_option maxRecDepth 16384

noncomputable section

namespace Cert.MixerIdeal.Elem

open Idealize.ShloMosaic Idealize.ShloMosaic.TcCoe Idealize.ShloMosaic.Tactic
open Cert.MixerIdeal Cert.MixerIdeal.Gen Cert.MixerIdeal.Model Cert.Half Cert.Mix

/-- The position a slot of block `n` holds: the block before and the block, then the meta rows. -/
def pos (n k : ℕ) : ℕ := if k < 256 then 128 * n + k - 112 else k - 256

/-- A slot a query sees; the first block has no block before it. -/
def okay (n k j : ℕ) : Prop := sees' k j ∧ (n = 0 → 128 ≤ k)
instance (n k j : ℕ) : Decidable (okay n k j) := inferInstanceAs (Decidable (_ ∧ _))

/-- The slots a query sees are the positions it sees. -/
theorem slots (n j : ℕ) (hn : n < 128) (hj : j < 128) (f : ℕ → ℝ) :
    ∑ k : Fin 272, (if okay n k.val j then f (pos n k.val) else 0)
      = ∑ s : Fin 16400, (if sees (16 + 128 * n + j) s.val then f s.val else 0) := by
  rw [← Finset.sum_filter, ← Finset.sum_filter]
  refine Finset.sum_nbij' (fun k => (⟨pos n k.val % 16400, Nat.mod_lt _ (by norm_num)⟩ : Fin 16400))
    (fun s => (⟨(if s.val < 16 then 256 + s.val else s.val + 112 - 128 * n) % 272, Nat.mod_lt _ (by norm_num)⟩ : Fin 272)) ?_ ?_ ?_ ?_ ?_
  · intro k hk
    have h := (Finset.mem_filter.1 hk).2
    have hk := k.isLt
    refine Finset.mem_filter.2 ⟨Finset.mem_univ _, ?_⟩
    unfold okay sees' at h
    unfold sees pos
    dsimp only
    split_ifs <;> omega
  · intro s hs
    have h := (Finset.mem_filter.1 hs).2
    have hs := s.isLt
    refine Finset.mem_filter.2 ⟨Finset.mem_univ _, ?_⟩
    unfold sees at h
    unfold okay sees'
    dsimp only
    split_ifs <;> omega
  · intro k hk
    have h := (Finset.mem_filter.1 hk).2
    have hk := k.isLt
    refine Fin.ext ?_
    unfold okay sees' at h
    have e : pos n k.val % 16400 = pos n k.val := Nat.mod_eq_of_lt (by unfold pos; split_ifs <;> omega)
    show (if pos n k.val % 16400 < 16 then 256 + pos n k.val % 16400 else pos n k.val % 16400 + 112 - 128 * n) % 272 = k.val
    rw [e]
    unfold pos
    by_cases h256 : k.val < 256
    · rw [if_pos h256, if_neg (by omega)]
      omega
    · rw [if_neg h256, if_pos (by omega)]
      omega
  · intro s hs
    have h := (Finset.mem_filter.1 hs).2
    have hs := s.isLt
    refine Fin.ext ?_
    unfold sees at h
    unfold pos
    dsimp only
    split_ifs <;> omega
  · intro k hk
    have h := (Finset.mem_filter.1 hk).2
    have hk := k.isLt
    congr 1
    unfold okay sees' at h
    unfold pos
    dsimp only
    split_ifs <;> omega

theorem q_scale_eq : (Named.named κ "q_scale" 0x3E38AA3B#32 : Ideal .f32) = (((1 / 8) * (Real.log 2)⁻¹ : ℝ) : EReal) := rfl
theorem log2e_eq : (Named.named κ "log2e" 0x3FB8AA3B#32 : Ideal .f32) = (((Real.log 2)⁻¹ : ℝ) : EReal) := rfl
theorem neg_inf_eq : (Named.named κ "neg_inf" 0xF149F2CA#32 : Ideal .f32) = (⊥ : EReal) := rfl

/-- A head's result from its logits and its values by slot. -/
theorem head (P : Par) (hP : P.Real) (n j h d : ℕ) (hn : n < 128) (hj : j < 128) (L V : Fin 272 → EReal)
    (hL : ∀ k, L k = if okay n k.val j then (((Real.log 2)⁻¹ * P.lg h (16 + 128 * n + j) (pos n k.val) : ℝ) : EReal) else ⊥)
    (hV : ∀ k : Fin 272, okay n k.val j → V k = P.V (pos n k.val) (64 * (h / 4) + d)) (M : EReal) (hM : ∃ r : ℝ, M = r) :
    (∑ k, V k * Ideal.exp2 (L k - M)) * Ideal.div ((1 : ℝ) : EReal) (∑ k, Ideal.exp2 (L k - M) + Ideal.exp2 (P.sink h * (((Real.log 2)⁻¹ : ℝ) : EReal) - M))
      = P.att h (16 + 128 * n + j) d := by
  rw [soft_ker (fun k : Fin 272 => okay n k.val j) (fun k => P.lg h (16 + 128 * n + j) (pos n k.val)) (fun k => (P.V (pos n k.val) (64 * (h / 4) + d)).toReal)
    (P.sink h).toReal L V hL (fun k hk => (hV k hk).trans (coe_toReal_of (P.pj_real hP _ _)).symm) _ M
    (by obtain ⟨r, hr⟩ := hP.sink h; rw [hr, EReal.toReal_coe, ← EReal.coe_mul, mul_comm]) hM]
  unfold Par.att Par.wt
  have e1 : ∑ k : Fin 272, (if okay n k.val j then Real.exp (P.lg h (16 + 128 * n + j) (pos n k.val)) else 0) * (P.V (pos n k.val) (64 * (h / 4) + d)).toReal
      = ∑ s : Fin 16400, (if sees (16 + 128 * n + j) s.val then Real.exp (P.lg h (16 + 128 * n + j) s.val) else 0) * (P.V s.val (64 * (h / 4) + d)).toReal := by
    have e := slots n j hn hj fun s => Real.exp (P.lg h (16 + 128 * n + j) s) * (P.V s (64 * (h / 4) + d)).toReal
    simp only [ite_mul, zero_mul]
    exact e
  rw [e1, slots n j hn hj fun s => Real.exp (P.lg h (16 + 128 * n + j) s)]

/-- A logit from the scaled query, the key of the slot and the bias. -/
theorem logit (P : Par) (hP : P.Real) (n h k j : ℕ) (hk : k < 272) (hn : n = 0 → 128 ≤ k) (K Q : Fin 64 → EReal) (B : EReal)
    (hK : ∀ d : Fin 64, K d = P.K (pos n k) (64 * (h / 4) + d.val))
    (hQ : ∀ d : Fin 64, Q d = P.Q (16 + 128 * n + j) (64 * h + d.val) * (((1 / 8) * (Real.log 2)⁻¹ : ℝ) : EReal)) (hB : B = biasE h k j) :
    ∑ d, K d * Q d + B = if okay n k j then (((Real.log 2)⁻¹ * P.lg h (16 + 128 * n + j) (pos n k) : ℝ) : EReal) else ⊥ := by
  have hk' : ∀ d : Fin 64, K d = (((P.K (pos n k) (64 * (h / 4) + d.val)).toReal : ℝ) : EReal) := fun d =>
    (hK d).trans (coe_toReal_of (P.pj_real hP _ _)).symm
  have hq' : ∀ d : Fin 64, Q d = (((P.Q (16 + 128 * n + j) (64 * h + d.val)).toReal * ((1 / 8) * (Real.log 2)⁻¹) : ℝ) : EReal) := fun d => by
    have e : P.Q (16 + 128 * n + j) (64 * h + d.val) = (((P.Q (16 + 128 * n + j) (64 * h + d.val)).toReal : ℝ) : EReal) := (coe_toReal_of (P.pj_real hP _ _)).symm
    rw [hQ, EReal.coe_mul _ ((1 / 8) * (Real.log 2)⁻¹), ← e]
  simp only [hk', hq', ← EReal.coe_mul, coe_sum]
  rw [hB, biasE]
  by_cases hs : sees' k j
  · rw [if_pos hs, if_pos (show okay n k j from ⟨hs, hn⟩), ← EReal.coe_add]
    congr 1
    unfold Par.lg
    have hf : far (16 + 128 * n + j) (pos n k) = far' k j := by
      unfold far far' pos
      unfold sees' at hs
      split_ifs <;> omega
    rw [hf, show ∑ d : Fin 64, (P.K (pos n k) (64 * (h / 4) + d.val)).toReal * ((P.Q (16 + 128 * n + j) (64 * h + d.val)).toReal * ((1 / 8) * (Real.log 2)⁻¹))
        = (∑ d : Fin 64, (P.Q (16 + 128 * n + j) (64 * h + d.val)).toReal * (P.K (pos n k) (64 * (h / 4) + d.val)).toReal) * ((1 / 8) * (Real.log 2)⁻¹) by
      rw [Finset.sum_mul]; exact Finset.sum_congr rfl fun d _ => by ring]
    ring
  · rw [if_neg hs, if_neg (show ¬ okay n k j from fun h => hs h.1), EReal.add_bot]

end Cert.MixerIdeal.Elem

end
-- ==== Proof.Mixer.ElemScore.lean ====
/- The scores, the weights and the weighted values of a block, at an element, from what they are computed from. -/
module

public import proofs.«01_k».proof.Proof.Mixer.Elem
public import proofs.«01_k».proof.Proof.Mixer.Word

@[expose] public section

set_option maxRecDepth 16384

noncomputable section

namespace Cert.MixerIdeal.Elem

open Idealize.ShloMosaic Idealize.ShloMosaic.TcCoe Idealize.ShloMosaic.Tactic
open Cert.MixerIdeal Cert.MixerIdeal.Gen Cert.MixerIdeal.Model Cert.Half Cert.Mix

theorem kkB_at (k : FVec Ideal S512x256 .bf16) (km : FVec Ideal S16x256 .bf16) (b : Fin 3) (kh : Fin 4) (s : Fin 272) (c : Fin 128) :
    kkB k km b kh (ix2 s c) = if h : s.val < 256 then k (ix2 ⟨128 * b.val + s.val, by omega⟩ ⟨ln kh + c.val, by have := ln_le kh; omega⟩)
      else km (ix2 ⟨s.val - 256, by omega⟩ ⟨ln kh + c.val, by have := ln_le kh; omega⟩) := by
  pointwise [kkB]
  by_cases h1 : s.val < 128
  · rw [dif_pos h1, dif_pos (show s.val < 256 by omega)]
  · by_cases h2 : s.val < 256
    · rw [dif_neg h1, dif_pos (show s.val - 128 < 128 by omega), dif_pos h2]
      congr 2
      exact Fin.ext (by simp only; omega)
    · rw [dif_neg h1, dif_neg (show ¬ s.val - 128 < 128 by omega), dif_neg h2]
      congr 2

theorem kkA_at (kc : FVec Ideal S1x128x256 .bf16) (k : FVec Ideal S512x256 .bf16) (km : FVec Ideal S16x256 .bf16) (kh : Fin 4) (s : Fin 272) (c : Fin 128) :
    kkA kc k km kh (ix2 s c) = if h : s.val < 128 then kc (ix3 0 ⟨s.val, h⟩ ⟨ln kh + c.val, by have := ln_le kh; omega⟩)
      else if h : s.val < 256 then k (ix2 ⟨s.val - 128, by omega⟩ ⟨ln kh + c.val, by have := ln_le kh; omega⟩)
      else km (ix2 ⟨s.val - 256, by omega⟩ ⟨ln kh + c.val, by have := ln_le kh; omega⟩) := by
  pointwise [kkA]
  by_cases h1 : s.val < 128
  · rw [dif_pos h1, dif_pos h1]
  · by_cases h2 : s.val < 256
    · rw [dif_neg h1, dif_pos (show s.val - 128 < 128 by omega), dif_neg h1, dif_pos h2]
    · rw [dif_neg h1, dif_neg (show ¬ s.val - 128 < 128 by omega), dif_neg h1, dif_neg h2]
      congr 2

theorem vvA_at (vc : FVec Ideal S1x256x128 .bf16) (v : FVec Ideal S256x512 .bf16) (vm : FVec Ideal S256x16 .bf16) (kh : Fin 4) (d : Fin 64) (s : Fin 272) :
    vvA vc v vm kh (ix2 d s) = if h : s.val < 128 then vc (ix3 0 ⟨64 * kh.val + d.val, by omega⟩ ⟨s.val, h⟩)
      else if h : s.val < 256 then v (ix2 ⟨64 * kh.val + d.val, by omega⟩ ⟨s.val - 128, by omega⟩)
      else vm (ix2 ⟨64 * kh.val + d.val, by omega⟩ ⟨s.val - 256, by omega⟩) := by
  pointwise [vvA]
  by_cases h1 : s.val < 128
  · rw [dif_pos h1, dif_pos h1]
  · by_cases h2 : s.val < 256
    · rw [dif_neg h1, dif_pos (show s.val - 128 < 128 by omega), dif_neg h1, dif_pos h2]
    · rw [dif_neg h1, dif_neg (show ¬ s.val - 128 < 128 by omega), dif_neg h1, dif_neg h2]
      congr 2

/-- Over the rows of zeros a score is over 64 lanes. -/
theorem half_sum (f : Fin 128 → EReal) (g : Fin 64 → EReal) (o : ℕ) (ho : o ≤ 64) (h1 : ∀ d : Fin 64, f ⟨o + d.val, by omega⟩ = g d)
    (h0 : ∀ c : Fin 128, ¬ (o ≤ c.val ∧ c.val < o + 64) → f c = 0) : ∑ c, f c = ∑ d, g d := by
  rw [← Finset.sum_subset (Finset.subset_univ (Finset.univ.image fun d : Fin 64 => (⟨o + d.val, by omega⟩ : Fin 128))) fun c _ hc => h0 c fun h => hc
    (Finset.mem_image.2 ⟨⟨c.val - o, by omega⟩, Finset.mem_univ _, Fin.ext (by show o + (c.val - o) = c.val; omega)⟩)]
  rw [Finset.sum_image fun a _ b _ h => Fin.ext (by have := congrArg Fin.val h; simp only at this; omega)]
  exact Finset.sum_congr rfl fun d _ => h1 d

theorem qs_at (q : FVec Ideal S1024x512 .bf16) (b kh g : Fin 4) (d : Fin 64) (j : Fin 128) :
    qs q b kh (ix2 d ⟨128 * g.val + j.val, by omega⟩) = q (ix2 ⟨64 * (4 * kh.val + g.val) + d.val, by omega⟩ ⟨128 * b.val + j.val, by omega⟩) := by
  have hg := g.isLt
  have hj := j.isLt
  fin_cases g
  · pointwise [qs, qh]
  · pointwise [qs, qh]
  · pointwise [qs, qh]
    simp (disch := omega) only [dif_pos, dif_neg]
    simp only [show 256 + j.val - 128 - 128 = j.val by omega]
  · pointwise [qs, qh]
    simp (disch := omega) only [dif_pos, dif_neg]
    simp only [show 384 + j.val - 128 - 128 - 128 = j.val by omega]

theorem qz_even (q : FVec Ideal S1024x512 .bf16) (b kh : Fin 4) (h : kh.val % 2 = 0) (c : Fin 128) (l : Fin 512) :
    qz q b kh (ix2 c l) = if h : c.val < 64 then qs q b kh (ix2 ⟨c.val, h⟩ l) else 0 := by
  unfold qz
  rw [if_pos h]
  generalize qs q b kh = Q
  pointwise [z64]

theorem qz_odd (q : FVec Ideal S1024x512 .bf16) (b kh : Fin 4) (h : kh.val % 2 = 1) (c : Fin 128) (l : Fin 512) :
    qz q b kh (ix2 c l) = if h : c.val < 64 then 0 else qs q b kh (ix2 ⟨c.val - 64, by omega⟩ l) := by
  unfold qz
  rw [if_neg (by omega)]
  generalize qs q b kh = Q
  pointwise [z64]

theorem sc_at (kk : FVec Ideal S272x128 .bf16) (q : FVec Ideal S128x512 .bf16) (s : Fin 272) (l : Fin 512) :
    sc kk q (ix2 s l) = ∑ c : Fin 128, kk (ix2 s c) * q (ix2 c l) := by pointwise [sc]

/-- A score of head `4 kh + g` is over the lanes of its own head of keys. -/
theorem score_at (kk : FVec Ideal S272x128 .bf16) (q : FVec Ideal S1024x512 .bf16) (b kh g : Fin 4) (s : Fin 272) (j : Fin 128) :
    sc kk (qz q b kh) (ix2 s ⟨128 * g.val + j.val, by omega⟩) = ∑ d : Fin 64, kk (ix2 s ⟨64 * (kh.val % 2) + d.val, by omega⟩)
      * q (ix2 ⟨64 * (4 * kh.val + g.val) + d.val, by omega⟩ ⟨128 * b.val + j.val, by omega⟩) := by
  rw [sc_at]
  refine half_sum _ _ (64 * (kh.val % 2)) (by omega) (fun d => ?_) fun c hc => ?_
  · rw [← qs_at q b kh g d j]
    congr 1
    rcases Nat.mod_two_eq_zero_or_one kh.val with h | h
    · rw [qz_even _ _ _ h, dif_pos (by show 64 * (kh.val % 2) + d.val < 64; omega)]
      congr 2
      exact Fin.ext (by show 64 * (kh.val % 2) + d.val = d.val; omega)
    · rw [qz_odd _ _ _ h, dif_neg (by show ¬ 64 * (kh.val % 2) + d.val < 64; omega)]
      congr 2
      exact Fin.ext (by show 64 * (kh.val % 2) + d.val - 64 = d.val; omega)
  · have hc' := c.isLt
    rcases Nat.mod_two_eq_zero_or_one kh.val with h | h
    · rw [qz_even _ _ _ h, dif_neg (by omega), mul_zero]
    · rw [qz_odd _ _ _ h, dif_pos (by omega), mul_zero]

theorem lgB_at (s : FVec Ideal S272x512 .f32) (bias : FVec Ideal S1x272x128 .f32) (g : Fin 4) (k : Fin 272) (j : Fin 128) :
    lgB s bias g (ix2 k j) = s (ix2 k ⟨128 * g.val + j.val, by omega⟩) + bias (ix3 0 k j) := by pointwise [lgB]

theorem lgA_at (t : ℕ) (ht : t < 32) (l : FVec Ideal S272x128 .f32) (k : Fin 272) (j : Fin 128) :
    lgA (BitVec.ofNat 32 t) l (ix2 k j) = if t = 0 ∧ k.val < 128 then (Named.named κ "neg_inf" 0xF149F2CA#32 : Ideal .f32) else l (ix2 k j) := by
  pointwise [lgA]
  have hk := k.isLt
  have e1 : Scalar.cmpi .sgt (BitVec.ofNat 32 t) 0#32 = if t = 0 then 0#1 else 1#1 := by
    interval_cases t <;> rfl
  have e2 : ∀ w : ℕ, w ≤ 128 → IntOp.cmpi .sge (BitVec.ofNat 32 k.val) (BitVec.ofNat 32 w) = if w ≤ k.val then 1#1 else 0#1 := fun w hw => by
    unfold IntOp.cmpi
    dsimp only
    rw [show (BitVec.ofNat 32 w).sle (BitVec.ofNat 32 k.val) = decide (w ≤ k.val) by
      rw [Bool.eq_iff_iff, BitVec.sle_iff_toInt_le, toInt_small w (by omega), toInt_small k.val (by omega)]; simp]
    by_cases h : w ≤ k.val <;> simp [h]
  rw [e1]
  by_cases h0 : t = 0
  · rw [if_pos h0]
    show Scalar.select (IntOp.cmpi .sge (BitVec.ofNat 32 k.val) (BitVec.ofNat 32 128)) _ _ = _
    rw [e2 128 (by omega)]
    by_cases h : 128 ≤ k.val
    · rw [if_pos h, if_neg (by omega)]; rfl
    · rw [if_neg h, if_pos (by omega)]; rfl
  · rw [if_neg h0]
    show Scalar.select (IntOp.cmpi .sge (BitVec.ofNat 32 k.val) (BitVec.ofNat 32 0)) _ _ = _
    rw [e2 0 (by omega), if_pos (by omega), if_neg (by omega)]; rfl

theorem mx_at (l : FVec Ideal S272x128 .f32) (s : Ideal .f32) (j : Fin 128) :
    mx l s (ix2 0 j) = max (Finset.univ.fold max ⊥ fun k : Fin 272 => l (ix2 k j)) (sk s) := by
  pointwise [mx]
  rw [show Ideal.ofBits .f32 4286578688#32 = ⊥ by simp [Ideal.ofBits, Ideal.ieee]]

theorem pr_at (l : FVec Ideal S272x128 .f32) (s : Ideal .f32) (k : Fin 272) (j : Fin 128) :
    pr l s (ix2 k j) = Ideal.exp2 (l (ix2 k j) - mx l s (ix2 0 j)) := by
  unfold pr
  generalize mx l s = M
  pointwise []
  rfl

theorem inv_at (l : FVec Ideal S272x128 .f32) (s : Ideal .f32) (j : Fin 128) :
    Model.inv l s (ix2 0 j) = Ideal.div ((1 : ℝ) : EReal) (∑ k : Fin 272, pr l s (ix2 k j) + Ideal.exp2 (sk s - mx l s (ix2 0 j))) := by
  unfold Model.inv
  generalize mx l s = M
  generalize pr l s = p
  generalize sk s = S
  pointwise []
  rw [EReal.coe_one]
  rfl

theorem vvB_at (v : FVec Ideal S256x512 .bf16) (vm : FVec Ideal S256x16 .bf16) (b : Fin 3) (kh : Fin 4) (d : Fin 64) (s : Fin 272) :
    vvB v vm b kh (ix2 d s) = if h : s.val < 256 then v (ix2 ⟨64 * kh.val + d.val, by omega⟩ ⟨128 * b.val + s.val, by omega⟩)
      else vm (ix2 ⟨64 * kh.val + d.val, by omega⟩ ⟨s.val - 256, by omega⟩) := by
  pointwise [vvB]
  by_cases h1 : s.val < 128
  · rw [dif_pos h1, dif_pos (show s.val < 256 by omega)]
  · by_cases h2 : s.val < 256
    · rw [dif_neg h1, dif_pos (show s.val - 128 < 128 by omega), dif_pos h2]
      refine congrArg v (congrArg (ix2 _) (Fin.ext ?_))
      show 128 * (b.val + 1) + (s.val - 128) = 128 * b.val + s.val
      omega
    · rw [dif_neg h1, dif_neg (show ¬ s.val - 128 < 128 by omega), dif_neg h2]
      congr 2

theorem wv_at (vv : FVec Ideal S64x272 .bf16) (l : Fin 4 → FVec Ideal S272x128 .f32) (s : Fin 4 → Ideal .f32) (g : Fin 4) (d : Fin 64) (j : Fin 128) :
    Model.wv vv l s (ix2 d ⟨128 * g.val + j.val, by omega⟩) = ∑ k : Fin 272, vv (ix2 d k) * pr (l g) (s g) (ix2 k j) := by
  unfold Model.wv
  have e : ∀ g, pr (l g) (s g) = (fun g => pr (l g) (s g)) g := fun g => rfl
  rw [e g, e 0, e 1, e 2, e 3]
  generalize (fun g => pr (l g) (s g)) = p
  have hj := j.isLt
  fin_cases g
  · pointwise []
  · pointwise []
  · pointwise []
    simp (disch := omega) only [dif_pos, dif_neg]
    simp only [show 256 + j.val - 128 - 128 = j.val by omega]
  · pointwise []
    simp (disch := omega) only [dif_pos, dif_neg]
    simp only [show 384 + j.val - 128 - 128 - 128 = j.val by omega]

theorem ov_at (o : FVec Ideal S64x512 .f32) (n : FVec Ideal S1x128 .f32) (g : Fin 4) (d : Fin 64) (j : Fin 128) :
    ov o n g (ix2 d j) = o (ix2 d ⟨128 * g.val + j.val, by omega⟩) * n (ix2 0 j) := by pointwise [ov]

end Cert.MixerIdeal.Elem

end
-- ==== Proof.Mixer.ElemAttn.lean ====
/- The attention of a tile, at an element, is the mixer's. -/
module

public import proofs.«01_k».proof.Proof.Mixer.ElemHead
public import proofs.«01_k».proof.Proof.Mixer.ElemScore

@[expose] public section

set_option maxRecDepth 16384

noncomputable section

namespace Cert.MixerIdeal.Elem

open Idealize.ShloMosaic Idealize.ShloMosaic.TcCoe Idealize.ShloMosaic.Tactic
open Cert.MixerIdeal Cert.MixerIdeal.Gen Cert.MixerIdeal.Model Cert.Half Cert.Mix

variable {x : In Ideal} {P : Par} {t : ℕ} (H : Holds x P t) (ht : t < 32) (hP : P.Real)
include H ht hP

/-- The largest logit of a query is a real number. -/
theorem mx_real (l : FVec Ideal S272x128 .f32) (h : Fin 16) (j : Fin 128) (hl : ∀ k : Fin 272, l (ix2 k j) ≠ ⊤) :
    ∃ r : ℝ, mx l (x.sink h) (ix2 0 j) = r := by
  rw [mx_at]
  obtain ⟨s, hs⟩ := hP.sink h.val
  have e : sk (x.sink h) = ((s * (Real.log 2)⁻¹ : ℝ) : EReal) := by
    rw [H.sink, hs, EReal.coe_mul]; rfl
  rw [e]
  exact top_real _ hl _

theorem not_top (p : Prop) [Decidable p] (r : ℝ) : (if p then (r : EReal) else ⊥) ≠ ⊤ := by
  split_ifs
  · exact EReal.coe_ne_top _
  · exact bot_ne_top

/-- A head's result in a block from its logits and its values. -/
theorem head_of (n : ℕ) (hn : n < 128) (kh g : Fin 4) (vv : FVec Ideal S64x272 .bf16) (l : Fin 4 → FVec Ideal S272x128 .f32)
    (hl : ∀ (k : Fin 272) (j : Fin 128), l g (ix2 k j) = if okay n k.val j.val then
      (((Real.log 2)⁻¹ * P.lg (4 * kh.val + g.val) (16 + 128 * n + j.val) (pos n k.val) : ℝ) : EReal) else ⊥)
    (hv : ∀ (d : Fin 64) (k : Fin 272) (j : Fin 128), okay n k.val j.val → vv (ix2 d k) = P.V (pos n k.val) (64 * kh.val + d.val)) (d : Fin 64) (j : Fin 128) :
    ov (Model.wv vv l (fun g => x.sink (In.hd kh g))) (Model.inv (l g) (x.sink (In.hd kh g))) g (ix2 d j)
      = P.att (4 * kh.val + g.val) (16 + 128 * n + j.val) d.val := by
  rw [ov_at, wv_at, inv_at]
  simp only [pr_at]
  rw [show sk (x.sink (In.hd kh g)) = P.sink (4 * kh.val + g.val) * (((Real.log 2)⁻¹ : ℝ) : EReal) by rw [H.sink]; rfl]
  exact head P hP n j.val (4 * kh.val + g.val) d.val hn j.isLt _ _ (fun k => hl k j)
    (fun k hk => by rw [hv d k j hk]; congr 2; omega) _ (mx_real H ht hP _ _ _ fun k => by rw [hl]; exact not_top H ht hP _ _)

theorem l1_at (b : Fin 3) (kh g : Fin 4) (k : Fin 272) (j : Fin 128) : x.l1 b kh g (ix2 k j)
    = if okay (4 * t + b.val + 1) k.val j.val then
      (((Real.log 2)⁻¹ * P.lg (4 * kh.val + g.val) (16 + 128 * (4 * t + b.val + 1) + j.val) (pos (4 * t + b.val + 1) k.val) : ℝ) : EReal) else ⊥ := by
  have hk := k.isLt
  have hkh := kh.isLt
  have hg := g.isLt
  unfold In.l1
  rw [lgB_at, score_at]
  refine Elem.logit P hP (4 * t + b.val + 1) (4 * kh.val + g.val) k.val j.val hk (by omega) _ _ _ (fun d => ?_) (fun d => ?_) (H.bias _ k j)
  · have hd := d.isLt
    have hl : ln kh + (64 * (kh.val % 2) + d.val) = 64 * ((4 * kh.val + g.val) / 4) + d.val := by unfold ln; omega
    rw [kkB_at]
    unfold pos
    by_cases h : k.val < 256
    · rw [dif_pos h, if_pos h, k_at H]
      exact congrArg₂ P.K (by show 16 + 512 * t + (128 * b.val + k.val) = _; omega) hl
    · rw [dif_neg h, if_neg h, H.km]
      exact congrArg₂ P.K rfl hl
  · rw [q_at H, q_scale_eq]
    congr 2
    show 16 + 512 * t + (128 * (b.val + 1) + j.val) = _
    omega

theorem l0_at (kh g : Fin 4) (k : Fin 272) (j : Fin 128) : x.l0 (BitVec.ofNat 32 t) kh g (ix2 k j)
    = if okay (4 * t) k.val j.val then
      (((Real.log 2)⁻¹ * P.lg (4 * kh.val + g.val) (16 + 128 * (4 * t) + j.val) (pos (4 * t) k.val) : ℝ) : EReal) else ⊥ := by
  have hk := k.isLt
  have hkh := kh.isLt
  have hg := g.isLt
  unfold In.l0
  rw [lgA_at t ht]
  by_cases h0 : t = 0 ∧ k.val < 128
  · rw [if_pos h0, if_neg (fun h => by have := h.2 (by omega); omega)]
    rfl
  rw [if_neg h0, lgB_at, score_at]
  refine Elem.logit P hP (4 * t) (4 * kh.val + g.val) k.val j.val hk (by omega) _ _ _ (fun d => ?_) (fun d => ?_) (H.bias _ k j)
  · have hd := d.isLt
    have hl : ln kh + (64 * (kh.val % 2) + d.val) = 64 * ((4 * kh.val + g.val) / 4) + d.val := by unfold ln; omega
    rw [kkA_at]
    unfold pos
    by_cases h1 : k.val < 128
    · rw [dif_pos h1, if_pos (by omega), H.kc (by omega)]
      exact congrArg₂ P.K (by show 512 * t + k.val - 112 = _; omega) hl
    · rw [dif_neg h1]
      by_cases h : k.val < 256
      · rw [dif_pos h, if_pos h, k_at H]
        exact congrArg₂ P.K (by show 16 + 512 * t + (k.val - 128) = _; omega) hl
      · rw [dif_neg h, if_neg h, H.km]
        exact congrArg₂ P.K rfl hl
  · rw [q_at H, q_scale_eq]
    congr 2
    show 16 + 512 * t + (128 * 0 + j.val) = _
    omega

theorem o1_at (b : Fin 3) (kh g : Fin 4) (d : Fin 64) (j : Fin 128) :
    x.o1 b kh g (ix2 d j) = P.att (4 * kh.val + g.val) (16 + 128 * (4 * t + b.val + 1) + j.val) d.val := by
  unfold In.o1
  refine head_of H ht hP _ (by omega) kh g _ _ (fun k j => l1_at H ht hP b kh g k j) (fun d k j ok => ?_) d j
  rw [vvB_at]
  unfold pos
  by_cases h : k.val < 256
  · rw [dif_pos h, if_pos h, v_at H]
    exact congrArg₂ P.V (by show 16 + 512 * t + (128 * b.val + k.val) = _; omega) rfl
  · rw [dif_neg h, if_neg h, H.vm]

theorem o0_at (kh g : Fin 4) (d : Fin 64) (j : Fin 128) :
    x.o0 (BitVec.ofNat 32 t) kh g (ix2 d j) = P.att (4 * kh.val + g.val) (16 + 128 * (4 * t) + j.val) d.val := by
  unfold In.o0
  refine head_of H ht hP _ (by omega) kh g _ _ (fun k j => l0_at H ht hP kh g k j) (fun d k j ok => ?_) d j
  rw [vvA_at]
  unfold pos
  by_cases h1 : k.val < 128
  · rw [dif_pos h1, if_pos (by omega), H.vc (fun h => by have := ok.2 (by omega); omega)]
    exact congrArg₂ P.V (by show 512 * t + k.val - 112 = _; omega) rfl
  · rw [dif_neg h1]
    by_cases h : k.val < 256
    · rw [dif_pos h, if_pos h, v_at H]
      exact congrArg₂ P.V (by show 16 + 512 * t + (k.val - 128) = _; omega) rfl
    · rw [dif_neg h, if_neg h, H.vm]

end Cert.MixerIdeal.Elem

end
-- ==== Proof.Mixer.ElemPool.lean ====
/- The pool of a tile, at an element. -/
module

public import proofs.«01_k».proof.Proof.Mixer.Elem

@[expose] public section

set_option maxRecDepth 16384

noncomputable section

namespace Cert.MixerIdeal.Elem

open Idealize.ShloMosaic Idealize.ShloMosaic.TcCoe Idealize.ShloMosaic.Tactic
open Cert.MixerIdeal Cert.MixerIdeal.Gen Cert.MixerIdeal.Model Cert.Half Cert.Mix

theorem twice_at (e : FVec Ideal S528x512 .f32) (n : ℕ) (hn : n ≤ 8) (a : Fin 528) (ha : n ≤ a.val) (c : Fin 512) :
    twice e (BitVec.ofNat 32 n) (ix2 a c) = e (ix2 a c) + e (ix2 ⟨a.val - n, by omega⟩ c) := by
  have h : (BitVec.ofNat 32 n).toNat = n := by rw [BitVec.toNat_ofNat]; exact Nat.mod_eq_of_lt (by omega)
  unfold twice
  show e (ix2 a c) + dynamicRotate 0 (BitVec.ofNat 32 n) none e rotates_S528x512_d0 (ix2 a c) = _
  congr 1
  unfold dynamicRotate
  dsimp only
  congr 1
  funext b
  have hc := a.isLt
  match b with
  | 0 =>
    rw [if_pos rfl]
    refine Fin.ext ?_
    show (a.val + 528 - ((BitVec.ofNat 32 n).toNat + 0) % 528) % 528 = a.val - n
    rw [h]
    omega
  | 1 => rfl

theorem pe_at (uc : FVec Ideal S1x16x512 .f32) (u : FVec Ideal S512x512 .f32) (a : Fin 528) (c : Fin 512) :
    pe uc u (ix2 a c) = if h : a.val < 16 then uc (ix3 0 ⟨a.val, h⟩ c) else u (ix2 ⟨a.val - 16, by omega⟩ c) := by
  pointwise [pe]

theorem mix_at (g : ℕ) (hg : g ≤ 3) (w : BitVec 32) (s : FVec Ideal S528x512 .f32) (u : FVec Ideal S512x512 .f32) (r : Fin 512) (e : Fin 128) :
    Model.mix g hg w s u (ix2 r e) = Ideal.div (s (ix2 ⟨16 + r.val, by omega⟩ ⟨128 * g + e.val, by omega⟩)) (Ideal.ofBits .f32 w)
      - u (ix2 r ⟨128 * g + e.val, by omega⟩) := by
  pointwise [Model.mix]

theorem grp_at (m : FVec Ideal S512x128 .bf16) (w : FVec Ideal S1x128x128 .bf16) (r : Fin 512) (d : Fin 128) :
    grp m w (ix2 r d) = ∑ e : Fin 128, m (ix2 r e) * w (ix3 0 e d) := by pointwise [grp]

variable {x : In Ideal} {P : Par} {t : ℕ} (H : Holds x P t)
include H

theorem p1_at (a : Fin 528) (c : Fin 512) : pe x.uc x.u (ix2 a c) = P.U (512 * t + a.val) c.val := by
  rw [pe_at]
  split_ifs with h
  · rw [H.uc]
  · rw [Elem.u_at H]
    congr 1
    simp only
    omega

theorem p2_at (a : Fin 528) (ha : 1 ≤ a.val) (c : Fin 512) : p2 (pe x.uc x.u) (ix2 a c) = ∑ j ∈ Finset.range 2, P.U (512 * t + a.val - j) c.val := by
  rw [p2, twice_at _ 1 (by omega) a ha, p1_at H, p1_at H]
  simp only [Finset.sum_range_succ, Finset.sum_range_zero, zero_add, Nat.sub_zero]
  rw [show 512 * t + (a.val - 1) = 512 * t + a.val - 1 by omega]

omit H in
/-- A sum over a window and the sum over the window before it. -/
theorem window (f : ℕ → EReal) (n p : ℕ) :
    ∑ j ∈ Finset.range n, f (p - j) + ∑ j ∈ Finset.range n, f (p - n - j) = ∑ j ∈ Finset.range (n + n), f (p - j) := by
  rw [Finset.sum_range_add]
  simp only [Nat.sub_sub]

theorem p4_at (a : Fin 528) (ha : 3 ≤ a.val) (c : Fin 512) : p4 (pe x.uc x.u) (ix2 a c) = ∑ j ∈ Finset.range 4, P.U (512 * t + a.val - j) c.val := by
  rw [p4, twice_at _ 2 (by omega) a (by omega), p2_at H _ (by omega), p2_at H _ (by show 1 ≤ a.val - 2; omega),
    ← window (fun p => P.U p c.val) 2 (512 * t + a.val)]
  rw [show 512 * t + (a.val - 2) = 512 * t + a.val - 2 by omega]

theorem p8_at (a : Fin 528) (ha : 7 ≤ a.val) (c : Fin 512) : p8 (pe x.uc x.u) (ix2 a c) = ∑ j ∈ Finset.range 8, P.U (512 * t + a.val - j) c.val := by
  rw [p8, twice_at _ 4 (by omega) a (by omega), p4_at H _ (by omega), p4_at H _ (by show 3 ≤ a.val - 4; omega),
    ← window (fun p => P.U p c.val) 4 (512 * t + a.val)]
  rw [show 512 * t + (a.val - 4) = 512 * t + a.val - 4 by omega]

theorem p16_at (a : Fin 528) (ha : 15 ≤ a.val) (c : Fin 512) : p16 (pe x.uc x.u) (ix2 a c) = ∑ j ∈ Finset.range 16, P.U (512 * t + a.val - j) c.val := by
  rw [p16, twice_at _ 8 (by omega) a (by omega), p8_at H _ (by omega), p8_at H _ (by show 7 ≤ a.val - 8; omega),
    ← window (fun p => P.U p c.val) 8 (512 * t + a.val)]
  rw [show 512 * t + (a.val - 8) = 512 * t + a.val - 8 by omega]

/-- A group of the pool is the mixer's, once its windowed sums and its divisor are. -/
theorem mix_of (g : ℕ) (hg : g ≤ 3) (w : BitVec 32) (s : FVec Ideal S528x512 .f32)
    (hs : ∀ (a : Fin 528) (c : Fin 512), 16 ≤ a.val → s (ix2 a c) = ∑ j ∈ Finset.range (2 ^ (g + 1)), P.U (512 * t + a.val - j) c.val)
    (hw : Ideal.ofBits .f32 w = (((2 : ℝ) ^ (g + 1) : ℝ) : EReal)) (r : Fin 512) (e : Fin 128) :
    Model.mix g hg w s x.u (ix2 r e) = P.mix g (16 + 512 * t + r.val) e := by
  rw [mix_at, Elem.u_at H, hs _ _ (by show 16 ≤ 16 + r.val; omega), hw]
  unfold Par.mix
  rw [show 512 * t + (16 + r.val) = 16 + 512 * t + r.val by omega]

theorem y_at (r : Fin 512) (c : Fin 1024) : x.y (ix2 r c) = P.pool (16 + 512 * t + r.val) c := by
  have h : x.y (ix2 r c) = ∑ i : Fin 512, (concatenate S512x512 1 [⟨S512x128, grp (Model.mix 0 (by omega) 0x40000000#32 (p2 (pe x.uc x.u)) x.u) (x.wgrp 0)⟩,
        ⟨S512x128, grp (Model.mix 1 (by omega) 0x40800000#32 (p4 (pe x.uc x.u)) x.u) (x.wgrp 1)⟩,
        ⟨S512x128, grp (Model.mix 2 (by omega) 0x41000000#32 (p8 (pe x.uc x.u)) x.u) (x.wgrp 2)⟩,
        ⟨S512x128, grp (Model.mix 3 (by omega) 0x41800000#32 (p16 (pe x.uc x.u)) x.u) (x.wgrp 3)⟩]
        concatenates_S512x128_S512x128_S512x128_S512x128_S512x512_d1 : FVec Ideal S512x512 .f32) (ix2 r i) * x.ps (ix3 0 0 i) * x.wpp (ix2 i c) := by
    unfold In.y
    generalize x.u = u
    pointwise [poolY]
  rw [h]
  unfold Par.pool
  refine Finset.sum_congr rfl fun i _ => ?_
  rw [H.ps, H.wpp]
  congr 2
  have h0 : ∀ d : Fin 128, grp (Model.mix 0 (by omega) 0x40000000#32 (p2 (pe x.uc x.u)) x.u) (x.wgrp 0) (ix2 r d)
      = ∑ e : Fin 128, P.mix 0 (16 + 512 * t + r.val) e * P.Wg 0 e d.val := fun d => by
    rw [grp_at]
    refine Finset.sum_congr rfl fun e _ => ?_
    rw [mix_of H 0 _ _ _ (fun a c ha => p2_at H a (by omega) c) (by rw [show ((2 : ℝ) ^ (0 + 1)) = 2 by norm_num]; simp [Ideal.ofBits, Ideal.ieee]; rw [← EReal.coe_mul]; norm_num), H.wgrp]
    rfl
  have h1 : ∀ d : Fin 128, grp (Model.mix 1 (by omega) 0x40800000#32 (p4 (pe x.uc x.u)) x.u) (x.wgrp 1) (ix2 r d)
      = ∑ e : Fin 128, P.mix 1 (16 + 512 * t + r.val) e * P.Wg 1 e d.val := fun d => by
    rw [grp_at]
    refine Finset.sum_congr rfl fun e _ => ?_
    rw [mix_of H 1 _ _ _ (fun a c ha => p4_at H a (by omega) c) (by rw [show ((2 : ℝ) ^ (1 + 1)) = 4 by norm_num]; simp [Ideal.ofBits, Ideal.ieee]; rw [← EReal.coe_mul]; norm_num), H.wgrp]
    rfl
  have h2 : ∀ d : Fin 128, grp (Model.mix 2 (by omega) 0x41000000#32 (p8 (pe x.uc x.u)) x.u) (x.wgrp 2) (ix2 r d)
      = ∑ e : Fin 128, P.mix 2 (16 + 512 * t + r.val) e * P.Wg 2 e d.val := fun d => by
    rw [grp_at]
    refine Finset.sum_congr rfl fun e _ => ?_
    rw [mix_of H 2 _ _ _ (fun a c ha => p8_at H a (by omega) c) (by rw [show ((2 : ℝ) ^ (2 + 1)) = 8 by norm_num]; simp [Ideal.ofBits, Ideal.ieee]; rw [← EReal.coe_mul]; norm_num), H.wgrp]
    rfl
  have h3 : ∀ d : Fin 128, grp (Model.mix 3 (by omega) 0x41800000#32 (p16 (pe x.uc x.u)) x.u) (x.wgrp 3) (ix2 r d)
      = ∑ e : Fin 128, P.mix 3 (16 + 512 * t + r.val) e * P.Wg 3 e d.val := fun d => by
    rw [grp_at]
    refine Finset.sum_congr rfl fun e _ => ?_
    rw [mix_of H 3 _ _ _ (fun a c ha => p16_at H a (by omega) c) (by rw [show ((2 : ℝ) ^ (3 + 1)) = 16 by norm_num]; simp [Ideal.ofBits, Ideal.ieee]; rw [← EReal.coe_mul]; norm_num), H.wgrp]
    rfl
  generalize grp (Model.mix 0 (by omega) 0x40000000#32 (p2 (pe x.uc x.u)) x.u) (x.wgrp 0) = G0 at *
  generalize grp (Model.mix 1 (by omega) 0x40800000#32 (p4 (pe x.uc x.u)) x.u) (x.wgrp 1) = G1 at *
  generalize grp (Model.mix 2 (by omega) 0x41000000#32 (p8 (pe x.uc x.u)) x.u) (x.wgrp 2) = G2 at *
  generalize grp (Model.mix 3 (by omega) 0x41800000#32 (p16 (pe x.uc x.u)) x.u) (x.wgrp 3) = G3 at *
  have hi := i.isLt
  rcases (by omega : i.val / 128 = 0 ∨ i.val / 128 = 1 ∨ i.val / 128 = 2 ∨ i.val / 128 = 3) with h | h | h | h <;> rw [h]
  · refine Eq.trans ?_ (h0 ⟨i.val % 128, by omega⟩)
    pointwise []
    simp (disch := omega) only [dif_pos, dif_neg]
    congr 3; omega
  · refine Eq.trans ?_ (h1 ⟨i.val % 128, by omega⟩)
    pointwise []
    simp (disch := omega) only [dif_pos, dif_neg]
    congr 3; omega
  · refine Eq.trans ?_ (h2 ⟨i.val % 128, by omega⟩)
    pointwise []
    simp (disch := omega) only [dif_pos, dif_neg]
    congr 3; omega
  · refine Eq.trans ?_ (h3 ⟨i.val % 128, by omega⟩)
    pointwise []
    simp (disch := omega) only [dif_pos, dif_neg]
    congr 3; omega

end Cert.MixerIdeal.Elem

end
-- ==== Proof.Mixer.ElemStack.lean ====
/- The heads of a block one under the other, at an element. -/
module

public import proofs.«01_k».proof.Proof.Mixer.Elem

@[expose] public section

set_option maxRecDepth 16384

noncomputable section

namespace Cert.MixerIdeal.Elem

open Idealize.ShloMosaic Idealize.ShloMosaic.TcCoe Idealize.ShloMosaic.Tactic
open Cert.MixerIdeal Cert.MixerIdeal.Gen Cert.MixerIdeal.Model Cert.Half Cert.Mix

theorem stack_at (o : Fin 4 → Fin 4 → FVec Ideal S64x128 .f32) (kh g : Fin 4) (d : Fin 64) (j : Fin 128) :
    stack o (ix2 ⟨64 * (4 * kh.val + g.val) + d.val, by omega⟩ j) = o kh g (ix2 d j) := by
  have hd := d.isLt
  have h := concatenate_ofFn_apply (t := S1024x128) (s₁ := S64x128) 0
    (fun n : Fin 16 => (o ⟨n.val / 4, by omega⟩ ⟨n.val % 4, by omega⟩ : S64x128.Idx → Ideal .f32))
    concatenates_S64x128_S64x128_S64x128_S64x128_S64x128_S64x128_S64x128_S64x128_S64x128_S64x128_S64x128_S64x128_S64x128_S64x128_S64x128_S64x128_S1024x128_d0
    rfl 64 rfl (ix2 ⟨64 * (4 * kh.val + g.val) + d.val, by omega⟩ j) ⟨4 * kh.val + g.val, by omega⟩
    (by show (64 * (4 * kh.val + g.val) + d.val) / 64 = 4 * kh.val + g.val; omega) (ix2 d j)
    (by show d.val = (64 * (4 * kh.val + g.val) + d.val) % 64; omega)
    (fun b hb => by match b with | 0 => exact absurd rfl hb | 1 => rfl)
  refine Eq.trans h ?_
  have e1 : (⟨(4 * kh.val + g.val) / 4, by omega⟩ : Fin 4) = kh := Fin.ext (by show (4 * kh.val + g.val) / 4 = kh.val; omega)
  have e2 : (⟨(4 * kh.val + g.val) % 4, by omega⟩ : Fin 4) = g := Fin.ext (by show (4 * kh.val + g.val) % 4 = g.val; omega)
  show o ⟨(4 * kh.val + g.val) / 4, _⟩ ⟨(4 * kh.val + g.val) % 4, _⟩ (ix2 d j) = _
  rw [e1, e2]

end Cert.MixerIdeal.Elem

end
-- ==== Proof.Mixer.ElemOut.lean ====
/- The rows a tile stores, at an element, are the mixer's. -/
module

public import proofs.«01_k».proof.Proof.Mixer.ElemAttn
public import proofs.«01_k».proof.Proof.Mixer.ElemPool
public import proofs.«01_k».proof.Proof.Mixer.ElemStack

@[expose] public section

set_option maxRecDepth 16384

noncomputable section

namespace Cert.MixerIdeal.Elem

open Idealize.ShloMosaic Idealize.ShloMosaic.TcCoe Idealize.ShloMosaic.Tactic
open Cert.MixerIdeal Cert.MixerIdeal.Gen Cert.MixerIdeal.Model Cert.Half Cert.Mix

theorem two_at (a b : FVec Ideal S1024x128 .f32) (i : Fin 1024) (l : Fin 256) :
    two a b (ix2 i l) = if h : l.val < 128 then a (ix2 i ⟨l.val, h⟩) else b (ix2 i ⟨l.val - 128, by omega⟩) := by pointwise [two]

theorem yp_at (a w : FVec Ideal S1024x256 .bf16) (r c : Fin 256) : yp a w (ix2 r c) = ∑ i : Fin 1024, a (ix2 i r) * w (ix2 i c) := by pointwise [yp]

theorem zp_at (a : FVec Ideal S256x1024 .bf16) (w : FVec Ideal S1024x256 .bf16) (r c : Fin 256) : zp a w (ix2 r c) = ∑ i : Fin 1024, a (ix2 r i) * w (ix2 i c) := by pointwise [zp]

theorem gs_at (g : FVec Ideal S512x256 .f32) (b : Fin 2) (r c : Fin 256) : gs g b (ix2 r c) = g (ix2 ⟨256 * b.val + r.val, by omega⟩ c) := by pointwise [gs]

theorem cat4_at (f : Fin 4 → FVec Ideal S256x256 .f32) (r : Fin 256) (q : Fin 4) (c : Fin 256) :
    cat4 (f 0) (f 1) (f 2) (f 3) (ix2 r ⟨256 * q.val + c.val, by omega⟩) = f q (ix2 r c) := by
  have hc := c.isLt
  fin_cases q <;>
  · pointwise [cat4]
    try simp (disch := omega) only [dif_pos, dif_neg]
    try
      refine congrArg _ (congrArg₂ ix2 rfl (Fin.ext ?_))
      simp only
      omega

theorem mg_at (b : Fin 2) (gt : Fin 8 → FVec Ideal S512x256 .f32) (y : FVec Ideal S512x1024 .f32) (a : FVec Ideal S256x1024 .f32) (r : Fin 256) (c : Fin 1024) :
    mg b gt y a (ix2 r c) = cat4 (gs (gt 0) b) (gs (gt 1) b) (gs (gt 2) b) (gs (gt 3) b) (ix2 r c) * y (ix2 ⟨256 * b.val + r.val, by omega⟩ c)
      + cat4 (gs (gt 4) b) (gs (gt 5) b) (gs (gt 6) b) (gs (gt 7) b) (ix2 r c) * a (ix2 r c) := by
  unfold mg
  generalize cat4 (gs (gt 0) b) (gs (gt 1) b) (gs (gt 2) b) (gs (gt 3) b) = A
  generalize cat4 (gs (gt 4) b) (gs (gt 5) b) (gs (gt 6) b) (gs (gt 7) b) = B
  pointwise []

theorem fin_at (b : Fin 2) (h : FVec Ideal S512x1024 .f32) (z : FVec Ideal S256x1024 .f32) (g : FVec Ideal S1x1x1024 .f32) (r : Fin 256) (c : Fin 1024) :
    Model.fin b h z g (ix2 r c) = h (ix2 ⟨256 * b.val + r.val, by omega⟩ c) + rms (fun k => z (ix2 r k)) (fun k => g (ix3 0 0 k)) c := by
  unfold rms
  pointwise [Model.fin]

variable {x : In Ideal} {P : Par} {t : ℕ} (H : Holds x P t) (ht : t < 32) (hP : P.Real)
include H

omit H in
theorem lane_lt (kh g : Fin 4) (d : Fin 64) : 64 * (4 * kh.val + g.val) + d.val < 1024 := by omega

omit H in
theorem lane (i : Fin 1024) : ∃ (kh g : Fin 4) (d : Fin 64), i = ⟨64 * (4 * kh.val + g.val) + d.val, lane_lt kh g d⟩ :=
  ⟨⟨i.val / 256, by omega⟩, ⟨i.val / 64 % 4, by omega⟩, ⟨i.val % 64, by omega⟩, Fin.ext (by show i.val = 64 * (4 * (i.val / 256) + i.val / 64 % 4) + i.val % 64; omega)⟩

/-- A half of the tile, from the attention's results of its 256 rows. -/
theorem half_at (b : Fin 2) (a : FVec Ideal S1024x256 .bf16)
    (ha : ∀ (i : Fin 1024) (l : Fin 256), a (ix2 i l) = P.att (i.val / 64) (16 + 512 * t + (256 * b.val + l.val)) (i.val % 64)) (r : Fin 256) (c : Fin 1024) :
    x.half b a (ix2 r c) = P.out (16 + 512 * t + (256 * b.val + r.val)) c := by
  have hy (q : Fin 4) (c : Fin 256) : yp a (x.wap q) (ix2 r c) = P.attn (16 + 512 * t + (256 * b.val + r.val)) ⟨256 * q.val + c.val, by omega⟩ := by
    rw [yp_at]
    simp only [ha, H.wap]
    rfl
  have split (i : Fin 1024) : ∃ (q : Fin 4) (c : Fin 256), i = ⟨256 * q.val + c.val, by omega⟩ :=
    ⟨⟨i.val / 256, by omega⟩, ⟨i.val % 256, by omega⟩, Fin.ext (by show i.val = 256 * (i.val / 256) + i.val % 256; omega)⟩
  have hm (i : Fin 1024) : mg b (fun c => gate x.n (x.wg c)) x.y (cat4 (yp a (x.wap 0)) (yp a (x.wap 1)) (yp a (x.wap 2)) (yp a (x.wap 3))) (ix2 r i)
      = Ideal.logistic (P.gp (16 + 512 * t + (256 * b.val + r.val)) i.val) * P.pool (16 + 512 * t + (256 * b.val + r.val)) i
        + Ideal.logistic (P.ga (16 + 512 * t + (256 * b.val + r.val)) i.val) * P.attn (16 + 512 * t + (256 * b.val + r.val)) i := by
    obtain ⟨q, c, rfl⟩ := split i
    have hq := q.isLt
    have h1 : cat4 (gs (gate x.n (x.wg 0)) b) (gs (gate x.n (x.wg 1)) b) (gs (gate x.n (x.wg 2)) b) (gs (gate x.n (x.wg 3)) b) (ix2 r ⟨256 * q.val + c.val, by omega⟩)
        = gs (gate x.n (x.wg ⟨q.val, by omega⟩)) b (ix2 r c) := cat4_at (fun q => gs (gate x.n (x.wg ⟨q.val, by omega⟩)) b) r q c
    have h2 : cat4 (gs (gate x.n (x.wg 4)) b) (gs (gate x.n (x.wg 5)) b) (gs (gate x.n (x.wg 6)) b) (gs (gate x.n (x.wg 7)) b) (ix2 r ⟨256 * q.val + c.val, by omega⟩)
        = gs (gate x.n (x.wg ⟨4 + q.val, by omega⟩)) b (ix2 r c) := cat4_at (fun q => gs (gate x.n (x.wg ⟨4 + q.val, by omega⟩)) b) r q c
    rw [mg_at, cat4_at (fun q => yp a (x.wap q)) r q c, hy q c, y_at H, h1, h2, gs_at, g_at H, gs_at, g_at H]
    unfold Par.gp Par.ga
    have e1 : 2048 + 256 * q.val + c.val = 2048 + (256 * q.val + c.val) := by omega
    have e2 : 2048 + 256 * (4 + q.val) + c.val = 3072 + (256 * q.val + c.val) := by omega
    simp only [e1, e2]
  unfold In.half
  rw [fin_at, H.h]
  unfold Par.out
  congr 1
  have hz : (fun k => cat4 (zp (mg b (fun c => gate x.n (x.wg c)) x.y (cat4 (yp a (x.wap 0)) (yp a (x.wap 1)) (yp a (x.wap 2)) (yp a (x.wap 3)))) (x.wo 0))
      (zp (mg b (fun c => gate x.n (x.wg c)) x.y (cat4 (yp a (x.wap 0)) (yp a (x.wap 1)) (yp a (x.wap 2)) (yp a (x.wap 3)))) (x.wo 1))
      (zp (mg b (fun c => gate x.n (x.wg c)) x.y (cat4 (yp a (x.wap 0)) (yp a (x.wap 1)) (yp a (x.wap 2)) (yp a (x.wap 3)))) (x.wo 2))
      (zp (mg b (fun c => gate x.n (x.wg c)) x.y (cat4 (yp a (x.wap 0)) (yp a (x.wap 1)) (yp a (x.wap 2)) (yp a (x.wap 3)))) (x.wo 3)) (ix2 r k))
      = P.z (16 + 512 * t + (256 * b.val + r.val)) := by
    funext k
    obtain ⟨q, c, rfl⟩ := split k
    rw [cat4_at (fun q => zp (mg b (fun c => gate x.n (x.wg c)) x.y (cat4 (yp a (x.wap 0)) (yp a (x.wap 1)) (yp a (x.wap 2)) (yp a (x.wap 3)))) (x.wo q)) r q c, zp_at]
    simp only [hm, H.wo]
    rfl
  rw [hz]
  simp only [H.g3]

include ht hP

theorem at0_at (i : Fin 1024) (l : Fin 256) : x.at0 (BitVec.ofNat 32 t) (ix2 i l) = P.att (i.val / 64) (16 + 512 * t + l.val) (i.val % 64) := by
  obtain ⟨kh, g, d, rfl⟩ := lane i
  have hd := d.isLt
  have e1 : (64 * (4 * kh.val + g.val) + d.val) / 64 = 4 * kh.val + g.val := by omega
  have e2 : (64 * (4 * kh.val + g.val) + d.val) % 64 = d.val := by omega
  unfold In.at0
  rw [two_at]
  simp only [e1, e2]
  split_ifs with h
  · rw [stack_at, o0_at H ht hP]
    congr 1
    show 16 + 128 * (4 * t) + l.val = _
    omega
  · rw [stack_at, o1_at H ht hP]
    congr 1
    show 16 + 128 * (4 * t + 0 + 1) + (l.val - 128) = _
    omega

theorem at1_at (i : Fin 1024) (l : Fin 256) : x.at1 (ix2 i l) = P.att (i.val / 64) (16 + 512 * t + (256 + l.val)) (i.val % 64) := by
  obtain ⟨kh, g, d, rfl⟩ := lane i
  have hd := d.isLt
  have e1 : (64 * (4 * kh.val + g.val) + d.val) / 64 = 4 * kh.val + g.val := by omega
  have e2 : (64 * (4 * kh.val + g.val) + d.val) % 64 = d.val := by omega
  unfold In.at1
  rw [two_at]
  simp only [e1, e2]
  split_ifs with h
  · rw [stack_at, o1_at H ht hP]
    congr 1
    show 16 + 128 * (4 * t + 1 + 1) + l.val = _
    omega
  · rw [stack_at, o1_at H ht hP]
    congr 1
    show 16 + 128 * (4 * t + 2 + 1) + (l.val - 128) = _
    omega

theorem out0_at (r : Fin 256) (c : Fin 1024) : x.out0 (BitVec.ofNat 32 t) (ix2 r c) = P.out (16 + 512 * t + r.val) c := by
  have h := half_at H 0 (x.at0 (BitVec.ofNat 32 t)) (fun i l => by
    rw [at0_at H ht hP]; congr 1; show _ = 16 + 512 * t + (256 * 0 + l.val); omega) r c
  rw [show 16 + 512 * t + r.val = 16 + 512 * t + (256 * (0 : Fin 2).val + r.val) by show _ = 16 + 512 * t + (256 * 0 + r.val); omega]
  exact h

theorem out1_at (r : Fin 256) (c : Fin 1024) : x.out1 (ix2 r c) = P.out (16 + 512 * t + (256 + r.val)) c :=
  half_at H 1 x.at1 (fun i l => at1_at H ht hP i l) r c

end Cert.MixerIdeal.Elem

end
-- ==== Proof.Mixer.PiecesA.lean ====
/- What the two runs of the mixer's body store, by the functions of Model.lean. -/
module

public import proofs.«01_k».proof.Proof.Mixer.Pieces

@[expose] public section

set_option maxRecDepth 16384

noncomputable section

namespace Cert.MixerIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal.Model (In)
open Cert.MixerIdeal Cert.MixerIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section
variable (i : grid0.Coords) (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x4096 .bf16) (harg4 : arg4.IsWhole) (arg5 : Memref sig .tc .vmem S4x128x128 .bf16) (harg5 : arg5.IsWhole) (arg6 : Memref sig .tc .vmem S1x1x512 .f32) (harg6 : arg6.IsWhole) (arg7 : Memref sig .tc .vmem S512x1024 .bf16) (harg7 : arg7.IsWhole) (arg8 : Memref sig .tc .smem S2x16 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S16x1024 .f32) (harg12 : arg12.IsWhole) (arg13 : Memref sig .tc .vmem S2x16x512 .f32) (harg13 : arg13.IsWhole) (arg14 : Memref sig .tc .vmem S2x128x256 .bf16) (harg14 : arg14.IsWhole) (arg15 : Memref sig .tc .vmem S2x256x128 .bf16) (harg15 : arg15.IsWhole) (arg16 : Memref sig .tc .vmem S16x256 .bf16) (harg16 : arg16.IsWhole) (arg17 : Memref sig .tc .vmem S256x16 .bf16) (harg17 : arg17.IsWhole) (arg18 : Memref sig .tc .vmem S16x272x128 .f32) (harg18 : arg18.IsWhole)
    (x0 : Vec F S512x1024 .f32) (x1 : Vec F S16x1024 .f32) (x2 : Vec F S1x6x1024 .f32) (x3 : Vec F S1024x4096 .bf16) (x4 : Vec F S4x128x128 .bf16) (x5 : Vec F S1x1x512 .f32) (x6 : Vec F S512x1024 .bf16) (x7 : Vec F S2x16 .f32) (x8 : Vec F S1024x1024 .bf16) (x9 : Vec F S1024x1024 .bf16)
    (s0 : Vec F S2x16x512 .f32) (s1 : Vec F S2x128x256 .bf16) (s2 : Vec F S2x256x128 .bf16) (s3 : Vec F S16x256 .bf16) (s4 : Vec F S256x16 .bf16) (s5 : Vec F S16x272x128 .f32)
variable (c : Dev nD)

set_option maxHeartbeats 4000000 in
theorem scratch_A (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 s0 s1 s2 s3 s4 s5).1.2 =
    ⟨[⟨Rect.unit (k0_off4 i) S1x16x512.size (k0_off4_inb i), tailU (inA i arg1 harg1 arg2 harg2 arg3 harg3 arg4 harg4 arg5 harg5 arg6 harg6 arg7 harg7 arg8 harg8 arg9 harg9 arg10 harg10 arg13 harg13 arg14 harg14 arg15 harg15 arg16 arg17 arg18 x0 x1 x2 x3 x4 x5 x6 x7 x8 x9 s0 s1 s2)⟩, ⟨Rect.unit ![0, 0, 0] S1x16x512.size inb_S2x16x512_S1x16x512_0_0_0, (k0_pay35 (k0_pay28 (View.readAt (Elt F) arg2.view (Rect.unit (s := S16x1024) ![0, 0] S16x1024.size inb_S16x1024_S16x1024_0_0).toLoadRect (harg2.unread x1)) (View.readAt (Elt F) arg3.view (Rect.unit (s := S1x6x1024) ![0, 2, 0] S1x1x1024.size inb_S1x6x1024_S1x1x1024_0_2_0).toLoadRect (harg3.unread x2))) (iota Kind.tc S128x1 32 [0] iota_S128x1_d0_w32) (View.readAt (Elt F) arg4.view (Rect.unit (s := S1024x4096) ![0, 0] S1024x512.size inb_S1024x4096_S1024x512_0_0).toLoadRect (harg4.unread x3)))⟩],
      [⟨Rect.unit (k0_off2 i) S1x128x256.size (k0_off2_inb i), tailK (inA i arg1 harg1 arg2 harg2 arg3 harg3 arg4 harg4 arg5 harg5 arg6 harg6 arg7 harg7 arg8 harg8 arg9 harg9 arg10 harg10 arg13 harg13 arg14 harg14 arg15 harg15 arg16 arg17 arg18 x0 x1 x2 x3 x4 x5 x6 x7 x8 x9 s0 s1 s2)⟩, ⟨Rect.unit ![0, 0, 0] S1x128x256.size inb_S2x128x256_S1x128x256_0_0_0, k0_pay2⟩],
      [⟨Rect.unit (k0_off6 i) S1x256x128.size (k0_off6_inb i), tailV (inA i arg1 harg1 arg2 harg2 arg3 harg3 arg4 harg4 arg5 harg5 arg6 harg6 arg7 harg7 arg8 harg8 arg9 harg9 arg10 harg10 arg13 harg13 arg14 harg14 arg15 harg15 arg16 arg17 arg18 x0 x1 x2 x3 x4 x5 x6 x7 x8 x9 s0 s1 s2)⟩, ⟨Rect.unit ![0, 0, 0] S1x256x128.size inb_S2x256x128_S1x256x128_0_0_0, k0_pay3⟩],
      [⟨Rect.unit ![0, 0] S16x256.size inb_S16x256_S16x256_0_0, (k0_pay31 (k0_pay29 (View.readAt (Elt F) arg2.view (Rect.unit (s := S16x1024) ![0, 0] S16x1024.size inb_S16x1024_S16x1024_0_0).toLoadRect (harg2.unread x1)) (View.readAt (Elt F) arg3.view (Rect.unit (s := S1x6x1024) ![0, 2, 0] S1x1x1024.size inb_S1x6x1024_S1x1x1024_0_2_0).toLoadRect (harg3.unread x2)) (View.readAt (Elt F) arg4.view (Rect.unit (s := S1024x4096) ![0, 1536] S1024x256.size inb_S1024x4096_S1024x256_0_1536).toLoadRect (harg4.unread x3))))⟩],
      [⟨Rect.unit ![0, 0] S256x16.size inb_S256x16_S256x16_0_0, (vmeta (View.readAt (Elt F) arg4.view (Rect.unit (s := S1024x4096) ![0, 1792] S1024x256.size inb_S1024x4096_S1024x256_0_1792).toLoadRect (harg4.unread x3)) (k0_pay28 (View.readAt (Elt F) arg2.view (Rect.unit (s := S16x1024) ![0, 0] S16x1024.size inb_S16x1024_S16x1024_0_0).toLoadRect (harg2.unread x1)) (View.readAt (Elt F) arg3.view (Rect.unit (s := S1x6x1024) ![0, 2, 0] S1x1x1024.size inb_S1x6x1024_S1x1x1024_0_2_0).toLoadRect (harg3.unread x2))))⟩],
      [⟨Rect.unit ![15, 0, 0] S1x272x128.size (inbB 15), k0_pay26 k0_pay6 k0_pay7⟩,
    ⟨Rect.unit ![14, 0, 0] S1x272x128.size (inbB 14), k0_pay25 k0_pay6 k0_pay7 k0_pay24⟩,
    ⟨Rect.unit ![13, 0, 0] S1x272x128.size (inbB 13), k0_pay23 k0_pay6 k0_pay7⟩,
    ⟨Rect.unit ![12, 0, 0] S1x272x128.size (inbB 12), k0_pay22 k0_pay6 k0_pay7⟩,
    ⟨Rect.unit ![11, 0, 0] S1x272x128.size (inbB 11), k0_pay21 k0_pay6 k0_pay7⟩,
    ⟨Rect.unit ![10, 0, 0] S1x272x128.size (inbB 10), k0_pay20 k0_pay6 k0_pay7⟩,
    ⟨Rect.unit ![9, 0, 0] S1x272x128.size (inbB 9), k0_pay19 (k0_pay18 k0_pay6 k0_pay7)⟩,
    ⟨Rect.unit ![8, 0, 0] S1x272x128.size (inbB 8), k0_pay17 k0_pay6 k0_pay7⟩,
    ⟨Rect.unit ![7, 0, 0] S1x272x128.size (inbB 7), k0_pay16 k0_pay6 k0_pay7⟩,
    ⟨Rect.unit ![6, 0, 0] S1x272x128.size (inbB 6), k0_pay15 k0_pay6 k0_pay7⟩,
    ⟨Rect.unit ![5, 0, 0] S1x272x128.size (inbB 5), k0_pay14 k0_pay6 k0_pay7⟩,
    ⟨Rect.unit ![4, 0, 0] S1x272x128.size (inbB 4), k0_pay13 k0_pay6 k0_pay7⟩,
    ⟨Rect.unit ![3, 0, 0] S1x272x128.size (inbB 3), k0_pay12 k0_pay6 k0_pay7⟩,
    ⟨Rect.unit ![2, 0, 0] S1x272x128.size (inbB 2), k0_pay11 k0_pay6 k0_pay7⟩,
    ⟨Rect.unit ![1, 0, 0] S1x272x128.size (inbB 1), k0_pay10 k0_pay6 k0_pay7⟩,
    ⟨Rect.unit ![0, 0, 0] S1x272x128.size (inbB 0), k0_pay9 k0_pay6 k0_pay8 (Named.named κ "neg_inf" 0xF149F2CA#32)⟩]⟩ := by
  sl_kernel_rfl

end

end Cert.MixerIdeal.Run

end
-- ==== Proof.Mixer.RowsA.lean ====
/- What the two runs of the mixer's body store, by the functions of Model.lean. -/
module

public import proofs.«01_k».proof.Proof.Mixer.PiecesA

@[expose] public section

set_option maxRecDepth 16384

noncomputable section

namespace Cert.MixerIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal.Model (In)
open Cert.MixerIdeal Cert.MixerIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section
variable (i : grid0.Coords) (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S1x6x1024 .f32) (harg3 : arg3.IsWhole) (arg4 : Memref sig .tc .vmem S1024x4096 .bf16) (harg4 : arg4.IsWhole) (arg5 : Memref sig .tc .vmem S4x128x128 .bf16) (harg5 : arg5.IsWhole) (arg6 : Memref sig .tc .vmem S1x1x512 .f32) (harg6 : arg6.IsWhole) (arg7 : Memref sig .tc .vmem S512x1024 .bf16) (harg7 : arg7.IsWhole) (arg8 : Memref sig .tc .smem S2x16 .f32) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S512x1024 .f32) (harg11 : arg11.IsWhole) (arg12 : Memref sig .tc .vmem S16x1024 .f32) (harg12 : arg12.IsWhole) (arg13 : Memref sig .tc .vmem S2x16x512 .f32) (harg13 : arg13.IsWhole) (arg14 : Memref sig .tc .vmem S2x128x256 .bf16) (harg14 : arg14.IsWhole) (arg15 : Memref sig .tc .vmem S2x256x128 .bf16) (harg15 : arg15.IsWhole) (arg16 : Memref sig .tc .vmem S16x256 .bf16) (harg16 : arg16.IsWhole) (arg17 : Memref sig .tc .vmem S256x16 .bf16) (harg17 : arg17.IsWhole) (arg18 : Memref sig .tc .vmem S16x272x128 .f32) (harg18 : arg18.IsWhole)
    (x0 : Vec F S512x1024 .f32) (x1 : Vec F S16x1024 .f32) (x2 : Vec F S1x6x1024 .f32) (x3 : Vec F S1024x4096 .bf16) (x4 : Vec F S4x128x128 .bf16) (x5 : Vec F S1x1x512 .f32) (x6 : Vec F S512x1024 .bf16) (x7 : Vec F S2x16 .f32) (x8 : Vec F S1024x1024 .bf16) (x9 : Vec F S1024x1024 .bf16)
    (s0 : Vec F S2x16x512 .f32) (s1 : Vec F S2x128x256 .bf16) (s2 : Vec F S2x256x128 .bf16) (s3 : Vec F S16x256 .bf16) (s4 : Vec F S256x16 .bf16) (s5 : Vec F S16x272x128 .f32)
variable (c : Dev nD)
set_option maxHeartbeats 4000000 in
theorem rows_A (hc0 : cond0_0 i) : (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 s0 s1 s2 s3 s4 s5).1.1 =
    [⟨Rect.unit ![256, 0] S256x1024.size inb_S512x1024_S256x1024_256_0, (inA i arg1 harg1 arg2 harg2 arg3 harg3 arg4 harg4 arg5 harg5 arg6 harg6 arg7 harg7 arg8 harg8 arg9 harg9 arg10 harg10 arg13 harg13 arg14 harg14 arg15 harg15 arg16 arg17 arg18 x0 x1 x2 x3 x4 x5 x6 x7 x8 x9 s0 s1 s2).out1⟩,
      ⟨Rect.unit ![0, 0] S256x1024.size inb_S512x1024_S256x1024_0_0, (inA i arg1 harg1 arg2 harg2 arg3 harg3 arg4 harg4 arg5 harg5 arg6 harg6 arg7 harg7 arg8 harg8 arg9 harg9 arg10 harg10 arg13 harg13 arg14 harg14 arg15 harg15 arg16 arg17 arg18 x0 x1 x2 x3 x4 x5 x6 x7 x8 x9 s0 s1 s2).out0 (BitVec.ofNat 32 (i 0).val)⟩] := by
  sl_kernel_rfl

end

end Cert.MixerIdeal.Run

end
-- ==== Proof.Mixer.Launch.lean ====
/- The launch of the mixer: the body at a point carries an invariant of the scratch to the next point, and the output array after all of them. -/
module

public import proofs.«01_k».proof.Proof.Mixer.RunA
public import proofs.«01_k».proof.Proof.Mixer.RunB
public import Idealize.ShloMosaic.Lib.Claim
public import Idealize.ShloMosaic.Lib.Pipeline.FrameBody
public import Idealize.ShloMosaic.Lib.Ring
public import Idealize.ShloMosaic.Lib.Tactic
public import Idealize.ShloMosaic.Lib.Pipeline.Value

@[expose] public section

set_option maxRecDepth 16384

noncomputable section

namespace Cert.MixerIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal Cert.MixerIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents of the scratch. -/
structure St where
  s0 : Vec F S2x16x512 .f32
  s1 : Vec F S2x128x256 .bf16
  s2 : Vec F S2x256x128 .bf16
  s3 : Vec F S16x256 .bf16
  s4 : Vec F S256x16 .bf16
  s5 : Vec F S16x272x128 .f32

abbrev runA (c : Dev nD) (t : Fin cfg0.N) (h : cond0_0 (grid0.coords t)) (s : St (F := F)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) s.s0 s.s1 s.s2 s.s3 s.s4 s.s5
abbrev runB (c : Dev nD) (t : Fin cfg0.N) (h : ¬cond0_0 (grid0.coords t)) (s : St (F := F)) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) s.s0 s.s1 s.s2 s.s3 s.s4 s.s5

/-- The scratch after stores in it. -/
def stored (s : St (F := F)) (L0 : List (View.Piece (Elt F) S2x16x512 .f32)) (L1 : List (View.Piece (Elt F) S2x128x256 .bf16)) (L2 : List (View.Piece (Elt F) S2x256x128 .bf16)) (L3 : List (View.Piece (Elt F) S16x256 .bf16)) (L4 : List (View.Piece (Elt F) S256x16 .bf16)) (L5 : List (View.Piece (Elt F) S16x272x128 .f32)) : St (F := F) where
  s0 := scM0_0.view.read (Elt F) (scM0_0.view.writes (Elt F) ((Memref.isWhole_whole _ : scM0_0.IsWhole).unread s.s0) L0)
  s1 := scM0_1.view.read (Elt F) (scM0_1.view.writes (Elt F) ((Memref.isWhole_whole _ : scM0_1.IsWhole).unread s.s1) L1)
  s2 := scM0_2.view.read (Elt F) (scM0_2.view.writes (Elt F) ((Memref.isWhole_whole _ : scM0_2.IsWhole).unread s.s2) L2)
  s3 := scM0_3.view.read (Elt F) (scM0_3.view.writes (Elt F) ((Memref.isWhole_whole _ : scM0_3.IsWhole).unread s.s3) L3)
  s4 := scM0_4.view.read (Elt F) (scM0_4.view.writes (Elt F) ((Memref.isWhole_whole _ : scM0_4.IsWhole).unread s.s4) L4)
  s5 := scM0_5.view.read (Elt F) (scM0_5.view.writes (Elt F) ((Memref.isWhole_whole _ : scM0_5.IsWhole).unread s.s5) L5)

section
variable (s : St (F := F)) (L0 : List (View.Piece (Elt F) S2x16x512 .f32)) (L1 : List (View.Piece (Elt F) S2x128x256 .bf16)) (L2 : List (View.Piece (Elt F) S2x256x128 .bf16)) (L3 : List (View.Piece (Elt F) S16x256 .bf16)) (L4 : List (View.Piece (Elt F) S256x16 .bf16)) (L5 : List (View.Piece (Elt F) S16x272x128 .f32))
theorem stored_s0 : (stored s L0 L1 L2 L3 L4 L5).s0 = scM0_0.view.read (Elt F) (scM0_0.view.writes (Elt F) ((Memref.isWhole_whole _ : scM0_0.IsWhole).unread s.s0) L0) := rfl
theorem stored_s1 : (stored s L0 L1 L2 L3 L4 L5).s1 = scM0_1.view.read (Elt F) (scM0_1.view.writes (Elt F) ((Memref.isWhole_whole _ : scM0_1.IsWhole).unread s.s1) L1) := rfl
theorem stored_s2 : (stored s L0 L1 L2 L3 L4 L5).s2 = scM0_2.view.read (Elt F) (scM0_2.view.writes (Elt F) ((Memref.isWhole_whole _ : scM0_2.IsWhole).unread s.s2) L2) := rfl
theorem stored_s3 : (stored s L0 L1 L2 L3 L4 L5).s3 = scM0_3.view.read (Elt F) (scM0_3.view.writes (Elt F) ((Memref.isWhole_whole _ : scM0_3.IsWhole).unread s.s3) L3) := rfl
theorem stored_s4 : (stored s L0 L1 L2 L3 L4 L5).s4 = scM0_4.view.read (Elt F) (scM0_4.view.writes (Elt F) ((Memref.isWhole_whole _ : scM0_4.IsWhole).unread s.s4) L4) := rfl
theorem stored_s5 : (stored s L0 L1 L2 L3 L4 L5).s5 = scM0_5.view.read (Elt F) (scM0_5.view.writes (Elt F) ((Memref.isWhole_whole _ : scM0_5.IsWhole).unread s.s5) L5) := rfl
end

/-- … and in its first three buffers only. -/
def stored3 (s : St (F := F)) (L0 : List (View.Piece (Elt F) S2x16x512 .f32)) (L1 : List (View.Piece (Elt F) S2x128x256 .bf16)) (L2 : List (View.Piece (Elt F) S2x256x128 .bf16)) : St (F := F) :=
  ⟨scM0_0.view.read (Elt F) (scM0_0.view.writes (Elt F) ((Memref.isWhole_whole _ : scM0_0.IsWhole).unread s.s0) L0), scM0_1.view.read (Elt F) (scM0_1.view.writes (Elt F) ((Memref.isWhole_whole _ : scM0_1.IsWhole).unread s.s1) L1), scM0_2.view.read (Elt F) (scM0_2.view.writes (Elt F) ((Memref.isWhole_whole _ : scM0_2.IsWhole).unread s.s2) L2), s.s3, s.s4, s.s5⟩

section
variable (s : St (F := F)) (L0 : List (View.Piece (Elt F) S2x16x512 .f32)) (L1 : List (View.Piece (Elt F) S2x128x256 .bf16)) (L2 : List (View.Piece (Elt F) S2x256x128 .bf16))
theorem stored3_s0 : (stored3 s L0 L1 L2).s0 = scM0_0.view.read (Elt F) (scM0_0.view.writes (Elt F) ((Memref.isWhole_whole _ : scM0_0.IsWhole).unread s.s0) L0) := rfl
theorem stored3_s1 : (stored3 s L0 L1 L2).s1 = scM0_1.view.read (Elt F) (scM0_1.view.writes (Elt F) ((Memref.isWhole_whole _ : scM0_1.IsWhole).unread s.s1) L1) := rfl
theorem stored3_s2 : (stored3 s L0 L1 L2).s2 = scM0_2.view.read (Elt F) (scM0_2.view.writes (Elt F) ((Memref.isWhole_whole _ : scM0_2.IsWhole).unread s.s2) L2) := rfl
end

/-- The scratch after the first point … -/
abbrev stA (c : Dev nD) (t : Fin cfg0.N) (h : cond0_0 (grid0.coords t)) (s : St (F := F)) : St (F := F) :=
  stored s (runA m c t h s).1.2.1 (runA m c t h s).1.2.2.1 (runA m c t h s).1.2.2.2.1 (runA m c t h s).1.2.2.2.2.1 (runA m c t h s).1.2.2.2.2.2.1 (runA m c t h s).1.2.2.2.2.2.2

/-- … and after a later one. -/
abbrev stB (c : Dev nD) (t : Fin cfg0.N) (h : ¬cond0_0 (grid0.coords t)) (s : St (F := F)) : St (F := F) :=
  stored3 s (runB m c t h s).1.2.1 (runB m c t h s).1.2.2.1 (runB m c t h s).1.2.2.2

/-- The meta rows' output, written at the first point only, is not followed; nor, for the frame, is the tokens'. -/
def forgets0 (b : Bool) : Fin 12 → Bool := fun w => w.val == 11 || (b && w.val == 10)

/-- What the launch needs of an invariant `I` of the scratch, before each point, and of the rows `T` that each point leaves. -/
structure Keeps (I : Dev nD → ℕ → St (F := F) → Prop) (b : Bool) (T : Dev nD → Fin cfg0.N → Vec F S512x1024 .f32) : Prop where
  init : ∀ c s, I c 0 s
  stepA : ∀ c (t : Fin cfg0.N) h s, I c t.val s → I c (t.val + 1) (stA m c t h s)
  stepB : ∀ c (t : Fin cfg0.N) h s, I c t.val s → I c (t.val + 1) (stB m c t h s)
  rowsA : b = false → ∀ c (t : Fin cfg0.N) h s, I c t.val s → ∀ f, (ms0_10 t).view.read (Elt F) ((ms0_10 t).view.writes (Elt F) f (runA m c t h s).1.1) = T c t
  rowsB : b = false → ∀ c (t : Fin cfg0.N) h s, I c t.val s → ∀ f, (ms0_10 t).view.read (Elt F) ((ms0_10 t).view.writes (Elt F) f (runB m c t h s).1.1) = T c t

variable (I : Dev nD → ℕ → St (F := F) → Prop) (b : Bool) (T : Dev nD → Fin cfg0.N → Vec F S512x1024 .f32)

/-- The invariant as an assertion. -/
def Phi (c : Dev nD) (n : ℕ) : sProp 𝕄 :=
  iprop(∃ s : St (F := F), ⌜I c n s⌝ ∗ owns (c : Thread nD τ) scM0_0 fullShare s.s0 ∗ owns (c : Thread nD τ) scM0_1 fullShare s.s1 ∗ owns (c : Thread nD τ) scM0_2 fullShare s.s2 ∗ owns (c : Thread nD τ) scM0_3 fullShare s.s3 ∗ owns (c : Thread nD τ) scM0_4 fullShare s.s4 ∗ owns (c : Thread nD τ) scM0_5 fullShare s.s5 ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => T c t
    | ⟨11, h⟩ => Pipeline.Dat.unnamed (cfg := cfg0) ⟨11, h⟩ t
  Φ t := Phi I c t.val
  q _ := fullShare
  owed _ := 0

theorem A_eq (c : Dev nD) (w : Fin cfg0.W) : (dats m I T 0 c).A w = V m c (Pipeline.arrRef spec0 w) := by
  dsimp only [dats]
theorem after0_0 (c : Dev nD) (t : Fin cfg0.N) : (dats m I T 0 c).after 0 t = iblk m c 0 t := by dsimp only [dats]
theorem after0_1 (c : Dev nD) (t : Fin cfg0.N) : (dats m I T 0 c).after 1 t = iblk m c 1 t := by dsimp only [dats]
theorem after0_2 (c : Dev nD) (t : Fin cfg0.N) : (dats m I T 0 c).after 2 t = iblk m c 2 t := by dsimp only [dats]
theorem after0_3 (c : Dev nD) (t : Fin cfg0.N) : (dats m I T 0 c).after 3 t = iblk m c 3 t := by dsimp only [dats]
theorem after0_4 (c : Dev nD) (t : Fin cfg0.N) : (dats m I T 0 c).after 4 t = iblk m c 4 t := by dsimp only [dats]
theorem after0_5 (c : Dev nD) (t : Fin cfg0.N) : (dats m I T 0 c).after 5 t = iblk m c 5 t := by dsimp only [dats]
theorem after0_6 (c : Dev nD) (t : Fin cfg0.N) : (dats m I T 0 c).after 6 t = iblk m c 6 t := by dsimp only [dats]
theorem after0_7 (c : Dev nD) (t : Fin cfg0.N) : (dats m I T 0 c).after 7 t = iblk m c 7 t := by dsimp only [dats]
theorem after0_8 (c : Dev nD) (t : Fin cfg0.N) : (dats m I T 0 c).after 8 t = iblk m c 8 t := by dsimp only [dats]
theorem after0_9 (c : Dev nD) (t : Fin cfg0.N) : (dats m I T 0 c).after 9 t = iblk m c 9 t := by dsimp only [dats]
theorem after0_10 (c : Dev nD) (t : Fin cfg0.N) : (dats m I T 0 c).after 10 t = T c t := by dsimp only [dats]
theorem before0_0 (c : Dev nD) (t : Fin cfg0.N) (d) : (dats m I T 0 c).before 0 t d = iblk m c 0 t :=
  before0_0_of m (dats m I T 0 c) (A_eq m I T c 0) (after0_0 m I T c) t d
theorem before0_1 (c : Dev nD) (t : Fin cfg0.N) (d) : (dats m I T 0 c).before 1 t d = iblk m c 1 t :=
  before0_1_of m (dats m I T 0 c) (A_eq m I T c 1) (after0_1 m I T c) t d
theorem before0_2 (c : Dev nD) (t : Fin cfg0.N) (d) : (dats m I T 0 c).before 2 t d = iblk m c 2 t :=
  before0_2_of m (dats m I T 0 c) (A_eq m I T c 2) (after0_2 m I T c) t d
theorem before0_3 (c : Dev nD) (t : Fin cfg0.N) (d) : (dats m I T 0 c).before 3 t d = iblk m c 3 t :=
  before0_3_of m (dats m I T 0 c) (A_eq m I T c 3) (after0_3 m I T c) t d
theorem before0_4 (c : Dev nD) (t : Fin cfg0.N) (d) : (dats m I T 0 c).before 4 t d = iblk m c 4 t :=
  before0_4_of m (dats m I T 0 c) (A_eq m I T c 4) (after0_4 m I T c) t d
theorem before0_5 (c : Dev nD) (t : Fin cfg0.N) (d) : (dats m I T 0 c).before 5 t d = iblk m c 5 t :=
  before0_5_of m (dats m I T 0 c) (A_eq m I T c 5) (after0_5 m I T c) t d
theorem before0_6 (c : Dev nD) (t : Fin cfg0.N) (d) : (dats m I T 0 c).before 6 t d = iblk m c 6 t :=
  before0_6_of m (dats m I T 0 c) (A_eq m I T c 6) (after0_6 m I T c) t d
theorem before0_7 (c : Dev nD) (t : Fin cfg0.N) (d) : (dats m I T 0 c).before 7 t d = iblk m c 7 t :=
  before0_7_of m (dats m I T 0 c) (A_eq m I T c 7) (after0_7 m I T c) t d
theorem before0_8 (c : Dev nD) (t : Fin cfg0.N) (d) : (dats m I T 0 c).before 8 t d = iblk m c 8 t :=
  before0_8_of m (dats m I T 0 c) (A_eq m I T c 8) (after0_8 m I T c) t d
theorem before0_9 (c : Dev nD) (t : Fin cfg0.N) (d) : (dats m I T 0 c).before 9 t d = iblk m c 9 t :=
  before0_9_of m (dats m I T 0 c) (A_eq m I T c 9) (after0_9 m I T c) t d

def bodyPre (c : Dev nD) (t : Fin cfg0.N) : sProp 𝕄 :=
  iprop((dats m I T 0 c).Φ t.castSucc ∗ (dats m I T 0 c).owesAt () t.castSucc
    ∗ (∃ d, owns (c : Thread nD τ) (ms0_0 t) fullShare ((dats m I T 0 c).before 0 t d))
    ∗ (∃ d, owns (c : Thread nD τ) (ms0_1 t) fullShare ((dats m I T 0 c).before 1 t d))
    ∗ (∃ d, owns (c : Thread nD τ) (ms0_2 t) fullShare ((dats m I T 0 c).before 2 t d))
    ∗ (∃ d, owns (c : Thread nD τ) (ms0_3 t) fullShare ((dats m I T 0 c).before 3 t d))
    ∗ (∃ d, owns (c : Thread nD τ) (ms0_4 t) fullShare ((dats m I T 0 c).before 4 t d))
    ∗ (∃ d, owns (c : Thread nD τ) (ms0_5 t) fullShare ((dats m I T 0 c).before 5 t d))
    ∗ (∃ d, owns (c : Thread nD τ) (ms0_6 t) fullShare ((dats m I T 0 c).before 6 t d))
    ∗ (∃ d, owns (c : Thread nD τ) (ms0_7 t) fullShare ((dats m I T 0 c).before 7 t d))
    ∗ (∃ d, owns (c : Thread nD τ) (ms0_8 t) fullShare ((dats m I T 0 c).before 8 t d))
    ∗ (∃ d, owns (c : Thread nD τ) (ms0_9 t) fullShare ((dats m I T 0 c).before 9 t d))
    ∗ (∃ d, owns (c : Thread nD τ) (ms0_10 t) fullShare d)
    ∗ (∃ d, owns (c : Thread nD τ) (ms0_11 t) fullShare d))

def bodyPost (c : Dev nD) (t : Fin cfg0.N) : sProp 𝕄 :=
  iprop((dats m I T 0 c).Φ t.succ ∗ (dats m I T 0 c).owesAt () t.succ
    ∗ (dats m I T 0 c).leavesExact 0 t
    ∗ (dats m I T 0 c).leavesExact 1 t
    ∗ (dats m I T 0 c).leavesExact 2 t
    ∗ (dats m I T 0 c).leavesExact 3 t
    ∗ (dats m I T 0 c).leavesExact 4 t
    ∗ (dats m I T 0 c).leavesExact 5 t
    ∗ (dats m I T 0 c).leavesExact 6 t
    ∗ (dats m I T 0 c).leavesExact 7 t
    ∗ (dats m I T 0 c).leavesExact 8 t
    ∗ (dats m I T 0 c).leavesExact 9 t
    ∗ (∃ d, ⌜b = false → d = T c t⌝ ∗ owns (c : Thread nD τ) (ms0_10 t) fullShare d)
    ∗ (∃ d, owns (c : Thread nD τ) (ms0_11 t) fullShare d))

variable {I b T}

set_option maxHeartbeats 4000000 in
/-- The body at any point, by its two cases. -/
theorem sound_body (K : Keeps m I b T) (c : Dev nD) (t : Fin cfg0.N) :
    bodyPre m I T c t ⊢ wp frame (wpE (defs₀ (F := F)) Variants.none c none) Set.univ (bodyAt0 t) (fun _ => bodyPost m I b T c t) := by
  unfold bodyPre bodyPost bodyAt0
  simp only [before0_0, before0_1, before0_2, before0_3, before0_4, before0_5, before0_6, before0_7, before0_8, before0_9]
  rw [show (dats m I T 0 c).Φ t.succ = Phi I c (t.val + 1) from rfl, show (dats m I T 0 c).Φ t.castSucc = Phi I c t.val from rfl,
    show (dats m I T 0 c).owesAt () t.succ = (dats m I T 0 c).owesAt () t.castSucc from rfl]
  unfold Phi
  rw [show (dats m I T 0 c).leavesExact 0 t = owns (c : Thread nD τ) (ms0_0 t) fullShare ((dats m I T 0 c).after 0 t) from by
      unfold Dat.leavesExact; rw [liveAt0_0 t], after0_0]
  rw [show (dats m I T 0 c).leavesExact 1 t = owns (c : Thread nD τ) (ms0_1 t) fullShare ((dats m I T 0 c).after 1 t) from by
      unfold Dat.leavesExact; rw [liveAt0_1 t], after0_1]
  rw [show (dats m I T 0 c).leavesExact 2 t = owns (c : Thread nD τ) (ms0_2 t) fullShare ((dats m I T 0 c).after 2 t) from by
      unfold Dat.leavesExact; rw [liveAt0_2 t], after0_2]
  rw [show (dats m I T 0 c).leavesExact 3 t = owns (c : Thread nD τ) (ms0_3 t) fullShare ((dats m I T 0 c).after 3 t) from by
      unfold Dat.leavesExact; rw [liveAt0_3 t], after0_3]
  rw [show (dats m I T 0 c).leavesExact 4 t = owns (c : Thread nD τ) (ms0_4 t) fullShare ((dats m I T 0 c).after 4 t) from by
      unfold Dat.leavesExact; rw [liveAt0_4 t], after0_4]
  rw [show (dats m I T 0 c).leavesExact 5 t = owns (c : Thread nD τ) (ms0_5 t) fullShare ((dats m I T 0 c).after 5 t) from by
      unfold Dat.leavesExact; rw [liveAt0_5 t], after0_5]
  rw [show (dats m I T 0 c).leavesExact 6 t = owns (c : Thread nD τ) (ms0_6 t) fullShare ((dats m I T 0 c).after 6 t) from by
      unfold Dat.leavesExact; rw [liveAt0_6 t], after0_6]
  rw [show (dats m I T 0 c).leavesExact 7 t = owns (c : Thread nD τ) (ms0_7 t) fullShare ((dats m I T 0 c).after 7 t) from by
      unfold Dat.leavesExact; rw [liveAt0_7 t], after0_7]
  rw [show (dats m I T 0 c).leavesExact 8 t = owns (c : Thread nD τ) (ms0_8 t) fullShare ((dats m I T 0 c).after 8 t) from by
      unfold Dat.leavesExact; rw [liveAt0_8 t], after0_8]
  rw [show (dats m I T 0 c).leavesExact 9 t = owns (c : Thread nD τ) (ms0_9 t) fullShare ((dats m I T 0 c).after 9 t) from by
      unfold Dat.leavesExact; rw [liveAt0_9 t], after0_9]
  by_cases h0 : t.val % 32 = 0
  · iintro ⟨⟨%s, %hs, HS0, HS1, HS2, HS3, HS4, HS5, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA m c t ((hcond0_0 t).mpr h0) s).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, ⟨%e10, H10⟩, H11, HS0, HS1, HS2, HS3, HS4, HS5⟩
    isplitl [HP HS0 HS1 HS2 HS3 HS4 HS5]
    · iexists (stA m c t ((hcond0_0 t).mpr h0) s)
      isplitr; · ipureintro; exact K.stepA c t ((hcond0_0 t).mpr h0) s hs
      isplitl [HS0]
      · unfold owns; iexists _; isplitr
        swap; · iexact HS0
        ipureintro; exact (stored_s0 s _ _ _ _ _ _).symm
      isplitl [HS1]
      · unfold owns; iexists _; isplitr
        swap; · iexact HS1
        ipureintro; exact (stored_s1 s _ _ _ _ _ _).symm
      isplitl [HS2]
      · unfold owns; iexists _; isplitr
        swap; · iexact HS2
        ipureintro; exact (stored_s2 s _ _ _ _ _ _).symm
      isplitl [HS3]
      · unfold owns; iexists _; isplitr
        swap; · iexact HS3
        ipureintro; exact (stored_s3 s _ _ _ _ _ _).symm
      isplitl [HS4]
      · unfold owns; iexists _; isplitr
        swap; · iexact HS4
        ipureintro; exact (stored_s4 s _ _ _ _ _ _).symm
      isplitl [HS5]
      · unfold owns; iexists _; isplitr
        swap; · iexact HS5
        ipureintro; exact (stored_s5 s _ _ _ _ _ _).symm
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists ((ms0_10 t).view.read (Elt F) ((ms0_10 t).view.writes (Elt F) e10 (runA m c t ((hcond0_0 t).mpr h0) s).1.1))
      isplitr
      swap
      · unfold owns; iexists _; isplitr
        swap; · iexact H10
        ipureintro; rfl
      ipureintro; exact fun hb => K.rowsA hb c t ((hcond0_0 t).mpr h0) s hs e10
    iexact H11
  · iintro ⟨⟨%s, %hs, HS0, HS1, HS2, HS3, HS4, HS5, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB m c t (fun h => h0 ((hcond0_0 t).mp h)) s).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, ⟨%e10, H10⟩, H11, HS0, HS1, HS2, HS3, HS4, HS5⟩
    isplitl [HP HS0 HS1 HS2 HS3 HS4 HS5]
    · iexists (stB m c t (fun h => h0 ((hcond0_0 t).mp h)) s)
      isplitr; · ipureintro; exact K.stepB c t (fun h => h0 ((hcond0_0 t).mp h)) s hs
      isplitl [HS0]
      · unfold owns; iexists _; isplitr
        swap; · iexact HS0
        ipureintro; exact (stored3_s0 s _ _ _).symm
      isplitl [HS1]
      · unfold owns; iexists _; isplitr
        swap; · iexact HS1
        ipureintro; exact (stored3_s1 s _ _ _).symm
      isplitl [HS2]
      · unfold owns; iexists _; isplitr
        swap; · iexact HS2
        ipureintro; exact (stored3_s2 s _ _ _).symm
      isplitl [HS3]; · iexact HS3
      isplitl [HS4]; · iexact HS4
      isplitl [HS5]; · iexact HS5
      iexact HP
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists ((ms0_10 t).view.read (Elt F) ((ms0_10 t).view.writes (Elt F) e10 (runB m c t (fun h => h0 ((hcond0_0 t).mp h)) s).1.1))
      isplitr
      swap
      · unfold owns; iexists _; isplitr
        swap; · iexact H10
        ipureintro; rfl
      ipureintro; exact fun hb => K.rowsB hb c t (fun h => h0 ((hcond0_0 t).mp h)) s hs e10
    iexact H11

theorem defs₀_row (t : Fin cfg0.N) :
    defs₀ (F := F) .tc cfg0.body (cfg0.bodyArgs t (cfg0.slots t)) = bodyAt0 t := by
  unfold defs₀; rw [Defs.onTc_tc]

end Cert.MixerIdeal.Run

end
-- ==== Proof.Mixer.Launched.lean ====
/- The mixer's run: the launch over the body at every point, the arguments as launched, and the output array. -/
module

public import proofs.«01_k».proof.Proof.Mixer.Launch

@[expose] public section

set_option maxRecDepth 16384

noncomputable section

namespace Cert.MixerIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MixerIdeal Cert.MixerIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

variable {I : Dev nD → ℕ → St (F := F) → Prop} {b : Bool} {T : Dev nD → Fin cfg0.N → Vec F S512x1024 .f32}

theorem body_obligation (K : Keeps m I b T) (c : Dev nD) : BodyObligation (dats m I T 0 c) (defs₀ (F := F)) Variants.none () Set.univ (forgets0 b) := fun t => by
  rw [bigSep_W0, bigSep_W0, defs₀_row]
  cases b
  · exact triple_restated (sound_body m K c t) rfl
      (sep_mono .rfl <| sep_mono .rfl <| sep_mono .rfl <| sep_mono .rfl <| sep_mono .rfl <| sep_mono .rfl <| sep_mono .rfl <| sep_mono .rfl <| sep_mono .rfl <| sep_mono .rfl <| sep_mono .rfl <| sep_mono .rfl <| sep_mono (exists_elim fun d => exists_intro (Φ := fun d => owns (c : Thread nD τ) (ms0_10 t) fullShare d) _) .rfl)
      fun _ => sep_mono .rfl <| sep_mono .rfl <| sep_mono .rfl <| sep_mono .rfl <| sep_mono .rfl <| sep_mono .rfl <| sep_mono .rfl <| sep_mono .rfl <| sep_mono .rfl <| sep_mono .rfl <| sep_mono .rfl <| sep_mono .rfl <| sep_mono (show _ ⊢ owns (c : Thread nD τ) (ms0_10 t) fullShare (T c t) from by
        iintro ⟨%d, %hd, H⟩
        obtain rfl := hd rfl
        iexact H) .rfl
  · exact triple_restated (sound_body m K c t) rfl .rfl
      fun _ => sep_mono .rfl <| sep_mono .rfl <| sep_mono .rfl <| sep_mono .rfl <| sep_mono .rfl <| sep_mono .rfl <| sep_mono .rfl <| sep_mono .rfl <| sep_mono .rfl <| sep_mono .rfl <| sep_mono .rfl <| sep_mono .rfl <| sep_mono (show _ ⊢ iprop(∃ X, owns (c : Thread nD τ) (ms0_10 t) fullShare X) from by
        iintro ⟨%d, %hd, H⟩
        iexists d
        iexact H) .rfl

set_option backward.isDefEq.respectTransparency.types false in
/-- The launch: the run terminates with the named arrays at their contents and every counter at zero. -/
theorem run_main_quiescent (K : Keeps m I b T) : θ_run defs (onTc (τ := τ) (main (F := F))) (s₀ m ρ) (fun r => (Pipeline.RDat.FramePost (cfgs 0) (fun c => (dats m I T 0 c).toRForget (forgets0 b)) (V m)) r ∧ r.2.sem = fun _ => 0) :=
  Pipeline.θ_run_frame_track_forget (Q' := _) cfgs (dats m I T) (0 : Fin 1) launch0 defs₀ Variants.none (forgets0 b) m ρ main
    (hbody := fun c => (body_obligation m K c).loose) (hshare := fun c => (dats m I T 0 c).share_full fun _ => rfl)
    (howed := fun _ _ => rfl) (V := V m) (hmain := hmain m Variants.none) (hA := A_eq m I T)
    (hin := fun c => by
      rw [PhiA0_eq c]
      show _ ⊢ Phi I c 0
      unfold Phi
      iintro ⟨⟨⟨%d0, H0⟩, ⟨%d1, H1⟩, ⟨%d2, H2⟩, ⟨%d3, H3⟩, ⟨%d4, H4⟩, ⟨%d5, H5⟩⟩, HP⟩
      iexists (⟨d0, d1, d2, d3, d4, d5⟩ : St (F := F))
      isplitr; · ipureintro; exact K.init c _
      isplitl [H0]; · iexact H0
      isplitl [H1]; · iexact H1
      isplitl [H2]; · iexact H2
      isplitl [H3]; · iexact H3
      isplitl [H4]; · iexact H4
      isplitl [H5]; · iexact H5
      iexact HP)
    (hout := fun c => by
      rw [PhiA0_eq c]
      show Phi I c _ ⊢ _
      unfold Phi
      iintro ⟨%s, -, H0, H1, H2, H3, H4, H5, HP⟩
      isplitl [H0 H1 H2 H3 H4 H5]
      · isplitl [H0]; · iexists _; iexact H0
        isplitl [H1]; · iexists _; iexact H1
        isplitl [H2]; · iexists _; iexact H2
        isplitl [H3]; · iexists _; iexact H3
        isplitl [H4]; · iexists _; iexact H4
        iexists _; iexact H5
      iexact HP)

theorem run_main (K : Keeps m I b T) : θ_run defs (onTc (τ := τ) (main (F := F))) (s₀ m ρ) (Pipeline.RDat.FramePost (cfgs 0) (fun c => (dats m I T 0 c).toRForget (forgets0 b)) (V m)) :=
  (θ_run defs _ _).mono (fun _ h => h.1) (run_main_quiescent m ρ K)

theorem kept_main_arg0 (r : PUnit × MemSt nD τ sig (Elt F)) (h : Pipeline.RDat.FramePost (cfgs 0) (fun c => (dats m I T 0 c).toRForget (forgets0 b)) (V m) r) (c : Dev nD) :
    r.2.mem ((c.tc : Thread nD τ).loc main_arg0) = m ((c.tc : Thread nD τ).loc main_arg0) :=
  (Pipeline.RDat.FramePost.arr_in h c 0 rfl).trans ((A_eq m I T c 0).trans (V_main_arg0 m c))

theorem kept_main_arg1 (r : PUnit × MemSt nD τ sig (Elt F)) (h : Pipeline.RDat.FramePost (cfgs 0) (fun c => (dats m I T 0 c).toRForget (forgets0 b)) (V m) r) (c : Dev nD) :
    r.2.mem ((c.tc : Thread nD τ).loc main_arg1) = m ((c.tc : Thread nD τ).loc main_arg1) :=
  (Pipeline.RDat.FramePost.arr_in h c 1 rfl).trans ((A_eq m I T c 1).trans (V_main_arg1 m c))

theorem kept_main_arg2 (r : PUnit × MemSt nD τ sig (Elt F)) (h : Pipeline.RDat.FramePost (cfgs 0) (fun c => (dats m I T 0 c).toRForget (forgets0 b)) (V m) r) (c : Dev nD) :
    r.2.mem ((c.tc : Thread nD τ).loc main_arg2) = m ((c.tc : Thread nD τ).loc main_arg2) :=
  (Pipeline.RDat.FramePost.arr_in h c 2 rfl).trans ((A_eq m I T c 2).trans (V_main_arg2 m c))

theorem kept_main_arg3 (r : PUnit × MemSt nD τ sig (Elt F)) (h : Pipeline.RDat.FramePost (cfgs 0) (fun c => (dats m I T 0 c).toRForget (forgets0 b)) (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.RDat.FramePost (cfgs 0) (fun c => (dats m I T 0 c).toRForget (forgets0 b)) (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)

theorem kept_main_arg5 (r : PUnit × MemSt nD τ sig (Elt F)) (h : Pipeline.RDat.FramePost (cfgs 0) (fun c => (dats m I T 0 c).toRForget (forgets0 b)) (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)

theorem kept_main_arg6 (r : PUnit × MemSt nD τ sig (Elt F)) (h : Pipeline.RDat.FramePost (cfgs 0) (fun c => (dats m I T 0 c).toRForget (forgets0 b)) (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)

theorem kept_main_arg7 (r : PUnit × MemSt nD τ sig (Elt F)) (h : Pipeline.RDat.FramePost (cfgs 0) (fun c => (dats m I T 0 c).toRForget (forgets0 b)) (V m) r) (c : Dev nD) :
    r.2.mem ((c.tc : Thread nD τ).loc main_arg7) = m ((c.tc : Thread nD τ).loc main_arg7) :=
  (Pipeline.RDat.FramePost.arr_in h c 7 rfl).trans ((A_eq m I T c 7).trans (V_main_arg7 m c))

theorem kept_main_arg8 (r : PUnit × MemSt nD τ sig (Elt F)) (h : Pipeline.RDat.FramePost (cfgs 0) (fun c => (dats m I T 0 c).toRForget (forgets0 b)) (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)

theorem kept_main_arg9 (r : PUnit × MemSt nD τ sig (Elt F)) (h : Pipeline.RDat.FramePost (cfgs 0) (fun c => (dats m I T 0 c).toRForget (forgets0 b)) (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)

/-- The arguments end as launched. -/
theorem kept (r : PUnit × MemSt nD τ sig (Elt F)) (h : Pipeline.RDat.FramePost (cfgs 0) (fun c => (dats m I T 0 c).toRForget (forgets0 b)) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  ⟨kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c⟩

/-- Nothing said of the scratch or of the rows. -/
theorem keeps_frame : Keeps m (fun _ _ _ => True) true (fun _ _ => Pipeline.Dat.unnamed (cfg := cfg0) ⟨10, by decide⟩ ⟨0, by decide⟩) where
  init _ _ := trivial
  stepA _ _ _ _ _ := trivial
  stepB _ _ _ _ _ := trivial
  rowsA h := absurd h (by decide)
  rowsB h := absurd h (by decide)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => kept m r h.1 c, h.2⟩) (run_main_quiescent m ρ (keeps_frame m))

theorem post10 (r : PUnit × MemSt nD τ sig (Elt F)) (h : Pipeline.RDat.FramePost (cfgs 0) (fun c => (dats m I T 0 c).toRForget (forgets0 false)) (V m) r) (c : Dev nD) :
    r.2.mem ((c : Thread nD τ).loc main_v16_0) = (dats m I T 0 c).arrAt 10 cfg0.N :=
  ((dats m I T 0 c).toRForget_arrAt_iff (show forgets0 false 10 = false from rfl) _ _).mp ((h c).1 10)

/-- The run, the tokens' output named and the arguments unchanged. -/
theorem run_blocks (K : Keeps m I false T) : θ_run defs (onTc (τ := τ) (main (F := F))) ⟨m, fun _ => 0, ρ⟩ fun r => ∀ c : Dev nD,
      r.2.mem ((c : Thread nD τ).loc main_v16_0) = (dats m I T 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨post10 m r h c, kept m r h c⟩) (run_main m ρ K)

end Cert.MixerIdeal.Run

end
-- ==== Proof.Mixer.Step.lean ====
/- A tile carries the scratch to the next one, and leaves its rows of the mixed array. -/
module

public import proofs.«01_k».proof.Proof.Mixer.Array
public import proofs.«01_k».proof.Proof.Mixer.ElemOut
public import proofs.«01_k».proof.Proof.Mixer.PiecesA
public import proofs.«01_k».proof.Proof.Mixer.RowsA
public import proofs.«01_k».proof.Proof.Mixer.Launched
public import Idealize.ShloMosaic.Lib.WritesUnit

@[expose] public section

set_option maxRecDepth 16384

noncomputable section

namespace Cert.MixerIdeal.Elem

open Idealize.ShloMosaic Idealize.ShloMosaic.TcCoe Idealize.ShloMosaic.Tactic Idealize.SL.Sem
open Cert.MixerIdeal Cert.MixerIdeal.Gen Cert.MixerIdeal.Model Cert.MixerIdeal.Run Cert.Half Cert.Mix

/-- The words of the other slot. -/
theorem sub2 (n : ℕ) (hn : n < 32) : (Scalar.subi 1#32 (Scalar.remsi (BitVec.ofNat 32 n) 2#32)).toNat = (n + 1) % 2 := by
  revert n; decide

theorem off2_eq (i : grid0.Coords) : k0_off2 i = ![((i 0).val + 1) % 2, 0, 0] := by unfold k0_off2; exact congrArg (fun n => (![n, 0, 0] : Fin 3 → ℕ)) (sub2 _ (i 0).isLt)
theorem off4_eq (i : grid0.Coords) : k0_off4 i = ![((i 0).val + 1) % 2, 0, 0] := by unfold k0_off4; exact congrArg (fun n => (![n, 0, 0] : Fin 3 → ℕ)) (sub2 _ (i 0).isLt)
theorem off6_eq (i : grid0.Coords) : k0_off6 i = ![((i 0).val + 1) % 2, 0, 0] := by unfold k0_off6; exact congrArg (fun n => (![n, 0, 0] : Fin 3 → ℕ)) (sub2 _ (i 0).isLt)

section
variable {X : In Ideal} {P : Par} {t : ℕ} (H : Holds X P t) (i : grid0.Coords) (hi : (i 0).val = t)
include H hi

/-- The tails stored in the other slot are what the next tile reads. -/
theorem next {sp0 sp1 sp2 : Space} (v0 : View sig .tc sp0 S2x16x512 .f32) (f0 : v0.ty.Contents (Elt Ideal)) (L0)
    (v1 : View sig .tc sp1 S2x128x256 .bf16) (f1 : v1.ty.Contents (Elt Ideal)) (L1)
    (v2 : View sig .tc sp2 S2x256x128 .bf16) (f2 : v2.ty.Contents (Elt Ideal)) (L2)
    (s3 : Vec Ideal S16x256 .bf16) (s4 : Vec Ideal S256x16 .bf16) (s5 : Vec Ideal S16x272x128 .f32)
    (h3 : ∀ (r : Fin 16) (c : Fin 256), s3 (ix2 r c) = P.K r.val c.val) (h4 : ∀ (r : Fin 16) (c : Fin 256), s4 (ix2 c r) = P.V r.val c.val)
    (h5 : ∀ (h : Fin 16) (k : Fin 272) (j : Fin 128), s5 (ix3 h k j) = biasE h.val k.val j.val) :
    Good P (t + 1) (v0.read (Elt Ideal) (v0.writes (Elt Ideal) f0 (⟨Rect.unit (k0_off4 i) S1x16x512.size (k0_off4_inb i), tailU X⟩ :: L0)))
      (v1.read (Elt Ideal) (v1.writes (Elt Ideal) f1 (⟨Rect.unit (k0_off2 i) S1x128x256.size (k0_off2_inb i), tailK X⟩ :: L1)))
      (v2.read (Elt Ideal) (v2.writes (Elt Ideal) f2 (⟨Rect.unit (k0_off6 i) S1x256x128.size (k0_off6_inb i), tailV X⟩ :: L2))) s3 s4 s5 where
  u a c := (wr v0 f0 _ _ _ _ L0 (ix3 0 a c) (ix3 ⟨(t + 1) % 2, by omega⟩ a c) (off_at ((off4_eq i).trans (by rw [hi])) (o' := ![(t + 1) % 2, 0, 0]) (by intro a; fin_cases a <;> simp))).trans (tailU_at H a c)
  k j c := (wr v1 f1 _ _ _ _ L1 (ix3 0 j c) (ix3 ⟨(t + 1) % 2, by omega⟩ j c) (off_at ((off2_eq i).trans (by rw [hi])) (o' := ![(t + 1) % 2, 0, 0]) (by intro a; fin_cases a <;> simp))).trans (tailK_at H j c)
  v c j := (wr v2 f2 _ _ _ _ L2 (ix3 0 c j) (ix3 ⟨(t + 1) % 2, by omega⟩ c j) (off_at ((off6_eq i).trans (by rw [hi])) (o' := ![(t + 1) % 2, 0, 0]) (by intro a; fin_cases a <;> simp))).trans (tailV_at H c j)
  km := h3
  vm c r := h4 r c
  bias := h5

/-- The two halves stored are the tile's rows. -/
theorem tile_rows {sp : Space} (v : View sig .tc sp S512x1024 .f32) (f : v.ty.Contents (Elt Ideal)) (hP : P.Real) (ht : t < 32) :
    v.read (Elt Ideal) (v.writes (Elt Ideal) f [⟨Rect.unit ![256, 0] S256x1024.size inb_S512x1024_S256x1024_256_0, X.out1⟩, ⟨Rect.unit ![0, 0] S256x1024.size inb_S512x1024_S256x1024_0_0, X.out0 (BitVec.ofNat 32 (i 0).val)⟩])
      = fun y : S512x1024.Idx => P.out (16 + 512 * t + (y 0).val) (y 1) := by
  rw [hi]
  funext y
  obtain ⟨r, c, rfl⟩ : ∃ (r : Fin 512) (c : Fin 1024), y = ix2 r c := ⟨y 0, y 1, by funext a; fin_cases a <;> rfl⟩
  by_cases h : r.val < 256
  · have key : ∀ w : S256x1024.Idx → EReal, v.read (Elt Ideal) (v.writes (Elt Ideal) f [⟨Rect.unit ![256, 0] S256x1024.size inb_S512x1024_S256x1024_256_0, w⟩, ⟨Rect.unit ![0, 0] S256x1024.size inb_S512x1024_S256x1024_0_0, X.out0 (BitVec.ofNat 32 t)⟩]) (ix2 r c)
        = v.read (Elt Ideal) (v.writes (Elt Ideal) f [⟨Rect.unit ![0, 0] S256x1024.size inb_S512x1024_S256x1024_0_0, X.out0 (BitVec.ofNat 32 t)⟩]) (ix2 r c) := fun w => by
      exact View.read_writes_cons_unit_of_not_mem v f inb_S512x1024_S256x1024_256_0 w _ (ix2 r c) (off' := ![256, 0]) rfl 0 (Or.inl h)
    rw [key]
    exact (wr v f _ _ _ _ _ (ix2 (⟨r.val, h⟩ : Fin 256) c) (ix2 r c) (by intro a; fin_cases a <;> simp)).trans (out0_at H ht hP ⟨r.val, h⟩ c)
  · refine (wr v f _ _ _ _ _ (ix2 (⟨r.val - 256, by omega⟩ : Fin 256) c) (ix2 r c) (by intro a; fin_cases a <;> simp <;> omega)).trans ?_
    refine (out1_at H ht hP ⟨r.val - 256, by omega⟩ c).trans ?_
    have e : 16 + 512 * t + (256 + (r.val - 256)) = 16 + 512 * t + r.val := by omega
    exact congrArg (fun n => P.out n c) e

end

variable (m : (ℓ : Loc nD τ sig) → Buf (Elt Ideal) ℓ)

/-- The scratch before tile `n`. -/
def Inv (c : Dev nD) (n : ℕ) (s : St (F := Ideal)) : Prop := n = 0 ∨ Good (params m c) n s.s0 s.s1 s.s2 s.s3 s.s4 s.s5

/-- The rows of tile `t`. -/
def rowsT (c : Dev nD) (t : Fin cfg0.N) : Vec Ideal S512x1024 .f32 := fun y : S512x1024.Idx => (params m c).out (16 + 512 * t.val + (y 0).val) (y 1)

theorem coord : ∀ t : Fin cfg0.N, (grid0.coords t 0).val = t.val := (by decide +kernel : ∀ t : Fin grid0.N, _)

theorem first {t : Fin cfg0.N} (h : cond0_0 (grid0.coords t)) : t.val = 0 := by
  have := (hcond0_0 t).1 h
  have := at_lt t
  omega

theorem later {c : Dev nD} {t : Fin cfg0.N} (h : ¬cond0_0 (grid0.coords t)) {s : St (F := Ideal)} (hI : Inv m c t.val s) : Good (params m c) t.val s.s0 s.s1 s.s2 s.s3 s.s4 s.s5 :=
  hI.resolve_left fun h0 => h ((hcond0_0 t).2 (by rw [h0]))

set_option maxHeartbeats 2000000 in
theorem stepA (c : Dev nD) (t : Fin cfg0.N) (h : cond0_0 (grid0.coords t)) (s : St (F := Ideal)) : Inv m c (t.val + 1) (stA m c t h s) := by
  right
  have e : (runA m c t h s).1.2 = _ := scratch_A ..
  rw [stored_s0, stored_s1, stored_s2, stored_s3, stored_s4, stored_s5, e]
  refine next (holdsA (ht := coord t) (Fx := fits m c t) (h0 := first h) ..) _ (coord t) _ _ _ _ _ _ _ _ _ _ _ _ (fun r j => ?_) (fun r j => ?_) (fun hd k j => biasAll _ _ hd k j)
  · refine Eq.trans (wr _ _ _ _ _ _ _ (ix2 r j) (ix2 r j) (by intro a; fin_cases a <;> simp)) ?_
    exact kmA (Fx := fits m c t) (r := r) (c := j) ..
  · refine Eq.trans (wr _ _ _ _ _ _ _ (ix2 j r) (ix2 j r) (by intro a; fin_cases a <;> simp)) ?_
    exact vmA (Fx := fits m c t) (r := r) (c := j) ..

set_option maxHeartbeats 2000000 in
theorem stepB (c : Dev nD) (t : Fin cfg0.N) (h : ¬cond0_0 (grid0.coords t)) (s : St (F := Ideal)) (hI : Inv m c t.val s) : Inv m c (t.val + 1) (stB m c t h s) := by
  right
  have G := later m h hI
  have e : (runB m c t h s).1.2 = _ := scratch_B ..
  rw [stored3_s0, stored3_s1, stored3_s2, e]
  exact next (holdsB (ht := coord t) (Fx := fits m c t) (Gx := G) ..) _ (coord t) _ _ _ _ _ _ _ _ _ _ _ _ G.km (fun r j => G.vm j r) G.bias

set_option maxHeartbeats 2000000 in
theorem rowsA (c : Dev nD) (hP : (params m c).Real) (t : Fin cfg0.N) (h : cond0_0 (grid0.coords t)) (s : St (F := Ideal)) (f) : (ms0_10 t).view.read (Elt Ideal) ((ms0_10 t).view.writes (Elt Ideal) f (runA m c t h s).1.1) = rowsT m c t := by
  have e : (runA m c t h s).1.1 = _ := rows_A ..
  rw [e]
  exact tile_rows (holdsA (ht := coord t) (Fx := fits m c t) (h0 := first h) ..) _ (coord t) _ _ hP (at_lt t)

set_option maxHeartbeats 2000000 in
theorem rowsB (c : Dev nD) (hP : (params m c).Real) (t : Fin cfg0.N) (h : ¬cond0_0 (grid0.coords t)) (s : St (F := Ideal)) (hI : Inv m c t.val s) (f) : (ms0_10 t).view.read (Elt Ideal) ((ms0_10 t).view.writes (Elt Ideal) f (runB m c t h s).1.1) = rowsT m c t := by
  have G := later m h hI
  have e : (runB m c t h s).1.1 = _ := rows_B ..
  rw [e]
  exact tile_rows (holdsB (ht := coord t) (Fx := fits m c t) (Gx := G) ..) _ (coord t) _ _ hP (at_lt t)

/-- What the launch asks. -/
theorem keeps (hP : ∀ c, (params m c).Real) : Keeps m (Inv m) false (rowsT m) where
  init _ _ := Or.inl rfl
  stepA c t h s _ := stepA m c t h s
  stepB c t h s hI := stepB m c t h s hI
  rowsA _ c t h s _ f := rowsA m c (hP c) t h s f
  rowsB _ c t h s hI f := rowsB m c (hP c) t h s hI f

/-- The mixed rows of the tokens. -/
def whole (P : Par) (i : S16384x1024.Idx) : EReal := P.out (16 + (i 0).val) (i 1)

/-- The array after the run: the thirty-two blocks cover it. -/
theorem final (c : Dev nD) : (dats m (Inv m) (rowsT m) 0 c).arrAt 10 cfg0.N = whole (params m c) := by
  refine (dats m (Inv m) (rowsT m) 0 c).arrAt_eq_of_covers 10 _ (by decide +kernel) fun t hf y => ?_
  blk_simp
  rw [after0_10]
  have e0 : ((win0_10.blk t).view.emb y 0).val = 512 * t.val + (y 0).val := by
    blk_simp [at10]
    omega
  have e1 : (win0_10.blk t).view.emb y 1 = y 1 := by
    apply Fin.ext; blk_simp [at10]
  unfold rowsT whole
  rw [e0, e1, ← Nat.add_assoc]

end Cert.MixerIdeal.Elem

end
-- ==== Proof.Mixer.Pre.lean ====
/- What the precondition says of the launched arguments: the gains, the input projection and the sinks are real numbers. -/
module

public import proofs.«01_k».proof.Pre_finite_arguments
public import proofs.«01_k».proof.Proof.Mixer.Ref
public import Idealize.ShloMosaic.Lib.ReduceAll
public import Idealize.ShloMosaic.Lib.Affine

@[expose] public section

set_option maxRecDepth 16384

noncomputable section

namespace Cert.MixerRefIdeal.Mix

open Cert.Half Cert.Mix Idealize.ShloMosaic Idealize.ShloMosaic.TcCoe

theorem bound_eq : Ideal.ofBits .f32 0x7F800000#32 = ⊤ := by
  simp [Ideal.ofBits, Ideal.ieee]

/-- An extended real whose absolute value is below infinity is a real number. -/
theorem real_of_abs_lt (x : EReal) (h : max x (-x) < ⊤) : ∃ r : ℝ, x = r := by
  induction x with
  | bot => exact absurd ((le_max_right _ _).trans_lt h) (by simp)
  | top => exact absurd ((le_max_left _ _).trans_lt h) (by simp)
  | coe r => exact ⟨r, rfl⟩

/-- A test that holds of a whole array holds of each element. -/
theorem real_of_all {s u : Shape} {axes : List (Fin s.rank)} (x : FVec Ideal s .f32) (dims : Fin u.rank → Fin s.rank) (bc : u.BroadcastsInDim s dims) (red : s.ReducesTo axes u) (hu : 0 < u.numel) [Subsingleton u.Idx] (j : u.Idx)
    (e : Host.reduce IntOp.andi (cmpf .olt (Host.absf x) (broadcastInDim s dims bc (constant u .f32 0x7F800000#32))) (constantI u 1 1#1) red hu j = 1#1)
    (i : s.Idx) : ∃ r : ℝ, x i = r := by
  have h := Host.reduce_andi_all _ _ _ _ j e i
  have h' : Ideal.cmp .olt (max (x i) (-(x i))) (Ideal.ofBits .f32 0x7F800000#32) = 1 := h
  rw [bound_eq] at h'
  exact real_of_abs_lt _ ((Ideal.cmp_olt_eq_one _ _).1 h')

variable [Cert.Pre_finite_arguments.Facts]

theorem real_of_pre (x0 x1 x2 x3 x4 x5 x6 x7 x8 x9) (h : Cert.Pre_finite_arguments.fn (F := Ideal) x0 x1 x2 x3 x4 x5 x6 x7 x8 x9 = fun _ => 1#1) :
    (par x0 x1 x2 x3 x4 x5 x6 x7 x8 x9).Real := by
  have hj := congrFun h (fun a => a.elim0)
  obtain ⟨h23, h7⟩ := IntOp.andi_eq_one.1 hj
  obtain ⟨h2, h3⟩ := IntOp.andi_eq_one.1 h23
  haveI : Subsingleton Cert.Pre_finite_arguments.S_.Idx := ⟨fun a b => funext fun k => k.elim0⟩
  have zero : ∃ r : ℝ, (0 : EReal) = r := ⟨0, rfl⟩
  refine ⟨fun k => real_of_all _ _ _ _ _ _ h2 _, fun k n => ?_, fun h => ?_⟩
  · unfold par; dsimp only
    split_ifs
    · exact real_of_all _ _ _ _ _ _ h3 _
    · exact zero
  · unfold par; dsimp only
    split_ifs
    · exact real_of_all _ _ _ _ _ _ h7 _
    · exact zero

end Cert.MixerRefIdeal.Mix

end
-- ==== Proof.Mixer.RefMask.lean ====
/- The reference, at an element: its mask, its distances and its slopes. -/
module

public import proofs.«01_k».proof.Proof.Mixer.Ref
public import proofs.«01_k».proof.Proof.Mixer.Word

@[expose] public section

set_option maxRecDepth 16384

noncomputable section

namespace Cert.MixerRefIdeal.Mix

open Cert.MixerRefIdeal Cert.MixerRefIdeal.Gen Cert.MixerRefIdeal.Read Cert.Half Cert.Mix Idealize.ShloMosaic Idealize.ShloMosaic.TcCoe Idealize.SL.Sem

variable (x0 : (⟨S16384x1024, .f32⟩ : BufTy).Contents (Elt Ideal)) (x1 : (⟨S16x1024, .f32⟩ : BufTy).Contents (Elt Ideal))
  (x2 : (⟨S2x6x1024, .f32⟩ : BufTy).Contents (Elt Ideal)) (x3 : (⟨S2x1024x4096, .f32⟩ : BufTy).Contents (Elt Ideal))
  (x4 : (⟨S2x4x128x128, .f32⟩ : BufTy).Contents (Elt Ideal)) (x5 : (⟨S2x512, .f32⟩ : BufTy).Contents (Elt Ideal))
  (x6 : (⟨S2x512x1024, .f32⟩ : BufTy).Contents (Elt Ideal)) (x7 : (⟨S2x16, .f32⟩ : BufTy).Contents (Elt Ideal))
  (x8 x9 : (⟨S2x1024x1024, .f32⟩ : BufTy).Contents (Elt Ideal))

theorem ofBool_ite (b : Bool) (P : Prop) [Decidable P] (h : b = true ↔ P) : BitVec.ofBool b = if P then 1#1 else 0#1 := by
  by_cases hp : P
  · rw [if_pos hp, h.2 hp]; rfl
  · rw [if_neg hp, Bool.eq_false_iff.2 (fun hb => hp (h.1 hb))]; rfl

/-- Which positions a position sees. -/
theorem mask (p s : Fin 16400) : val_main_v170 (F := Ideal) (ix2 p s) = if sees p.val s.val then 1#1 else 0#1 := by
  simp only [val_main_v155_apply, val_main_v156_apply, val_main_v157_apply, val_main_v158_apply, val_main_v159_apply, val_main_v160_apply, val_main_v161_apply, val_main_v162_apply, val_main_v163_apply, val_main_v164_apply, val_main_v165_apply, val_main_v166_apply, val_main_v167_apply, val_main_v168_apply, val_main_v169_apply, val_main_v170_apply, val_main_c_11_apply, val_main_c_12_apply, val_main_c_13_apply]
  show IntOp.andi (IntOp.cmpi .sge (BitVec.ofNat 32 p.val - BitVec.ofNat 32 s.val) 0#32) (IntOp.ori (IntOp.cmpi .slt (BitVec.ofNat 32 p.val - BitVec.ofNat 32 s.val) 128#32) (IntOp.cmpi .slt (BitVec.ofNat 32 s.val) 16#32)) = _
  have hp := p.isLt
  have hs := s.isLt
  have e1 : IntOp.cmpi .sge (BitVec.ofNat 32 p.val - BitVec.ofNat 32 s.val) 0#32 = if s.val ≤ p.val then 1#1 else 0#1 :=
    ofBool_ite _ _ (by rw [BitVec.sle_iff_toInt_le, toInt_diff _ _ (by omega) (by omega), show (0#32 : BitVec 32).toInt = 0 from rfl]; omega)
  have e2 : IntOp.cmpi .slt (BitVec.ofNat 32 p.val - BitVec.ofNat 32 s.val) 128#32 = if p.val < s.val + 128 then 1#1 else 0#1 :=
    ofBool_ite _ _ (by rw [BitVec.slt_iff_toInt_lt, toInt_diff _ _ (by omega) (by omega), show (128#32 : BitVec 32).toInt = 128 from rfl]; omega)
  have e3 : IntOp.cmpi .slt (BitVec.ofNat 32 s.val) 16#32 = if s.val < 16 then 1#1 else 0#1 :=
    ofBool_ite _ _ (by rw [BitVec.slt_iff_toInt_lt, toInt_small _ (by omega), show (16#32 : BitVec 32).toInt = 16 from rfl]; omega)
  rw [e1, e2, e3]
  unfold sees
  by_cases h1 : s.val ≤ p.val <;> by_cases h2 : p.val < s.val + 128 <;> by_cases h3 : s.val < 16 <;> simp [h1, h2, h3, IntOp.andi, IntOp.ori]

/-- How far back they lie. -/
theorem distf (p s : Fin 16400) (h : s.val ≤ p.val) : val_main_v172 (F := Ideal) (ix2 p s) = ((far p.val s.val : ℝ) : EReal) := by
  simp only [val_main_v155_apply, val_main_v156_apply, val_main_v157_apply, val_main_v158_apply, val_main_v159_apply, val_main_v160_apply, val_main_v161_apply, val_main_v162_apply, val_main_v163_apply, val_main_v171_apply, val_main_v172_apply, val_main_c_11_apply, val_main_c_14_apply, val_main_call0_v0_apply, val_main_call0_v1_apply, val_main_call0_v2_apply]
  show FloatOps.sitofp (F := Ideal) .f32 (Scalar.select (IntOp.cmpi .slt (BitVec.ofNat 32 s.val) 16#32) 0#32 (BitVec.ofNat 32 p.val - BitVec.ofNat 32 s.val)) = _
  have hp := p.isLt
  have hs := s.isLt
  have e3 : IntOp.cmpi .slt (BitVec.ofNat 32 s.val) 16#32 = if s.val < 16 then 1#1 else 0#1 :=
    ofBool_ite _ _ (by rw [BitVec.slt_iff_toInt_lt, toInt_small _ (by omega), show (16#32 : BitVec 32).toInt = 16 from rfl]; omega)
  rw [e3]
  unfold Cert.Mix.far Scalar.select
  by_cases h3 : s.val < 16
  · rw [if_pos h3, if_pos h3, show (if (1#1 : BitVec 1) = 1 then 0#32 else BitVec.ofNat 32 p.val - BitVec.ofNat 32 s.val) = 0#32 from if_pos rfl]
    show (((0#32 : BitVec 32).toInt : ℝ) : EReal) = _
    simp
  · rw [if_neg h3, if_neg h3, show (if (0#1 : BitVec 1) = 1 then 0#32 else BitVec.ofNat 32 p.val - BitVec.ofNat 32 s.val) = BitVec.ofNat 32 p.val - BitVec.ofNat 32 s.val from if_neg (by decide)]
    show (((BitVec.ofNat 32 p.val - BitVec.ofNat 32 s.val).toInt : ℝ) : EReal) = _
    rw [toInt_diff _ _ (by omega) (by omega)]
    push_cast [h]
    rfl

/-- The slopes. -/
theorem slp (h : Fin 16) : val_main_v182 (F := Ideal) (ix1 h) = ((steep h.val : ℝ) : EReal) := by
  simp only [val_main_v173_apply, val_main_v174_apply, val_main_v175_apply, val_main_v176_apply, val_main_v177_apply, val_main_v178_apply, val_main_v179_apply, val_main_v180_apply, val_main_v181_apply, val_main_v182_apply, val_main_c_15_apply, val_main_cst_16_apply, val_main_cst_17_apply, val_main_cst_18_apply]
  show Ideal.pow (Ideal.ofBits .f32 1073741824#32) (Ideal.div (Ideal.ofBits .f32 3238002688#32 * (((1#32 + BitVec.ofNat 32 h.val).toInt : ℝ) : EReal)) (Ideal.ofBits .f32 1098907648#32)) = _
  have hh := h.isLt
  have e2 : Ideal.ofBits .f32 1073741824#32 = ((2 : ℝ) : EReal) := by
    simp [Ideal.ofBits, Ideal.ieee]
    rw [← EReal.coe_mul]
    norm_num
  have e8 : Ideal.ofBits .f32 3238002688#32 = ((-8 : ℝ) : EReal) := by
    simp [Ideal.ofBits, Ideal.ieee]
    rw [← EReal.coe_mul]
    norm_num
  have e16 : Ideal.ofBits .f32 1098907648#32 = ((16 : ℝ) : EReal) := by
    simp [Ideal.ofBits, Ideal.ieee]
    rw [← EReal.coe_mul]
    norm_num
  rw [toInt_add1 _ (by omega), e2, e8, e16, ← EReal.coe_mul, div_real _ _ (by norm_num)]
  show ((Real.rpow 2 _ : ℝ) : EReal) = _
  unfold steep
  push_cast
  rw [show (-8 * ((h.val : ℝ) + 1)) / 16 = -((h.val : ℝ) + 1) / 2 by ring]
  rfl

end Cert.MixerRefIdeal.Mix

end
-- ==== Proof.Mixer.RefLogit.lean ====
/- The reference, at an element: its logits. -/
module

public import proofs.«01_k».proof.Proof.Mixer.RefMask

@[expose] public section

set_option maxRecDepth 16384

noncomputable section

namespace Cert.MixerRefIdeal.Mix

open Cert.MixerRefIdeal Cert.MixerRefIdeal.Gen Cert.MixerRefIdeal.Read Cert.Half Cert.Mix Idealize.ShloMosaic Idealize.ShloMosaic.TcCoe Idealize.SL.Sem

variable (x0 : (⟨S16384x1024, .f32⟩ : BufTy).Contents (Elt Ideal)) (x1 : (⟨S16x1024, .f32⟩ : BufTy).Contents (Elt Ideal))
  (x2 : (⟨S2x6x1024, .f32⟩ : BufTy).Contents (Elt Ideal)) (x3 : (⟨S2x1024x4096, .f32⟩ : BufTy).Contents (Elt Ideal))
  (x4 : (⟨S2x4x128x128, .f32⟩ : BufTy).Contents (Elt Ideal)) (x5 : (⟨S2x512, .f32⟩ : BufTy).Contents (Elt Ideal))
  (x6 : (⟨S2x512x1024, .f32⟩ : BufTy).Contents (Elt Ideal)) (x7 : (⟨S2x16, .f32⟩ : BufTy).Contents (Elt Ideal))
  (x8 x9 : (⟨S2x1024x1024, .f32⟩ : BufTy).Contents (Elt Ideal))

theorem eighth_eq : Ideal.ofBits .f32 1040187392#32 = ((1 / 8 : ℝ) : EReal) := by
  simp [Ideal.ofBits, Ideal.ieee]
  rw [← EReal.coe_mul]
  norm_num

theorem ninf_eq : Ideal.ofBits .f32 4286578688#32 = ⊥ := by
  simp [Ideal.ofBits, Ideal.ieee]

theorem e_ek (a b : Fin 4) (p s : Fin 16400) : ∀ d : Fin 64, idx_main_v23 (idx_main_v147 (lidx_main_v151 (idx_main_v152 (ix4 a b p s)) d)) = ix2 s ⟨1536 + (64 * a.val + d.val), by omega⟩ := fun d => by
  have hd := d.isLt
  have hs := s.isLt
  have ha := a.isLt
  have hb := b.isLt
  funext x
  match x with
  | ⟨0, _⟩ => exact Fin.ext (by show ((s.val * 4 + a.val) * 64 + d.val) / 256 = s.val; omega)
  | ⟨1, _⟩ => exact Fin.ext (by show 1536 + ((s.val * 4 + a.val) * 64 + d.val) % 256 = 1536 + (64 * a.val + d.val); omega)

theorem e_eq (a b : Fin 4) (p s : Fin 16400) : ∀ d : Fin 64, idx_main_v22 (idx_main_v146 (ridx_main_v151 (idx_main_v152 (ix4 a b p s)) d)) = ix2 p ⟨512 + (64 * (4 * a.val + b.val) + d.val), by omega⟩ := fun d => by
  have hd := d.isLt
  have hs := p.isLt
  have ha := a.isLt
  have hb := b.isLt
  funext x
  match x with
  | ⟨0, _⟩ => exact Fin.ext (by show (((p.val * 4 + a.val) * 4 + b.val) * 64 + d.val) / 1024 = p.val; omega)
  | ⟨1, _⟩ => exact Fin.ext (by show 512 + (((p.val * 4 + a.val) * 4 + b.val) * 64 + d.val) % 1024 = 512 + (64 * (4 * a.val + b.val) + d.val); omega)

theorem e_em (a b : Fin 4) (p s : Fin 16400) : idx_main_call1_v1 (ix4 a b p s) = ix2 p s := funext fun x => match x with | ⟨0, _⟩ => rfl | ⟨1, _⟩ => rfl

theorem e_ed (a b : Fin 4) (p s : Fin 16400) : idx_main_v186 (idx_main_v188 (ix4 a b p s)) = ix2 p s := funext fun x => match x with | ⟨0, _⟩ => rfl | ⟨1, _⟩ => rfl

theorem e_es (a b : Fin 4) (p s : Fin 16400) : idx_main_v183 (idx_main_v184 (idx_main_v187 (ix4 a b p s))) = ix1 ⟨4 * a.val + b.val, by omega⟩ := funext fun x => match x with
  | ⟨0, _⟩ => Fin.ext (by have ha := a.isLt; show a.val * 4 + b.val = 4 * a.val + b.val; omega)

/-- The logit of head `4 a + b` at a pair of positions. -/
theorem logit (hR : (par x0 x1 x2 x3 x4 x5 x6 x7 x8 x9).Real) (a b : Fin 4) (p s : Fin 16400) : val_main_v191 (F := Ideal) x0 x1 x2 x3 (ix4 a b p s)
    = if sees p.val s.val then (((par x0 x1 x2 x3 x4 x5 x6 x7 x8 x9).lg (4 * a.val + b.val) p.val s.val : ℝ) : EReal) else ⊥ := by
  have ha := a.isLt
  have hb := b.isLt
  simp only [val_main_v151_apply, val_main_v152_apply, val_main_v153_apply, val_main_v154_apply, val_main_v183_apply, val_main_v184_apply, val_main_v185_apply, val_main_v186_apply, val_main_v187_apply, val_main_v188_apply, val_main_v189_apply, val_main_v190_apply, val_main_v191_apply, val_main_cst_10_apply, val_main_cst_19_apply, val_main_call1_v0_apply, val_main_call1_v1_apply, val_main_call1_v2_apply, val_main_v146_apply, val_main_v147_apply, val_main_v22_apply, val_main_v23_apply]
  have ek := e_ek a b p s
  have eq := e_eq a b p s
  have em := e_em a b p s
  have ed := e_ed a b p s
  have es := e_es a b p s
  simp only [ek, eq]
  rw [em, ed, es, mask, slp]
  unfold Scalar.select
  by_cases h : sees p.val s.val
  · rw [if_pos h, if_pos h, if_pos (show (1#1 : BitVec 1) = 1 from rfl), distf _ _ h.1]
    simp only [proj x0 x1 x2 x3 x4 x5 x6 x7 x8 x9]
    have hq : ∀ d : Fin 64, (par x0 x1 x2 x3 x4 x5 x6 x7 x8 x9).pj p.val (512 + (64 * (4 * a.val + b.val) + d.val)) = ((((par x0 x1 x2 x3 x4 x5 x6 x7 x8 x9).Q p.val (64 * (4 * a.val + b.val) + d.val)).toReal : ℝ) : EReal) :=
      fun d => (coe_toReal_of ((par x0 x1 x2 x3 x4 x5 x6 x7 x8 x9).pj_real hR _ _)).symm
    have hk : ∀ d : Fin 64, (par x0 x1 x2 x3 x4 x5 x6 x7 x8 x9).pj s.val (1536 + (64 * a.val + d.val)) = ((((par x0 x1 x2 x3 x4 x5 x6 x7 x8 x9).K s.val (64 * a.val + d.val)).toReal : ℝ) : EReal) :=
      fun d => (coe_toReal_of ((par x0 x1 x2 x3 x4 x5 x6 x7 x8 x9).pj_real hR _ _)).symm
    simp only [hq, hk, ← EReal.coe_mul, coe_sum]
    show ((∑ d : Fin 64, ((par x0 x1 x2 x3 x4 x5 x6 x7 x8 x9).K s.val (64 * a.val + d.val)).toReal * ((par x0 x1 x2 x3 x4 x5 x6 x7 x8 x9).Q p.val (64 * (4 * a.val + b.val) + d.val)).toReal : ℝ) : EReal) * Ideal.ofBits .f32 1040187392#32 + (-((steep (4 * a.val + b.val) : ℝ) : EReal)) * ((far p.val s.val : ℝ) : EReal) = _
    rw [eighth_eq, ← EReal.coe_neg, ← EReal.coe_mul, ← EReal.coe_mul, ← EReal.coe_add]
    congr 1
    unfold Par.lg
    rw [show (4 * a.val + b.val) / 4 = a.val by omega]
    have : ∀ d : Fin 64, ((par x0 x1 x2 x3 x4 x5 x6 x7 x8 x9).K s.val (64 * a.val + d.val)).toReal * ((par x0 x1 x2 x3 x4 x5 x6 x7 x8 x9).Q p.val (64 * (4 * a.val + b.val) + d.val)).toReal
        = ((par x0 x1 x2 x3 x4 x5 x6 x7 x8 x9).Q p.val (64 * (4 * a.val + b.val) + d.val)).toReal * ((par x0 x1 x2 x3 x4 x5 x6 x7 x8 x9).K s.val (64 * a.val + d.val)).toReal := fun d => mul_comm _ _
    simp only [this]
    ring
  · rw [if_neg h, if_neg h, if_neg (show ¬(0#1 : BitVec 1) = 1 by decide)]
    exact ninf_eq

end Cert.MixerRefIdeal.Mix

end
-- ==== Proof.Mixer.RefU.lean ====
/- The reference, at an element: its pool. -/
module

public import proofs.«01_k».proof.Proof.Mixer.Ref
public import proofs.«01_k».proof.Proof.Mixer.Word

@[expose] public section

set_option maxRecDepth 16384

noncomputable section

namespace Cert.MixerRefIdeal.Mix

open Cert.MixerRefIdeal Cert.MixerRefIdeal.Gen Cert.MixerRefIdeal.Read Cert.Half Cert.Mix Idealize.ShloMosaic Idealize.ShloMosaic.TcCoe Idealize.SL.Sem

variable (x0 : (⟨S16384x1024, .f32⟩ : BufTy).Contents (Elt Ideal)) (x1 : (⟨S16x1024, .f32⟩ : BufTy).Contents (Elt Ideal))
  (x2 : (⟨S2x6x1024, .f32⟩ : BufTy).Contents (Elt Ideal)) (x3 : (⟨S2x1024x4096, .f32⟩ : BufTy).Contents (Elt Ideal))
  (x4 : (⟨S2x4x128x128, .f32⟩ : BufTy).Contents (Elt Ideal)) (x5 : (⟨S2x512, .f32⟩ : BufTy).Contents (Elt Ideal))
  (x6 : (⟨S2x512x1024, .f32⟩ : BufTy).Contents (Elt Ideal)) (x7 : (⟨S2x16, .f32⟩ : BufTy).Contents (Elt Ideal))
  (x8 x9 : (⟨S2x1024x1024, .f32⟩ : BufTy).Contents (Elt Ideal))

/-- The pool's input. -/
theorem u_at (p : Fin 16400) (c : Fin 512) : val_main_v21 (F := Ideal) x0 x1 x2 x3 (ix2 p c) = (par x0 x1 x2 x3 x4 x5 x6 x7 x8 x9).U p.val c.val := by
  have e : val_main_v21 (F := Ideal) x0 x1 x2 x3 (ix2 p c) = val_main_v20 (F := Ideal) x0 x1 x2 x3 (ix2 p ⟨c.val, by omega⟩) := by
    pointwise [val_main_v21]
  rw [e, proj x0 x1 x2 x3 x4 x5 x6 x7 x8 x9]
  rfl

end Cert.MixerRefIdeal.Mix

end
-- ==== Proof.Mixer.RefPool0.lean ====
/- The reference, at an element: its pool. -/
module

public import proofs.«01_k».proof.Proof.Mixer.RefU
public import proofs.«01_k».proof.Proof.Mixer.Ref
public import proofs.«01_k».proof.Proof.Mixer.Word

@[expose] public section

set_option maxRecDepth 16384

noncomputable section

namespace Cert.MixerRefIdeal.Mix

open Cert.MixerRefIdeal Cert.MixerRefIdeal.Gen Cert.MixerRefIdeal.Read Cert.Half Cert.Mix Idealize.ShloMosaic Idealize.ShloMosaic.TcCoe Idealize.SL.Sem

variable (x0 : (⟨S16384x1024, .f32⟩ : BufTy).Contents (Elt Ideal)) (x1 : (⟨S16x1024, .f32⟩ : BufTy).Contents (Elt Ideal))
  (x2 : (⟨S2x6x1024, .f32⟩ : BufTy).Contents (Elt Ideal)) (x3 : (⟨S2x1024x4096, .f32⟩ : BufTy).Contents (Elt Ideal))
  (x4 : (⟨S2x4x128x128, .f32⟩ : BufTy).Contents (Elt Ideal)) (x5 : (⟨S2x512, .f32⟩ : BufTy).Contents (Elt Ideal))
  (x6 : (⟨S2x512x1024, .f32⟩ : BufTy).Contents (Elt Ideal)) (x7 : (⟨S2x16, .f32⟩ : BufTy).Contents (Elt Ideal))
  (x8 x9 : (⟨S2x1024x1024, .f32⟩ : BufTy).Contents (Elt Ideal))

theorem pad0 (q : Fin 16401) (hq : 1 ≤ q.val) (e : Fin 128) :
    val_main_v39 (F := Ideal) x0 x1 x2 x3 (ix2 q e) = (par x0 x1 x2 x3 x4 x5 x6 x7 x8 x9).U (q.val - 1) (0 + e.val) := by
  have h : val_main_v39 (F := Ideal) x0 x1 x2 x3 (ix2 q e)
      = val_main_v21 (F := Ideal) x0 x1 x2 x3 (ix2 ⟨q.val - 1, by omega⟩ ⟨0 + e.val, by omega⟩) := by
    pointwise [val_main_v37, val_main_cst_2, val_main_v38, val_main_v39]
    rw [dif_neg (by omega)]
  rw [h, u_at x0 x1 x2 x3 x4 x5 x6 x7 x8 x9]

set_option maxHeartbeats 2000000 in
theorem group0 (p : Fin 16400) (hp : 16 ≤ p.val) (d : Fin 128) : val_main_v51 (F := Ideal) x0 x1 x2 x3 x4 (ix2 p d)
    = ∑ e : Fin 128, (par x0 x1 x2 x3 x4 x5 x6 x7 x8 x9).mix 0 p.val e * (par x0 x1 x2 x3 x4 x5 x6 x7 x8 x9).Wg 0 e d.val := by
  have h (e : Fin 128) : val_main_v48 (F := Ideal) x0 x1 x2 x3 (ix2 p e) = (par x0 x1 x2 x3 x4 x5 x6 x7 x8 x9).mix 0 p.val e := by
    pointwise [val_main_v33, val_main_v34, val_main_v35, val_main_v36, val_main_c, val_main_v37, val_main_c_3, val_main_v40, val_main_v41, val_main_v42, val_main_v43, val_main_v44, val_main_v45, val_main_v46, val_main_v47, val_main_v48]
    rw [count 2 p.val (by omega) hp p.isLt, u_at x0 x1 x2 x3 x4 x5 x6 x7 x8 x9]
    simp (disch := (show _ ≤ _; dsimp only; omega)) only [pad0 x0 x1 x2 x3 x4 x5 x6 x7 x8 x9]
    unfold Par.mix
    rw [show (2 : ℕ) ^ (0 + 1) = 2 from rfl, show ((2 : ℝ) ^ (0 + 1)) = ((2 : ℕ) : ℝ) by norm_num]
    simp only [show 1 + p.val - 1 = p.val by omega]
    simp only [Finset.sum_range_succ', Finset.sum_range_zero, zero_add, Nat.sub_zero, Nat.mul_zero, Nat.zero_add, Nat.reduceMul, Nat.reduceAdd]
  have h' : val_main_v51 (F := Ideal) x0 x1 x2 x3 x4 (ix2 p d)
      = ∑ e : Fin 128, val_main_v48 (F := Ideal) x0 x1 x2 x3 (ix2 p e) * x4 (ix4 1 0 e d) := by
    pointwise [val_main_v27, val_main_v28, val_main_v49, val_main_v50, val_main_v51]
  rw [h']
  simp only [h]
  refine Finset.sum_congr rfl fun e _ => ?_
  congr 1
  simp [par]

end Cert.MixerRefIdeal.Mix

end
-- ==== Proof.Mixer.RefPool1.lean ====
/- The reference, at an element: its pool. -/
module

public import proofs.«01_k».proof.Proof.Mixer.RefU
public import proofs.«01_k».proof.Proof.Mixer.Ref
public import proofs.«01_k».proof.Proof.Mixer.Word

@[expose] public section

set_option maxRecDepth 16384

noncomputable section

namespace Cert.MixerRefIdeal.Mix

open Cert.MixerRefIdeal Cert.MixerRefIdeal.Gen Cert.MixerRefIdeal.Read Cert.Half Cert.Mix Idealize.ShloMosaic Idealize.ShloMosaic.TcCoe Idealize.SL.Sem

variable (x0 : (⟨S16384x1024, .f32⟩ : BufTy).Contents (Elt Ideal)) (x1 : (⟨S16x1024, .f32⟩ : BufTy).Contents (Elt Ideal))
  (x2 : (⟨S2x6x1024, .f32⟩ : BufTy).Contents (Elt Ideal)) (x3 : (⟨S2x1024x4096, .f32⟩ : BufTy).Contents (Elt Ideal))
  (x4 : (⟨S2x4x128x128, .f32⟩ : BufTy).Contents (Elt Ideal)) (x5 : (⟨S2x512, .f32⟩ : BufTy).Contents (Elt Ideal))
  (x6 : (⟨S2x512x1024, .f32⟩ : BufTy).Contents (Elt Ideal)) (x7 : (⟨S2x16, .f32⟩ : BufTy).Contents (Elt Ideal))
  (x8 x9 : (⟨S2x1024x1024, .f32⟩ : BufTy).Contents (Elt Ideal))

theorem pad1 (q : Fin 16403) (hq : 3 ≤ q.val) (e : Fin 128) :
    val_main_v54 (F := Ideal) x0 x1 x2 x3 (ix2 q e) = (par x0 x1 x2 x3 x4 x5 x6 x7 x8 x9).U (q.val - 3) (128 + e.val) := by
  have h : val_main_v54 (F := Ideal) x0 x1 x2 x3 (ix2 q e)
      = val_main_v21 (F := Ideal) x0 x1 x2 x3 (ix2 ⟨q.val - 3, by omega⟩ ⟨128 + e.val, by omega⟩) := by
    pointwise [val_main_v52, val_main_cst_4, val_main_v53, val_main_v54]
    rw [dif_neg (by omega)]
  rw [h, u_at x0 x1 x2 x3 x4 x5 x6 x7 x8 x9]

set_option maxHeartbeats 2000000 in
theorem group1 (p : Fin 16400) (hp : 16 ≤ p.val) (d : Fin 128) : val_main_v70 (F := Ideal) x0 x1 x2 x3 x4 (ix2 p d)
    = ∑ e : Fin 128, (par x0 x1 x2 x3 x4 x5 x6 x7 x8 x9).mix 1 p.val e * (par x0 x1 x2 x3 x4 x5 x6 x7 x8 x9).Wg 1 e d.val := by
  have h (e : Fin 128) : val_main_v67 (F := Ideal) x0 x1 x2 x3 (ix2 p e) = (par x0 x1 x2 x3 x4 x5 x6 x7 x8 x9).mix 1 p.val e := by
    pointwise [val_main_v33, val_main_v34, val_main_v35, val_main_v36, val_main_c, val_main_v52, val_main_c_5, val_main_v55, val_main_v56, val_main_v57, val_main_v58, val_main_v59, val_main_v60, val_main_v61, val_main_v62, val_main_v63, val_main_v64, val_main_v65, val_main_v66, val_main_v67]
    rw [count 4 p.val (by omega) hp p.isLt, u_at x0 x1 x2 x3 x4 x5 x6 x7 x8 x9]
    simp (disch := (show _ ≤ _; dsimp only; omega)) only [pad1 x0 x1 x2 x3 x4 x5 x6 x7 x8 x9]
    unfold Par.mix
    rw [show (2 : ℕ) ^ (1 + 1) = 4 from rfl, show ((2 : ℝ) ^ (1 + 1)) = ((4 : ℕ) : ℝ) by norm_num]
    simp only [show 1 + p.val - 3 = p.val - 2 by omega, show 2 + p.val - 3 = p.val - 1 by omega, show 3 + p.val - 3 = p.val by omega]
    simp only [Finset.sum_range_succ', Finset.sum_range_zero, zero_add, Nat.sub_zero, Nat.mul_zero, Nat.zero_add, Nat.reduceMul, Nat.reduceAdd]
  have h' : val_main_v70 (F := Ideal) x0 x1 x2 x3 x4 (ix2 p d)
      = ∑ e : Fin 128, val_main_v67 (F := Ideal) x0 x1 x2 x3 (ix2 p e) * x4 (ix4 1 1 e d) := by
    pointwise [val_main_v27, val_main_v28, val_main_v68, val_main_v69, val_main_v70]
  rw [h']
  simp only [h]
  refine Finset.sum_congr rfl fun e _ => ?_
  congr 1
  simp [par]

end Cert.MixerRefIdeal.Mix

end
-- ==== Proof.Mixer.RefPool2.lean ====
/- The reference, at an element: its pool. -/
module

public import proofs.«01_k».proof.Proof.Mixer.RefU
public import proofs.«01_k».proof.Proof.Mixer.Ref
public import proofs.«01_k».proof.Proof.Mixer.Word

@[expose] public section

set_option maxRecDepth 16384

noncomputable section

namespace Cert.MixerRefIdeal.Mix

open Cert.MixerRefIdeal Cert.MixerRefIdeal.Gen Cert.MixerRefIdeal.Read Cert.Half Cert.Mix Idealize.ShloMosaic Idealize.ShloMosaic.TcCoe Idealize.SL.Sem

variable (x0 : (⟨S16384x1024, .f32⟩ : BufTy).Contents (Elt Ideal)) (x1 : (⟨S16x1024, .f32⟩ : BufTy).Contents (Elt Ideal))
  (x2 : (⟨S2x6x1024, .f32⟩ : BufTy).Contents (Elt Ideal)) (x3 : (⟨S2x1024x4096, .f32⟩ : BufTy).Contents (Elt Ideal))
  (x4 : (⟨S2x4x128x128, .f32⟩ : BufTy).Contents (Elt Ideal)) (x5 : (⟨S2x512, .f32⟩ : BufTy).Contents (Elt Ideal))
  (x6 : (⟨S2x512x1024, .f32⟩ : BufTy).Contents (Elt Ideal)) (x7 : (⟨S2x16, .f32⟩ : BufTy).Contents (Elt Ideal))
  (x8 x9 : (⟨S2x1024x1024, .f32⟩ : BufTy).Contents (Elt Ideal))

theorem pad2 (q : Fin 16407) (hq : 7 ≤ q.val) (e : Fin 128) :
    val_main_v73 (F := Ideal) x0 x1 x2 x3 (ix2 q e) = (par x0 x1 x2 x3 x4 x5 x6 x7 x8 x9).U (q.val - 7) (256 + e.val) := by
  have h : val_main_v73 (F := Ideal) x0 x1 x2 x3 (ix2 q e)
      = val_main_v21 (F := Ideal) x0 x1 x2 x3 (ix2 ⟨q.val - 7, by omega⟩ ⟨256 + e.val, by omega⟩) := by
    pointwise [val_main_v71, val_main_cst_6, val_main_v72, val_main_v73]
    rw [dif_neg (by omega)]
  rw [h, u_at x0 x1 x2 x3 x4 x5 x6 x7 x8 x9]

set_option maxHeartbeats 2000000 in
theorem group2 (p : Fin 16400) (hp : 16 ≤ p.val) (d : Fin 128) : val_main_v97 (F := Ideal) x0 x1 x2 x3 x4 (ix2 p d)
    = ∑ e : Fin 128, (par x0 x1 x2 x3 x4 x5 x6 x7 x8 x9).mix 2 p.val e * (par x0 x1 x2 x3 x4 x5 x6 x7 x8 x9).Wg 2 e d.val := by
  have h (e : Fin 128) : val_main_v94 (F := Ideal) x0 x1 x2 x3 (ix2 p e) = (par x0 x1 x2 x3 x4 x5 x6 x7 x8 x9).mix 2 p.val e := by
    pointwise [val_main_v33, val_main_v34, val_main_v35, val_main_v36, val_main_c, val_main_v71, val_main_c_7, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94]
    rw [count 8 p.val (by omega) hp p.isLt, u_at x0 x1 x2 x3 x4 x5 x6 x7 x8 x9]
    simp (disch := (show _ ≤ _; dsimp only; omega)) only [pad2 x0 x1 x2 x3 x4 x5 x6 x7 x8 x9]
    unfold Par.mix
    rw [show (2 : ℕ) ^ (2 + 1) = 8 from rfl, show ((2 : ℝ) ^ (2 + 1)) = ((8 : ℕ) : ℝ) by norm_num]
    simp only [show 1 + p.val - 7 = p.val - 6 by omega, show 2 + p.val - 7 = p.val - 5 by omega, show 3 + p.val - 7 = p.val - 4 by omega, show 4 + p.val - 7 = p.val - 3 by omega, show 5 + p.val - 7 = p.val - 2 by omega, show 6 + p.val - 7 = p.val - 1 by omega, show 7 + p.val - 7 = p.val by omega]
    simp only [Finset.sum_range_succ', Finset.sum_range_zero, zero_add, Nat.sub_zero, Nat.mul_zero, Nat.zero_add, Nat.reduceMul, Nat.reduceAdd]
  have h' : val_main_v97 (F := Ideal) x0 x1 x2 x3 x4 (ix2 p d)
      = ∑ e : Fin 128, val_main_v94 (F := Ideal) x0 x1 x2 x3 (ix2 p e) * x4 (ix4 1 2 e d) := by
    pointwise [val_main_v27, val_main_v28, val_main_v95, val_main_v96, val_main_v97]
  rw [h']
  simp only [h]
  refine Finset.sum_congr rfl fun e _ => ?_
  congr 1
  simp [par]

end Cert.MixerRefIdeal.Mix

end
-- ==== Proof.Mixer.RefPool3.lean ====
/- The reference, at an element: its pool. -/
module

public import proofs.«01_k».proof.Proof.Mixer.RefU
public import proofs.«01_k».proof.Proof.Mixer.Ref
public import proofs.«01_k».proof.Proof.Mixer.Word

@[expose] public section

set_option maxRecDepth 16384

noncomputable section

namespace Cert.MixerRefIdeal.Mix

open Cert.MixerRefIdeal Cert.MixerRefIdeal.Gen Cert.MixerRefIdeal.Read Cert.Half Cert.Mix Idealize.ShloMosaic Idealize.ShloMosaic.TcCoe Idealize.SL.Sem

variable (x0 : (⟨S16384x1024, .f32⟩ : BufTy).Contents (Elt Ideal)) (x1 : (⟨S16x1024, .f32⟩ : BufTy).Contents (Elt Ideal))
  (x2 : (⟨S2x6x1024, .f32⟩ : BufTy).Contents (Elt Ideal)) (x3 : (⟨S2x1024x4096, .f32⟩ : BufTy).Contents (Elt Ideal))
  (x4 : (⟨S2x4x128x128, .f32⟩ : BufTy).Contents (Elt Ideal)) (x5 : (⟨S2x512, .f32⟩ : BufTy).Contents (Elt Ideal))
  (x6 : (⟨S2x512x1024, .f32⟩ : BufTy).Contents (Elt Ideal)) (x7 : (⟨S2x16, .f32⟩ : BufTy).Contents (Elt Ideal))
  (x8 x9 : (⟨S2x1024x1024, .f32⟩ : BufTy).Contents (Elt Ideal))

theorem pad3 (q : Fin 16415) (hq : 15 ≤ q.val) (e : Fin 128) :
    val_main_v100 (F := Ideal) x0 x1 x2 x3 (ix2 q e) = (par x0 x1 x2 x3 x4 x5 x6 x7 x8 x9).U (q.val - 15) (384 + e.val) := by
  have h : val_main_v100 (F := Ideal) x0 x1 x2 x3 (ix2 q e)
      = val_main_v21 (F := Ideal) x0 x1 x2 x3 (ix2 ⟨q.val - 15, by omega⟩ ⟨384 + e.val, by omega⟩) := by
    pointwise [val_main_v98, val_main_cst_8, val_main_v99, val_main_v100]
    rw [dif_neg (by omega)]
  rw [h, u_at x0 x1 x2 x3 x4 x5 x6 x7 x8 x9]

/-- One row of the window. -/
theorem tap3 (p : Fin 16400) (e : Fin 128) (k : ℕ) (hk : 15 ≤ k + p.val) (q : S16415x128.Idx) (h0 : (q 0).val = k + p.val) (h1 : (q 1).val = e.val) :
    val_main_v100 (F := Ideal) x0 x1 x2 x3 q = (par x0 x1 x2 x3 x4 x5 x6 x7 x8 x9).U (k + p.val - 15) (384 + e.val) := by
  obtain ⟨a, ha⟩ : ∃ a : Fin 16415, a.val = (q 0).val := ⟨⟨(q 0).val, (q 0).isLt⟩, rfl⟩
  have e' : q = ix2 a e := funext fun x => match x with
    | ⟨0, _⟩ => Fin.ext ha.symm
    | ⟨1, _⟩ => Fin.ext h1
  rw [e', pad3 x0 x1 x2 x3 x4 x5 x6 x7 x8 x9 a (by omega) e, ha, h0]

/-- The window's sum. -/
theorem sum3 (p : Fin 16400) (hp : 16 ≤ p.val) (e : Fin 128) :
    val_main_v131 (F := Ideal) x0 x1 x2 x3 (ix2 p e) = ∑ j ∈ Finset.range 16, (par x0 x1 x2 x3 x4 x5 x6 x7 x8 x9).U (p.val - j) (384 + e.val) := by
  have z (a b : EReal) : FloatOps.addf (F := Ideal) (φ := .f32) a b = a + b := rfl
  rw [val_main_v131_apply, val_main_v130_apply, val_main_v129_apply, val_main_v128_apply, val_main_v127_apply, val_main_v126_apply, val_main_v125_apply, val_main_v124_apply, val_main_v123_apply, val_main_v122_apply, val_main_v121_apply, val_main_v120_apply, val_main_v119_apply, val_main_v118_apply, val_main_v117_apply]
  rw [val_main_v101_apply, tap3 x0 x1 x2 x3 x4 x5 x6 x7 x8 x9 p e 0 (by omega) (idx_main_v101 (ix2 p e)) (by first | rfl | exact (Nat.zero_add _).symm) rfl]
  rw [val_main_v102_apply, tap3 x0 x1 x2 x3 x4 x5 x6 x7 x8 x9 p e 1 (by omega) (idx_main_v102 (ix2 p e)) (by first | rfl | exact (Nat.zero_add _).symm) rfl]
  rw [val_main_v103_apply, tap3 x0 x1 x2 x3 x4 x5 x6 x7 x8 x9 p e 2 (by omega) (idx_main_v103 (ix2 p e)) (by first | rfl | exact (Nat.zero_add _).symm) rfl]
  rw [val_main_v104_apply, tap3 x0 x1 x2 x3 x4 x5 x6 x7 x8 x9 p e 3 (by omega) (idx_main_v104 (ix2 p e)) (by first | rfl | exact (Nat.zero_add _).symm) rfl]
  rw [val_main_v105_apply, tap3 x0 x1 x2 x3 x4 x5 x6 x7 x8 x9 p e 4 (by omega) (idx_main_v105 (ix2 p e)) (by first | rfl | exact (Nat.zero_add _).symm) rfl]
  rw [val_main_v106_apply, tap3 x0 x1 x2 x3 x4 x5 x6 x7 x8 x9 p e 5 (by omega) (idx_main_v106 (ix2 p e)) (by first | rfl | exact (Nat.zero_add _).symm) rfl]
  rw [val_main_v107_apply, tap3 x0 x1 x2 x3 x4 x5 x6 x7 x8 x9 p e 6 (by omega) (idx_main_v107 (ix2 p e)) (by first | rfl | exact (Nat.zero_add _).symm) rfl]
  rw [val_main_v108_apply, tap3 x0 x1 x2 x3 x4 x5 x6 x7 x8 x9 p e 7 (by omega) (idx_main_v108 (ix2 p e)) (by first | rfl | exact (Nat.zero_add _).symm) rfl]
  rw [val_main_v109_apply, tap3 x0 x1 x2 x3 x4 x5 x6 x7 x8 x9 p e 8 (by omega) (idx_main_v109 (ix2 p e)) (by first | rfl | exact (Nat.zero_add _).symm) rfl]
  rw [val_main_v110_apply, tap3 x0 x1 x2 x3 x4 x5 x6 x7 x8 x9 p e 9 (by omega) (idx_main_v110 (ix2 p e)) (by first | rfl | exact (Nat.zero_add _).symm) rfl]
  rw [val_main_v111_apply, tap3 x0 x1 x2 x3 x4 x5 x6 x7 x8 x9 p e 10 (by omega) (idx_main_v111 (ix2 p e)) (by first | rfl | exact (Nat.zero_add _).symm) rfl]
  rw [val_main_v112_apply, tap3 x0 x1 x2 x3 x4 x5 x6 x7 x8 x9 p e 11 (by omega) (idx_main_v112 (ix2 p e)) (by first | rfl | exact (Nat.zero_add _).symm) rfl]
  rw [val_main_v113_apply, tap3 x0 x1 x2 x3 x4 x5 x6 x7 x8 x9 p e 12 (by omega) (idx_main_v113 (ix2 p e)) (by first | rfl | exact (Nat.zero_add _).symm) rfl]
  rw [val_main_v114_apply, tap3 x0 x1 x2 x3 x4 x5 x6 x7 x8 x9 p e 13 (by omega) (idx_main_v114 (ix2 p e)) (by first | rfl | exact (Nat.zero_add _).symm) rfl]
  rw [val_main_v115_apply, tap3 x0 x1 x2 x3 x4 x5 x6 x7 x8 x9 p e 14 (by omega) (idx_main_v115 (ix2 p e)) (by first | rfl | exact (Nat.zero_add _).symm) rfl]
  rw [val_main_v116_apply, tap3 x0 x1 x2 x3 x4 x5 x6 x7 x8 x9 p e 15 (by omega) (idx_main_v116 (ix2 p e)) (by first | rfl | exact (Nat.zero_add _).symm) rfl]
  simp only [z, show 0 + p.val - 15 = p.val - 15 by omega, show 1 + p.val - 15 = p.val - 14 by omega, show 2 + p.val - 15 = p.val - 13 by omega, show 3 + p.val - 15 = p.val - 12 by omega, show 4 + p.val - 15 = p.val - 11 by omega, show 5 + p.val - 15 = p.val - 10 by omega, show 6 + p.val - 15 = p.val - 9 by omega, show 7 + p.val - 15 = p.val - 8 by omega, show 8 + p.val - 15 = p.val - 7 by omega, show 9 + p.val - 15 = p.val - 6 by omega, show 10 + p.val - 15 = p.val - 5 by omega, show 11 + p.val - 15 = p.val - 4 by omega, show 12 + p.val - 15 = p.val - 3 by omega, show 13 + p.val - 15 = p.val - 2 by omega, show 14 + p.val - 15 = p.val - 1 by omega, show 15 + p.val - 15 = p.val - 0 by omega]
  simp only [Finset.sum_range_succ', Finset.sum_range_zero, zero_add, Nat.reduceAdd]

theorem mix3 (p : Fin 16400) (hp : 16 ≤ p.val) (e : Fin 128) : val_main_v137 (F := Ideal) x0 x1 x2 x3 (ix2 p e) = (par x0 x1 x2 x3 x4 x5 x6 x7 x8 x9).mix 3 p.val e := by
  have hc : val_main_v135 (F := Ideal) (ix2 p e) = (((16 : ℕ) : ℝ) : EReal) := by
    rw [← count 16 p.val (by omega) hp p.isLt]
    pointwise [val_main_v33, val_main_v34, val_main_v35, val_main_v36, val_main_c, val_main_c_9, val_main_v132, val_main_v133, val_main_v134, val_main_v135]
  have hu : val_main_v98 (F := Ideal) x0 x1 x2 x3 (ix2 p e) = (par x0 x1 x2 x3 x4 x5 x6 x7 x8 x9).U p.val (384 + e.val) := by
    have h : val_main_v98 (F := Ideal) x0 x1 x2 x3 (ix2 p e) = val_main_v21 (F := Ideal) x0 x1 x2 x3 (ix2 p ⟨384 + e.val, by omega⟩) := by pointwise [val_main_v98]
    rw [h, u_at x0 x1 x2 x3 x4 x5 x6 x7 x8 x9]
  rw [val_main_v137_apply, val_main_v136_apply, sum3 x0 x1 x2 x3 x4 x5 x6 x7 x8 x9 p hp e, hc, hu]
  unfold Par.mix
  rw [show (2 : ℕ) ^ (3 + 1) = 16 from rfl, show ((2 : ℝ) ^ (3 + 1)) = ((16 : ℕ) : ℝ) by norm_num]
  rfl

theorem group3 (p : Fin 16400) (hp : 16 ≤ p.val) (d : Fin 128) : val_main_v140 (F := Ideal) x0 x1 x2 x3 x4 (ix2 p d)
    = ∑ e : Fin 128, (par x0 x1 x2 x3 x4 x5 x6 x7 x8 x9).mix 3 p.val e * (par x0 x1 x2 x3 x4 x5 x6 x7 x8 x9).Wg 3 e d.val := by
  have h (e : Fin 128) : val_main_v137 (F := Ideal) x0 x1 x2 x3 (ix2 p e) = (par x0 x1 x2 x3 x4 x5 x6 x7 x8 x9).mix 3 p.val e := mix3 x0 x1 x2 x3 x4 x5 x6 x7 x8 x9 p hp e
  have h' : val_main_v140 (F := Ideal) x0 x1 x2 x3 x4 (ix2 p d)
      = ∑ e : Fin 128, val_main_v137 (F := Ideal) x0 x1 x2 x3 (ix2 p e) * x4 (ix4 1 3 e d) := by
    pointwise [val_main_v27, val_main_v28, val_main_v138, val_main_v139, val_main_v140]
  rw [h']
  simp only [h]
  refine Finset.sum_congr rfl fun e _ => ?_
  congr 1
  simp [par]

end Cert.MixerRefIdeal.Mix

end
-- ==== Proof.Mixer.RefPool.lean ====
/- The reference, at an element: its pool. -/
module

public import proofs.«01_k».proof.Proof.Mixer.RefPool0
public import proofs.«01_k».proof.Proof.Mixer.RefPool1
public import proofs.«01_k».proof.Proof.Mixer.RefPool2
public import proofs.«01_k».proof.Proof.Mixer.RefPool3
public import proofs.«01_k».proof.Proof.Mixer.Ref
public import proofs.«01_k».proof.Proof.Mixer.Word

@[expose] public section

set_option maxRecDepth 16384

noncomputable section

namespace Cert.MixerRefIdeal.Mix

open Cert.MixerRefIdeal Cert.MixerRefIdeal.Gen Cert.MixerRefIdeal.Read Cert.Half Cert.Mix Idealize.ShloMosaic Idealize.ShloMosaic.TcCoe Idealize.SL.Sem

variable (x0 : (⟨S16384x1024, .f32⟩ : BufTy).Contents (Elt Ideal)) (x1 : (⟨S16x1024, .f32⟩ : BufTy).Contents (Elt Ideal))
  (x2 : (⟨S2x6x1024, .f32⟩ : BufTy).Contents (Elt Ideal)) (x3 : (⟨S2x1024x4096, .f32⟩ : BufTy).Contents (Elt Ideal))
  (x4 : (⟨S2x4x128x128, .f32⟩ : BufTy).Contents (Elt Ideal)) (x5 : (⟨S2x512, .f32⟩ : BufTy).Contents (Elt Ideal))
  (x6 : (⟨S2x512x1024, .f32⟩ : BufTy).Contents (Elt Ideal)) (x7 : (⟨S2x16, .f32⟩ : BufTy).Contents (Elt Ideal))
  (x8 x9 : (⟨S2x1024x1024, .f32⟩ : BufTy).Contents (Elt Ideal))

/-- The four groups side by side. -/
theorem joined (p : Fin 16400) (hp : 16 ≤ p.val) (i : Fin 512) : val_main_v141 (F := Ideal) x0 x1 x2 x3 x4 (ix2 p i)
    = ∑ e : Fin 128, (par x0 x1 x2 x3 x4 x5 x6 x7 x8 x9).mix (i.val / 128) p.val e * (par x0 x1 x2 x3 x4 x5 x6 x7 x8 x9).Wg (i.val / 128) e (i.val % 128) := by
  have hi := i.isLt
  have h0 := group0 x0 x1 x2 x3 x4 x5 x6 x7 x8 x9 p hp
  have h1 := group1 x0 x1 x2 x3 x4 x5 x6 x7 x8 x9 p hp
  have h2 := group2 x0 x1 x2 x3 x4 x5 x6 x7 x8 x9 p hp
  have h3 := group3 x0 x1 x2 x3 x4 x5 x6 x7 x8 x9 p hp
  unfold val_main_v141
  generalize val_main_v51 (F := Ideal) x0 x1 x2 x3 x4 = G0 at *
  generalize val_main_v70 (F := Ideal) x0 x1 x2 x3 x4 = G1 at *
  generalize val_main_v97 (F := Ideal) x0 x1 x2 x3 x4 = G2 at *
  generalize val_main_v140 (F := Ideal) x0 x1 x2 x3 x4 = G3 at *
  rcases (by omega : i.val / 128 = 0 ∨ i.val / 128 = 1 ∨ i.val / 128 = 2 ∨ i.val / 128 = 3) with h | h | h | h <;> rw [h]
  · refine Eq.trans ?_ (h0 ⟨i.val % 128, by omega⟩)
    pointwise []
    simp (disch := omega) only [dif_pos, dif_neg]
    congr 3; omega
  · refine Eq.trans ?_ (h1 ⟨i.val % 128, by omega⟩)
    pointwise []
    simp (disch := omega) only [dif_pos, dif_neg]
    congr 3; omega
  · refine Eq.trans ?_ (h2 ⟨i.val % 128, by omega⟩)
    pointwise []
    simp (disch := omega) only [dif_pos, dif_neg]
    congr 3; omega
  · refine Eq.trans ?_ (h3 ⟨i.val % 128, by omega⟩)
    pointwise []
    simp (disch := omega) only [dif_pos, dif_neg]
    congr 3; omega

/-- The pool's part of the merge. -/
theorem pooled (p : Fin 16400) (hp : 16 ≤ p.val) (c : Fin 1024) : val_main_v145 (F := Ideal) x0 x1 x2 x3 x4 x5 x6 (ix2 p c) = (par x0 x1 x2 x3 x4 x5 x6 x7 x8 x9).pool p.val c := by
  have h : val_main_v145 (F := Ideal) x0 x1 x2 x3 x4 x5 x6 (ix2 p c)
      = ∑ i : Fin 512, val_main_v141 (F := Ideal) x0 x1 x2 x3 x4 (ix2 p i) * x5 (ix2 1 i) * x6 (ix3 1 i c) := by
    have h5 (i : Fin 512) : val_main_v144 (F := Ideal) x0 x1 x2 x3 x4 x5 (ix2 p i) = val_main_v141 (F := Ideal) x0 x1 x2 x3 x4 (ix2 p i) * x5 (ix2 1 i) := by
      unfold val_main_v144
      generalize val_main_v141 (F := Ideal) x0 x1 x2 x3 x4 = y
      pointwise [val_main_v29, val_main_v30, val_main_v142, val_main_v143]
    simp only [← h5]
    unfold val_main_v145
    generalize val_main_v144 (F := Ideal) x0 x1 x2 x3 x4 x5 = y
    pointwise [val_main_v31, val_main_v32]
  rw [h]
  unfold Par.pool
  refine Finset.sum_congr rfl fun i _ => ?_
  rw [joined x0 x1 x2 x3 x4 x5 x6 x7 x8 x9 p hp i]
  congr 2

end Cert.MixerRefIdeal.Mix

end
-- ==== Proof.Mixer.RefSoft.lean ====
/- The reference, at an element: its softmax and its result. -/
module

public import proofs.«01_k».proof.Proof.Mixer.RefLogit
public import proofs.«01_k».proof.Proof.Mixer.RefPool

@[expose] public section

set_option maxRecDepth 16384

noncomputable section

namespace Cert.MixerRefIdeal.Mix

open Cert.MixerRefIdeal Cert.MixerRefIdeal.Gen Cert.MixerRefIdeal.Read Cert.Half Cert.Mix Idealize.ShloMosaic Idealize.ShloMosaic.TcCoe Idealize.SL.Sem

variable (x0 : (⟨S16384x1024, .f32⟩ : BufTy).Contents (Elt Ideal)) (x1 : (⟨S16x1024, .f32⟩ : BufTy).Contents (Elt Ideal))
  (x2 : (⟨S2x6x1024, .f32⟩ : BufTy).Contents (Elt Ideal)) (x3 : (⟨S2x1024x4096, .f32⟩ : BufTy).Contents (Elt Ideal))
  (x4 : (⟨S2x4x128x128, .f32⟩ : BufTy).Contents (Elt Ideal)) (x5 : (⟨S2x512, .f32⟩ : BufTy).Contents (Elt Ideal))
  (x6 : (⟨S2x512x1024, .f32⟩ : BufTy).Contents (Elt Ideal)) (x7 : (⟨S2x16, .f32⟩ : BufTy).Contents (Elt Ideal))
  (x8 x9 : (⟨S2x1024x1024, .f32⟩ : BufTy).Contents (Elt Ideal))

theorem zero_bits : (FloatOps.ofBits .f32 0#32 : Ideal .f32) = (0 : EReal) := by
  show Ideal.ofBits .f32 0#32 = 0
  simp [Ideal.ofBits, Ideal.ieee]

/-- The largest logit, the sink's included, is a real number. -/
theorem vmx (hR : (par x0 x1 x2 x3 x4 x5 x6 x7 x8 x9).Real) (a b : Fin 4) (p : Fin 16400) (s : ℝ) :
    ∃ M : ℝ, max (val_main_v193 (F := Ideal) x0 x1 x2 x3 (ix3 a b p)) (s : EReal) = M := by
  have h : val_main_v193 (F := Ideal) x0 x1 x2 x3 (ix3 a b p) = Finset.univ.fold max ⊥ fun s : Fin 16400 => val_main_v191 (F := Ideal) x0 x1 x2 x3 (ix4 a b p s) := by
    unfold val_main_v193
    generalize val_main_v191 (F := Ideal) x0 x1 x2 x3 = L
    refine (Host.reduce_eq_fold (FloatOps.maximumf (F := Ideal) (φ := .f32)) L _ _ _ _).trans ?_
    refine (Shape.ReducesTo.fold_fiber_r4_a3 _ _ _ _ _).trans ?_
    rw [val_main_cst_20_apply]
    exact congrArg (fun z => Finset.univ.fold max z fun s : Fin 16400 => L (ix4 a b p s)) ninf_eq
  rw [h]
  refine top_real _ (fun k => ?_) s
  rw [logit x0 x1 x2 x3 x4 x5 x6 x7 x8 x9 hR]
  split_ifs
  · exact EReal.coe_ne_top _
  · exact bot_ne_top

theorem sink_at (hR : (par x0 x1 x2 x3 x4 x5 x6 x7 x8 x9).Real) (h : Fin 16) : val_main_v150 (F := Ideal) x7 (ix1 h) = ((((par x0 x1 x2 x3 x4 x5 x6 x7 x8 x9).sink h.val).toReal : ℝ) : EReal) := by
  rw [coe_toReal_of (hR.sink h.val), val_main_v150_apply, val_main_v149_apply]
  have hh := h.isLt
  have e : idx_main_v149 (idx_main_v150 (ix1 h)) = ix2 1 h := funext fun x => match x with
    | ⟨0, _⟩ => rfl
    | ⟨1, _⟩ => Fin.ext (by show h.val % 16 = h.val; omega)
  rw [e]
  simp [par]

theorem v_at (p : Fin 16400) (a : Fin 4) (d : Fin 64) : val_main_v148 (F := Ideal) x0 x1 x2 x3 (ix3 p a d) = (par x0 x1 x2 x3 x4 x5 x6 x7 x8 x9).V p.val (64 * a.val + d.val) := by
  have hp := p.isLt
  have ha := a.isLt
  have hd := d.isLt
  rw [val_main_v148_apply, val_main_v24_apply]
  have e : idx_main_v24 (idx_main_v148 (ix3 p a d)) = ix2 p ⟨1792 + (64 * a.val + d.val), by omega⟩ := funext fun x => match x with
    | ⟨0, _⟩ => Fin.ext (by show ((p.val * 4 + a.val) * 64 + d.val) / 256 = p.val; omega)
    | ⟨1, _⟩ => Fin.ext (by show 1792 + ((p.val * 4 + a.val) * 64 + d.val) % 256 = 1792 + (64 * a.val + d.val); omega)
  rw [e, proj x0 x1 x2 x3 x4 x5 x6 x7 x8 x9]
  rfl

/-- The weights of a head at a position, divided. -/
theorem weight (hR : (par x0 x1 x2 x3 x4 x5 x6 x7 x8 x9).Real) (a b : Fin 4) (p : Fin 16400) : ∃ M : EReal, (∃ x : ℝ, M = x) ∧ ∀ s : Fin 16400,
    val_main_v207 (F := Ideal) x0 x1 x2 x3 x7 (ix4 a b p s)
      = Ideal.div (Ideal.exp (val_main_v191 (F := Ideal) x0 x1 x2 x3 (ix4 a b p s) - M))
        (∑ s : Fin 16400, Ideal.exp (val_main_v191 (F := Ideal) x0 x1 x2 x3 (ix4 a b p s) - M)
          + Ideal.exp (((((par x0 x1 x2 x3 x4 x5 x6 x7 x8 x9).sink (4 * a.val + b.val)).toReal : ℝ) : EReal) - M)) := by
  have ha := a.isLt
  have hb := b.isLt
  have hs : val_main_v192 (F := Ideal) x7 (ix4 a b 0 0) = ((((par x0 x1 x2 x3 x4 x5 x6 x7 x8 x9).sink (4 * a.val + b.val)).toReal : ℝ) : EReal) := by
    rw [val_main_v192_apply, ← sink_at x0 x1 x2 x3 x4 x5 x6 x7 x8 x9 hR ⟨4 * a.val + b.val, by omega⟩]
    congr 1
    exact funext fun x => match x with
      | ⟨0, _⟩ => Fin.ext (by show ((a.val * 4 + b.val) * 1 + 0) * 1 + 0 = 4 * a.val + b.val; omega)
  have hM : val_main_v196 (F := Ideal) x0 x1 x2 x3 x7 (ix4 a b p 0)
      = max (val_main_v193 (F := Ideal) x0 x1 x2 x3 (ix3 a b p)) ((((par x0 x1 x2 x3 x4 x5 x6 x7 x8 x9).sink (4 * a.val + b.val)).toReal : ℝ) : EReal) := by
    rw [val_main_v196_apply, val_main_v194_apply, val_main_v195_apply, ← hs]
    have e1 : idx_main_v194 (ix4 a b p 0) = ix3 a b p := funext fun x => match x with | ⟨0, _⟩ => rfl | ⟨1, _⟩ => rfl | ⟨2, _⟩ => rfl
    have e2 : idx_main_v195 (ix4 a b p 0) = ix4 a b 0 0 := funext fun x => match x with | ⟨0, _⟩ => rfl | ⟨1, _⟩ => rfl | ⟨2, _⟩ => rfl | ⟨3, _⟩ => rfl
    rw [e1, e2]
    rfl
  refine ⟨val_main_v196 (F := Ideal) x0 x1 x2 x3 x7 (ix4 a b p 0), ?_, fun s => ?_⟩
  · rw [hM]
    exact vmx x0 x1 x2 x3 x4 x5 x6 x7 x8 x9 hR a b p _
  · have e99 (s : Fin 16400) : val_main_v199 (F := Ideal) x0 x1 x2 x3 x7 (ix4 a b p s)
        = Ideal.exp (val_main_v191 (F := Ideal) x0 x1 x2 x3 (ix4 a b p s) - val_main_v196 (F := Ideal) x0 x1 x2 x3 x7 (ix4 a b p 0)) := by
      rw [val_main_v199_apply, val_main_v198_apply, val_main_v197_apply]
      have e : idx_main_v197 (ix4 a b p s) = ix4 a b p 0 := funext fun x => match x with | ⟨0, _⟩ => rfl | ⟨1, _⟩ => rfl | ⟨2, _⟩ => rfl | ⟨3, _⟩ => rfl
      rw [e]
      rfl
    have e6 : idx_main_v206 (ix4 a b p s) = ix4 a b p 0 := funext fun x => match x with | ⟨0, _⟩ => rfl | ⟨1, _⟩ => rfl | ⟨2, _⟩ => rfl | ⟨3, _⟩ => rfl
    have e1 : idx_main_v201 (ix4 a b p 0) = ix3 a b p := funext fun x => match x with | ⟨0, _⟩ => rfl | ⟨1, _⟩ => rfl | ⟨2, _⟩ => rfl
    have e0 (s : Fin 16400) : idx_main_v200 (ix3 a b p) s = ix4 a b p s := funext fun x => match x with | ⟨0, _⟩ => rfl | ⟨1, _⟩ => rfl | ⟨2, _⟩ => rfl | ⟨3, _⟩ => rfl
    have e2 : idx_main_v202 (ix4 a b p 0) = ix4 a b 0 0 := funext fun x => match x with | ⟨0, _⟩ => rfl | ⟨1, _⟩ => rfl | ⟨2, _⟩ => rfl | ⟨3, _⟩ => rfl
    rw [val_main_v207_apply, val_main_v206_apply, e6, val_main_v205_apply, val_main_v201_apply, e1, val_main_v200_apply, val_main_v204_apply, val_main_v203_apply,
      val_main_v202_apply, e2, hs, val_main_cst_21_apply]
    simp only [e0, e99]
    generalize (∑ s : Fin 16400, Ideal.exp (val_main_v191 (F := Ideal) x0 x1 x2 x3 (ix4 a b p s) - val_main_v196 (F := Ideal) x0 x1 x2 x3 x7 (ix4 a b p 0))) = S
    generalize val_main_v191 (F := Ideal) x0 x1 x2 x3 (ix4 a b p s) = L
    generalize val_main_v196 (F := Ideal) x0 x1 x2 x3 x7 (ix4 a b p 0) = M
    refine congrArg (fun z => Ideal.div (Ideal.exp (L - M)) (z + Ideal.exp (_ - M))) ?_
    refine Eq.trans (congrArg (· + _) (show (FloatOps.ofBits .f32 0#32 : Ideal .f32) = (0 : EReal) from zero_bits)) (zero_add _)

/-- The attention's result, one lane of one head. -/
theorem soft (hR : (par x0 x1 x2 x3 x4 x5 x6 x7 x8 x9).Real) (p : Fin 16400) (i : Fin 1024) : val_main_v210 (F := Ideal) x0 x1 x2 x3 x7 (ix2 p i) = (par x0 x1 x2 x3 x4 x5 x6 x7 x8 x9).att (i.val / 64) p.val (i.val % 64) := by
  have hi := i.isLt
  have hp := p.isLt
  obtain ⟨a, ha⟩ : ∃ a : Fin 4, a.val = i.val / 256 := ⟨⟨i.val / 256, by omega⟩, rfl⟩
  obtain ⟨b, hb⟩ : ∃ b : Fin 4, b.val = i.val / 64 % 4 := ⟨⟨i.val / 64 % 4, by omega⟩, rfl⟩
  obtain ⟨d, hd⟩ : ∃ d : Fin 64, d.val = i.val % 64 := ⟨⟨i.val % 64, by omega⟩, rfl⟩
  have e : idx_main_v209 (idx_main_v210 (ix2 p i)) = ix4 a d b p := funext fun x => match x with
    | ⟨0, _⟩ => Fin.ext (by show (p.val * 1024 + i.val) / 256 % 4 = a.val; omega)
    | ⟨1, _⟩ => Fin.ext (by show (p.val * 1024 + i.val) % 64 = d.val; omega)
    | ⟨2, _⟩ => Fin.ext (by show (p.val * 1024 + i.val) / 64 % 4 = b.val; omega)
    | ⟨3, _⟩ => Fin.ext (by show (p.val * 1024 + i.val) / 1024 = p.val; omega)
  have el (s : Fin 16400) : lidx_main_v208 (ix4 a d b p) s = ix3 s a d := funext fun x => match x with | ⟨0, _⟩ => rfl | ⟨1, _⟩ => rfl | ⟨2, _⟩ => rfl
  have er (s : Fin 16400) : ridx_main_v208 (ix4 a d b p) s = ix4 a b p s := funext fun x => match x with | ⟨0, _⟩ => rfl | ⟨1, _⟩ => rfl | ⟨2, _⟩ => rfl | ⟨3, _⟩ => rfl
  rw [val_main_v210_apply, val_main_v209_apply, e, val_main_v208_apply]
  obtain ⟨M, hM, hw⟩ := weight x0 x1 x2 x3 x4 x5 x6 x7 x8 x9 hR a b p
  simp only [el, er, hw]
  rw [soft_ref (fun s : Fin 16400 => sees p.val s.val) (fun s => (par x0 x1 x2 x3 x4 x5 x6 x7 x8 x9).lg (4 * a.val + b.val) p.val s.val) (fun s => ((par x0 x1 x2 x3 x4 x5 x6 x7 x8 x9).V s.val (64 * a.val + d.val)).toReal)
    _ _ _ (fun s => logit x0 x1 x2 x3 x4 x5 x6 x7 x8 x9 hR a b p s)
    (fun s => (v_at x0 x1 x2 x3 x4 x5 x6 x7 x8 x9 s a d).trans (coe_toReal_of ((par x0 x1 x2 x3 x4 x5 x6 x7 x8 x9).pj_real hR _ _)).symm) M hM]
  unfold Par.att Par.wt
  rw [show i.val / 64 = 4 * a.val + b.val by omega, show (4 * a.val + b.val) / 4 = a.val by omega, hd]

/-- The reference's result at a token. -/
theorem result (hR : (par x0 x1 x2 x3 x4 x5 x6 x7 x8 x9).Real) (r : Fin 16384) (c : Fin 1024) : val_main_v248 (F := Ideal) x0 x1 x2 x3 x4 x5 x6 x7 x8 x9 (ix2 r c) = (par x0 x1 x2 x3 x4 x5 x6 x7 x8 x9).out (16 + r.val) c := by
  have e : val_main_v248 (F := Ideal) x0 x1 x2 x3 x4 x5 x6 x7 x8 x9 (ix2 r c) = val_main_v247 (F := Ideal) x0 x1 x2 x3 x4 x5 x6 x7 x8 x9 (ix2 ⟨16 + r.val, by omega⟩ c) := by
    pointwise [val_main_v248]
  obtain ⟨p, hp⟩ : ∃ p : Fin 16400, p = ⟨16 + r.val, by omega⟩ := ⟨_, rfl⟩
  have hpv : p.val = 16 + r.val := congrArg Fin.val hp
  rw [e, ← hp, ← hpv]
  have ez (c : Fin 1024) : val_main_v231 (F := Ideal) x0 x1 x2 x3 x4 x5 x6 x7 x8 x9 (ix2 p c) = (par x0 x1 x2 x3 x4 x5 x6 x7 x8 x9).z p.val c := by
    have ea (c : Fin 1024) : val_main_v213 (F := Ideal) x0 x1 x2 x3 x7 x8 (ix2 p c) = (par x0 x1 x2 x3 x4 x5 x6 x7 x8 x9).attn p.val c := by
      have h : val_main_v213 (F := Ideal) x0 x1 x2 x3 x7 x8 (ix2 p c) = ∑ i : Fin 1024, val_main_v210 (F := Ideal) x0 x1 x2 x3 x7 (ix2 p i) * x8 (ix3 1 i c) := by
        pointwise [val_main_v211, val_main_v212, val_main_v213]
      rw [h]
      simp only [soft x0 x1 x2 x3 x4 x5 x6 x7 x8 x9 hR]
      rfl
    have eg (c : Fin 1024) : val_main_v219 (F := Ideal) x0 x1 x2 x3 (ix2 p c) = Ideal.logistic ((par x0 x1 x2 x3 x4 x5 x6 x7 x8 x9).gp p.val c.val) := by
      have h : val_main_v219 (F := Ideal) x0 x1 x2 x3 (ix2 p c) = Ideal.logistic (val_main_v20 (F := Ideal) x0 x1 x2 x3 (ix2 p ⟨2048 + c.val, by omega⟩)) := by
        rw [logistic_written]
        pointwise [val_main_v25, val_main_v214, val_main_v215, val_main_v216, val_main_v217, val_main_v218, val_main_v219, val_main_cst_22, val_main_cst_23]
      rw [h, proj x0 x1 x2 x3 x4 x5 x6 x7 x8 x9]
      rfl
    have eh (c : Fin 1024) : val_main_v226 (F := Ideal) x0 x1 x2 x3 (ix2 p c) = Ideal.logistic ((par x0 x1 x2 x3 x4 x5 x6 x7 x8 x9).ga p.val c.val) := by
      have h : val_main_v226 (F := Ideal) x0 x1 x2 x3 (ix2 p c) = Ideal.logistic (val_main_v20 (F := Ideal) x0 x1 x2 x3 (ix2 p ⟨3072 + c.val, by omega⟩)) := by
        rw [logistic_written]
        pointwise [val_main_v26, val_main_v221, val_main_v222, val_main_v223, val_main_v224, val_main_v225, val_main_v226, val_main_cst_24, val_main_cst_25]
      rw [h, proj x0 x1 x2 x3 x4 x5 x6 x7 x8 x9]
      rfl
    have h : val_main_v231 (F := Ideal) x0 x1 x2 x3 x4 x5 x6 x7 x8 x9 (ix2 p c)
        = ∑ i : Fin 1024, (val_main_v219 (F := Ideal) x0 x1 x2 x3 (ix2 p i) * val_main_v145 (F := Ideal) x0 x1 x2 x3 x4 x5 x6 (ix2 p i)
          + val_main_v226 (F := Ideal) x0 x1 x2 x3 (ix2 p i) * val_main_v213 (F := Ideal) x0 x1 x2 x3 x7 x8 (ix2 p i)) * x9 (ix3 1 i c) := by
      pointwise [val_main_v220, val_main_v227, val_main_v228, val_main_v229, val_main_v230, val_main_v231]
    rw [h]
    simp only [ea, eg, eh, pooled x0 x1 x2 x3 x4 x5 x6 x7 x8 x9 p (by omega)]
    rfl
  have h : val_main_v247 (F := Ideal) x0 x1 x2 x3 x4 x5 x6 x7 x8 x9 (ix2 p c)
      = val_main_v0 (F := Ideal) x0 x1 (ix2 p c) + rms (fun c => val_main_v231 (F := Ideal) x0 x1 x2 x3 x4 x5 x6 x7 x8 x9 (ix2 p c)) (fun k => x2 (ix3 1 3 k)) c := by
    unfold rms
    pointwise [val_main_v1, val_main_v2, val_main_v232, val_main_v233, val_main_v234, val_main_v235, val_main_v236, val_main_v237, val_main_v238, val_main_v239, val_main_v240, val_main_v241, val_main_v242, val_main_v243, val_main_v244, val_main_v245, val_main_v246, val_main_v247, val_main_cst_26, val_main_cst_27, val_main_cst_28]
  rw [h, row x0 x1 x2 x3 x4 x5 x6 x7 x8 x9]
  simp only [ez]
  rfl

end Cert.MixerRefIdeal.Mix

end
-- ==== Proof.Mixer.Value.lean ====
/- The value claim of the mixer: the call's rows of the tokens are the reference's, element by element. -/
module

public import proofs.«01_k».proof.Defs
public import proofs.«01_k».proof.Proof.Mixer.Step
public import proofs.«01_k».proof.Proof.Mixer.Pre
public import proofs.«01_k».proof.Proof.Mixer.RefSoft
public import proofs.«01_k».proof.Proof.Gen.MixerRefIdeal.Run

@[expose] public section

noncomputable section

namespace Cert.MixerIdeal.Elem

open Cert.Half Cert.Mix Idealize.ShloMosaic Idealize.ShloMosaic.TcCoe Idealize.SL.Sem

/-- The reference's result, as an array, of arguments that agree with the given ones. -/
theorem reference_eq {x0 x1 x2 x3 x4 x5 x6 x7 x8 x9} (hR : (Cert.MixerRefIdeal.Mix.par x0 x1 x2 x3 x4 x5 x6 x7 x8 x9).Real) {y0 y1 y2 y3 y4 y5 y6 y7 y8 y9} (e0 : y0 = x0) (e1 : y1 = x1) (e2 : y2 = x2) (e3 : y3 = x3) (e4 : y4 = x4) (e5 : y5 = x5) (e6 : y6 = x6) (e7 : y7 = x7) (e8 : y8 = x8) (e9 : y9 = x9) :
    Cert.MixerRefIdeal.Read.val_main_v248 (F := Ideal) y0 y1 y2 y3 y4 y5 y6 y7 y8 y9 = whole (Cert.MixerRefIdeal.Mix.par x0 x1 x2 x3 x4 x5 x6 x7 x8 x9) := by
  subst e0 e1 e2 e3 e4 e5 e6 e7 e8 e9
  funext i
  obtain ⟨r, j, rfl⟩ : ∃ (r : Fin 16384) (j : Fin 1024), i = ix2 r j := ⟨i 0, i 1, by funext a; fin_cases a <;> rfl⟩
  exact Cert.MixerRefIdeal.Mix.result _ _ _ _ _ _ _ _ _ _ hR r j

variable [hP : Cert.Pre_finite_arguments.Facts]

theorem algebraic : Cert.algebraic_MixerIdeal_MixerRefIdeal_pre_finite_arguments := by
  intro m ρ m' ρ' hpre hag
  have hR : ∀ c, (params m c).Real := fun c => Cert.MixerRefIdeal.Mix.real_of_pre _ _ _ _ _ _ _ _ _ _ (hpre c)
  refine ⟨fun c => whole (params m c), ?_, ?_⟩
  · refine (θ_run _ _ _).mono (fun r h c => ?_) (Cert.MixerIdeal.Run.run_blocks (F := Ideal) m ρ (keeps m hR))
    obtain ⟨h10, hk⟩ := h c
    exact ⟨h10.trans (final m c), hk⟩
  · refine (θ_run _ _ _).mono (fun r h c => ?_) (Cert.MixerRefIdeal.Value.run (F := Ideal) m' ρ')
    obtain ⟨h248, hk⟩ := h c
    obtain ⟨e0, e1, e2, e3, e4, e5, e6, e7, e8, e9⟩ := hag c
    refine ⟨h248.trans ?_, hk⟩
    exact (Cert.MixerRefIdeal.Read.val_main_v248_eq _).trans (reference_eq (hR c) e0 e1 e2 e3 e4 e5 e6 e7 e8 e9)

end Cert.MixerIdeal.Elem

end
-- ==== Proof.lean ====
/- The certificate: the claims of Defs.lean about a gated mixer call and the four feed-forward calls, gathered.
   A frame is the run of the program: it terminates, the arguments end unchanged and every counter ends at zero.
   A value claim is proved in the `Value` module of its call. -/
module

public import Idealize.ShloMosaic.Lib.Exec
public import proofs.«01_k».proof.Defs
public import proofs.«01_k».proof.Proof.Gen.Ffn2L1
public import proofs.«01_k».proof.Proof.Gen.Ffn2L1RefIdeal.Run
public import proofs.«01_k».proof.Proof.Ffn2L1.Value
public import proofs.«01_k».proof.Proof.Gen.Ffn1L0
public import proofs.«01_k».proof.Proof.Gen.Ffn1L0RefIdeal.Run
public import proofs.«01_k».proof.Proof.Ffn1L0.Value
public import proofs.«01_k».proof.Proof.Gen.Ffn2L0
public import proofs.«01_k».proof.Proof.Gen.Ffn2L0RefIdeal.Run
public import proofs.«01_k».proof.Proof.Ffn2L0.Value
public import proofs.«01_k».proof.Proof.Gen.Ffn1L1
public import proofs.«01_k».proof.Proof.Gen.Ffn1L1RefIdeal.Run
public import proofs.«01_k».proof.Proof.Ffn1L1.Value
public import proofs.«01_k».proof.Proof.Gen.Mixer
public import proofs.«01_k».proof.Proof.Gen.MixerRefIdeal.Run
public import proofs.«01_k».proof.Proof.Gen.Pre_finite_arguments
public import proofs.«01_k».proof.Proof.Mixer.Value

@[expose] public section

noncomputable section

namespace Cert.Proof

open Idealize.ShloMosaic Idealize.SL.Sem

/-- The second feed-forward call of layer 1 runs and leaves its arguments as they were: its text is that
    of the ideal program, whose run is proved at any float values. -/
theorem ffn2l1_frame : Cert.quiescent_Ffn2L1 := fun m ρ _ => by
  refine Eq.mpr ?_ (Cert.Ffn2L1Ideal.Run.frame (F := Bits) m ρ)
  sl_kernel_rfl

/-- The same over the reals. -/
theorem ffn2l1_ideal_frame : Cert.quiescent_Ffn2L1Ideal := fun m ρ _ => Cert.Ffn2L1Ideal.Run.frame m ρ

/-- Its reference is a straight line of host operations without semaphores. -/
theorem ffn2l1_reference_frame : Cert.quiescent_Ffn2L1RefIdeal := fun m ρ _ =>
  (θ_run Cert.Ffn2L1RefIdeal.defs _ _).mono
    (fun r h => ⟨fun c => (h c).2, Idealize.ShloMosaic.sem_eq_zero_of_no_sems (by decide) r.2⟩)
    (Cert.Ffn2L1RefIdeal.Value.run (F := Ideal) m ρ)

/-- The first feed-forward call of layer 0 runs and leaves its arguments as they were: its text is that
    of the ideal program, whose run is proved at any float values. -/
theorem ffn1l0_frame : Cert.quiescent_Ffn1L0 := fun m ρ _ => by
  refine Eq.mpr ?_ (Cert.Ffn1L0Ideal.Run.frame (F := Bits) m ρ)
  sl_kernel_rfl

/-- The same over the reals. -/
theorem ffn1l0_ideal_frame : Cert.quiescent_Ffn1L0Ideal := fun m ρ _ => Cert.Ffn1L0Ideal.Run.frame m ρ

/-- Its reference is a straight line of host operations without semaphores. -/
theorem ffn1l0_reference_frame : Cert.quiescent_Ffn1L0RefIdeal := fun m ρ _ =>
  (θ_run Cert.Ffn1L0RefIdeal.defs _ _).mono
    (fun r h => ⟨fun c => (h c).2, Idealize.ShloMosaic.sem_eq_zero_of_no_sems (by decide) r.2⟩)
    (Cert.Ffn1L0RefIdeal.Value.run (F := Ideal) m ρ)

/-- The second feed-forward call of layer 0 runs and leaves its arguments as they were: its text is that
    of the ideal program, whose run is proved at any float values. -/
theorem ffn2l0_frame : Cert.quiescent_Ffn2L0 := fun m ρ _ => by
  refine Eq.mpr ?_ (Cert.Ffn2L0Ideal.Run.frame (F := Bits) m ρ)
  sl_kernel_rfl

/-- The same over the reals. -/
theorem ffn2l0_ideal_frame : Cert.quiescent_Ffn2L0Ideal := fun m ρ _ => Cert.Ffn2L0Ideal.Run.frame m ρ

/-- Its reference is a straight line of host operations without semaphores. -/
theorem ffn2l0_reference_frame : Cert.quiescent_Ffn2L0RefIdeal := fun m ρ _ =>
  (θ_run Cert.Ffn2L0RefIdeal.defs _ _).mono
    (fun r h => ⟨fun c => (h c).2, Idealize.ShloMosaic.sem_eq_zero_of_no_sems (by decide) r.2⟩)
    (Cert.Ffn2L0RefIdeal.Value.run (F := Ideal) m ρ)

/-- The first feed-forward call of layer 1 runs and leaves its arguments as they were: its text is that
    of the ideal program, whose run is proved at any float values. -/
theorem ffn1l1_frame : Cert.quiescent_Ffn1L1 := fun m ρ _ => by
  refine Eq.mpr ?_ (Cert.Ffn1L1Ideal.Run.frame (F := Bits) m ρ)
  sl_kernel_rfl

/-- The same over the reals. -/
theorem ffn1l1_ideal_frame : Cert.quiescent_Ffn1L1Ideal := fun m ρ _ => Cert.Ffn1L1Ideal.Run.frame m ρ

/-- Its reference is a straight line of host operations without semaphores. -/
theorem ffn1l1_reference_frame : Cert.quiescent_Ffn1L1RefIdeal := fun m ρ _ =>
  (θ_run Cert.Ffn1L1RefIdeal.defs _ _).mono
    (fun r h => ⟨fun c => (h c).2, Idealize.ShloMosaic.sem_eq_zero_of_no_sems (by decide) r.2⟩)
    (Cert.Ffn1L1RefIdeal.Value.run (F := Ideal) m ρ)

/-- The gated mixer call of layer 1 runs and leaves its arguments as they were: its text is that of the ideal
    program with its named constants at their printed words, and that program's run is proved at any float values. -/
theorem mixer_frame : Cert.quiescent_Mixer := fun m ρ _ => by
  letI : Named Bits := ⟨fun _ _ _ b => FloatOps.ofBits _ b⟩
  refine Eq.mpr ?_ (Cert.MixerIdeal.Run.frame (F := Bits) m ρ)
  sl_kernel_rfl

/-- The same over the reals, the names at their values. -/
theorem mixer_ideal_frame : Cert.quiescent_MixerIdeal := fun m ρ _ => Cert.MixerIdeal.Run.frame m ρ

/-- … and where the arguments are finite. -/
theorem mixer_ideal_frame_finite : Cert.quiescent_MixerIdeal_pre_finite_arguments := fun m ρ _ => Cert.MixerIdeal.Run.frame m ρ

/-- Its reference is a straight line of host operations without semaphores. -/
theorem mixer_reference_frame : Cert.quiescent_MixerRefIdeal := fun m ρ _ =>
  (θ_run Cert.MixerRefIdeal.defs _ _).mono
    (fun r h => ⟨fun c => (h c).2, Idealize.ShloMosaic.sem_eq_zero_of_no_sems (by decide) r.2⟩)
    (Cert.MixerRefIdeal.Value.run (F := Ideal) m ρ)

/-- … and where the arguments are finite. -/
theorem mixer_reference_frame_finite : Cert.quiescent_MixerRefIdeal_pre_finite_arguments := fun m ρ _ => mixer_reference_frame m ρ trivial

/-- The table of named constants gives each name the value its replacement states. -/
theorem mixer_preserves : Cert.preserves_Mixer_MixerIdeal := by
  refine ⟨?_, ?_, ?_, ?_, ?_, ?_, ?_, ?_, ?_, ?_, ?_, ?_, ?_, ?_, ?_, ?_, ?_, ?_, ?_⟩ <;>
    exact IdealRules.named_const.statement (h := rfl) ..

/-- All the claims together. -/
theorem claim : Cert.Claim :=
  ⟨Cert.Ffn2L1.Gen.facts, Cert.Ffn2L1Ideal.Gen.facts, Cert.Ffn2L1RefIdeal.Gen.facts,
    Cert.Ffn1L0.Gen.facts, Cert.Ffn1L0Ideal.Gen.facts, Cert.Ffn1L0RefIdeal.Gen.facts,
    Cert.Ffn2L0.Gen.facts, Cert.Ffn2L0Ideal.Gen.facts, Cert.Ffn2L0RefIdeal.Gen.facts,
    Cert.Ffn1L1.Gen.facts, Cert.Ffn1L1Ideal.Gen.facts, Cert.Ffn1L1RefIdeal.Gen.facts,
    Cert.Mixer.Gen.facts, Cert.MixerIdeal.Gen.facts, Cert.MixerRefIdeal.Gen.facts, Cert.Pre_finite_arguments.Gen.facts,
    ffn2l1_frame, ffn2l1_ideal_frame, ffn2l1_reference_frame,
    ffn1l0_frame, ffn1l0_ideal_frame, ffn1l0_reference_frame,
    ffn2l0_frame, ffn2l0_ideal_frame, ffn2l0_reference_frame,
    ffn1l1_frame, ffn1l1_ideal_frame, ffn1l1_reference_frame,
    mixer_frame, mixer_ideal_frame, mixer_ideal_frame_finite, mixer_reference_frame, mixer_reference_frame_finite,
    trivial, Cert.Ffn2L1Ideal.Half.algebraic,
    trivial, Cert.Ffn1L0Ideal.Half.algebraic,
    trivial, Cert.Ffn2L0Ideal.Half.algebraic,
    trivial, Cert.Ffn1L1Ideal.Half.algebraic,
    mixer_preserves, Cert.MixerIdeal.Elem.algebraic⟩

end Cert.Proof

end
